-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v96) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v28)) (v1 : (c : Dev Cert.Kernel3Ideal.nD) → Buf (Elt Ideal) ((c.tc : Thread Cert.Kernel3Ideal.nD Cert.Kernel3Ideal.τ).loc Cert.Kernel3Ideal.main_v29)) (v2 : (c : Dev Cert.Kernel3Ideal.nD) → Buf (Elt Ideal) ((c.tc : Thread Cert.Kernel3Ideal.nD Cert.Kernel3Ideal.τ).loc Cert.Kernel3Ideal.main_v31)) (v3 : (c : Dev Cert.Kernel3Ideal.nD) → Buf (Elt Ideal) ((c.tc : Thread Cert.Kernel3Ideal.nD Cert.Kernel3Ideal.τ).loc Cert.Kernel3Ideal.main_v27_0)) (v4 : (c : Dev Cert.Kernel3Ideal.nD) → Buf (Elt Ideal) ((c.tc : Thread Cert.Kernel3Ideal.nD Cert.Kernel3Ideal.τ).loc Cert.Kernel3Ideal.main_v27_1)) (v5 : (c : Dev Cert.Kernel3Ideal.nD) → Buf (Elt Ideal) ((c.tc : Thread Cert.Kernel3Ideal.nD Cert.Kernel3Ideal.τ).loc Cert.Kernel3Ideal.main_v27_2)) (v6 : (c : Dev Cert.Kernel3Ideal.nD) → Buf (Elt Ideal) ((c.tc : Thread Cert.Kernel3Ideal.nD Cert.Kernel3Ideal.τ).loc Cert.Kernel3Ideal.main_v32)) (v7 : (c : Dev Cert.Kernel3Ideal.nD) → Buf (Elt Ideal) ((c.tc : Thread Cert.Kernel3Ideal.nD Cert.Kernel3Ideal.τ).loc Cert.Kernel3Ideal.main_v27_9)) (v8 : (c : Dev Cert.Kernel3Ideal.nD) → Buf (Elt Ideal) ((c.tc : Thread Cert.Kernel3Ideal.nD Cert.Kernel3Ideal.τ).loc Cert.Kernel3Ideal.main_v27_11)) (v9 : (c : Dev Cert.Kernel3Ideal.nD) → Buf (Elt Ideal) ((c.tc : Thread Cert.Kernel3Ideal.nD Cert.Kernel3Ideal.τ).loc Cert.Kernel3Ideal.main_v27_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v28) = v0 c
          ∧ r.2.mem ((c.tc : Thread Cert.Kernel3Ideal.nD Cert.Kernel3Ideal.τ).loc Cert.Kernel3Ideal.main_v29) = v1 c
          ∧ r.2.mem ((c.tc : Thread Cert.Kernel3Ideal.nD Cert.Kernel3Ideal.τ).loc Cert.Kernel3Ideal.main_v31) = v2 c
          ∧ r.2.mem ((c.tc : Thread Cert.Kernel3Ideal.nD Cert.Kernel3Ideal.τ).loc Cert.Kernel3Ideal.main_v27_0) = v3 c
          ∧ r.2.mem ((c.tc : Thread Cert.Kernel3Ideal.nD Cert.Kernel3Ideal.τ).loc Cert.Kernel3Ideal.main_v27_1) = v4 c
          ∧ r.2.mem ((c.tc : Thread Cert.Kernel3Ideal.nD Cert.Kernel3Ideal.τ).loc Cert.Kernel3Ideal.main_v27_2) = v5 c
          ∧ r.2.mem ((c.tc : Thread Cert.Kernel3Ideal.nD Cert.Kernel3Ideal.τ).loc Cert.Kernel3Ideal.main_v32) = v6 c
          ∧ r.2.mem ((c.tc : Thread Cert.Kernel3Ideal.nD Cert.Kernel3Ideal.τ).loc Cert.Kernel3Ideal.main_v27_9) = v7 c
          ∧ r.2.mem ((c.tc : Thread Cert.Kernel3Ideal.nD Cert.Kernel3Ideal.τ).loc Cert.Kernel3Ideal.main_v27_11) = v8 c
          ∧ r.2.mem ((c.tc : Thread Cert.Kernel3Ideal.nD Cert.Kernel3Ideal.τ).loc Cert.Kernel3Ideal.main_v27_7) = v9 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v111) = v0 c
          ∧ r.2.mem ((c.tc : Thread Cert.Reference3Ideal.nD Cert.Reference3Ideal.τ).loc Cert.Reference3Ideal.main_v295) = v1 c
          ∧ r.2.mem ((c.tc : Thread Cert.Reference3Ideal.nD Cert.Reference3Ideal.τ).loc Cert.Reference3Ideal.main_v311) = v2 c
          ∧ r.2.mem ((c.tc : Thread Cert.Reference3Ideal.nD Cert.Reference3Ideal.τ).loc Cert.Reference3Ideal.main_v316) = v3 c
          ∧ r.2.mem ((c.tc : Thread Cert.Reference3Ideal.nD Cert.Reference3Ideal.τ).loc Cert.Reference3Ideal.main_v321) = v4 c
          ∧ r.2.mem ((c.tc : Thread Cert.Reference3Ideal.nD Cert.Reference3Ideal.τ).loc Cert.Reference3Ideal.main_v326) = v5 c
          ∧ r.2.mem ((c.tc : Thread Cert.Reference3Ideal.nD Cert.Reference3Ideal.τ).loc Cert.Reference3Ideal.main_v327) = v6 c
          ∧ r.2.mem ((c.tc : Thread Cert.Reference3Ideal.nD Cert.Reference3Ideal.τ).loc Cert.Reference3Ideal.main_v332) = v7 c
          ∧ r.2.mem ((c.tc : Thread Cert.Reference3Ideal.nD Cert.Reference3Ideal.τ).loc Cert.Reference3Ideal.main_v336) = v8 c
          ∧ r.2.mem ((c.tc : Thread Cert.Reference3Ideal.nD Cert.Reference3Ideal.τ).loc Cert.Reference3Ideal.main_v338) = v9 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v38)) (v1 : (c : Dev Cert.Kernel4Ideal.nD) → Buf (Elt Ideal) ((c.tc : Thread Cert.Kernel4Ideal.nD Cert.Kernel4Ideal.τ).loc Cert.Kernel4Ideal.main_v41)) (v2 : (c : Dev Cert.Kernel4Ideal.nD) → Buf (Elt Ideal) ((c.tc : Thread Cert.Kernel4Ideal.nD Cert.Kernel4Ideal.τ).loc Cert.Kernel4Ideal.main_v43)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v38) = v0 c
          ∧ r.2.mem ((c.tc : Thread Cert.Kernel4Ideal.nD Cert.Kernel4Ideal.τ).loc Cert.Kernel4Ideal.main_v41) = v1 c
          ∧ r.2.mem ((c.tc : Thread Cert.Kernel4Ideal.nD Cert.Kernel4Ideal.τ).loc Cert.Kernel4Ideal.main_v43) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v113) = v0 c
          ∧ r.2.mem ((c.tc : Thread Cert.Reference4Ideal.nD Cert.Reference4Ideal.τ).loc Cert.Reference4Ideal.main_v297) = v1 c
          ∧ r.2.mem ((c.tc : Thread Cert.Reference4Ideal.nD Cert.Reference4Ideal.τ).loc Cert.Reference4Ideal.main_v299) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)) →
    ∃ (v0 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v98) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S65536x512 : Shape := ⟨2, ![65536, 512]⟩
abbrev S8x16x512x512 : Shape := ⟨4, ![8, 16, 512, 512]⟩
abbrev S1x64 : Shape := ⟨2, ![1, 64]⟩
abbrev S_ : Shape := ⟨0, ![]⟩

class Facts : Prop where
  bitsLt_bf16_f32 : FTy.bits .bf16 < FTy.bits .f32
  bcast_S_S65536x512 : S_.BroadcastsInDim S65536x512 (![] : Fin 0 → Fin S65536x512.rank)
  bcast_S_S8x16x512x512 : S_.BroadcastsInDim S8x16x512x512 (![] : Fin 0 → Fin S8x16x512x512.rank)
  bcast_S_S1x64 : S_.BroadcastsInDim S1x64 (![] : Fin 0 → Fin S1x64.rank)

variable [Facts]

def fn_part1 {F : FTy → Type} [FloatOps F] (main_arg6 : FVec F S1x64 .f32) (main_v3 : IVec S65536x512 1) (main_v7 : IVec S65536x512 1) (main_v11 : IVec S8x16x512x512 1) (main_v14 : IVec S1x64 1) (main_v17 : IVec S1x64 1) (main_v18 : FVec F S1x64 .f32) : IVec S65536x512 1 × IVec S65536x512 1 × IVec S8x16x512x512 1 × IVec S1x64 1 × IVec S1x64 1 × IVec S1x64 1 × IVec S1x64 1 :=
  let main_cst_4 : FVec F S_ .f32 := constant S_ .f32 0x7F800000#32
  let main_v19 : FVec F S1x64 .f32 := broadcastInDim S1x64 ![] bcast_S_S1x64 main_cst_4
  let main_v20 : IVec S1x64 1 := cmpf .olt main_v18 main_v19
  let main_v21 : FVec F S1x64 .f32 := Host.absf main_arg6
  let main_cst_5 : FVec F S_ .f32 := constant S_ .f32 0x7F800000#32
  let main_v22 : FVec F S1x64 .f32 := broadcastInDim S1x64 ![] bcast_S_S1x64 main_cst_5
  let main_v23 : IVec S1x64 1 := cmpf .olt main_v21 main_v22
  (main_v3, main_v7, main_v11, main_v14, main_v17, main_v20, main_v23)

def fn {F : FTy → Type} [FloatOps F] (main_arg0 : FVec F S65536x512 .bf16) (main_arg1 : FVec F S65536x512 .bf16) (main_arg2 : FVec F S8x16x512x512 .bf16) (main_arg3 : FVec F S1x64 .f32) (main_arg4 : FVec F S1x64 .f32) (main_arg5 : FVec F S1x64 .f32) (main_arg6 : FVec F S1x64 .f32) : IVec S65536x512 1 × IVec S65536x512 1 × IVec S8x16x512x512 1 × IVec S1x64 1 × IVec S1x64 1 × IVec S1x64 1 × IVec S1x64 1 :=
  let main_v0 : FVec F S65536x512 .f32 := (extf .f32 · bitsLt_bf16_f32) main_arg0
  let main_v1 : FVec F S65536x512 .f32 := Host.absf main_v0
  let main_cst : FVec F S_ .f32 := constant S_ .f32 0x7F800000#32
  let main_v2 : FVec F S65536x512 .f32 := broadcastInDim S65536x512 ![] bcast_S_S65536x512 main_cst
  let main_v3 : IVec S65536x512 1 := cmpf .olt main_v1 main_v2
  let main_v4 : FVec F S65536x512 .f32 := (extf .f32 · bitsLt_bf16_f32) main_arg1
  let main_v5 : FVec F S65536x512 .f32 := Host.absf main_v4
  let main_cst_0 : FVec F S_ .f32 := constant S_ .f32 0x7F800000#32
  let main_v6 : FVec F S65536x512 .f32 := broadcastInDim S65536x512 ![] bcast_S_S65536x512 main_cst_0
  let main_v7 : IVec S65536x512 1 := cmpf .olt main_v5 main_v6
  let main_v8 : FVec F S8x16x512x512 .f32 := (extf .f32 · bitsLt_bf16_f32) main_arg2
  let main_v9 : FVec F S8x16x512x512 .f32 := Host.absf main_v8
  let main_cst_1 : FVec F S_ .f32 := constant S_ .f32 0x7F800000#32
  let main_v10 : FVec F S8x16x512x512 .f32 := broadcastInDim S8x16x512x512 ![] bcast_S_S8x16x512x512 main_cst_1
  let main_v11 : IVec S8x16x512x512 1 := cmpf .olt main_v9 main_v10
  let main_v12 : FVec F S1x64 .f32 := Host.absf main_arg3
  let main_cst_2 : FVec F S_ .f32 := constant S_ .f32 0x7F800000#32
  let main_v13 : FVec F S1x64 .f32 := broadcastInDim S1x64 ![] bcast_S_S1x64 main_cst_2
  let main_v14 : IVec S1x64 1 := cmpf .olt main_v12 main_v13
  let main_v15 : FVec F S1x64 .f32 := Host.absf main_arg4
  let main_cst_3 : FVec F S_ .f32 := constant S_ .f32 0x7F800000#32
  let main_v16 : FVec F S1x64 .f32 := broadcastInDim S1x64 ![] bcast_S_S1x64 main_cst_3
  let main_v17 : IVec S1x64 1 := cmpf .olt main_v15 main_v16
  let main_v18 : FVec F S1x64 .f32 := Host.absf main_arg5
  fn_part1 (F := F) main_arg6 main_v3 main_v7 main_v11 main_v14 main_v17 main_v18
-- ==== Kernel.lean ====
abbrev S65536x512 : Shape := ⟨2, ![65536, 512]⟩
abbrev S8x16x512x512 : Shape := ⟨4, ![8, 16, 512, 512]⟩
abbrev S1x64 : Shape := ⟨2, ![1, 64]⟩
abbrev S128x512 : Shape := ⟨2, ![128, 512]⟩
abbrev S8192x512 : Shape := ⟨2, ![8192, 512]⟩
abbrev S1x16x512x512 : Shape := ⟨4, ![1, 16, 512, 512]⟩
abbrev S1x256 : Shape := ⟨2, ![1, 256]⟩
abbrev S1 : Shape := ⟨1, ![1]⟩
abbrev S1x1 : Shape := ⟨2, ![1, 1]⟩
abbrev S128x128 : Shape := ⟨2, ![128, 128]⟩
abbrev S256x128 : Shape := ⟨2, ![256, 128]⟩
abbrev S128x256 : Shape := ⟨2, ![128, 256]⟩
abbrev S512x128 : Shape := ⟨2, ![512, 128]⟩
abbrev S512x256 : Shape := ⟨2, ![512, 256]⟩
abbrev S256 : Shape := ⟨1, ![256]⟩
abbrev S1x1x128x512 : Shape := ⟨4, ![1, 1, 128, 512]⟩

abbrev nBuf : Space → Nat
  | .hbm => 8
  | .vmem => 12
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S8x16x512x512, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S65536x512, .f32⟩
  | .local _ .vmem, ⟨0, _⟩ => ⟨S128x512, .bf16⟩
  | .local _ .vmem, ⟨1, _⟩ => ⟨S128x512, .bf16⟩
  | .local _ .vmem, ⟨2, _⟩ => ⟨S8192x512, .bf16⟩
  | .local _ .vmem, ⟨3, _⟩ => ⟨S8192x512, .bf16⟩
  | .local _ .vmem, ⟨4, _⟩ => ⟨S1x16x512x512, .bf16⟩
  | .local _ .vmem, ⟨5, _⟩ => ⟨S1x16x512x512, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S128x512, .f32⟩
  | .local _ .vmem, ⟨11, _⟩ => ⟨S128x512, .f32⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 64], ![false, false]⟩

@[reducible] def k0_t1_loop (i : grid0.Coords) : Scf.Loop 32 :=
  let c0_i32_22 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v6 : BitVec 32 := Scalar.addi v0 c128_i32_0
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c512_i32 : BitVec 32 := 512#32
  let c0_i32_2 : BitVec 32 := 0#32
  let v14 : BitVec 1 := Scalar.cmpi .sgt c512_i32 c0_i32_2
  let v15 : BitVec 32 := Scalar.extui v14
  let c0_i32_3 : BitVec 32 := 0#32
  let v16 : BitVec 1 := Scalar.cmpi .slt c512_i32 c0_i32_3
  let v17 : BitVec 32 := Scalar.extui v16
  let v18 : BitVec 32 := Scalar.subi v15 v17
  let v19 : BitVec 1 := Scalar.cmpi .ne v13 v18
  let v20 : BitVec 32 := Scalar.remsi v7 c512_i32
  let c0_i32_4 : BitVec 32 := 0#32
  let v21 : BitVec 1 := Scalar.cmpi .ne v20 c0_i32_4
  let v22 : BitVec 1 := Scalar.andi v19 v21
  let v8 : BitVec 32 := Scalar.divsi v7 c512_i32
  let c1_i32_5 : BitVec 32 := 1#32
  let v23 : BitVec 32 := Scalar.subi v8 c1_i32_5
  let v24 : BitVec 32 := Scalar.select v22 v23 v8
  let c1_i32_6 : BitVec 32 := 1#32
  let v25 : BitVec 32 := Scalar.addi v24 c1_i32_6
  let v52 : BitVec 32 := Scalar.subi v25 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let c1_i32_24 : BitVec 32 := 1#32
  ⟨c0_i32_22, v56, c1_i32_24⟩
def k0_mult1 (i : grid0.Coords) (k0_t1 : Fin (k0_t1_loop i).trips) : BitVec 32 :=
  let c0_i32_22 : BitVec 32 := 0#32
  let c1_i32_24 : BitVec 32 := 1#32
  let arg10 : BitVec 32 := Scf.iv c0_i32_22 c1_i32_24 k0_t1
  let c512_i32_62 : BitVec 32 := 512#32
  let v145 : BitVec 32 := Scalar.muli arg10 c512_i32_62
  v145
def k0_off1 (i : grid0.Coords) (k0_t1 : Fin (k0_t1_loop i).trips) : Fin 2 → Nat :=
  let c0_i32_22 : BitVec 32 := 0#32
  let c1_i32_24 : BitVec 32 := 1#32
  let arg10 : BitVec 32 := Scf.iv c0_i32_22 c1_i32_24 k0_t1
  let c512_i32_62 : BitVec 32 := 512#32
  let v145 : BitVec 32 := Scalar.muli arg10 c512_i32_62
  let v146 : BitVec 32 := v145
  let v147 : Index := Scalar.indexCast v146
  let c0_63 : Index := 0#32
  ![v147.toNat, 0]
def k0_off2 (i : grid0.Coords) (k0_t1 : Fin (k0_t1_loop i).trips) : Fin 4 → Nat :=
  let c0_68 : Index := 0#32
  let c0_i32_22 : BitVec 32 := 0#32
  let c1_i32_24 : BitVec 32 := 1#32
  let arg10 : BitVec 32 := Scf.iv c0_i32_22 c1_i32_24 k0_t1
  let v171 : Index := Scalar.indexCast arg10
  let c0_69 : Index := 0#32
  let c0_70 : Index := 0#32
  ![0, v171.toNat, 0, 0]
@[reducible] def k0_t2_loop (i : grid0.Coords) : Scf.Loop 32 :=
  let c0_i32_22 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v6 : BitVec 32 := Scalar.addi v0 c128_i32_0
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c512_i32 : BitVec 32 := 512#32
  let c0_i32_2 : BitVec 32 := 0#32
  let v14 : BitVec 1 := Scalar.cmpi .sgt c512_i32 c0_i32_2
  let v15 : BitVec 32 := Scalar.extui v14
  let c0_i32_3 : BitVec 32 := 0#32
  let v16 : BitVec 1 := Scalar.cmpi .slt c512_i32 c0_i32_3
  let v17 : BitVec 32 := Scalar.extui v16
  let v18 : BitVec 32 := Scalar.subi v15 v17
  let v19 : BitVec 1 := Scalar.cmpi .ne v13 v18
  let v20 : BitVec 32 := Scalar.remsi v7 c512_i32
  let c0_i32_4 : BitVec 32 := 0#32
  let v21 : BitVec 1 := Scalar.cmpi .ne v20 c0_i32_4
  let v22 : BitVec 1 := Scalar.andi v19 v21
  let v8 : BitVec 32 := Scalar.divsi v7 c512_i32
  let c1_i32_5 : BitVec 32 := 1#32
  let v23 : BitVec 32 := Scalar.subi v8 c1_i32_5
  let v24 : BitVec 32 := Scalar.select v22 v23 v8
  let c1_i32_6 : BitVec 32 := 1#32
  let v25 : BitVec 32 := Scalar.addi v24 c1_i32_6
  let v52 : BitVec 32 := Scalar.subi v25 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let v53 : BitVec 32 := Scalar.addi c0_i32_22 v52
  let c1_i32_25 : BitVec 32 := 1#32
  ⟨v56, v53, c1_i32_25⟩
def k0_mult2 (i : grid0.Coords) (k0_t2 : Fin (k0_t2_loop i).trips) : BitVec 32 :=
  let c0_i32_22 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v6 : BitVec 32 := Scalar.addi v0 c128_i32_0
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c512_i32 : BitVec 32 := 512#32
  let c0_i32_2 : BitVec 32 := 0#32
  let v14 : BitVec 1 := Scalar.cmpi .sgt c512_i32 c0_i32_2
  let v15 : BitVec 32 := Scalar.extui v14
  let c0_i32_3 : BitVec 32 := 0#32
  let v16 : BitVec 1 := Scalar.cmpi .slt c512_i32 c0_i32_3
  let v17 : BitVec 32 := Scalar.extui v16
  let v18 : BitVec 32 := Scalar.subi v15 v17
  let v19 : BitVec 1 := Scalar.cmpi .ne v13 v18
  let v20 : BitVec 32 := Scalar.remsi v7 c512_i32
  let c0_i32_4 : BitVec 32 := 0#32
  let v21 : BitVec 1 := Scalar.cmpi .ne v20 c0_i32_4
  let v22 : BitVec 1 := Scalar.andi v19 v21
  let v8 : BitVec 32 := Scalar.divsi v7 c512_i32
  let c1_i32_5 : BitVec 32 := 1#32
  let v23 : BitVec 32 := Scalar.subi v8 c1_i32_5
  let v24 : BitVec 32 := Scalar.select v22 v23 v8
  let c1_i32_6 : BitVec 32 := 1#32
  let v25 : BitVec 32 := Scalar.addi v24 c1_i32_6
  let v52 : BitVec 32 := Scalar.subi v25 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let c1_i32_25 : BitVec 32 := 1#32
  let arg10 : BitVec 32 := Scf.iv v56 c1_i32_25 k0_t2
  let c512_i32_62 : BitVec 32 := 512#32
  let v145 : BitVec 32 := Scalar.muli arg10 c512_i32_62
  v145
def k0_off3 (i : grid0.Coords) (k0_t2 : Fin (k0_t2_loop i).trips) : Fin 2 → Nat :=
  let c0_i32_22 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v6 : BitVec 32 := Scalar.addi v0 c128_i32_0
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c512_i32 : BitVec 32 := 512#32
  let c0_i32_2 : BitVec 32 := 0#32
  let v14 : BitVec 1 := Scalar.cmpi .sgt c512_i32 c0_i32_2
  let v15 : BitVec 32 := Scalar.extui v14
  let c0_i32_3 : BitVec 32 := 0#32
  let v16 : BitVec 1 := Scalar.cmpi .slt c512_i32 c0_i32_3
  let v17 : BitVec 32 := Scalar.extui v16
  let v18 : BitVec 32 := Scalar.subi v15 v17
  let v19 : BitVec 1 := Scalar.cmpi .ne v13 v18
  let v20 : BitVec 32 := Scalar.remsi v7 c512_i32
  let c0_i32_4 : BitVec 32 := 0#32
  let v21 : BitVec 1 := Scalar.cmpi .ne v20 c0_i32_4
  let v22 : BitVec 1 := Scalar.andi v19 v21
  let v8 : BitVec 32 := Scalar.divsi v7 c512_i32
  let c1_i32_5 : BitVec 32 := 1#32
  let v23 : BitVec 32 := Scalar.subi v8 c1_i32_5
  let v24 : BitVec 32 := Scalar.select v22 v23 v8
  let c1_i32_6 : BitVec 32 := 1#32
  let v25 : BitVec 32 := Scalar.addi v24 c1_i32_6
  let v52 : BitVec 32 := Scalar.subi v25 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let c1_i32_25 : BitVec 32 := 1#32
  let arg10 : BitVec 32 := Scf.iv v56 c1_i32_25 k0_t2
  let c512_i32_62 : BitVec 32 := 512#32
  let v145 : BitVec 32 := Scalar.muli arg10 c512_i32_62
  let v146 : BitVec 32 := v145
  let v147 : Index := Scalar.indexCast v146
  let c0_63 : Index := 0#32
  ![v147.toNat, 0]
def k0_off4 (i : grid0.Coords) (k0_t2 : Fin (k0_t2_loop i).trips) : Fin 4 → Nat :=
  let c0_68 : Index := 0#32
  let c0_i32_22 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v6 : BitVec 32 := Scalar.addi v0 c128_i32_0
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c512_i32 : BitVec 32 := 512#32
  let c0_i32_2 : BitVec 32 := 0#32
  let v14 : BitVec 1 := Scalar.cmpi .sgt c512_i32 c0_i32_2
  let v15 : BitVec 32 := Scalar.extui v14
  let c0_i32_3 : BitVec 32 := 0#32
  let v16 : BitVec 1 := Scalar.cmpi .slt c512_i32 c0_i32_3
  let v17 : BitVec 32 := Scalar.extui v16
  let v18 : BitVec 32 := Scalar.subi v15 v17
  let v19 : BitVec 1 := Scalar.cmpi .ne v13 v18
  let v20 : BitVec 32 := Scalar.remsi v7 c512_i32
  let c0_i32_4 : BitVec 32 := 0#32
  let v21 : BitVec 1 := Scalar.cmpi .ne v20 c0_i32_4
  let v22 : BitVec 1 := Scalar.andi v19 v21
  let v8 : BitVec 32 := Scalar.divsi v7 c512_i32
  let c1_i32_5 : BitVec 32 := 1#32
  let v23 : BitVec 32 := Scalar.subi v8 c1_i32_5
  let v24 : BitVec 32 := Scalar.select v22 v23 v8
  let c1_i32_6 : BitVec 32 := 1#32
  let v25 : BitVec 32 := Scalar.addi v24 c1_i32_6
  let v52 : BitVec 32 := Scalar.subi v25 c0_i32_22
  let c1_i32_23 : BitVec 32 := 1#32
  let v54 : BitVec 32 := Scalar.divsi v52 c1_i32_23
  let v55 : BitVec 32 := Scalar.muli v54 c1_i32_23
  let v56 : BitVec 32 := Scalar.addi c0_i32_22 v55
  let c1_i32_25 : BitVec 32 := 1#32
  let arg10 : BitVec 32 := Scf.iv v56 c1_i32_25 k0_t2
  let v171 : Index := Scalar.indexCast arg10
  let c0_69 : Index := 0#32
  let c0_70 : Index := 0#32
  ![0, v171.toNat, 0, 0]
@[reducible] def k0_t3_loop (i : grid0.Coords) : Scf.Loop 32 :=
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v6 : BitVec 32 := Scalar.addi v0 c128_i32_0
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c512_i32 : BitVec 32 := 512#32
  let c0_i32_2 : BitVec 32 := 0#32
  let v14 : BitVec 1 := Scalar.cmpi .sgt c512_i32 c0_i32_2
  let v15 : BitVec 32 := Scalar.extui v14
  let c0_i32_3 : BitVec 32 := 0#32
  let v16 : BitVec 1 := Scalar.cmpi .slt c512_i32 c0_i32_3
  let v17 : BitVec 32 := Scalar.extui v16
  let v18 : BitVec 32 := Scalar.subi v15 v17
  let v19 : BitVec 1 := Scalar.cmpi .ne v13 v18
  let v20 : BitVec 32 := Scalar.remsi v7 c512_i32
  let c0_i32_4 : BitVec 32 := 0#32
  let v21 : BitVec 1 := Scalar.cmpi .ne v20 c0_i32_4
  let v22 : BitVec 1 := Scalar.andi v19 v21
  let v8 : BitVec 32 := Scalar.divsi v7 c512_i32
  let c1_i32_5 : BitVec 32 := 1#32
  let v23 : BitVec 32 := Scalar.subi v8 c1_i32_5
  let v24 : BitVec 32 := Scalar.select v22 v23 v8
  let c1_i32_6 : BitVec 32 := 1#32
  let v25 : BitVec 32 := Scalar.addi v24 c1_i32_6
  let v77 : BitVec 32 := Scalar.subi v25 c0_i32_33
  let c1_i32_34 : BitVec 32 := 1#32
  let v79 : BitVec 32 := Scalar.divsi v77 c1_i32_34
  let v80 : BitVec 32 := Scalar.muli v79 c1_i32_34
  let v81 : BitVec 32 := Scalar.addi c0_i32_33 v80
  let c1_i32_35 : BitVec 32 := 1#32
  ⟨c0_i32_33, v81, c1_i32_35⟩
def k0_mult3 (i : grid0.Coords) (k0_t3 : Fin (k0_t3_loop i).trips) : BitVec 32 :=
  let c0_i32_33 : BitVec 32 := 0#32
  let c1_i32_35 : BitVec 32 := 1#32
  let arg10 : BitVec 32 := Scf.iv c0_i32_33 c1_i32_35 k0_t3
  let c512_i32_62 : BitVec 32 := 512#32
  let v145 : BitVec 32 := Scalar.muli arg10 c512_i32_62
  v145
def k0_off5 (i : grid0.Coords) (k0_t3 : Fin (k0_t3_loop i).trips) : Fin 2 → Nat :=
  let c0_i32_33 : BitVec 32 := 0#32
  let c1_i32_35 : BitVec 32 := 1#32
  let arg10 : BitVec 32 := Scf.iv c0_i32_33 c1_i32_35 k0_t3
  let c512_i32_62 : BitVec 32 := 512#32
  let v145 : BitVec 32 := Scalar.muli arg10 c512_i32_62
  let v146 : BitVec 32 := v145
  let v147 : Index := Scalar.indexCast v146
  let c128_63 : Index := 128#32
  ![v147.toNat, 128]
def k0_off6 (i : grid0.Coords) (k0_t3 : Fin (k0_t3_loop i).trips) : Fin 4 → Nat :=
  let c0_68 : Index := 0#32
  let c0_i32_33 : BitVec 32 := 0#32
  let c1_i32_35 : BitVec 32 := 1#32
  let arg10 : BitVec 32 := Scf.iv c0_i32_33 c1_i32_35 k0_t3
  let v171 : Index := Scalar.indexCast arg10
  let c128_69 : Index := 128#32
  let c0_70 : Index := 0#32
  ![0, v171.toNat, 128, 0]
@[reducible] def k0_t4_loop (i : grid0.Coords) : Scf.Loop 32 :=
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v6 : BitVec 32 := Scalar.addi v0 c128_i32_0
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c512_i32 : BitVec 32 := 512#32
  let c0_i32_2 : BitVec 32 := 0#32
  let v14 : BitVec 1 := Scalar.cmpi .sgt c512_i32 c0_i32_2
  let v15 : BitVec 32 := Scalar.extui v14
  let c0_i32_3 : BitVec 32 := 0#32
  let v16 : BitVec 1 := Scalar.cmpi .slt c512_i32 c0_i32_3
  let v17 : BitVec 32 := Scalar.extui v16
  let v18 : BitVec 32 := Scalar.subi v15 v17
  let v19 : BitVec 1 := Scalar.cmpi .ne v13 v18
  let v20 : BitVec 32 := Scalar.remsi v7 c512_i32
  let c0_i32_4 : BitVec 32 := 0#32
  let v21 : BitVec 1 := Scalar.cmpi .ne v20 c0_i32_4
  let v22 : BitVec 1 := Scalar.andi v19 v21
  let v8 : BitVec 32 := Scalar.divsi v7 c512_i32
  let c1_i32_5 : BitVec 32 := 1#32
  let v23 : BitVec 32 := Scalar.subi v8 c1_i32_5
  let v24 : BitVec 32 := Scalar.select v22 v23 v8
  let c1_i32_6 : BitVec 32 := 1#32
  let v25 : BitVec 32 := Scalar.addi v24 c1_i32_6
  let v77 : BitVec 32 := Scalar.subi v25 c0_i32_33
  let c1_i32_34 : BitVec 32 := 1#32
  let v79 : BitVec 32 := Scalar.divsi v77 c1_i32_34
  let v80 : BitVec 32 := Scalar.muli v79 c1_i32_34
  let v81 : BitVec 32 := Scalar.addi c0_i32_33 v80
  let v78 : BitVec 32 := Scalar.addi c0_i32_33 v77
  let c1_i32_36 : BitVec 32 := 1#32
  ⟨v81, v78, c1_i32_36⟩
def k0_mult4 (i : grid0.Coords) (k0_t4 : Fin (k0_t4_loop i).trips) : BitVec 32 :=
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v6 : BitVec 32 := Scalar.addi v0 c128_i32_0
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c512_i32 : BitVec 32 := 512#32
  let c0_i32_2 : BitVec 32 := 0#32
  let v14 : BitVec 1 := Scalar.cmpi .sgt c512_i32 c0_i32_2
  let v15 : BitVec 32 := Scalar.extui v14
  let c0_i32_3 : BitVec 32 := 0#32
  let v16 : BitVec 1 := Scalar.cmpi .slt c512_i32 c0_i32_3
  let v17 : BitVec 32 := Scalar.extui v16
  let v18 : BitVec 32 := Scalar.subi v15 v17
  let v19 : BitVec 1 := Scalar.cmpi .ne v13 v18
  let v20 : BitVec 32 := Scalar.remsi v7 c512_i32
  let c0_i32_4 : BitVec 32 := 0#32
  let v21 : BitVec 1 := Scalar.cmpi .ne v20 c0_i32_4
  let v22 : BitVec 1 := Scalar.andi v19 v21
  let v8 : BitVec 32 := Scalar.divsi v7 c512_i32
  let c1_i32_5 : BitVec 32 := 1#32
  let v23 : BitVec 32 := Scalar.subi v8 c1_i32_5
  let v24 : BitVec 32 := Scalar.select v22 v23 v8
  let c1_i32_6 : BitVec 32 := 1#32
  let v25 : BitVec 32 := Scalar.addi v24 c1_i32_6
  let v77 : BitVec 32 := Scalar.subi v25 c0_i32_33
  let c1_i32_34 : BitVec 32 := 1#32
  let v79 : BitVec 32 := Scalar.divsi v77 c1_i32_34
  let v80 : BitVec 32 := Scalar.muli v79 c1_i32_34
  let v81 : BitVec 32 := Scalar.addi c0_i32_33 v80
  let c1_i32_36 : BitVec 32 := 1#32
  let arg10 : BitVec 32 := Scf.iv v81 c1_i32_36 k0_t4
  let c512_i32_62 : BitVec 32 := 512#32
  let v145 : BitVec 32 := Scalar.muli arg10 c512_i32_62
  v145
def k0_off7 (i : grid0.Coords) (k0_t4 : Fin (k0_t4_loop i).trips) : Fin 2 → Nat :=
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v6 : BitVec 32 := Scalar.addi v0 c128_i32_0
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c512_i32 : BitVec 32 := 512#32
  let c0_i32_2 : BitVec 32 := 0#32
  let v14 : BitVec 1 := Scalar.cmpi .sgt c512_i32 c0_i32_2
  let v15 : BitVec 32 := Scalar.extui v14
  let c0_i32_3 : BitVec 32 := 0#32
  let v16 : BitVec 1 := Scalar.cmpi .slt c512_i32 c0_i32_3
  let v17 : BitVec 32 := Scalar.extui v16
  let v18 : BitVec 32 := Scalar.subi v15 v17
  let v19 : BitVec 1 := Scalar.cmpi .ne v13 v18
  let v20 : BitVec 32 := Scalar.remsi v7 c512_i32
  let c0_i32_4 : BitVec 32 := 0#32
  let v21 : BitVec 1 := Scalar.cmpi .ne v20 c0_i32_4
  let v22 : BitVec 1 := Scalar.andi v19 v21
  let v8 : BitVec 32 := Scalar.divsi v7 c512_i32
  let c1_i32_5 : BitVec 32 := 1#32
  let v23 : BitVec 32 := Scalar.subi v8 c1_i32_5
  let v24 : BitVec 32 := Scalar.select v22 v23 v8
  let c1_i32_6 : BitVec 32 := 1#32
  let v25 : BitVec 32 := Scalar.addi v24 c1_i32_6
  let v77 : BitVec 32 := Scalar.subi v25 c0_i32_33
  let c1_i32_34 : BitVec 32 := 1#32
  let v79 : BitVec 32 := Scalar.divsi v77 c1_i32_34
  let v80 : BitVec 32 := Scalar.muli v79 c1_i32_34
  let v81 : BitVec 32 := Scalar.addi c0_i32_33 v80
  let c1_i32_36 : BitVec 32 := 1#32
  let arg10 : BitVec 32 := Scf.iv v81 c1_i32_36 k0_t4
  let c512_i32_62 : BitVec 32 := 512#32
  let v145 : BitVec 32 := Scalar.muli arg10 c512_i32_62
  let v146 : BitVec 32 := v145
  let v147 : Index := Scalar.indexCast v146
  let c128_63 : Index := 128#32
  ![v147.toNat, 128]
def k0_off8 (i : grid0.Coords) (k0_t4 : Fin (k0_t4_loop i).trips) : Fin 4 → Nat :=
  let c0_68 : Index := 0#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v6 : BitVec 32 := Scalar.addi v0 c128_i32_0
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c512_i32 : BitVec 32 := 512#32
  let c0_i32_2 : BitVec 32 := 0#32
  let v14 : BitVec 1 := Scalar.cmpi .sgt c512_i32 c0_i32_2
  let v15 : BitVec 32 := Scalar.extui v14
  let c0_i32_3 : BitVec 32 := 0#32
  let v16 : BitVec 1 := Scalar.cmpi .slt c512_i32 c0_i32_3
  let v17 : BitVec 32 := Scalar.extui v16
  let v18 : BitVec 32 := Scalar.subi v15 v17
  let v19 : BitVec 1 := Scalar.cmpi .ne v13 v18
  let v20 : BitVec 32 := Scalar.remsi v7 c512_i32
  let c0_i32_4 : BitVec 32 := 0#32
  let v21 : BitVec 1 := Scalar.cmpi .ne v20 c0_i32_4
  let v22 : BitVec 1 := Scalar.andi v19 v21
  let v8 : BitVec 32 := Scalar.divsi v7 c512_i32
  let c1_i32_5 : BitVec 32 := 1#32
  let v23 : BitVec 32 := Scalar.subi v8 c1_i32_5
  let v24 : BitVec 32 := Scalar.select v22 v23 v8
  let c1_i32_6 : BitVec 32 := 1#32
  let v25 : BitVec 32 := Scalar.addi v24 c1_i32_6
  let v77 : BitVec 32 := Scalar.subi v25 c0_i32_33
  let c1_i32_34 : BitVec 32 := 1#32
  let v79 : BitVec 32 := Scalar.divsi v77 c1_i32_34
  let v80 : BitVec 32 := Scalar.muli v79 c1_i32_34
  let v81 : BitVec 32 := Scalar.addi c0_i32_33 v80
  let c1_i32_36 : BitVec 32 := 1#32
  let arg10 : BitVec 32 := Scf.iv v81 c1_i32_36 k0_t4
  let v171 : Index := Scalar.indexCast arg10
  let c128_69 : Index := 128#32
  let c0_70 : Index := 0#32
  ![0, v171.toNat, 128, 0]
@[reducible] def k0_t5_loop (i : grid0.Coords) : Scf.Loop 32 :=
  let c0_i32_44 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v6 : BitVec 32 := Scalar.addi v0 c128_i32_0
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c512_i32 : BitVec 32 := 512#32
  let c0_i32_2 : BitVec 32 := 0#32
  let v14 : BitVec 1 := Scalar.cmpi .sgt c512_i32 c0_i32_2
  let v15 : BitVec 32 := Scalar.extui v14
  let c0_i32_3 : BitVec 32 := 0#32
  let v16 : BitVec 1 := Scalar.cmpi .slt c512_i32 c0_i32_3
  let v17 : BitVec 32 := Scalar.extui v16
  let v18 : BitVec 32 := Scalar.subi v15 v17
  let v19 : BitVec 1 := Scalar.cmpi .ne v13 v18
  let v20 : BitVec 32 := Scalar.remsi v7 c512_i32
  let c0_i32_4 : BitVec 32 := 0#32
  let v21 : BitVec 1 := Scalar.cmpi .ne v20 c0_i32_4
  let v22 : BitVec 1 := Scalar.andi v19 v21
  let v8 : BitVec 32 := Scalar.divsi v7 c512_i32
  let c1_i32_5 : BitVec 32 := 1#32
  let v23 : BitVec 32 := Scalar.subi v8 c1_i32_5
  let v24 : BitVec 32 := Scalar.select v22 v23 v8
  let c1_i32_6 : BitVec 32 := 1#32
  let v25 : BitVec 32 := Scalar.addi v24 c1_i32_6
  let v102 : BitVec 32 := Scalar.subi v25 c0_i32_44
  let c1_i32_45 : BitVec 32 := 1#32
  let v104 : BitVec 32 := Scalar.divsi v102 c1_i32_45
  let v105 : BitVec 32 := Scalar.muli v104 c1_i32_45
  let v106 : BitVec 32 := Scalar.addi c0_i32_44 v105
  let c1_i32_46 : BitVec 32 := 1#32
  ⟨c0_i32_44, v106, c1_i32_46⟩
def k0_mult5 (i : grid0.Coords) (k0_t5 : Fin (k0_t5_loop i).trips) : BitVec 32 :=
  let c0_i32_44 : BitVec 32 := 0#32
  let c1_i32_46 : BitVec 32 := 1#32
  let arg10 : BitVec 32 := Scf.iv c0_i32_44 c1_i32_46 k0_t5
  let c512_i32_62 : BitVec 32 := 512#32
  let v145 : BitVec 32 := Scalar.muli arg10 c512_i32_62
  v145
def k0_off9 (i : grid0.Coords) (k0_t5 : Fin (k0_t5_loop i).trips) : Fin 2 → Nat :=
  let c0_i32_44 : BitVec 32 := 0#32
  let c1_i32_46 : BitVec 32 := 1#32
  let arg10 : BitVec 32 := Scf.iv c0_i32_44 c1_i32_46 k0_t5
  let c512_i32_62 : BitVec 32 := 512#32
  let v145 : BitVec 32 := Scalar.muli arg10 c512_i32_62
  let v146 : BitVec 32 := v145
  let v147 : Index := Scalar.indexCast v146
  let c256_63 : Index := 256#32
  ![v147.toNat, 256]
def k0_off10 (i : grid0.Coords) (k0_t5 : Fin (k0_t5_loop i).trips) : Fin 4 → Nat :=
  let c0_68 : Index := 0#32
  let c0_i32_44 : BitVec 32 := 0#32
  let c1_i32_46 : BitVec 32 := 1#32
  let arg10 : BitVec 32 := Scf.iv c0_i32_44 c1_i32_46 k0_t5
  let v171 : Index := Scalar.indexCast arg10
  let c256_69 : Index := 256#32
  let c0_70 : Index := 0#32
  ![0, v171.toNat, 256, 0]
@[reducible] def k0_t6_loop (i : grid0.Coords) : Scf.Loop 32 :=
  let c0_i32_44 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v6 : BitVec 32 := Scalar.addi v0 c128_i32_0
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c512_i32 : BitVec 32 := 512#32
  let c0_i32_2 : BitVec 32 := 0#32
  let v14 : BitVec 1 := Scalar.cmpi .sgt c512_i32 c0_i32_2
  let v15 : BitVec 32 := Scalar.extui v14
  let c0_i32_3 : BitVec 32 := 0#32
  let v16 : BitVec 1 := Scalar.cmpi .slt c512_i32 c0_i32_3
  let v17 : BitVec 32 := Scalar.extui v16
  let v18 : BitVec 32 := Scalar.subi v15 v17
  let v19 : BitVec 1 := Scalar.cmpi .ne v13 v18
  let v20 : BitVec 32 := Scalar.remsi v7 c512_i32
  let c0_i32_4 : BitVec 32 := 0#32
  let v21 : BitVec 1 := Scalar.cmpi .ne v20 c0_i32_4
  let v22 : BitVec 1 := Scalar.andi v19 v21
  let v8 : BitVec 32 := Scalar.divsi v7 c512_i32
  let c1_i32_5 : BitVec 32 := 1#32
  let v23 : BitVec 32 := Scalar.subi v8 c1_i32_5
  let v24 : BitVec 32 := Scalar.select v22 v23 v8
  let c1_i32_6 : BitVec 32 := 1#32
  let v25 : BitVec 32 := Scalar.addi v24 c1_i32_6
  let v102 : BitVec 32 := Scalar.subi v25 c0_i32_44
  let c1_i32_45 : BitVec 32 := 1#32
  let v104 : BitVec 32 := Scalar.divsi v102 c1_i32_45
  let v105 : BitVec 32 := Scalar.muli v104 c1_i32_45
  let v106 : BitVec 32 := Scalar.addi c0_i32_44 v105
  let v103 : BitVec 32 := Scalar.addi c0_i32_44 v102
  let c1_i32_47 : BitVec 32 := 1#32
  ⟨v106, v103, c1_i32_47⟩
def k0_mult6 (i : grid0.Coords) (k0_t6 : Fin (k0_t6_loop i).trips) : BitVec 32 :=
  let c0_i32_44 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v6 : BitVec 32 := Scalar.addi v0 c128_i32_0
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c512_i32 : BitVec 32 := 512#32
  let c0_i32_2 : BitVec 32 := 0#32
  let v14 : BitVec 1 := Scalar.cmpi .sgt c512_i32 c0_i32_2
  let v15 : BitVec 32 := Scalar.extui v14
  let c0_i32_3 : BitVec 32 := 0#32
  let v16 : BitVec 1 := Scalar.cmpi .slt c512_i32 c0_i32_3
  let v17 : BitVec 32 := Scalar.extui v16
  let v18 : BitVec 32 := Scalar.subi v15 v17
  let v19 : BitVec 1 := Scalar.cmpi .ne v13 v18
  let v20 : BitVec 32 := Scalar.remsi v7 c512_i32
  let c0_i32_4 : BitVec 32 := 0#32
  let v21 : BitVec 1 := Scalar.cmpi .ne v20 c0_i32_4
  let v22 : BitVec 1 := Scalar.andi v19 v21
  let v8 : BitVec 32 := Scalar.divsi v7 c512_i32
  let c1_i32_5 : BitVec 32 := 1#32
  let v23 : BitVec 32 := Scalar.subi v8 c1_i32_5
  let v24 : BitVec 32 := Scalar.select v22 v23 v8
  let c1_i32_6 : BitVec 32 := 1#32
  let v25 : BitVec 32 := Scalar.addi v24 c1_i32_6
  let v102 : BitVec 32 := Scalar.subi v25 c0_i32_44
  let c1_i32_45 : BitVec 32 := 1#32
  let v104 : BitVec 32 := Scalar.divsi v102 c1_i32_45
  let v105 : BitVec 32 := Scalar.muli v104 c1_i32_45
  let v106 : BitVec 32 := Scalar.addi c0_i32_44 v105
  let c1_i32_47 : BitVec 32 := 1#32
  let arg10 : BitVec 32 := Scf.iv v106 c1_i32_47 k0_t6
  let c512_i32_62 : BitVec 32 := 512#32
  let v145 : BitVec 32 := Scalar.muli arg10 c512_i32_62
  v145
def k0_off11 (i : grid0.Coords) (k0_t6 : Fin (k0_t6_loop i).trips) : Fin 2 → Nat :=
  let c0_i32_44 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v6 : BitVec 32 := Scalar.addi v0 c128_i32_0
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c512_i32 : BitVec 32 := 512#32
  let c0_i32_2 : BitVec 32 := 0#32
  let v14 : BitVec 1 := Scalar.cmpi .sgt c512_i32 c0_i32_2
  let v15 : BitVec 32 := Scalar.extui v14
  let c0_i32_3 : BitVec 32 := 0#32
  let v16 : BitVec 1 := Scalar.cmpi .slt c512_i32 c0_i32_3
  let v17 : BitVec 32 := Scalar.extui v16
  let v18 : BitVec 32 := Scalar.subi v15 v17
  let v19 : BitVec 1 := Scalar.cmpi .ne v13 v18
  let v20 : BitVec 32 := Scalar.remsi v7 c512_i32
  let c0_i32_4 : BitVec 32 := 0#32
  let v21 : BitVec 1 := Scalar.cmpi .ne v20 c0_i32_4
  let v22 : BitVec 1 := Scalar.andi v19 v21
  let v8 : BitVec 32 := Scalar.divsi v7 c512_i32
  let c1_i32_5 : BitVec 32 := 1#32
  let v23 : BitVec 32 := Scalar.subi v8 c1_i32_5
  let v24 : BitVec 32 := Scalar.select v22 v23 v8
  let c1_i32_6 : BitVec 32 := 1#32
  let v25 : BitVec 32 := Scalar.addi v24 c1_i32_6
  let v102 : BitVec 32 := Scalar.subi v25 c0_i32_44
  let c1_i32_45 : BitVec 32 := 1#32
  let v104 : BitVec 32 := Scalar.divsi v102 c1_i32_45
  let v105 : BitVec 32 := Scalar.muli v104 c1_i32_45
  let v106 : BitVec 32 := Scalar.addi c0_i32_44 v105
  let c1_i32_47 : BitVec 32 := 1#32
  let arg10 : BitVec 32 := Scf.iv v106 c1_i32_47 k0_t6
  let c512_i32_62 : BitVec 32 := 512#32
  let v145 : BitVec 32 := Scalar.muli arg10 c512_i32_62
  let v146 : BitVec 32 := v145
  let v147 : Index := Scalar.indexCast v146
  let c256_63 : Index := 256#32
  ![v147.toNat, 256]
def k0_off12 (i : grid0.Coords) (k0_t6 : Fin (k0_t6_loop i).trips) : Fin 4 → Nat :=
  let c0_68 : Index := 0#32
  let c0_i32_44 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v6 : BitVec 32 := Scalar.addi v0 c128_i32_0
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c512_i32 : BitVec 32 := 512#32
  let c0_i32_2 : BitVec 32 := 0#32
  let v14 : BitVec 1 := Scalar.cmpi .sgt c512_i32 c0_i32_2
  let v15 : BitVec 32 := Scalar.extui v14
  let c0_i32_3 : BitVec 32 := 0#32
  let v16 : BitVec 1 := Scalar.cmpi .slt c512_i32 c0_i32_3
  let v17 : BitVec 32 := Scalar.extui v16
  let v18 : BitVec 32 := Scalar.subi v15 v17
  let v19 : BitVec 1 := Scalar.cmpi .ne v13 v18
  let v20 : BitVec 32 := Scalar.remsi v7 c512_i32
  let c0_i32_4 : BitVec 32 := 0#32
  let v21 : BitVec 1 := Scalar.cmpi .ne v20 c0_i32_4
  let v22 : BitVec 1 := Scalar.andi v19 v21
  let v8 : BitVec 32 := Scalar.divsi v7 c512_i32
  let c1_i32_5 : BitVec 32 := 1#32
  let v23 : BitVec 32 := Scalar.subi v8 c1_i32_5
  let v24 : BitVec 32 := Scalar.select v22 v23 v8
  let c1_i32_6 : BitVec 32 := 1#32
  let v25 : BitVec 32 := Scalar.addi v24 c1_i32_6
  let v102 : BitVec 32 := Scalar.subi v25 c0_i32_44
  let c1_i32_45 : BitVec 32 := 1#32
  let v104 : BitVec 32 := Scalar.divsi v102 c1_i32_45
  let v105 : BitVec 32 := Scalar.muli v104 c1_i32_45
  let v106 : BitVec 32 := Scalar.addi c0_i32_44 v105
  let c1_i32_47 : BitVec 32 := 1#32
  let arg10 : BitVec 32 := Scf.iv v106 c1_i32_47 k0_t6
  let v171 : Index := Scalar.indexCast arg10
  let c256_69 : Index := 256#32
  let c0_70 : Index := 0#32
  ![0, v171.toNat, 256, 0]
@[reducible] def k0_t7_loop (i : grid0.Coords) : Scf.Loop 32 :=
  let c0_i32_55 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v6 : BitVec 32 := Scalar.addi v0 c128_i32_0
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c512_i32 : BitVec 32 := 512#32
  let c0_i32_2 : BitVec 32 := 0#32
  let v14 : BitVec 1 := Scalar.cmpi .sgt c512_i32 c0_i32_2
  let v15 : BitVec 32 := Scalar.extui v14
  let c0_i32_3 : BitVec 32 := 0#32
  let v16 : BitVec 1 := Scalar.cmpi .slt c512_i32 c0_i32_3
  let v17 : BitVec 32 := Scalar.extui v16
  let v18 : BitVec 32 := Scalar.subi v15 v17
  let v19 : BitVec 1 := Scalar.cmpi .ne v13 v18
  let v20 : BitVec 32 := Scalar.remsi v7 c512_i32
  let c0_i32_4 : BitVec 32 := 0#32
  let v21 : BitVec 1 := Scalar.cmpi .ne v20 c0_i32_4
  let v22 : BitVec 1 := Scalar.andi v19 v21
  let v8 : BitVec 32 := Scalar.divsi v7 c512_i32
  let c1_i32_5 : BitVec 32 := 1#32
  let v23 : BitVec 32 := Scalar.subi v8 c1_i32_5
  let v24 : BitVec 32 := Scalar.select v22 v23 v8
  let c1_i32_6 : BitVec 32 := 1#32
  let v25 : BitVec 32 := Scalar.addi v24 c1_i32_6
  let v127 : BitVec 32 := Scalar.subi v25 c0_i32_55
  let c1_i32_56 : BitVec 32 := 1#32
  let v129 : BitVec 32 := Scalar.divsi v127 c1_i32_56
  let v130 : BitVec 32 := Scalar.muli v129 c1_i32_56
  let v131 : BitVec 32 := Scalar.addi c0_i32_55 v130
  let c1_i32_57 : BitVec 32 := 1#32
  ⟨c0_i32_55, v131, c1_i32_57⟩
def k0_mult7 (i : grid0.Coords) (k0_t7 : Fin (k0_t7_loop i).trips) : BitVec 32 :=
  let c0_i32_55 : BitVec 32 := 0#32
  let c1_i32_57 : BitVec 32 := 1#32
  let arg10 : BitVec 32 := Scf.iv c0_i32_55 c1_i32_57 k0_t7
  let c512_i32_62 : BitVec 32 := 512#32
  let v145 : BitVec 32 := Scalar.muli arg10 c512_i32_62
  v145
def k0_off13 (i : grid0.Coords) (k0_t7 : Fin (k0_t7_loop i).trips) : Fin 2 → Nat :=
  let c0_i32_55 : BitVec 32 := 0#32
  let c1_i32_57 : BitVec 32 := 1#32
  let arg10 : BitVec 32 := Scf.iv c0_i32_55 c1_i32_57 k0_t7
  let c512_i32_62 : BitVec 32 := 512#32
  let v145 : BitVec 32 := Scalar.muli arg10 c512_i32_62
  let v146 : BitVec 32 := v145
  let v147 : Index := Scalar.indexCast v146
  let c384_63 : Index := 384#32
  ![v147.toNat, 384]
def k0_off14 (i : grid0.Coords) (k0_t7 : Fin (k0_t7_loop i).trips) : Fin 4 → Nat :=
  let c0_68 : Index := 0#32
  let c0_i32_55 : BitVec 32 := 0#32
  let c1_i32_57 : BitVec 32 := 1#32
  let arg10 : BitVec 32 := Scf.iv c0_i32_55 c1_i32_57 k0_t7
  let v171 : Index := Scalar.indexCast arg10
  let c384_69 : Index := 384#32
  let c0_70 : Index := 0#32
  ![0, v171.toNat, 384, 0]
@[reducible] def k0_t8_loop (i : grid0.Coords) : Scf.Loop 32 :=
  let c0_i32_55 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v6 : BitVec 32 := Scalar.addi v0 c128_i32_0
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c512_i32 : BitVec 32 := 512#32
  let c0_i32_2 : BitVec 32 := 0#32
  let v14 : BitVec 1 := Scalar.cmpi .sgt c512_i32 c0_i32_2
  let v15 : BitVec 32 := Scalar.extui v14
  let c0_i32_3 : BitVec 32 := 0#32
  let v16 : BitVec 1 := Scalar.cmpi .slt c512_i32 c0_i32_3
  let v17 : BitVec 32 := Scalar.extui v16
  let v18 : BitVec 32 := Scalar.subi v15 v17
  let v19 : BitVec 1 := Scalar.cmpi .ne v13 v18
  let v20 : BitVec 32 := Scalar.remsi v7 c512_i32
  let c0_i32_4 : BitVec 32 := 0#32
  let v21 : BitVec 1 := Scalar.cmpi .ne v20 c0_i32_4
  let v22 : BitVec 1 := Scalar.andi v19 v21
  let v8 : BitVec 32 := Scalar.divsi v7 c512_i32
  let c1_i32_5 : BitVec 32 := 1#32
  let v23 : BitVec 32 := Scalar.subi v8 c1_i32_5
  let v24 : BitVec 32 := Scalar.select v22 v23 v8
  let c1_i32_6 : BitVec 32 := 1#32
  let v25 : BitVec 32 := Scalar.addi v24 c1_i32_6
  let v127 : BitVec 32 := Scalar.subi v25 c0_i32_55
  let c1_i32_56 : BitVec 32 := 1#32
  let v129 : BitVec 32 := Scalar.divsi v127 c1_i32_56
  let v130 : BitVec 32 := Scalar.muli v129 c1_i32_56
  let v131 : BitVec 32 := Scalar.addi c0_i32_55 v130
  let v128 : BitVec 32 := Scalar.addi c0_i32_55 v127
  let c1_i32_58 : BitVec 32 := 1#32
  ⟨v131, v128, c1_i32_58⟩
def k0_mult8 (i : grid0.Coords) (k0_t8 : Fin (k0_t8_loop i).trips) : BitVec 32 :=
  let c0_i32_55 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v6 : BitVec 32 := Scalar.addi v0 c128_i32_0
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c512_i32 : BitVec 32 := 512#32
  let c0_i32_2 : BitVec 32 := 0#32
  let v14 : BitVec 1 := Scalar.cmpi .sgt c512_i32 c0_i32_2
  let v15 : BitVec 32 := Scalar.extui v14
  let c0_i32_3 : BitVec 32 := 0#32
  let v16 : BitVec 1 := Scalar.cmpi .slt c512_i32 c0_i32_3
  let v17 : BitVec 32 := Scalar.extui v16
  let v18 : BitVec 32 := Scalar.subi v15 v17
  let v19 : BitVec 1 := Scalar.cmpi .ne v13 v18
  let v20 : BitVec 32 := Scalar.remsi v7 c512_i32
  let c0_i32_4 : BitVec 32 := 0#32
  let v21 : BitVec 1 := Scalar.cmpi .ne v20 c0_i32_4
  let v22 : BitVec 1 := Scalar.andi v19 v21
  let v8 : BitVec 32 := Scalar.divsi v7 c512_i32
  let c1_i32_5 : BitVec 32 := 1#32
  let v23 : BitVec 32 := Scalar.subi v8 c1_i32_5
  let v24 : BitVec 32 := Scalar.select v22 v23 v8
  let c1_i32_6 : BitVec 32 := 1#32
  let v25 : BitVec 32 := Scalar.addi v24 c1_i32_6
  let v127 : BitVec 32 := Scalar.subi v25 c0_i32_55
  let c1_i32_56 : BitVec 32 := 1#32
  let v129 : BitVec 32 := Scalar.divsi v127 c1_i32_56
  let v130 : BitVec 32 := Scalar.muli v129 c1_i32_56
  let v131 : BitVec 32 := Scalar.addi c0_i32_55 v130
  let c1_i32_58 : BitVec 32 := 1#32
  let arg10 : BitVec 32 := Scf.iv v131 c1_i32_58 k0_t8
  let c512_i32_62 : BitVec 32 := 512#32
  let v145 : BitVec 32 := Scalar.muli arg10 c512_i32_62
  v145
def k0_off15 (i : grid0.Coords) (k0_t8 : Fin (k0_t8_loop i).trips) : Fin 2 → Nat :=
  let c0_i32_55 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v6 : BitVec 32 := Scalar.addi v0 c128_i32_0
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c512_i32 : BitVec 32 := 512#32
  let c0_i32_2 : BitVec 32 := 0#32
  let v14 : BitVec 1 := Scalar.cmpi .sgt c512_i32 c0_i32_2
  let v15 : BitVec 32 := Scalar.extui v14
  let c0_i32_3 : BitVec 32 := 0#32
  let v16 : BitVec 1 := Scalar.cmpi .slt c512_i32 c0_i32_3
  let v17 : BitVec 32 := Scalar.extui v16
  let v18 : BitVec 32 := Scalar.subi v15 v17
  let v19 : BitVec 1 := Scalar.cmpi .ne v13 v18
  let v20 : BitVec 32 := Scalar.remsi v7 c512_i32
  let c0_i32_4 : BitVec 32 := 0#32
  let v21 : BitVec 1 := Scalar.cmpi .ne v20 c0_i32_4
  let v22 : BitVec 1 := Scalar.andi v19 v21
  let v8 : BitVec 32 := Scalar.divsi v7 c512_i32
  let c1_i32_5 : BitVec 32 := 1#32
  let v23 : BitVec 32 := Scalar.subi v8 c1_i32_5
  let v24 : BitVec 32 := Scalar.select v22 v23 v8
  let c1_i32_6 : BitVec 32 := 1#32
  let v25 : BitVec 32 := Scalar.addi v24 c1_i32_6
  let v127 : BitVec 32 := Scalar.subi v25 c0_i32_55
  let c1_i32_56 : BitVec 32 := 1#32
  let v129 : BitVec 32 := Scalar.divsi v127 c1_i32_56
  let v130 : BitVec 32 := Scalar.muli v129 c1_i32_56
  let v131 : BitVec 32 := Scalar.addi c0_i32_55 v130
  let c1_i32_58 : BitVec 32 := 1#32
  let arg10 : BitVec 32 := Scf.iv v131 c1_i32_58 k0_t8
  let c512_i32_62 : BitVec 32 := 512#32
  let v145 : BitVec 32 := Scalar.muli arg10 c512_i32_62
  let v146 : BitVec 32 := v145
  let v147 : Index := Scalar.indexCast v146
  let c384_63 : Index := 384#32
  ![v147.toNat, 384]
def k0_off16 (i : grid0.Coords) (k0_t8 : Fin (k0_t8_loop i).trips) : Fin 4 → Nat :=
  let c0_68 : Index := 0#32
  let c0_i32_55 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v6 : BitVec 32 := Scalar.addi v0 c128_i32_0
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c512_i32 : BitVec 32 := 512#32
  let c0_i32_2 : BitVec 32 := 0#32
  let v14 : BitVec 1 := Scalar.cmpi .sgt c512_i32 c0_i32_2
  let v15 : BitVec 32 := Scalar.extui v14
  let c0_i32_3 : BitVec 32 := 0#32
  let v16 : BitVec 1 := Scalar.cmpi .slt c512_i32 c0_i32_3
  let v17 : BitVec 32 := Scalar.extui v16
  let v18 : BitVec 32 := Scalar.subi v15 v17
  let v19 : BitVec 1 := Scalar.cmpi .ne v13 v18
  let v20 : BitVec 32 := Scalar.remsi v7 c512_i32
  let c0_i32_4 : BitVec 32 := 0#32
  let v21 : BitVec 1 := Scalar.cmpi .ne v20 c0_i32_4
  let v22 : BitVec 1 := Scalar.andi v19 v21
  let v8 : BitVec 32 := Scalar.divsi v7 c512_i32
  let c1_i32_5 : BitVec 32 := 1#32
  let v23 : BitVec 32 := Scalar.subi v8 c1_i32_5
  let v24 : BitVec 32 := Scalar.select v22 v23 v8
  let c1_i32_6 : BitVec 32 := 1#32
  let v25 : BitVec 32 := Scalar.addi v24 c1_i32_6
  let v127 : BitVec 32 := Scalar.subi v25 c0_i32_55
  let c1_i32_56 : BitVec 32 := 1#32
  let v129 : BitVec 32 := Scalar.divsi v127 c1_i32_56
  let v130 : BitVec 32 := Scalar.muli v129 c1_i32_56
  let v131 : BitVec 32 := Scalar.addi c0_i32_55 v130
  let c1_i32_58 : BitVec 32 := 1#32
  let arg10 : BitVec 32 := Scf.iv v131 c1_i32_58 k0_t8
  let v171 : Index := Scalar.indexCast arg10
  let c384_69 : Index := 384#32
  let c0_70 : Index := 0#32
  ![0, v171.toNat, 384, 0]
def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S65536x512 : Shape := ⟨2, ![65536, 512]⟩
abbrev S8x16x512x512 : Shape := ⟨4, ![8, 16, 512, 512]⟩
abbrev S1x64 : Shape := ⟨2, ![1, 64]⟩
abbrev S64 : Shape := ⟨1, ![64]⟩
abbrev S_ : Shape := ⟨0, ![]⟩
abbrev S8x8192x4x2x64 : Shape := ⟨5, ![8, 8192, 4, 2, 64]⟩
abbrev S8x8192x4x128 : Shape := ⟨4, ![8, 8192, 4, 128]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S8x8192x4x1x64 : Shape := ⟨5, ![8, 8192, 4, 1, 64]⟩
abbrev S8x8192x4x64 : Shape := ⟨4, ![8, 8192, 4, 64]⟩
abbrev S8x4x8192x8192 : Shape := ⟨4, ![8, 4, 8192, 8192]⟩
abbrev S8x4x8192 : Shape := ⟨3, ![8, 4, 8192]⟩
abbrev S8x4x8192x1 : Shape := ⟨4, ![8, 4, 8192, 1]⟩
abbrev S8x4x128x8192 : Shape := ⟨4, ![8, 4, 128, 8192]⟩

abbrev nBuf : Space → Nat
  | .hbm => 100
  | .vmem => 0
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S8x16x512x512, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S65536x512, .f32⟩
  | .hbm, ⟨23, _⟩ => ⟨S8x8192x4x2x64, .f32⟩
  | .hbm, ⟨24, _⟩ => ⟨S65536x512, .f32⟩
  | .hbm, ⟨25, _⟩ => ⟨S8x8192x4x2x64, .f32⟩
  | .hbm, ⟨26, _⟩ => ⟨S8x16x512x512, .f32⟩
  | .hbm, ⟨27, _⟩ => ⟨S8x16x512x512, .f32⟩
  | .hbm, ⟨28, _⟩ => ⟨S8x8192x4x128, .f32⟩
  | .hbm, ⟨29, _⟩ => ⟨S8192, .i32⟩
  | .hbm, ⟨30, _⟩ => ⟨S1x8192, .i32⟩
  | .hbm, ⟨31, _⟩ => ⟨S8192x1, .i32⟩
  | .hbm, ⟨32, _⟩ => ⟨S8192x8192, .i32⟩
  | .hbm, ⟨33, _⟩ => ⟨S8192x8192, .i32⟩
  | .hbm, ⟨34, _⟩ => ⟨S8192x8192, .i1⟩
  | .hbm, ⟨35, _⟩ => ⟨S1x1x8192x8192, .i1⟩
  | .hbm, ⟨36, _⟩ => ⟨S8x8192x4x1x64, .f32⟩
  | .hbm, ⟨37, _⟩ => ⟨S8x8192x4x64, .f32⟩
  | .hbm, ⟨38, _⟩ => ⟨S8x8192x4x1x64, .f32⟩
  | .hbm, ⟨39, _⟩ => ⟨S8x8192x4x64, .f32⟩
  | .hbm, ⟨40, _⟩ => ⟨S8x4x8192x8192, .f32⟩
  | .hbm, ⟨41, _⟩ => ⟨S_, .f32⟩
  | .hbm, ⟨42, _⟩ => ⟨S_, .f32⟩
  | .hbm, ⟨43, _⟩ => ⟨S8x4x8192x8192, .i1⟩
  | .hbm, ⟨44, _⟩ => ⟨S8x4x8192x8192, .f32⟩
  | .hbm, ⟨45, _⟩ => ⟨S8x4x8192x8192, .f32⟩
  | .hbm, ⟨46, _⟩ => ⟨S_, .f32⟩
  | .hbm, ⟨47, _⟩ => ⟨S8x4x8192, .f32⟩
  | .hbm, ⟨48, _⟩ => ⟨S_, .f32⟩
  | .hbm, ⟨49, _⟩ => ⟨S8x4x8192, .f32⟩
  | .hbm, ⟨50, _⟩ => ⟨S8x4x8192, .f32⟩
  | .hbm, ⟨51, _⟩ => ⟨S8x4x8192x1, .f32⟩
  | .hbm, ⟨52, _⟩ => ⟨S8x4x8192x8192, .f32⟩
  | .hbm, ⟨53, _⟩ => ⟨S8x4x8192x8192, .f32⟩
  | .hbm, ⟨54, _⟩ => ⟨S8x4x8192x8192, .f32⟩
  | .hbm, ⟨55, _⟩ => ⟨S_, .f32⟩
  | .hbm, ⟨56, _⟩ => ⟨S8x4x8192, .f32⟩
  | .hbm, ⟨57, _⟩ => ⟨S8x4x8192x1, .f32⟩
  | .hbm, ⟨58, _⟩ => ⟨S8x4x8192x8192, .f32⟩
  | .hbm, ⟨59, _⟩ => ⟨S8x4x8192x8192, .f32⟩
  | .hbm, ⟨60, _⟩ => ⟨S_, .f32⟩
  | .hbm, ⟨61, _⟩ => ⟨S_, .f32⟩
  | .hbm, ⟨62, _⟩ => ⟨S8x4x8192x8192, .i1⟩
  | .hbm, ⟨63, _⟩ => ⟨S8x4x8192x8192, .f32⟩
  | .hbm, ⟨64, _⟩ => ⟨S8x4x8192x8192, .f32⟩
  | .hbm, ⟨65, _⟩ => ⟨S8x8192x4x1x64, .f32⟩
  | .hbm, ⟨66, _⟩ => ⟨S8x8192x4x64, .f32⟩
  | .hbm, ⟨67, _⟩ => ⟨S8x8192x4x1x64, .f32⟩
  | .hbm, ⟨68, _⟩ => ⟨S8x8192x4x64, .f32⟩
  | .hbm, ⟨69, _⟩ => ⟨S8x4x8192x8192, .f32⟩
  | .hbm, ⟨70, _⟩ => ⟨S_, .f32⟩
  | .hbm, ⟨71, _⟩ => ⟨S_, .f32⟩
  | .hbm, ⟨72, _⟩ => ⟨S8x4x8192x8192, .i1⟩
  | .hbm, ⟨73, _⟩ => ⟨S8x4x8192x8192, .f32⟩
  | .hbm, ⟨74, _⟩ => ⟨S8x4x8192x8192, .f32⟩
  | .hbm, ⟨75, _⟩ => ⟨S_, .f32⟩
  | .hbm, ⟨76, _⟩ => ⟨S8x4x8192, .f32⟩
  | .hbm, ⟨77, _⟩ => ⟨S_, .f32⟩
  | .hbm, ⟨78, _⟩ => ⟨S8x4x8192, .f32⟩
  | .hbm, ⟨79, _⟩ => ⟨S8x4x8192, .f32⟩
  | .hbm, ⟨80, _⟩ => ⟨S8x4x8192x1, .f32⟩
  | .hbm, ⟨81, _⟩ => ⟨S8x4x8192x8192, .f32⟩
  | .hbm, ⟨82, _⟩ => ⟨S8x4x8192x8192, .f32⟩
  | .hbm, ⟨83, _⟩ => ⟨S8x4x8192x8192, .f32⟩
  | .hbm, ⟨84, _⟩ => ⟨S_, .f32⟩
  | .hbm, ⟨85, _⟩ => ⟨S8x4x8192, .f32⟩
  | .hbm, ⟨86, _⟩ => ⟨S8x4x8192x1, .f32⟩
  | .hbm, ⟨87, _⟩ => ⟨S8x4x8192x8192, .f32⟩
  | .hbm, ⟨88, _⟩ => ⟨S8x4x8192x8192, .f32⟩
  | .hbm, ⟨89, _⟩ => ⟨S_, .f32⟩
  | .hbm, ⟨90, _⟩ => ⟨S_, .f32⟩
  | .hbm, ⟨91, _⟩ => ⟨S8x4x8192x8192, .i1⟩
  | .hbm, ⟨92, _⟩ => ⟨S8x4x8192x8192, .f32⟩
  | .hbm, ⟨93, _⟩ => ⟨S8x4x8192x8192, .f32⟩
  | .hbm, ⟨94, _⟩ => ⟨S8x4x8192x8192, .f32⟩
  | .hbm, ⟨95, _⟩ => ⟨S8x4x8192x8192, .f32⟩
  | .hbm, ⟨96, _⟩ => ⟨S8x4x8192x8192, .f32⟩
  | .hbm, ⟨97, _⟩ => ⟨S8x4x128x8192, .f32⟩
  | .hbm, ⟨98, _⟩ => ⟨S8x8192x4x128, .f32⟩
  | .hbm, ⟨99, _⟩ => ⟨S65536x512, .f32⟩
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_cst_9 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_10 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_11 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩

abbrev nD : Nat := 1
abbrev τ : Topo := Topo.v7x

variable {F : FTy → Type} [FloatOps F]
-- ==== Kernel2.lean ====
abbrev S65536x1024 : Shape := ⟨2, ![65536, 1024]⟩
abbrev S65536x512 : Shape := ⟨2, ![65536, 512]⟩
abbrev S65536x256 : Shape := ⟨2, ![65536, 256]⟩
abbrev S1x128 : Shape := ⟨2, ![1, 128]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S256x1024 : Shape := ⟨2, ![256, 1024]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S512 : Shape := ⟨1, ![512]⟩
abbrev S512x1 : Shape := ⟨2, ![512, 1]⟩

abbrev nBuf : Space → Nat
  | .hbm => 15
  | .vmem => 20
  | .smem => 0
  | _ => 0

abbrev bufTy : (tb : Table) → Fin (tcTables nBuf tb) → BufTy
  | .hbm, ⟨0, _⟩ => ⟨S65536x1024, .f32⟩
  | .hbm, ⟨1, _⟩ => ⟨S65536x512, .f32⟩
  | .hbm, ⟨2, _⟩ => ⟨S65536x512, .f32⟩
  | .hbm, ⟨3, _⟩ => ⟨S65536x256, .f32⟩
  | .hbm, ⟨4, _⟩ => ⟨S1x128, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S1024x4096, .bf16⟩
  | .hbm, ⟨9, _⟩ => ⟨S4096x1024, .bf16⟩
  | .hbm, ⟨10, _⟩ => ⟨S1x1024, .f32⟩
  | .hbm, ⟨11, _⟩ => ⟨S256x1024, .bf16⟩
  | .hbm, ⟨12, _⟩ => ⟨S1024x1024, .bf16⟩
  | .hbm, ⟨13, _⟩ => ⟨S1x1024, .f32⟩
  | .hbm, ⟨14, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S1x128, .f32⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1024x4096, .bf16⟩
  | .local _ .vmem, ⟨13, _⟩ => ⟨S4096x1024, .bf16⟩
  | .local _ .vmem, ⟨14, _⟩ => ⟨S1x1024, .f32⟩
  | .local _ .vmem, ⟨15, _⟩ => ⟨S256x1024, .bf16⟩
  | .local _ .vmem, ⟨16, _⟩ => ⟨S1024x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S65536x1024 : Shape := ⟨2, ![65536, 1024]⟩
abbrev S65536x512 : Shape := ⟨2, ![65536, 512]⟩
abbrev S65536x256 : Shape := ⟨2, ![65536, 256]⟩
abbrev S1x128 : Shape := ⟨2, ![1, 128]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S256x1024 : Shape := ⟨2, ![256, 1024]⟩
abbrev S65536x4x128 : Shape := ⟨3, ![65536, 4, 128]⟩
abbrev S128 : Shape := ⟨1, ![128]⟩
abbrev S_ : Shape := ⟨0, ![]⟩
abbrev S65536x4 : Shape := ⟨2, ![65536, 4]⟩
abbrev S65536x4x1 : Shape := ⟨3, ![65536, 4, 1]⟩
abbrev S1x1x128 : Shape := ⟨3, ![1, 1, 128]⟩
abbrev S1024 : Shape := ⟨1, ![1024]⟩
abbrev S65536 : Shape := ⟨1, ![65536]⟩
abbrev S65536x1 : Shape := ⟨2, ![65536, 1]⟩
abbrev S65536x4096 : Shape := ⟨2, ![65536, 4096]⟩

abbrev nBuf : Space → Nat
  | .hbm => 131
  | .vmem => 0
  | .smem => 0
  | _ => 0

abbrev hbmTy0_0 (i : Nat) : BufTy := match i % 128 with
  | 0 => ⟨S65536x1024, .f32⟩
  | 1 => ⟨S65536x512, .f32⟩
  | 2 => ⟨S65536x512, .f32⟩
  | 3 => ⟨S65536x256, .f32⟩
  | 4 => ⟨S1x128, .f32⟩
  | 5 => ⟨S1024x1024, .bf16⟩
  | 6 => ⟨S1x1024, .f32⟩
  | 7 => ⟨S1x1024, .f32⟩
  | 8 => ⟨S1024x4096, .bf16⟩
  | 9 => ⟨S4096x1024, .bf16⟩
  | 10 => ⟨S1x1024, .f32⟩
  | 11 => ⟨S256x1024, .bf16⟩
  | 12 => ⟨S1024x1024, .bf16⟩
  | 13 => ⟨S1x1024, .f32⟩
  | 14 => ⟨S1024x1024, .f32⟩
  | 15 => ⟨S1024x4096, .f32⟩
  | 16 => ⟨S4096x1024, .f32⟩
  | 17 => ⟨S256x1024, .f32⟩
  | 18 => ⟨S1024x1024, .f32⟩
  | 19 => ⟨S65536x4x128, .f32⟩
  | 20 => ⟨S128, .f32⟩
  | 21 => ⟨S65536x4x128, .f32⟩
  | 22 => ⟨S_, .f32⟩
  | 23 => ⟨S65536x4, .f32⟩
  | 24 => ⟨S65536x4x1, .f32⟩
  | 25 => ⟨S_, .f32⟩
  | 26 => ⟨S65536x4x1, .f32⟩
  | 27 => ⟨S65536x4x1, .f32⟩
  | 28 => ⟨S_, .f32⟩
  | 29 => ⟨S65536x4x1, .f32⟩
  | 30 => ⟨S65536x4x1, .f32⟩
  | 31 => ⟨S65536x4x1, .f32⟩
  | 32 => ⟨S65536x4x128, .f32⟩
  | 33 => ⟨S65536x4x128, .f32⟩
  | 34 => ⟨S1x1x128, .f32⟩
  | 35 => ⟨S65536x4x128, .f32⟩
  | 36 => ⟨S65536x4x128, .f32⟩
  | 37 => ⟨S_, .f32⟩
  | 38 => ⟨S65536x4x128, .f32⟩
  | 39 => ⟨S65536x4x128, .f32⟩
  | 40 => ⟨S65536x512, .f32⟩
  | 41 => ⟨S65536x1024, .f32⟩
  | 42 => ⟨S65536x1024, .f32⟩
  | 43 => ⟨S1024, .f32⟩
  | 44 => ⟨S65536x1024, .f32⟩
  | 45 => ⟨S_, .f32⟩
  | 46 => ⟨S65536, .f32⟩
  | 47 => ⟨S65536x1, .f32⟩
  | 48 => ⟨S_, .f32⟩
  | 49 => ⟨S65536x1, .f32⟩
  | 50 => ⟨S65536x1, .f32⟩
  | 51 => ⟨S_, .f32⟩
  | 52 => ⟨S65536x1, .f32⟩
  | 53 => ⟨S65536x1, .f32⟩
  | 54 => ⟨S65536x1, .f32⟩
  | 55 => ⟨S65536x1024, .f32⟩
  | 56 => ⟨S65536x1024, .f32⟩
  | 57 => ⟨S1x1024, .f32⟩
  | 58 => ⟨S65536x1024, .f32⟩
  | 59 => ⟨S65536x1024, .f32⟩
  | 60 => ⟨S65536x1024, .f32⟩
  | 61 => ⟨S1024, .f32⟩
  | 62 => ⟨S65536x1024, .f32⟩
  | 63 => ⟨S_, .f32⟩
  | 64 => ⟨S65536, .f32⟩
  | 65 => ⟨S65536x1, .f32⟩
  | 66 => ⟨S_, .f32⟩
  | 67 => ⟨S65536x1, .f32⟩
  | 68 => ⟨S65536x1, .f32⟩
  | 69 => ⟨S_, .f32⟩
  | 70 => ⟨S65536x1, .f32⟩
  | 71 => ⟨S65536x1, .f32⟩
  | 72 => ⟨S65536x1, .f32⟩
  | 73 => ⟨S65536x1024, .f32⟩
  | 74 => ⟨S65536x1024, .f32⟩
  | 75 => ⟨S1x1024, .f32⟩
  | 76 => ⟨S65536x1024, .f32⟩
  | 77 => ⟨S65536x1024, .f32⟩
  | 78 => ⟨S65536x4096, .f32⟩
  | 79 => ⟨S_, .f32⟩
  | 80 => ⟨S65536x4096, .f32⟩
  | 81 => ⟨S65536x4096, .f32⟩
  | 82 => ⟨S65536x4096, .f32⟩
  | 83 => ⟨S65536x1024, .f32⟩
  | 84 => ⟨S1024, .f32⟩
  | 85 => ⟨S65536x1024, .f32⟩
  | 86 => ⟨S_, .f32⟩
  | 87 => ⟨S65536, .f32⟩
  | 88 => ⟨S65536x1, .f32⟩
  | 89 => ⟨S_, .f32⟩
  | 90 => ⟨S65536x1, .f32⟩
  | 91 => ⟨S65536x1, .f32⟩
  | 92 => ⟨S_, .f32⟩
  | 93 => ⟨S65536x1, .f32⟩
  | 94 => ⟨S65536x1, .f32⟩
  | 95 => ⟨S65536x1, .f32⟩
  | 96 => ⟨S65536x1024, .f32⟩
  | 97 => ⟨S65536x1024, .f32⟩
  | 98 => ⟨S1x1024, .f32⟩
  | 99 => ⟨S65536x1024, .f32⟩
  | 100 => ⟨S65536x1024, .f32⟩
  | 101 => ⟨S65536x1024, .f32⟩
  | 102 => ⟨S65536x1024, .f32⟩
  | 103 => ⟨S65536x1024, .f32⟩
  | 104 => ⟨S65536x1024, .f32⟩
  | 105 => ⟨S65536x1024, .f32⟩
  | 106 => ⟨S_, .f32⟩
  | 107 => ⟨S65536x1024, .f32⟩
  | 108 => ⟨S65536x1024, .f32⟩
  | 109 => ⟨S_, .f32⟩
  | 110 => ⟨S65536x1024, .f32⟩
  | 111 => ⟨S65536x1024, .f32⟩
  | 112 => ⟨S65536x1024, .f32⟩
  | 113 => ⟨S1024, .f32⟩
  | 114 => ⟨S65536x1024, .f32⟩
  | 115 => ⟨S_, .f32⟩
  | 116 => ⟨S65536, .f32⟩
  | 117 => ⟨S65536x1, .f32⟩
  | 118 => ⟨S_, .f32⟩
  | 119 => ⟨S65536x1, .f32⟩
  | 120 => ⟨S65536x1, .f32⟩
  | 121 => ⟨S_, .f32⟩
  | 122 => ⟨S65536x1, .f32⟩
  | 123 => ⟨S65536x1, .f32⟩
  | 124 => ⟨S65536x1, .f32⟩
  | 125 => ⟨S65536x1024, .f32⟩
  | 126 => ⟨S65536x1024, .f32⟩
  | 127 => ⟨S1x1024, .f32⟩
  | _ => ⟨S65536x1024, .f32⟩

abbrev hbmTy0_1 (i : Nat) : BufTy := match i % 128 with
  | 0 => ⟨S65536x1024, .f32⟩
  | 1 => ⟨S65536x1024, .f32⟩
  | 2 => ⟨S65536x1024, .f32⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call0_cst : Ref sig .tc := ⟨.hbm, 79, rfl⟩
abbrev main_call0_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_9 : Ref sig .tc := ⟨.hbm, 86, rfl⟩
abbrev main_v60 : Ref sig .tc := ⟨.hbm, 87, rfl⟩
abbrev main_v61 : Ref sig .tc := ⟨.hbm, 88, rfl⟩
abbrev main_cst_10 : Ref sig .tc := ⟨.hbm, 89, rfl⟩
abbrev main_v62 : Ref sig .tc := ⟨.hbm, 90, rfl⟩
abbrev main_v63 : Ref sig .tc := ⟨.hbm, 91, rfl⟩
abbrev main_cst_11 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_12 : Ref sig .tc := ⟨.hbm, 106, rfl⟩
abbrev main_v77 : Ref sig .tc := ⟨.hbm, 107, rfl⟩
abbrev main_v78 : Ref sig .tc := ⟨.hbm, 108, rfl⟩
abbrev main_cst_13 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_14 : Ref sig .tc := ⟨.hbm, 115, rfl⟩
abbrev main_v84 : Ref sig .tc := ⟨.hbm, 116, rfl⟩
abbrev main_v85 : Ref sig .tc := ⟨.hbm, 117, rfl⟩
abbrev main_cst_15 : Ref sig .tc := ⟨.hbm, 118, rfl⟩
abbrev main_v86 : Ref sig .tc := ⟨.hbm, 119, rfl⟩
abbrev main_v87 : Ref sig .tc := ⟨.hbm, 120, rfl⟩
abbrev main_cst_16 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩

abbrev nD : Nat := 1
abbrev τ : Topo := Topo.v7x

variable {F : FTy → Type} [FloatOps F]
-- ==== Kernel3.lean ====
abbrev S8x8192x1024 : Shape := ⟨3, ![8, 8192, 1024]⟩
abbrev S1024 : Shape := ⟨1, ![1024]⟩
abbrev S1024x2840 : Shape := ⟨2, ![1024, 2840]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S65536x1024 : Shape := ⟨2, ![65536, 1024]⟩
abbrev S1x1024 : Shape := ⟨2, ![1, 1024]⟩
abbrev S1024x1280 : Shape := ⟨2, ![1024, 1280]⟩
abbrev S1024x1536 : Shape := ⟨2, ![1024, 1536]⟩
abbrev S1024x24 : Shape := ⟨2, ![1024, 24]⟩
abbrev S1024x104 : Shape := ⟨2, ![1024, 104]⟩
abbrev S1024x2944 : Shape := ⟨2, ![1024, 2944]⟩
abbrev S65536x512 : Shape := ⟨2, ![65536, 512]⟩
abbrev S65536x128 : Shape := ⟨2, ![65536, 128]⟩
abbrev S65536x256 : Shape := ⟨2, ![65536, 256]⟩
abbrev S8x16x128x512 : Shape := ⟨4, ![8, 16, 128, 512]⟩
abbrev S8x64x128x128 : Shape := ⟨4, ![8, 64, 128, 128]⟩
abbrev S8x16x512x512 : Shape := ⟨4, ![8, 16, 512, 512]⟩
abbrev S512x1024 : Shape := ⟨2, ![512, 1024]⟩
abbrev S512x128 : Shape := ⟨2, ![512, 128]⟩
abbrev S512x512 : Shape := ⟨2, ![512, 512]⟩
abbrev S512x256 : Shape := ⟨2, ![512, 256]⟩
abbrev S1x1x128x512 : Shape := ⟨4, ![1, 1, 128, 512]⟩
abbrev S1x4x128x128 : Shape := ⟨4, ![1, 4, 128, 128]⟩
abbrev S1x1x512x512 : Shape := ⟨4, ![1, 1, 512, 512]⟩
abbrev S512 : Shape := ⟨1, ![512]⟩
abbrev S512x1 : Shape := ⟨2, ![512, 1]⟩
abbrev S1024x512 : Shape := ⟨2, ![1024, 512]⟩
abbrev S1024x768 : Shape := ⟨2, ![1024, 768]⟩
abbrev S512x768 : Shape := ⟨2, ![512, 768]⟩
abbrev S1024x128 : Shape := ⟨2, ![1024, 128]⟩
abbrev S128x512 : Shape := ⟨2, ![128, 512]⟩
abbrev S128x128 : Shape := ⟨2, ![128, 128]⟩
abbrev S1x1x128x128 : Shape := ⟨4, ![1, 1, 128, 128]⟩
abbrev S8x8192x4x2x64 : Shape := ⟨5, ![8, 8192, 4, 2, 64]⟩
abbrev S8x8192x2x4x128 : Shape := ⟨5, ![8, 8192, 2, 4, 128]⟩
abbrev S8x8192x2x2x64 : Shape := ⟨5, ![8, 8192, 2, 2, 64]⟩
abbrev S8x512x2x2x64 : Shape := ⟨5, ![8, 512, 2, 2, 64]⟩
abbrev S65536x24 : Shape := ⟨2, ![65536, 24]⟩

abbrev nBuf : Space → Nat
  | .hbm => 51
  | .vmem => 34
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x2840, .f32⟩
  | .hbm, ⟨3, _⟩ => ⟨S8192, .i32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S8192, .f32⟩
  | .hbm, ⟨13, _⟩ => ⟨S8192x1, .f32⟩
  | .hbm, ⟨14, _⟩ => ⟨S1x32, .f32⟩
  | .hbm, ⟨15, _⟩ => ⟨S8192x32, .f32⟩
  | .hbm, ⟨16, _⟩ => ⟨S8192x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x128, .f32⟩
  | .hbm, ⟨21, _⟩ => ⟨S8192x32, .f32⟩
  | .hbm, ⟨22, _⟩ => ⟨S8192x32, .f32⟩
  | .hbm, ⟨23, _⟩ => ⟨S8192x128, .f32⟩
  | .hbm, ⟨24, _⟩ => ⟨S65536x1024, .f32⟩
  | .hbm, ⟨25, _⟩ => ⟨S1x1024, .f32⟩
  | .hbm, ⟨26, _⟩ => ⟨S1024x1280, .f32⟩
  | .hbm, ⟨27, _⟩ => ⟨S1024x1536, .f32⟩
  | .hbm, ⟨28, _⟩ => ⟨S1024x24, .f32⟩
  | .hbm, ⟨29, _⟩ => ⟨S_, .f32⟩
  | .hbm, ⟨30, _⟩ => ⟨S1024x104, .f32⟩
  | .hbm, ⟨31, _⟩ => ⟨S1024x2944, .f32⟩
  | .hbm, ⟨32, _⟩ => ⟨S1024x2944, .bf16⟩
  | .hbm, ⟨33, _⟩ => ⟨S65536x1024, .bf16⟩
  | .hbm, ⟨34, _⟩ => ⟨S65536x1024, .bf16⟩
  | .hbm, ⟨35, _⟩ => ⟨S65536x512, .bf16⟩
  | .hbm, ⟨36, _⟩ => ⟨S65536x128, .f32⟩
  | .hbm, ⟨37, _⟩ => ⟨S65536x512, .f32⟩
  | .hbm, ⟨38, _⟩ => ⟨S65536x256, .f32⟩
  | .hbm, ⟨39, _⟩ => ⟨S65536x1024, .f32⟩
  | .hbm, ⟨40, _⟩ => ⟨S65536x512, .bf16⟩
  | .hbm, ⟨41, _⟩ => ⟨S8x16x128x512, .bf16⟩
  | .hbm, ⟨42, _⟩ => ⟨S65536x256, .bf16⟩
  | .hbm, ⟨43, _⟩ => ⟨S8x64x128x128, .bf16⟩
  | .hbm, ⟨44, _⟩ => ⟨S65536x512, .bf16⟩
  | .hbm, ⟨45, _⟩ => ⟨S8x16x512x512, .bf16⟩
  | .hbm, ⟨46, _⟩ => ⟨S8x8192x4x2x64, .f32⟩
  | .hbm, ⟨47, _⟩ => ⟨S8x8192x2x4x128, .f32⟩
  | .hbm, ⟨48, _⟩ => ⟨S8x8192x2x2x64, .f32⟩
  | .hbm, ⟨49, _⟩ => ⟨S8x512x2x2x64, .f32⟩
  | .hbm, ⟨50, _⟩ => ⟨S65536x24, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2944, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x512, .bf16⟩
  | .local _ .vmem, ⟨13, _⟩ => ⟨S512x512, .bf16⟩
  | .local _ .vmem, ⟨14, _⟩ => ⟨S512x128, .f32⟩
  | .local _ .vmem, ⟨15, _⟩ => ⟨S512x128, .f32⟩
  | .local _ .vmem, ⟨16, _⟩ => ⟨S512x512, .f32⟩
  | .local _ .vmem, ⟨17, _⟩ => ⟨S512x512, .f32⟩
  | .local _ .vmem, ⟨18, _⟩ => ⟨S512x256, .f32⟩
  | .local _ .vmem, ⟨19, _⟩ => ⟨S512x256, .f32⟩
  | .local _ .vmem, ⟨20, _⟩ => ⟨S512x1024, .f32⟩
  | .local _ .vmem, ⟨21, _⟩ => ⟨S512x1024, .f32⟩
  | .local _ .vmem, ⟨22, _⟩ => ⟨S512x512, .bf16⟩
  | .local _ .vmem, ⟨23, _⟩ => ⟨S512x512, .bf16⟩
  | .local _ .vmem, ⟨24, _⟩ => ⟨S1x1x128x512, .bf16⟩
  | .local _ .vmem, ⟨25, _⟩ => ⟨S1x1x128x512, .bf16⟩
  | .local _ .vmem, ⟨26, _⟩ => ⟨S512x256, .bf16⟩
  | .local _ .vmem, ⟨27, _⟩ => ⟨S512x256, .bf16⟩
  | .local _ .vmem, ⟨28, _⟩ => ⟨S1x4x128x128, .bf16⟩
  | .local _ .vmem, ⟨29, _⟩ => ⟨S1x4x128x128, .bf16⟩
  | .local _ .vmem, ⟨30, _⟩ => ⟨S512x512, .bf16⟩
  | .local _ .vmem, ⟨31, _⟩ => ⟨S512x512, .bf16⟩
  | .local _ .vmem, ⟨32, _⟩ => ⟨S1x1x512x512, .bf16⟩
  | .local _ .vmem, ⟨33, _⟩ => ⟨S1x1x512x512, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27_0 : Ref sig .tc := ⟨.hbm, 33, rfl⟩
abbrev main_v27_1 : Ref sig .tc := ⟨.hbm, 34, rfl⟩
abbrev main_v27_2 : Ref sig .tc := ⟨.hbm, 35, rfl⟩
abbrev main_v27_3 : Ref sig .tc := ⟨.hbm, 36, rfl⟩
abbrev main_v27_4 : Ref sig .tc := ⟨.hbm, 37, rfl⟩
abbrev main_v27_5 : Ref sig .tc := ⟨.hbm, 38, rfl⟩
abbrev main_v27_6 : Ref sig .tc := ⟨.hbm, 39, rfl⟩
abbrev main_v27_7 : Ref sig .tc := ⟨.hbm, 40, rfl⟩
abbrev main_v27_8 : Ref sig .tc := ⟨.hbm, 41, rfl⟩
abbrev main_v27_9 : Ref sig .tc := ⟨.hbm, 42, rfl⟩
abbrev main_v27_10 : Ref sig .tc := ⟨.hbm, 43, rfl⟩
abbrev main_v27_11 : Ref sig .tc := ⟨.hbm, 44, rfl⟩
abbrev main_v27_12 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x4x128x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference3Ideal.lean ====
abbrev S8x8192x1024 : Shape := ⟨3, ![8, 8192, 1024]⟩
abbrev S1024 : Shape := ⟨1, ![1024]⟩
abbrev S1024x2840 : Shape := ⟨2, ![1024, 2840]⟩
abbrev S8192 : Shape := ⟨1, ![8192]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x2840 : Shape := ⟨3, ![8, 8192, 2840]⟩
abbrev S8x8192x512 : Shape := ⟨3, ![8, 8192, 512]⟩
abbrev S8x8192x8x64 : Shape := ⟨4, ![8, 8192, 8, 64]⟩
abbrev S8x8192x768 : Shape := ⟨3, ![8, 8192, 768]⟩
abbrev S8x8192x6x2x64 : Shape := ⟨5, ![8, 8192, 6, 2, 64]⟩
abbrev S8x8192x24 : Shape := ⟨3, ![8, 8192, 24]⟩
abbrev S8x8192x8x3 : Shape := ⟨4, ![8, 8192, 8, 3]⟩
abbrev S8x8192x4x2x64 : Shape := ⟨5, ![8, 8192, 4, 2, 64]⟩
abbrev S8x8192x4x128 : Shape := ⟨4, ![8, 8192, 4, 128]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S8x8192x8x32 : Shape := ⟨4, ![8, 8192, 8, 32]⟩
abbrev S1x8192x1x32 : Shape := ⟨4, ![1, 8192, 1, 32]⟩
abbrev S8x8192x1x2x64 : Shape := ⟨5, ![8, 8192, 1, 2, 64]⟩
abbrev S8x8192x2x64 : Shape := ⟨4, ![8, 8192, 2, 64]⟩
abbrev S8x8192x2x32 : Shape := ⟨4, ![8, 8192, 2, 32]⟩
abbrev S8x8192x2x2x64 : Shape := ⟨5, ![8, 8192, 2, 2, 64]⟩
abbrev S8x8192x4x1x64 : Shape := ⟨5, ![8, 8192, 4, 1, 64]⟩
abbrev S8x8192x4x64 : Shape := ⟨4, ![8, 8192, 4, 64]⟩
abbrev S8x8192x4x32 : Shape := ⟨4, ![8, 8192, 4, 32]⟩
abbrev S8x8192x1x4x128 : Shape := ⟨5, ![8, 8192, 1, 4, 128]⟩
abbrev S8x8192x2x4x128 : Shape := ⟨5, ![8, 8192, 2, 4, 128]⟩
abbrev S128x128 : Shape := ⟨2, ![128, 128]⟩
abbrev S128x1x128 : Shape := ⟨3, ![128, 1, 128]⟩
abbrev S128x64x128 : Shape := ⟨3, ![128, 64, 128]⟩
abbrev S8192x128 : Shape := ⟨2, ![8192, 128]⟩
abbrev S1x8192x1x128 : Shape := ⟨4, ![1, 8192, 1, 128]⟩
abbrev S8x8192x2x128 : Shape := ⟨4, ![8, 8192, 2, 128]⟩
abbrev S8x8192x2x256 : Shape := ⟨4, ![8, 8192, 2, 256]⟩
abbrev S8x512x2x2x64 : Shape := ⟨5, ![8, 512, 2, 2, 64]⟩
abbrev S8x8192x8x128 : Shape := ⟨4, ![8, 8192, 8, 128]⟩
abbrev S65536x1024 : Shape := ⟨2, ![65536, 1024]⟩
abbrev S65536x512 : Shape := ⟨2, ![65536, 512]⟩
abbrev S65536x24 : Shape := ⟨2, ![65536, 24]⟩
abbrev S65536x256 : Shape := ⟨2, ![65536, 256]⟩

abbrev nBuf : Space → Nat
  | .hbm => 373
  | .vmem => 0
  | .smem => 0
  | _ => 0

abbrev hbmTy0_0 (i : Nat) : BufTy := match i % 128 with
  | 0 => ⟨S8x8192x1024, .f32⟩
  | 1 => ⟨S1024, .f32⟩
  | 2 => ⟨S1024x2840, .f32⟩
  | 3 => ⟨S8192, .i32⟩
  | 4 => ⟨S8x8192x1024, .f32⟩
  | 5 => ⟨S_, .f32⟩
  | 6 => ⟨S8x8192, .f32⟩
  | 7 => ⟨S8x8192x1, .f32⟩
  | 8 => ⟨S_, .f32⟩
  | 9 => ⟨S8x8192x1, .f32⟩
  | 10 => ⟨S8x8192x1, .f32⟩
  | 11 => ⟨S_, .f32⟩
  | 12 => ⟨S8x8192x1, .f32⟩
  | 13 => ⟨S8x8192x1, .f32⟩
  | 14 => ⟨S8x8192x1, .f32⟩
  | 15 => ⟨S8x8192x1024, .f32⟩
  | 16 => ⟨S8x8192x1024, .f32⟩
  | 17 => ⟨S1x1x1024, .f32⟩
  | 18 => ⟨S8x8192x1024, .f32⟩
  | 19 => ⟨S8x8192x1024, .f32⟩
  | 20 => ⟨S8x8192x2840, .f32⟩
  | 21 => ⟨S8x8192x512, .f32⟩
  | 22 => ⟨S8x8192x8x64, .f32⟩
  | 23 => ⟨S8x8192x768, .f32⟩
  | 24 => ⟨S8x8192x6x2x64, .f32⟩
  | 25 => ⟨S8x8192x24, .f32⟩
  | 26 => ⟨S8x8192x8x3, .f32⟩
  | 27 => ⟨S8x8192x8x3, .f32⟩
  | 28 => ⟨S8x8192x8x3, .f32⟩
  | 29 => ⟨S_, .f32⟩
  | 30 => ⟨S8x8192x8x3, .f32⟩
  | 31 => ⟨S8x8192x8x3, .f32⟩
  | 32 => ⟨S_, .f32⟩
  | 33 => ⟨S8x8192x8x3, .f32⟩
  | 34 => ⟨S8x8192x8x3, .f32⟩
  | 35 => ⟨S8x8192x512, .f32⟩
  | 36 => ⟨S8x8192x4x2x64, .f32⟩
  | 37 => ⟨S8x8192x512, .f32⟩
  | 38 => ⟨S8x8192x4x2x64, .f32⟩
  | 39 => ⟨S8x8192x512, .f32⟩
  | 40 => ⟨S8x8192x4x128, .f32⟩
  | 41 => ⟨S32, .f32⟩
  | 42 => ⟨S32, .f32⟩
  | 43 => ⟨S_, .f32⟩
  | 44 => ⟨S32, .f32⟩
  | 45 => ⟨S32, .f32⟩
  | 46 => ⟨S_, .f32⟩
  | 47 => ⟨S32, .f32⟩
  | 48 => ⟨S32, .f32⟩
  | 49 => ⟨S8192, .f32⟩
  | 50 => ⟨S8192x1, .f32⟩
  | 51 => ⟨S1x32, .f32⟩
  | 52 => ⟨S8192x32, .f32⟩
  | 53 => ⟨S8192x32, .f32⟩
  | 54 => ⟨S8192x32, .f32⟩
  | 55 => ⟨S8192x32, .f32⟩
  | 56 => ⟨S8192x1x32, .f32⟩
  | 57 => ⟨S8192x32, .f32⟩
  | 58 => ⟨S8192x1x32, .f32⟩
  | 59 => ⟨S8x8192x8x32, .f32⟩
  | 60 => ⟨S8x8192x8x32, .f32⟩
  | 61 => ⟨S1x8192x1x32, .f32⟩
  | 62 => ⟨S8x8192x8x32, .f32⟩
  | 63 => ⟨S8x8192x8x32, .f32⟩
  | 64 => ⟨S1x8192x1x32, .f32⟩
  | 65 => ⟨S8x8192x8x32, .f32⟩
  | 66 => ⟨S8x8192x8x32, .f32⟩
  | 67 => ⟨S8x8192x8x32, .f32⟩
  | 68 => ⟨S1x8192x1x32, .f32⟩
  | 69 => ⟨S8x8192x8x32, .f32⟩
  | 70 => ⟨S8x8192x8x32, .f32⟩
  | 71 => ⟨S1x8192x1x32, .f32⟩
  | 72 => ⟨S8x8192x8x32, .f32⟩
  | 73 => ⟨S8x8192x8x32, .f32⟩
  | 74 => ⟨S8x8192x8x32, .f32⟩
  | 75 => ⟨S8x8192x8x64, .f32⟩
  | 76 => ⟨S8x8192x1x2x64, .f32⟩
  | 77 => ⟨S8x8192x2x64, .f32⟩
  | 78 => ⟨S8x8192x1x2x64, .f32⟩
  | 79 => ⟨S8x8192x2x64, .f32⟩
  | 80 => ⟨S8x8192x1x2x64, .f32⟩
  | 81 => ⟨S8x8192x2x64, .f32⟩
  | 82 => ⟨S32, .f32⟩
  | 83 => ⟨S32, .f32⟩
  | 84 => ⟨S_, .f32⟩
  | 85 => ⟨S32, .f32⟩
  | 86 => ⟨S32, .f32⟩
  | 87 => ⟨S_, .f32⟩
  | 88 => ⟨S32, .f32⟩
  | 89 => ⟨S32, .f32⟩
  | 90 => ⟨S8192, .f32⟩
  | 91 => ⟨S8192x1, .f32⟩
  | 92 => ⟨S1x32, .f32⟩
  | 93 => ⟨S8192x32, .f32⟩
  | 94 => ⟨S8192x32, .f32⟩
  | 95 => ⟨S8192x32, .f32⟩
  | 96 => ⟨S8192x32, .f32⟩
  | 97 => ⟨S8192x1x32, .f32⟩
  | 98 => ⟨S8192x32, .f32⟩
  | 99 => ⟨S8192x1x32, .f32⟩
  | 100 => ⟨S8x8192x2x32, .f32⟩
  | 101 => ⟨S8x8192x2x32, .f32⟩
  | 102 => ⟨S1x8192x1x32, .f32⟩
  | 103 => ⟨S8x8192x2x32, .f32⟩
  | 104 => ⟨S8x8192x2x32, .f32⟩
  | 105 => ⟨S1x8192x1x32, .f32⟩
  | 106 => ⟨S8x8192x2x32, .f32⟩
  | 107 => ⟨S8x8192x2x32, .f32⟩
  | 108 => ⟨S8x8192x2x32, .f32⟩
  | 109 => ⟨S1x8192x1x32, .f32⟩
  | 110 => ⟨S8x8192x2x32, .f32⟩
  | 111 => ⟨S8x8192x2x32, .f32⟩
  | 112 => ⟨S1x8192x1x32, .f32⟩
  | 113 => ⟨S8x8192x2x32, .f32⟩
  | 114 => ⟨S8x8192x2x32, .f32⟩
  | 115 => ⟨S8x8192x2x32, .f32⟩
  | 116 => ⟨S8x8192x2x64, .f32⟩
  | 117 => ⟨S8x8192x1x2x64, .f32⟩
  | 118 => ⟨S8x8192x2x64, .f32⟩
  | 119 => ⟨S8x8192x1x2x64, .f32⟩
  | 120 => ⟨S8x8192x1x2x64, .f32⟩
  | 121 => ⟨S8x8192x1x2x64, .f32⟩
  | 122 => ⟨S8x8192x1x2x64, .f32⟩
  | 123 => ⟨S8x8192x4x2x64, .f32⟩
  | 124 => ⟨S8x8192x1x2x64, .f32⟩
  | 125 => ⟨S8x8192x2x64, .f32⟩
  | 126 => ⟨S32, .f32⟩
  | 127 => ⟨S32, .f32⟩
  | _ => ⟨S8x8192x1024, .f32⟩

abbrev hbmTy0_1 (i : Nat) : BufTy := match i % 128 with
  | 0 => ⟨S_, .f32⟩
  | 1 => ⟨S32, .f32⟩
  | 2 => ⟨S32, .f32⟩
  | 3 => ⟨S_, .f32⟩
  | 4 => ⟨S32, .f32⟩
  | 5 => ⟨S32, .f32⟩
  | 6 => ⟨S8192, .f32⟩
  | 7 => ⟨S8192x1, .f32⟩
  | 8 => ⟨S1x32, .f32⟩
  | 9 => ⟨S8192x32, .f32⟩
  | 10 => ⟨S8192x32, .f32⟩
  | 11 => ⟨S8192x32, .f32⟩
  | 12 => ⟨S8192x32, .f32⟩
  | 13 => ⟨S8192x1x32, .f32⟩
  | 14 => ⟨S8192x32, .f32⟩
  | 15 => ⟨S8192x1x32, .f32⟩
  | 16 => ⟨S8x8192x2x32, .f32⟩
  | 17 => ⟨S8x8192x2x32, .f32⟩
  | 18 => ⟨S1x8192x1x32, .f32⟩
  | 19 => ⟨S8x8192x2x32, .f32⟩
  | 20 => ⟨S8x8192x2x32, .f32⟩
  | 21 => ⟨S1x8192x1x32, .f32⟩
  | 22 => ⟨S8x8192x2x32, .f32⟩
  | 23 => ⟨S8x8192x2x32, .f32⟩
  | 24 => ⟨S8x8192x2x32, .f32⟩
  | 25 => ⟨S1x8192x1x32, .f32⟩
  | 26 => ⟨S8x8192x2x32, .f32⟩
  | 27 => ⟨S8x8192x2x32, .f32⟩
  | 28 => ⟨S1x8192x1x32, .f32⟩
  | 29 => ⟨S8x8192x2x32, .f32⟩
  | 30 => ⟨S8x8192x2x32, .f32⟩
  | 31 => ⟨S8x8192x2x32, .f32⟩
  | 32 => ⟨S8x8192x2x64, .f32⟩
  | 33 => ⟨S8x8192x1x2x64, .f32⟩
  | 34 => ⟨S8x8192x2x64, .f32⟩
  | 35 => ⟨S8x8192x1x2x64, .f32⟩
  | 36 => ⟨S8x8192x1x2x64, .f32⟩
  | 37 => ⟨S8x8192x2x2x64, .f32⟩
  | 38 => ⟨S8x8192x4x1x64, .f32⟩
  | 39 => ⟨S8x8192x4x64, .f32⟩
  | 40 => ⟨S32, .f32⟩
  | 41 => ⟨S32, .f32⟩
  | 42 => ⟨S_, .f32⟩
  | 43 => ⟨S32, .f32⟩
  | 44 => ⟨S32, .f32⟩
  | 45 => ⟨S_, .f32⟩
  | 46 => ⟨S32, .f32⟩
  | 47 => ⟨S32, .f32⟩
  | 48 => ⟨S8192, .f32⟩
  | 49 => ⟨S8192x1, .f32⟩
  | 50 => ⟨S1x32, .f32⟩
  | 51 => ⟨S8192x32, .f32⟩
  | 52 => ⟨S8192x32, .f32⟩
  | 53 => ⟨S8192x32, .f32⟩
  | 54 => ⟨S8192x32, .f32⟩
  | 55 => ⟨S8192x1x32, .f32⟩
  | 56 => ⟨S8192x32, .f32⟩
  | 57 => ⟨S8192x1x32, .f32⟩
  | 58 => ⟨S8x8192x4x32, .f32⟩
  | 59 => ⟨S8x8192x4x32, .f32⟩
  | 60 => ⟨S1x8192x1x32, .f32⟩
  | 61 => ⟨S8x8192x4x32, .f32⟩
  | 62 => ⟨S8x8192x4x32, .f32⟩
  | 63 => ⟨S1x8192x1x32, .f32⟩
  | 64 => ⟨S8x8192x4x32, .f32⟩
  | 65 => ⟨S8x8192x4x32, .f32⟩
  | 66 => ⟨S8x8192x4x32, .f32⟩
  | 67 => ⟨S1x8192x1x32, .f32⟩
  | 68 => ⟨S8x8192x4x32, .f32⟩
  | 69 => ⟨S8x8192x4x32, .f32⟩
  | 70 => ⟨S1x8192x1x32, .f32⟩
  | 71 => ⟨S8x8192x4x32, .f32⟩
  | 72 => ⟨S8x8192x4x32, .f32⟩
  | 73 => ⟨S8x8192x4x32, .f32⟩
  | 74 => ⟨S8x8192x4x64, .f32⟩
  | 75 => ⟨S8x8192x4x1x64, .f32⟩
  | 76 => ⟨S8x8192x4x64, .f32⟩
  | 77 => ⟨S32, .f32⟩
  | 78 => ⟨S32, .f32⟩
  | 79 => ⟨S_, .f32⟩
  | 80 => ⟨S32, .f32⟩
  | 81 => ⟨S32, .f32⟩
  | 82 => ⟨S_, .f32⟩
  | 83 => ⟨S32, .f32⟩
  | 84 => ⟨S32, .f32⟩
  | 85 => ⟨S8192, .f32⟩
  | 86 => ⟨S8192x1, .f32⟩
  | 87 => ⟨S1x32, .f32⟩
  | 88 => ⟨S8192x32, .f32⟩
  | 89 => ⟨S8192x32, .f32⟩
  | 90 => ⟨S8192x32, .f32⟩
  | 91 => ⟨S8192x32, .f32⟩
  | 92 => ⟨S8192x1x32, .f32⟩
  | 93 => ⟨S8192x32, .f32⟩
  | 94 => ⟨S8192x1x32, .f32⟩
  | 95 => ⟨S8x8192x4x32, .f32⟩
  | 96 => ⟨S8x8192x4x32, .f32⟩
  | 97 => ⟨S1x8192x1x32, .f32⟩
  | 98 => ⟨S8x8192x4x32, .f32⟩
  | 99 => ⟨S8x8192x4x32, .f32⟩
  | 100 => ⟨S1x8192x1x32, .f32⟩
  | 101 => ⟨S8x8192x4x32, .f32⟩
  | 102 => ⟨S8x8192x4x32, .f32⟩
  | 103 => ⟨S8x8192x4x32, .f32⟩
  | 104 => ⟨S1x8192x1x32, .f32⟩
  | 105 => ⟨S8x8192x4x32, .f32⟩
  | 106 => ⟨S8x8192x4x32, .f32⟩
  | 107 => ⟨S1x8192x1x32, .f32⟩
  | 108 => ⟨S8x8192x4x32, .f32⟩
  | 109 => ⟨S8x8192x4x32, .f32⟩
  | 110 => ⟨S8x8192x4x32, .f32⟩
  | 111 => ⟨S8x8192x4x64, .f32⟩
  | 112 => ⟨S8x8192x4x1x64, .f32⟩
  | 113 => ⟨S8x8192x4x64, .f32⟩
  | 114 => ⟨S32, .f32⟩
  | 115 => ⟨S32, .f32⟩
  | 116 => ⟨S_, .f32⟩
  | 117 => ⟨S32, .f32⟩
  | 118 => ⟨S32, .f32⟩
  | 119 => ⟨S_, .f32⟩
  | 120 => ⟨S32, .f32⟩
  | 121 => ⟨S32, .f32⟩
  | 122 => ⟨S8192, .f32⟩
  | 123 => ⟨S8192x1, .f32⟩
  | 124 => ⟨S1x32, .f32⟩
  | 125 => ⟨S8192x32, .f32⟩
  | 126 => ⟨S8192x32, .f32⟩
  | 127 => ⟨S8192x32, .f32⟩
  | _ => ⟨S8x8192x1024, .f32⟩

abbrev hbmTy0_2 (i : Nat) : BufTy := match i % 128 with
  | 0 => ⟨S8192x32, .f32⟩
  | 1 => ⟨S8192x1x32, .f32⟩
  | 2 => ⟨S8192x32, .f32⟩
  | 3 => ⟨S8192x1x32, .f32⟩
  | 4 => ⟨S8x8192x4x32, .f32⟩
  | 5 => ⟨S8x8192x4x32, .f32⟩
  | 6 => ⟨S1x8192x1x32, .f32⟩
  | 7 => ⟨S8x8192x4x32, .f32⟩
  | 8 => ⟨S8x8192x4x32, .f32⟩
  | 9 => ⟨S1x8192x1x32, .f32⟩
  | 10 => ⟨S8x8192x4x32, .f32⟩
  | 11 => ⟨S8x8192x4x32, .f32⟩
  | 12 => ⟨S8x8192x4x32, .f32⟩
  | 13 => ⟨S1x8192x1x32, .f32⟩
  | 14 => ⟨S8x8192x4x32, .f32⟩
  | 15 => ⟨S8x8192x4x32, .f32⟩
  | 16 => ⟨S1x8192x1x32, .f32⟩
  | 17 => ⟨S8x8192x4x32, .f32⟩
  | 18 => ⟨S8x8192x4x32, .f32⟩
  | 19 => ⟨S8x8192x4x32, .f32⟩
  | 20 => ⟨S8x8192x4x64, .f32⟩
  | 21 => ⟨S8x8192x4x1x64, .f32⟩
  | 22 => ⟨S8x8192x4x64, .f32⟩
  | 23 => ⟨S32, .f32⟩
  | 24 => ⟨S32, .f32⟩
  | 25 => ⟨S_, .f32⟩
  | 26 => ⟨S32, .f32⟩
  | 27 => ⟨S32, .f32⟩
  | 28 => ⟨S_, .f32⟩
  | 29 => ⟨S32, .f32⟩
  | 30 => ⟨S32, .f32⟩
  | 31 => ⟨S8192, .f32⟩
  | 32 => ⟨S8192x1, .f32⟩
  | 33 => ⟨S1x32, .f32⟩
  | 34 => ⟨S8192x32, .f32⟩
  | 35 => ⟨S8192x32, .f32⟩
  | 36 => ⟨S8192x32, .f32⟩
  | 37 => ⟨S8192x32, .f32⟩
  | 38 => ⟨S8192x1x32, .f32⟩
  | 39 => ⟨S8192x32, .f32⟩
  | 40 => ⟨S8192x1x32, .f32⟩
  | 41 => ⟨S8x8192x4x32, .f32⟩
  | 42 => ⟨S8x8192x4x32, .f32⟩
  | 43 => ⟨S1x8192x1x32, .f32⟩
  | 44 => ⟨S8x8192x4x32, .f32⟩
  | 45 => ⟨S8x8192x4x32, .f32⟩
  | 46 => ⟨S1x8192x1x32, .f32⟩
  | 47 => ⟨S8x8192x4x32, .f32⟩
  | 48 => ⟨S8x8192x4x32, .f32⟩
  | 49 => ⟨S8x8192x4x32, .f32⟩
  | 50 => ⟨S1x8192x1x32, .f32⟩
  | 51 => ⟨S8x8192x4x32, .f32⟩
  | 52 => ⟨S8x8192x4x32, .f32⟩
  | 53 => ⟨S1x8192x1x32, .f32⟩
  | 54 => ⟨S8x8192x4x32, .f32⟩
  | 55 => ⟨S8x8192x4x32, .f32⟩
  | 56 => ⟨S8x8192x4x32, .f32⟩
  | 57 => ⟨S8x8192x4x64, .f32⟩
  | 58 => ⟨S8x8192x4x128, .f32⟩
  | 59 => ⟨S8x8192x1x4x128, .f32⟩
  | 60 => ⟨S8x8192x1x4x128, .f32⟩
  | 61 => ⟨S8x8192x2x4x128, .f32⟩
  | 62 => ⟨S128x128, .i32⟩
  | 63 => ⟨S128x128, .i32⟩
  | 64 => ⟨S_, .i32⟩
  | 65 => ⟨S128x128, .i32⟩
  | 66 => ⟨S128x128, .i32⟩
  | 67 => ⟨S128x128, .i1⟩
  | 68 => ⟨S128x128, .f32⟩
  | 69 => ⟨S128x1x128, .f32⟩
  | 70 => ⟨S128x64x128, .f32⟩
  | 71 => ⟨S8192x128, .f32⟩
  | 72 => ⟨S1x8192x1x128, .f32⟩
  | 73 => ⟨S8x8192x2x128, .f32⟩
  | 74 => ⟨S8x8192x1x2x64, .f32⟩
  | 75 => ⟨S8x8192x2x64, .f32⟩
  | 76 => ⟨S_, .i32⟩
  | 77 => ⟨S_, .f32⟩
  | 78 => ⟨S8x8192x2x128, .f32⟩
  | 79 => ⟨S8x8192x2x256, .f32⟩
  | 80 => ⟨S8x512x2x2x64, .f32⟩
  | 81 => ⟨S_, .f32⟩
  | 82 => ⟨S8x8192x8x64, .f32⟩
  | 83 => ⟨S8x8192x8x64, .f32⟩
  | 84 => ⟨S_, .i32⟩
  | 85 => ⟨S_, .f32⟩
  | 86 => ⟨S8x8192x8x128, .f32⟩
  | 87 => ⟨S65536x1024, .f32⟩
  | 88 => ⟨S65536x1024, .bf16⟩
  | 89 => ⟨S_, .f32⟩
  | 90 => ⟨S8x8192x8x64, .f32⟩
  | 91 => ⟨S8x8192x8x64, .f32⟩
  | 92 => ⟨S_, .i32⟩
  | 93 => ⟨S_, .f32⟩
  | 94 => ⟨S8x8192x8x128, .f32⟩
  | 95 => ⟨S65536x1024, .f32⟩
  | 96 => ⟨S65536x1024, .bf16⟩
  | 97 => ⟨S8x8192x4x128, .f32⟩
  | 98 => ⟨S_, .f32⟩
  | 99 => ⟨S8x8192x4x128, .f32⟩
  | 100 => ⟨S8x8192x4x128, .f32⟩
  | 101 => ⟨S65536x512, .f32⟩
  | 102 => ⟨S65536x512, .bf16⟩
  | 103 => ⟨S65536x24, .f32⟩
  | 104 => ⟨S8x8192x1x2x64, .f32⟩
  | 105 => ⟨S8x8192x2x64, .f32⟩
  | 106 => ⟨S_, .i32⟩
  | 107 => ⟨S_, .f32⟩
  | 108 => ⟨S8x8192x2x128, .f32⟩
  | 109 => ⟨S65536x256, .f32⟩
  | 110 => ⟨S65536x256, .bf16⟩
  | 111 => ⟨S8x8192x1x4x128, .f32⟩
  | 112 => ⟨S8x8192x4x128, .f32⟩
  | 113 => ⟨S65536x512, .f32⟩
  | 114 => ⟨S65536x512, .bf16⟩
  | 115 => ⟨S65536x512, .f32⟩
  | 116 => ⟨S65536x512, .bf16⟩
  | _ => ⟨S8x8192x1024, .f32⟩

abbrev hbmTy (i : Nat) : BufTy := match i / 128 with
  | 0 => hbmTy0_0 i
  | 1 => hbmTy0_1 i
  | 2 => hbmTy0_2 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_cst_6 : Ref sig .tc := ⟨.hbm, 84, rfl⟩
abbrev main_v74 : Ref sig .tc := ⟨.hbm, 85, rfl⟩
abbrev main_v75 : Ref sig .tc := ⟨.hbm, 86, rfl⟩
abbrev main_cst_7 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_cst_8 : Ref sig .tc := ⟨.hbm, 128, rfl⟩
abbrev main_v116 : Ref sig .tc := ⟨.hbm, 129, rfl⟩
abbrev main_v117 : Ref sig .tc := ⟨.hbm, 130, rfl⟩
abbrev main_cst_9 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_cst_10 : Ref sig .tc := ⟨.hbm, 170, rfl⟩
abbrev main_v156 : Ref sig .tc := ⟨.hbm, 171, rfl⟩
abbrev main_v157 : Ref sig .tc := ⟨.hbm, 172, rfl⟩
abbrev main_cst_11 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_cst_12 : Ref sig .tc := ⟨.hbm, 207, rfl⟩
abbrev main_v191 : Ref sig .tc := ⟨.hbm, 208, rfl⟩
abbrev main_v192 : Ref sig .tc := ⟨.hbm, 209, rfl⟩
abbrev main_cst_13 : Ref sig .tc := ⟨.hbm, 210, rfl⟩
abbrev main_v193 : Ref sig .tc := ⟨.hbm, 211, rfl⟩
abbrev main_v194 : Ref sig .tc := ⟨.hbm, 212, rfl⟩
abbrev main_v195 : Ref sig .tc := ⟨.hbm, 213, rfl⟩
abbrev main_v196 : Ref sig .tc := ⟨.hbm, 214, rfl⟩
abbrev main_v197 : Ref sig .tc := ⟨.hbm, 215, rfl⟩
abbrev main_v198 : Ref sig .tc := ⟨.hbm, 216, rfl⟩
abbrev main_v199 : Ref sig .tc := ⟨.hbm, 217, rfl⟩
abbrev main_v200 : Ref sig .tc := ⟨.hbm, 218, rfl⟩
abbrev main_v201 : Ref sig .tc := ⟨.hbm, 219, rfl⟩
abbrev main_v202 : Ref sig .tc := ⟨.hbm, 220, rfl⟩
abbrev main_v203 : Ref sig .tc := ⟨.hbm, 221, rfl⟩
abbrev main_v204 : Ref sig .tc := ⟨.hbm, 222, rfl⟩
abbrev main_v205 : Ref sig .tc := ⟨.hbm, 223, rfl⟩
abbrev main_v206 : Ref sig .tc := ⟨.hbm, 224, rfl⟩
abbrev main_v207 : Ref sig .tc := ⟨.hbm, 225, rfl⟩
abbrev main_v208 : Ref sig .tc := ⟨.hbm, 226, rfl⟩
abbrev main_v209 : Ref sig .tc := ⟨.hbm, 227, rfl⟩
abbrev main_v210 : Ref sig .tc := ⟨.hbm, 228, rfl⟩
abbrev main_v211 : Ref sig .tc := ⟨.hbm, 229, rfl⟩
abbrev main_v212 : Ref sig .tc := ⟨.hbm, 230, rfl⟩
abbrev main_v213 : Ref sig .tc := ⟨.hbm, 231, rfl⟩
abbrev main_v214 : Ref sig .tc := ⟨.hbm, 232, rfl⟩
abbrev main_v215 : Ref sig .tc := ⟨.hbm, 233, rfl⟩
abbrev main_v216 : Ref sig .tc := ⟨.hbm, 234, rfl⟩
abbrev main_v217 : Ref sig .tc := ⟨.hbm, 235, rfl⟩
abbrev main_v218 : Ref sig .tc := ⟨.hbm, 236, rfl⟩
abbrev main_v219 : Ref sig .tc := ⟨.hbm, 237, rfl⟩
abbrev main_v220 : Ref sig .tc := ⟨.hbm, 238, rfl⟩
abbrev main_v221 : Ref sig .tc := ⟨.hbm, 239, rfl⟩
abbrev main_v222 : Ref sig .tc := ⟨.hbm, 240, rfl⟩
abbrev main_v223 : Ref sig .tc := ⟨.hbm, 241, rfl⟩
abbrev main_v224 : Ref sig .tc := ⟨.hbm, 242, rfl⟩
abbrev main_v225 : Ref sig .tc := ⟨.hbm, 243, rfl⟩
abbrev main_cst_14 : Ref sig .tc := ⟨.hbm, 244, rfl⟩
abbrev main_v226 : Ref sig .tc := ⟨.hbm, 245, rfl⟩
abbrev main_v227 : Ref sig .tc := ⟨.hbm, 246, rfl⟩
abbrev main_cst_15 : Ref sig .tc := ⟨.hbm, 247, rfl⟩
abbrev main_v228 : Ref sig .tc := ⟨.hbm, 248, rfl⟩
abbrev main_v229 : Ref sig .tc := ⟨.hbm, 249, rfl⟩
abbrev main_v230 : Ref sig .tc := ⟨.hbm, 250, rfl⟩
abbrev main_v231 : Ref sig .tc := ⟨.hbm, 251, rfl⟩
abbrev main_v232 : Ref sig .tc := ⟨.hbm, 252, rfl⟩
abbrev main_v233 : Ref sig .tc := ⟨.hbm, 253, rfl⟩
abbrev main_v234 : Ref sig .tc := ⟨.hbm, 254, rfl⟩
abbrev main_v235 : Ref sig .tc := ⟨.hbm, 255, rfl⟩
abbrev main_v236 : Ref sig .tc := ⟨.hbm, 256, rfl⟩
abbrev main_v237 : Ref sig .tc := ⟨.hbm, 257, rfl⟩
abbrev main_v238 : Ref sig .tc := ⟨.hbm, 258, rfl⟩
abbrev main_v239 : Ref sig .tc := ⟨.hbm, 259, rfl⟩
abbrev main_v240 : Ref sig .tc := ⟨.hbm, 260, rfl⟩
abbrev main_v241 : Ref sig .tc := ⟨.hbm, 261, rfl⟩
abbrev main_v242 : Ref sig .tc := ⟨.hbm, 262, rfl⟩
abbrev main_v243 : Ref sig .tc := ⟨.hbm, 263, rfl⟩
abbrev main_v244 : Ref sig .tc := ⟨.hbm, 264, rfl⟩
abbrev main_v245 : Ref sig .tc := ⟨.hbm, 265, rfl⟩
abbrev main_v246 : Ref sig .tc := ⟨.hbm, 266, rfl⟩
abbrev main_v247 : Ref sig .tc := ⟨.hbm, 267, rfl⟩
abbrev main_v248 : Ref sig .tc := ⟨.hbm, 268, rfl⟩
abbrev main_v249 : Ref sig .tc := ⟨.hbm, 269, rfl⟩
abbrev main_v250 : Ref sig .tc := ⟨.hbm, 270, rfl⟩
abbrev main_v251 : Ref sig .tc := ⟨.hbm, 271, rfl⟩
abbrev main_v252 : Ref sig .tc := ⟨.hbm, 272, rfl⟩
abbrev main_v253 : Ref sig .tc := ⟨.hbm, 273, rfl⟩
abbrev main_v254 : Ref sig .tc := ⟨.hbm, 274, rfl⟩
abbrev main_v255 : Ref sig .tc := ⟨.hbm, 275, rfl⟩
abbrev main_v256 : Ref sig .tc := ⟨.hbm, 276, rfl⟩
abbrev main_v257 : Ref sig .tc := ⟨.hbm, 277, rfl⟩
abbrev main_v258 : Ref sig .tc := ⟨.hbm, 278, rfl⟩
abbrev main_v259 : Ref sig .tc := ⟨.hbm, 279, rfl⟩
abbrev main_v260 : Ref sig .tc := ⟨.hbm, 280, rfl⟩
abbrev main_cst_16 : Ref sig .tc := ⟨.hbm, 281, rfl⟩
abbrev main_v261 : Ref sig .tc := ⟨.hbm, 282, rfl⟩
abbrev main_v262 : Ref sig .tc := ⟨.hbm, 283, rfl⟩
abbrev main_cst_17 : Ref sig .tc := ⟨.hbm, 284, rfl⟩
abbrev main_v263 : Ref sig .tc := ⟨.hbm, 285, rfl⟩
abbrev main_v264 : Ref sig .tc := ⟨.hbm, 286, rfl⟩
abbrev main_v265 : Ref sig .tc := ⟨.hbm, 287, rfl⟩
abbrev main_v266 : Ref sig .tc := ⟨.hbm, 288, rfl⟩
abbrev main_v267 : Ref sig .tc := ⟨.hbm, 289, rfl⟩
abbrev main_v268 : Ref sig .tc := ⟨.hbm, 290, rfl⟩
abbrev main_v269 : Ref sig .tc := ⟨.hbm, 291, rfl⟩
abbrev main_v270 : Ref sig .tc := ⟨.hbm, 292, rfl⟩
abbrev main_v271 : Ref sig .tc := ⟨.hbm, 293, rfl⟩
abbrev main_v272 : Ref sig .tc := ⟨.hbm, 294, rfl⟩
abbrev main_v273 : Ref sig .tc := ⟨.hbm, 295, rfl⟩
abbrev main_v274 : Ref sig .tc := ⟨.hbm, 296, rfl⟩
abbrev main_v275 : Ref sig .tc := ⟨.hbm, 297, rfl⟩
abbrev main_v276 : Ref sig .tc := ⟨.hbm, 298, rfl⟩
abbrev main_v277 : Ref sig .tc := ⟨.hbm, 299, rfl⟩
abbrev main_v278 : Ref sig .tc := ⟨.hbm, 300, rfl⟩
abbrev main_v279 : Ref sig .tc := ⟨.hbm, 301, rfl⟩
abbrev main_v280 : Ref sig .tc := ⟨.hbm, 302, rfl⟩
abbrev main_v281 : Ref sig .tc := ⟨.hbm, 303, rfl⟩
abbrev main_v282 : Ref sig .tc := ⟨.hbm, 304, rfl⟩
abbrev main_v283 : Ref sig .tc := ⟨.hbm, 305, rfl⟩
abbrev main_v284 : Ref sig .tc := ⟨.hbm, 306, rfl⟩
abbrev main_v285 : Ref sig .tc := ⟨.hbm, 307, rfl⟩
abbrev main_v286 : Ref sig .tc := ⟨.hbm, 308, rfl⟩
abbrev main_v287 : Ref sig .tc := ⟨.hbm, 309, rfl⟩
abbrev main_v288 : Ref sig .tc := ⟨.hbm, 310, rfl⟩
abbrev main_v289 : Ref sig .tc := ⟨.hbm, 311, rfl⟩
abbrev main_v290 : Ref sig .tc := ⟨.hbm, 312, rfl⟩
abbrev main_v291 : Ref sig .tc := ⟨.hbm, 313, rfl⟩
abbrev main_v292 : Ref sig .tc := ⟨.hbm, 314, rfl⟩
abbrev main_v293 : Ref sig .tc := ⟨.hbm, 315, rfl⟩
abbrev main_v294 : Ref sig .tc := ⟨.hbm, 316, rfl⟩
abbrev main_v295 : Ref sig .tc := ⟨.hbm, 317, rfl⟩
abbrev main_v296 : Ref sig .tc := ⟨.hbm, 318, rfl⟩
abbrev main_v297 : Ref sig .tc := ⟨.hbm, 319, rfl⟩
abbrev main_c : Ref sig .tc := ⟨.hbm, 320, rfl⟩
abbrev main_v298 : Ref sig .tc := ⟨.hbm, 321, rfl⟩
abbrev main_v299 : Ref sig .tc := ⟨.hbm, 322, rfl⟩
abbrev main_v300 : Ref sig .tc := ⟨.hbm, 323, rfl⟩
abbrev main_v301 : Ref sig .tc := ⟨.hbm, 324, rfl⟩
abbrev main_v302 : Ref sig .tc := ⟨.hbm, 325, rfl⟩
abbrev main_v303 : Ref sig .tc := ⟨.hbm, 326, rfl⟩
abbrev main_v304 : Ref sig .tc := ⟨.hbm, 327, rfl⟩
abbrev main_v305 : Ref sig .tc := ⟨.hbm, 328, rfl⟩
abbrev main_v306 : Ref sig .tc := ⟨.hbm, 329, rfl⟩
abbrev main_v307 : Ref sig .tc := ⟨.hbm, 330, rfl⟩
abbrev main_v308 : Ref sig .tc := ⟨.hbm, 331, rfl⟩
abbrev main_c_18 : Ref sig .tc := ⟨.hbm, 332, rfl⟩
abbrev main_call0_v0 : Ref sig .tc := ⟨.hbm, 333, rfl⟩
abbrev main_v309 : Ref sig .tc := ⟨.hbm, 334, rfl⟩
abbrev main_v310 : Ref sig .tc := ⟨.hbm, 335, rfl⟩
abbrev main_v311 : Ref sig .tc := ⟨.hbm, 336, rfl⟩
abbrev main_cst_19 : Ref sig .tc := ⟨.hbm, 337, rfl⟩
abbrev main_v312 : Ref sig .tc := ⟨.hbm, 338, rfl⟩
abbrev main_v313 : Ref sig .tc := ⟨.hbm, 339, rfl⟩
abbrev main_c_20 : Ref sig .tc := ⟨.hbm, 340, rfl⟩
abbrev main_call1_v0 : Ref sig .tc := ⟨.hbm, 341, rfl⟩
abbrev main_v314 : Ref sig .tc := ⟨.hbm, 342, rfl⟩
abbrev main_v315 : Ref sig .tc := ⟨.hbm, 343, rfl⟩
abbrev main_v316 : Ref sig .tc := ⟨.hbm, 344, rfl⟩
abbrev main_cst_21 : Ref sig .tc := ⟨.hbm, 345, rfl⟩
abbrev main_v317 : Ref sig .tc := ⟨.hbm, 346, rfl⟩
abbrev main_v318 : Ref sig .tc := ⟨.hbm, 347, rfl⟩
abbrev main_c_22 : Ref sig .tc := ⟨.hbm, 348, rfl⟩
abbrev main_call2_v0 : Ref sig .tc := ⟨.hbm, 349, rfl⟩
abbrev main_v319 : Ref sig .tc := ⟨.hbm, 350, rfl⟩
abbrev main_v320 : Ref sig .tc := ⟨.hbm, 351, rfl⟩
abbrev main_v321 : Ref sig .tc := ⟨.hbm, 352, rfl⟩
abbrev main_v322 : Ref sig .tc := ⟨.hbm, 353, rfl⟩
abbrev main_cst_23 : Ref sig .tc := ⟨.hbm, 354, rfl⟩
abbrev main_v323 : Ref sig .tc := ⟨.hbm, 355, rfl⟩
abbrev main_v324 : Ref sig .tc := ⟨.hbm, 356, rfl⟩
abbrev main_v325 : Ref sig .tc := ⟨.hbm, 357, rfl⟩
abbrev main_v326 : Ref sig .tc := ⟨.hbm, 358, rfl⟩
abbrev main_v327 : Ref sig .tc := ⟨.hbm, 359, rfl⟩
abbrev main_v328 : Ref sig .tc := ⟨.hbm, 360, rfl⟩
abbrev main_v329 : Ref sig .tc := ⟨.hbm, 361, rfl⟩
abbrev main_c_24 : Ref sig .tc := ⟨.hbm, 362, rfl⟩
abbrev main_call3_v0 : Ref sig .tc := ⟨.hbm, 363, rfl⟩
abbrev main_v330 : Ref sig .tc := ⟨.hbm, 364, rfl⟩
abbrev main_v331 : Ref sig .tc := ⟨.hbm, 365, rfl⟩
abbrev main_v332 : Ref sig .tc := ⟨.hbm, 366, rfl⟩
abbrev main_v333 : Ref sig .tc := ⟨.hbm, 367, rfl⟩
abbrev main_v334 : Ref sig .tc := ⟨.hbm, 368, rfl⟩
abbrev main_v335 : Ref sig .tc := ⟨.hbm, 369, rfl⟩
abbrev main_v336 : Ref sig .tc := ⟨.hbm, 370, rfl⟩
abbrev main_v337 : Ref sig .tc := ⟨.hbm, 371, rfl⟩
abbrev main_v338 : Ref sig .tc := ⟨.hbm, 372, rfl⟩

abbrev nD : Nat := 1
abbrev τ : Topo := Topo.v7x

variable {F : FTy → Type} [FloatOps F]
-- ==== Kernel4.lean ====
abbrev S128x4x1024 : Shape := ⟨3, ![128, 4, 1024]⟩
abbrev S128x512x2x2x64 : Shape := ⟨5, ![128, 512, 2, 2, 64]⟩
abbrev S1024 : Shape := ⟨1, ![1024]⟩
abbrev S1024x2840 : Shape := ⟨2, ![1024, 2840]⟩
abbrev S_ : Shape := ⟨0, ![]⟩
abbrev S32 : Shape := ⟨1, ![32]⟩
abbrev S1024x1 : Shape := ⟨2, ![1024, 1]⟩
abbrev S1x32 : Shape := ⟨2, ![1, 32]⟩
abbrev S1024x32 : Shape := ⟨2, ![1024, 32]⟩
abbrev S1024x128 : Shape := ⟨2, ![1024, 128]⟩
abbrev S128x8x1024 : Shape := ⟨3, ![128, 8, 1024]⟩
abbrev S1024x1024 : Shape := ⟨2, ![1024, 1024]⟩
abbrev S1x1024 : Shape := ⟨2, ![1, 1024]⟩
abbrev S1024x1280 : Shape := ⟨2, ![1024, 1280]⟩
abbrev S1024x1536 : Shape := ⟨2, ![1024, 1536]⟩
abbrev S1024x24 : Shape := ⟨2, ![1024, 24]⟩
abbrev S1024x104 : Shape := ⟨2, ![1024, 104]⟩
abbrev S1024x2944 : Shape := ⟨2, ![1024, 2944]⟩
abbrev S1024x512 : Shape := ⟨2, ![1024, 512]⟩
abbrev S1024x256 : Shape := ⟨2, ![1024, 256]⟩
abbrev S512x1024 : Shape := ⟨2, ![512, 1024]⟩
abbrev S512x128 : Shape := ⟨2, ![512, 128]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S128x512x256 : Shape := ⟨3, ![128, 512, 256]⟩
abbrev S128x8x512 : Shape := ⟨3, ![128, 8, 512]⟩
abbrev S128x4x512 : Shape := ⟨3, ![128, 4, 512]⟩
abbrev S128x8x256 : Shape := ⟨3, ![128, 8, 256]⟩
abbrev S128x4x256 : Shape := ⟨3, ![128, 4, 256]⟩
abbrev S128x516x256 : Shape := ⟨3, ![128, 516, 256]⟩
abbrev S128x4x4x2x64 : Shape := ⟨5, ![128, 4, 4, 2, 64]⟩
abbrev S128x4x2x4x128 : Shape := ⟨5, ![128, 4, 2, 4, 128]⟩

abbrev nBuf : Space → Nat
  | .hbm => 81
  | .vmem => 22
  | .smem => 0
  | _ => 0

abbrev bufTy : (tb : Table) → Fin (tcTables nBuf tb) → BufTy
  | .hbm, ⟨0, _⟩ => ⟨S128x4x1024, .f32⟩
  | .hbm, ⟨1, _⟩ => ⟨S128x512x2x2x64, .f32⟩
  | .hbm, ⟨2, _⟩ => ⟨S1024, .f32⟩
  | .hbm, ⟨3, _⟩ => ⟨S1024x2840, .f32⟩
  | .hbm, ⟨4, _⟩ => ⟨S1024, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S_, .i32⟩
  | .hbm, ⟨17, _⟩ => ⟨S1024, .i32⟩
  | .hbm, ⟨18, _⟩ => ⟨S1024, .i1⟩
  | .hbm, ⟨19, _⟩ => ⟨S_, .i32⟩
  | .hbm, ⟨20, _⟩ => ⟨S_, .i1⟩
  | .hbm, ⟨21, _⟩ => ⟨S1024, .i1⟩
  | .hbm, ⟨22, _⟩ => ⟨S1024, .i1⟩
  | .hbm, ⟨23, _⟩ => ⟨S1024, .i1⟩
  | .hbm, ⟨24, _⟩ => ⟨S1024, .i32⟩
  | .hbm, ⟨25, _⟩ => ⟨S1024, .i32⟩
  | .hbm, ⟨26, _⟩ => ⟨S1024, .i32⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S1024, .f32⟩
  | .hbm, ⟨39, _⟩ => ⟨S1024x1, .f32⟩
  | .hbm, ⟨40, _⟩ => ⟨S1x32, .f32⟩
  | .hbm, ⟨41, _⟩ => ⟨S1024x32, .f32⟩
  | .hbm, ⟨42, _⟩ => ⟨S1024x32, .f32⟩
  | .hbm, ⟨43, _⟩ => ⟨S1024x32, .f32⟩
  | .hbm, ⟨44, _⟩ => ⟨S1024x32, .f32⟩
  | .hbm, ⟨45, _⟩ => ⟨S1024x32, .f32⟩
  | .hbm, ⟨46, _⟩ => ⟨S1024x128, .f32⟩
  | .hbm, ⟨47, _⟩ => ⟨S1024x32, .f32⟩
  | .hbm, ⟨48, _⟩ => ⟨S1024x32, .f32⟩
  | .hbm, ⟨49, _⟩ => ⟨S1024x128, .f32⟩
  | .hbm, ⟨50, _⟩ => ⟨S_, .i32⟩
  | .hbm, ⟨51, _⟩ => ⟨S_, .f32⟩
  | .hbm, ⟨52, _⟩ => ⟨S128x8x1024, .f32⟩
  | .hbm, ⟨53, _⟩ => ⟨S1024x1024, .f32⟩
  | .hbm, ⟨54, _⟩ => ⟨S1x1024, .f32⟩
  | .hbm, ⟨55, _⟩ => ⟨S1024x1280, .f32⟩
  | .hbm, ⟨56, _⟩ => ⟨S1024x1536, .f32⟩
  | .hbm, ⟨57, _⟩ => ⟨S1024x24, .f32⟩
  | .hbm, ⟨58, _⟩ => ⟨S_, .f32⟩
  | .hbm, ⟨59, _⟩ => ⟨S1024x104, .f32⟩
  | .hbm, ⟨60, _⟩ => ⟨S1024x2944, .f32⟩
  | .hbm, ⟨61, _⟩ => ⟨S1024x2944, .bf16⟩
  | .hbm, ⟨62, _⟩ => ⟨S1024x1024, .bf16⟩
  | .hbm, ⟨63, _⟩ => ⟨S1024x1024, .bf16⟩
  | .hbm, ⟨64, _⟩ => ⟨S1024x512, .bf16⟩
  | .hbm, ⟨65, _⟩ => ⟨S1024x128, .f32⟩
  | .hbm, ⟨66, _⟩ => ⟨S1024x512, .f32⟩
  | .hbm, ⟨67, _⟩ => ⟨S1024x256, .f32⟩
  | .hbm, ⟨68, _⟩ => ⟨S1024x1024, .f32⟩
  | .hbm, ⟨69, _⟩ => ⟨S128x512x256, .f32⟩
  | .hbm, ⟨70, _⟩ => ⟨S128x8x512, .f32⟩
  | .hbm, ⟨71, _⟩ => ⟨S128x4x512, .f32⟩
  | .hbm, ⟨72, _⟩ => ⟨S128x8x256, .f32⟩
  | .hbm, ⟨73, _⟩ => ⟨S128x4x256, .f32⟩
  | .hbm, ⟨74, _⟩ => ⟨S128x516x256, .f32⟩
  | .hbm, ⟨75, _⟩ => ⟨S128x4x4x2x64, .f32⟩
  | .hbm, ⟨76, _⟩ => ⟨S128x8x1024, .f32⟩
  | .hbm, ⟨77, _⟩ => ⟨S128x4x1024, .f32⟩
  | .hbm, ⟨78, _⟩ => ⟨S128x4x2x4x128, .f32⟩
  | .hbm, ⟨79, _⟩ => ⟨S128x512x256, .f32⟩
  | .hbm, ⟨80, _⟩ => ⟨S128x512x2x2x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2944, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x512, .bf16⟩
  | .local _ .vmem, ⟨13, _⟩ => ⟨S512x512, .bf16⟩
  | .local _ .vmem, ⟨14, _⟩ => ⟨S512x128, .f32⟩
  | .local _ .vmem, ⟨15, _⟩ => ⟨S512x128, .f32⟩
  | .local _ .vmem, ⟨16, _⟩ => ⟨S512x512, .f32⟩
  | .local _ .vmem, ⟨17, _⟩ => ⟨S512x512, .f32⟩
  | .local _ .vmem, ⟨18, _⟩ => ⟨S512x256, .f32⟩
  | .local _ .vmem, ⟨19, _⟩ => ⟨S512x256, .f32⟩
  | .local _ .vmem, ⟨20, _⟩ => ⟨S512x1024, .f32⟩
  | .local _ .vmem, ⟨21, _⟩ => ⟨S512x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_cst : Ref sig .tc := ⟨.hbm, 32, rfl⟩
abbrev main_v6 : Ref sig .tc := ⟨.hbm, 33, rfl⟩
abbrev main_v7 : Ref sig .tc := ⟨.hbm, 34, rfl⟩
abbrev main_cst_1 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_c_2 : Ref sig .tc := ⟨.hbm, 50, rfl⟩
abbrev main_call1_v0 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_cst_3 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31_0 : Ref sig .tc := ⟨.hbm, 62, rfl⟩
abbrev main_v31_1 : Ref sig .tc := ⟨.hbm, 63, rfl⟩
abbrev main_v31_2 : Ref sig .tc := ⟨.hbm, 64, rfl⟩
abbrev main_v31_3 : Ref sig .tc := ⟨.hbm, 65, rfl⟩
abbrev main_v31_4 : Ref sig .tc := ⟨.hbm, 66, rfl⟩
abbrev main_v31_5 : Ref sig .tc := ⟨.hbm, 67, rfl⟩
abbrev main_v31_6 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S128x4x1024 : Shape := ⟨3, ![128, 4, 1024]⟩
abbrev S128x512x2x2x64 : Shape := ⟨5, ![128, 512, 2, 2, 64]⟩
abbrev S1024 : Shape := ⟨1, ![1024]⟩
abbrev S1024x2840 : Shape := ⟨2, ![1024, 2840]⟩
abbrev S4 : Shape := ⟨1, ![4]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S128x4x2840 : Shape := ⟨3, ![128, 4, 2840]⟩
abbrev S128x4x512 : Shape := ⟨3, ![128, 4, 512]⟩
abbrev S128x4x8x64 : Shape := ⟨4, ![128, 4, 8, 64]⟩
abbrev S128x4x768 : Shape := ⟨3, ![128, 4, 768]⟩
abbrev S128x4x6x2x64 : Shape := ⟨5, ![128, 4, 6, 2, 64]⟩
abbrev S128x4x24 : Shape := ⟨3, ![128, 4, 24]⟩
abbrev S128x4x8x3 : Shape := ⟨4, ![128, 4, 8, 3]⟩
abbrev S128x4x4x2x64 : Shape := ⟨5, ![128, 4, 4, 2, 64]⟩
abbrev S128x4x4x128 : Shape := ⟨4, ![128, 4, 4, 128]⟩
abbrev S32 : Shape := ⟨1, ![32]⟩
abbrev S4x1 : Shape := ⟨2, ![4, 1]⟩
abbrev S1x32 : Shape := ⟨2, ![1, 32]⟩
abbrev S4x32 : Shape := ⟨2, ![4, 32]⟩
abbrev S4x1x32 : Shape := ⟨3, ![4, 1, 32]⟩
abbrev S128x4x8x32 : Shape := ⟨4, ![128, 4, 8, 32]⟩
abbrev S1x4x1x32 : Shape := ⟨4, ![1, 4, 1, 32]⟩
abbrev S128x4x1x2x64 : Shape := ⟨5, ![128, 4, 1, 2, 64]⟩
abbrev S128x4x2x64 : Shape := ⟨4, ![128, 4, 2, 64]⟩
abbrev S128x4x2x32 : Shape := ⟨4, ![128, 4, 2, 32]⟩
abbrev S128x4x2x2x64 : Shape := ⟨5, ![128, 4, 2, 2, 64]⟩
abbrev S128x4x4x1x64 : Shape := ⟨5, ![128, 4, 4, 1, 64]⟩
abbrev S128x4x4x64 : Shape := ⟨4, ![128, 4, 4, 64]⟩
abbrev S128x4x4x32 : Shape := ⟨4, ![128, 4, 4, 32]⟩
abbrev S128x4x1x4x128 : Shape := ⟨5, ![128, 4, 1, 4, 128]⟩
abbrev S128x4x2x4x128 : Shape := ⟨5, ![128, 4, 2, 4, 128]⟩
abbrev S128x516x2x2x64 : Shape := ⟨5, ![128, 516, 2, 2, 64]⟩

abbrev nBuf : Space → Nat
  | .hbm => 324
  | .vmem => 0
  | .smem => 0
  | _ => 0

abbrev hbmTy0_0 (i : Nat) : BufTy := match i % 128 with
  | 0 => ⟨S128x4x1024, .f32⟩
  | 1 => ⟨S128x512x2x2x64, .f32⟩
  | 2 => ⟨S1024, .f32⟩
  | 3 => ⟨S1024x2840, .f32⟩
  | 4 => ⟨S4, .i32⟩
  | 5 => ⟨S_, .i32⟩
  | 6 => ⟨S4, .i32⟩
  | 7 => ⟨S4, .i32⟩
  | 8 => ⟨S128x4x1024, .f32⟩
  | 9 => ⟨S_, .f32⟩
  | 10 => ⟨S128x4, .f32⟩
  | 11 => ⟨S128x4x1, .f32⟩
  | 12 => ⟨S_, .f32⟩
  | 13 => ⟨S128x4x1, .f32⟩
  | 14 => ⟨S128x4x1, .f32⟩
  | 15 => ⟨S_, .f32⟩
  | 16 => ⟨S128x4x1, .f32⟩
  | 17 => ⟨S128x4x1, .f32⟩
  | 18 => ⟨S128x4x1, .f32⟩
  | 19 => ⟨S128x4x1024, .f32⟩
  | 20 => ⟨S128x4x1024, .f32⟩
  | 21 => ⟨S1x1x1024, .f32⟩
  | 22 => ⟨S128x4x1024, .f32⟩
  | 23 => ⟨S128x4x1024, .f32⟩
  | 24 => ⟨S128x4x2840, .f32⟩
  | 25 => ⟨S128x4x512, .f32⟩
  | 26 => ⟨S128x4x8x64, .f32⟩
  | 27 => ⟨S128x4x768, .f32⟩
  | 28 => ⟨S128x4x6x2x64, .f32⟩
  | 29 => ⟨S128x4x24, .f32⟩
  | 30 => ⟨S128x4x8x3, .f32⟩
  | 31 => ⟨S128x4x8x3, .f32⟩
  | 32 => ⟨S128x4x8x3, .f32⟩
  | 33 => ⟨S_, .f32⟩
  | 34 => ⟨S128x4x8x3, .f32⟩
  | 35 => ⟨S128x4x8x3, .f32⟩
  | 36 => ⟨S_, .f32⟩
  | 37 => ⟨S128x4x8x3, .f32⟩
  | 38 => ⟨S128x4x8x3, .f32⟩
  | 39 => ⟨S128x4x512, .f32⟩
  | 40 => ⟨S128x4x4x2x64, .f32⟩
  | 41 => ⟨S128x4x512, .f32⟩
  | 42 => ⟨S128x4x4x2x64, .f32⟩
  | 43 => ⟨S128x4x512, .f32⟩
  | 44 => ⟨S128x4x4x128, .f32⟩
  | 45 => ⟨S32, .f32⟩
  | 46 => ⟨S32, .f32⟩
  | 47 => ⟨S_, .f32⟩
  | 48 => ⟨S32, .f32⟩
  | 49 => ⟨S32, .f32⟩
  | 50 => ⟨S_, .f32⟩
  | 51 => ⟨S32, .f32⟩
  | 52 => ⟨S32, .f32⟩
  | 53 => ⟨S4, .f32⟩
  | 54 => ⟨S4x1, .f32⟩
  | 55 => ⟨S1x32, .f32⟩
  | 56 => ⟨S4x32, .f32⟩
  | 57 => ⟨S4x32, .f32⟩
  | 58 => ⟨S4x32, .f32⟩
  | 59 => ⟨S4x32, .f32⟩
  | 60 => ⟨S4x1x32, .f32⟩
  | 61 => ⟨S4x32, .f32⟩
  | 62 => ⟨S4x1x32, .f32⟩
  | 63 => ⟨S128x4x8x32, .f32⟩
  | 64 => ⟨S128x4x8x32, .f32⟩
  | 65 => ⟨S1x4x1x32, .f32⟩
  | 66 => ⟨S128x4x8x32, .f32⟩
  | 67 => ⟨S128x4x8x32, .f32⟩
  | 68 => ⟨S1x4x1x32, .f32⟩
  | 69 => ⟨S128x4x8x32, .f32⟩
  | 70 => ⟨S128x4x8x32, .f32⟩
  | 71 => ⟨S128x4x8x32, .f32⟩
  | 72 => ⟨S1x4x1x32, .f32⟩
  | 73 => ⟨S128x4x8x32, .f32⟩
  | 74 => ⟨S128x4x8x32, .f32⟩
  | 75 => ⟨S1x4x1x32, .f32⟩
  | 76 => ⟨S128x4x8x32, .f32⟩
  | 77 => ⟨S128x4x8x32, .f32⟩
  | 78 => ⟨S128x4x8x32, .f32⟩
  | 79 => ⟨S128x4x8x64, .f32⟩
  | 80 => ⟨S128x4x1x2x64, .f32⟩
  | 81 => ⟨S128x4x2x64, .f32⟩
  | 82 => ⟨S128x4x1x2x64, .f32⟩
  | 83 => ⟨S128x4x2x64, .f32⟩
  | 84 => ⟨S128x4x1x2x64, .f32⟩
  | 85 => ⟨S128x4x2x64, .f32⟩
  | 86 => ⟨S32, .f32⟩
  | 87 => ⟨S32, .f32⟩
  | 88 => ⟨S_, .f32⟩
  | 89 => ⟨S32, .f32⟩
  | 90 => ⟨S32, .f32⟩
  | 91 => ⟨S_, .f32⟩
  | 92 => ⟨S32, .f32⟩
  | 93 => ⟨S32, .f32⟩
  | 94 => ⟨S4, .f32⟩
  | 95 => ⟨S4x1, .f32⟩
  | 96 => ⟨S1x32, .f32⟩
  | 97 => ⟨S4x32, .f32⟩
  | 98 => ⟨S4x32, .f32⟩
  | 99 => ⟨S4x32, .f32⟩
  | 100 => ⟨S4x32, .f32⟩
  | 101 => ⟨S4x1x32, .f32⟩
  | 102 => ⟨S4x32, .f32⟩
  | 103 => ⟨S4x1x32, .f32⟩
  | 104 => ⟨S128x4x2x32, .f32⟩
  | 105 => ⟨S128x4x2x32, .f32⟩
  | 106 => ⟨S1x4x1x32, .f32⟩
  | 107 => ⟨S128x4x2x32, .f32⟩
  | 108 => ⟨S128x4x2x32, .f32⟩
  | 109 => ⟨S1x4x1x32, .f32⟩
  | 110 => ⟨S128x4x2x32, .f32⟩
  | 111 => ⟨S128x4x2x32, .f32⟩
  | 112 => ⟨S128x4x2x32, .f32⟩
  | 113 => ⟨S1x4x1x32, .f32⟩
  | 114 => ⟨S128x4x2x32, .f32⟩
  | 115 => ⟨S128x4x2x32, .f32⟩
  | 116 => ⟨S1x4x1x32, .f32⟩
  | 117 => ⟨S128x4x2x32, .f32⟩
  | 118 => ⟨S128x4x2x32, .f32⟩
  | 119 => ⟨S128x4x2x32, .f32⟩
  | 120 => ⟨S128x4x2x64, .f32⟩
  | 121 => ⟨S128x4x1x2x64, .f32⟩
  | 122 => ⟨S128x4x2x64, .f32⟩
  | 123 => ⟨S128x4x1x2x64, .f32⟩
  | 124 => ⟨S128x4x1x2x64, .f32⟩
  | 125 => ⟨S128x4x1x2x64, .f32⟩
  | 126 => ⟨S128x4x1x2x64, .f32⟩
  | 127 => ⟨S128x4x4x2x64, .f32⟩
  | _ => ⟨S128x4x1024, .f32⟩

abbrev hbmTy0_1 (i : Nat) : BufTy := match i % 128 with
  | 0 => ⟨S128x4x1x2x64, .f32⟩
  | 1 => ⟨S128x4x2x64, .f32⟩
  | 2 => ⟨S32, .f32⟩
  | 3 => ⟨S32, .f32⟩
  | 4 => ⟨S_, .f32⟩
  | 5 => ⟨S32, .f32⟩
  | 6 => ⟨S32, .f32⟩
  | 7 => ⟨S_, .f32⟩
  | 8 => ⟨S32, .f32⟩
  | 9 => ⟨S32, .f32⟩
  | 10 => ⟨S4, .f32⟩
  | 11 => ⟨S4x1, .f32⟩
  | 12 => ⟨S1x32, .f32⟩
  | 13 => ⟨S4x32, .f32⟩
  | 14 => ⟨S4x32, .f32⟩
  | 15 => ⟨S4x32, .f32⟩
  | 16 => ⟨S4x32, .f32⟩
  | 17 => ⟨S4x1x32, .f32⟩
  | 18 => ⟨S4x32, .f32⟩
  | 19 => ⟨S4x1x32, .f32⟩
  | 20 => ⟨S128x4x2x32, .f32⟩
  | 21 => ⟨S128x4x2x32, .f32⟩
  | 22 => ⟨S1x4x1x32, .f32⟩
  | 23 => ⟨S128x4x2x32, .f32⟩
  | 24 => ⟨S128x4x2x32, .f32⟩
  | 25 => ⟨S1x4x1x32, .f32⟩
  | 26 => ⟨S128x4x2x32, .f32⟩
  | 27 => ⟨S128x4x2x32, .f32⟩
  | 28 => ⟨S128x4x2x32, .f32⟩
  | 29 => ⟨S1x4x1x32, .f32⟩
  | 30 => ⟨S128x4x2x32, .f32⟩
  | 31 => ⟨S128x4x2x32, .f32⟩
  | 32 => ⟨S1x4x1x32, .f32⟩
  | 33 => ⟨S128x4x2x32, .f32⟩
  | 34 => ⟨S128x4x2x32, .f32⟩
  | 35 => ⟨S128x4x2x32, .f32⟩
  | 36 => ⟨S128x4x2x64, .f32⟩
  | 37 => ⟨S128x4x1x2x64, .f32⟩
  | 38 => ⟨S128x4x2x64, .f32⟩
  | 39 => ⟨S128x4x1x2x64, .f32⟩
  | 40 => ⟨S128x4x1x2x64, .f32⟩
  | 41 => ⟨S128x4x2x2x64, .f32⟩
  | 42 => ⟨S128x4x4x1x64, .f32⟩
  | 43 => ⟨S128x4x4x64, .f32⟩
  | 44 => ⟨S32, .f32⟩
  | 45 => ⟨S32, .f32⟩
  | 46 => ⟨S_, .f32⟩
  | 47 => ⟨S32, .f32⟩
  | 48 => ⟨S32, .f32⟩
  | 49 => ⟨S_, .f32⟩
  | 50 => ⟨S32, .f32⟩
  | 51 => ⟨S32, .f32⟩
  | 52 => ⟨S4, .f32⟩
  | 53 => ⟨S4x1, .f32⟩
  | 54 => ⟨S1x32, .f32⟩
  | 55 => ⟨S4x32, .f32⟩
  | 56 => ⟨S4x32, .f32⟩
  | 57 => ⟨S4x32, .f32⟩
  | 58 => ⟨S4x32, .f32⟩
  | 59 => ⟨S4x1x32, .f32⟩
  | 60 => ⟨S4x32, .f32⟩
  | 61 => ⟨S4x1x32, .f32⟩
  | 62 => ⟨S128x4x4x32, .f32⟩
  | 63 => ⟨S128x4x4x32, .f32⟩
  | 64 => ⟨S1x4x1x32, .f32⟩
  | 65 => ⟨S128x4x4x32, .f32⟩
  | 66 => ⟨S128x4x4x32, .f32⟩
  | 67 => ⟨S1x4x1x32, .f32⟩
  | 68 => ⟨S128x4x4x32, .f32⟩
  | 69 => ⟨S128x4x4x32, .f32⟩
  | 70 => ⟨S128x4x4x32, .f32⟩
  | 71 => ⟨S1x4x1x32, .f32⟩
  | 72 => ⟨S128x4x4x32, .f32⟩
  | 73 => ⟨S128x4x4x32, .f32⟩
  | 74 => ⟨S1x4x1x32, .f32⟩
  | 75 => ⟨S128x4x4x32, .f32⟩
  | 76 => ⟨S128x4x4x32, .f32⟩
  | 77 => ⟨S128x4x4x32, .f32⟩
  | 78 => ⟨S128x4x4x64, .f32⟩
  | 79 => ⟨S128x4x4x1x64, .f32⟩
  | 80 => ⟨S128x4x4x64, .f32⟩
  | 81 => ⟨S32, .f32⟩
  | 82 => ⟨S32, .f32⟩
  | 83 => ⟨S_, .f32⟩
  | 84 => ⟨S32, .f32⟩
  | 85 => ⟨S32, .f32⟩
  | 86 => ⟨S_, .f32⟩
  | 87 => ⟨S32, .f32⟩
  | 88 => ⟨S32, .f32⟩
  | 89 => ⟨S4, .f32⟩
  | 90 => ⟨S4x1, .f32⟩
  | 91 => ⟨S1x32, .f32⟩
  | 92 => ⟨S4x32, .f32⟩
  | 93 => ⟨S4x32, .f32⟩
  | 94 => ⟨S4x32, .f32⟩
  | 95 => ⟨S4x32, .f32⟩
  | 96 => ⟨S4x1x32, .f32⟩
  | 97 => ⟨S4x32, .f32⟩
  | 98 => ⟨S4x1x32, .f32⟩
  | 99 => ⟨S128x4x4x32, .f32⟩
  | 100 => ⟨S128x4x4x32, .f32⟩
  | 101 => ⟨S1x4x1x32, .f32⟩
  | 102 => ⟨S128x4x4x32, .f32⟩
  | 103 => ⟨S128x4x4x32, .f32⟩
  | 104 => ⟨S1x4x1x32, .f32⟩
  | 105 => ⟨S128x4x4x32, .f32⟩
  | 106 => ⟨S128x4x4x32, .f32⟩
  | 107 => ⟨S128x4x4x32, .f32⟩
  | 108 => ⟨S1x4x1x32, .f32⟩
  | 109 => ⟨S128x4x4x32, .f32⟩
  | 110 => ⟨S128x4x4x32, .f32⟩
  | 111 => ⟨S1x4x1x32, .f32⟩
  | 112 => ⟨S128x4x4x32, .f32⟩
  | 113 => ⟨S128x4x4x32, .f32⟩
  | 114 => ⟨S128x4x4x32, .f32⟩
  | 115 => ⟨S128x4x4x64, .f32⟩
  | 116 => ⟨S128x4x4x1x64, .f32⟩
  | 117 => ⟨S128x4x4x64, .f32⟩
  | 118 => ⟨S32, .f32⟩
  | 119 => ⟨S32, .f32⟩
  | 120 => ⟨S_, .f32⟩
  | 121 => ⟨S32, .f32⟩
  | 122 => ⟨S32, .f32⟩
  | 123 => ⟨S_, .f32⟩
  | 124 => ⟨S32, .f32⟩
  | 125 => ⟨S32, .f32⟩
  | 126 => ⟨S4, .f32⟩
  | 127 => ⟨S4x1, .f32⟩
  | _ => ⟨S128x4x1024, .f32⟩

abbrev hbmTy0_2 (i : Nat) : BufTy := match i % 128 with
  | 0 => ⟨S1x32, .f32⟩
  | 1 => ⟨S4x32, .f32⟩
  | 2 => ⟨S4x32, .f32⟩
  | 3 => ⟨S4x32, .f32⟩
  | 4 => ⟨S4x32, .f32⟩
  | 5 => ⟨S4x1x32, .f32⟩
  | 6 => ⟨S4x32, .f32⟩
  | 7 => ⟨S4x1x32, .f32⟩
  | 8 => ⟨S128x4x4x32, .f32⟩
  | 9 => ⟨S128x4x4x32, .f32⟩
  | 10 => ⟨S1x4x1x32, .f32⟩
  | 11 => ⟨S128x4x4x32, .f32⟩
  | 12 => ⟨S128x4x4x32, .f32⟩
  | 13 => ⟨S1x4x1x32, .f32⟩
  | 14 => ⟨S128x4x4x32, .f32⟩
  | 15 => ⟨S128x4x4x32, .f32⟩
  | 16 => ⟨S128x4x4x32, .f32⟩
  | 17 => ⟨S1x4x1x32, .f32⟩
  | 18 => ⟨S128x4x4x32, .f32⟩
  | 19 => ⟨S128x4x4x32, .f32⟩
  | 20 => ⟨S1x4x1x32, .f32⟩
  | 21 => ⟨S128x4x4x32, .f32⟩
  | 22 => ⟨S128x4x4x32, .f32⟩
  | 23 => ⟨S128x4x4x32, .f32⟩
  | 24 => ⟨S128x4x4x64, .f32⟩
  | 25 => ⟨S128x4x4x1x64, .f32⟩
  | 26 => ⟨S128x4x4x64, .f32⟩
  | 27 => ⟨S32, .f32⟩
  | 28 => ⟨S32, .f32⟩
  | 29 => ⟨S_, .f32⟩
  | 30 => ⟨S32, .f32⟩
  | 31 => ⟨S32, .f32⟩
  | 32 => ⟨S_, .f32⟩
  | 33 => ⟨S32, .f32⟩
  | 34 => ⟨S32, .f32⟩
  | 35 => ⟨S4, .f32⟩
  | 36 => ⟨S4x1, .f32⟩
  | 37 => ⟨S1x32, .f32⟩
  | 38 => ⟨S4x32, .f32⟩
  | 39 => ⟨S4x32, .f32⟩
  | 40 => ⟨S4x32, .f32⟩
  | 41 => ⟨S4x32, .f32⟩
  | 42 => ⟨S4x1x32, .f32⟩
  | 43 => ⟨S4x32, .f32⟩
  | 44 => ⟨S4x1x32, .f32⟩
  | 45 => ⟨S128x4x4x32, .f32⟩
  | 46 => ⟨S128x4x4x32, .f32⟩
  | 47 => ⟨S1x4x1x32, .f32⟩
  | 48 => ⟨S128x4x4x32, .f32⟩
  | 49 => ⟨S128x4x4x32, .f32⟩
  | 50 => ⟨S1x4x1x32, .f32⟩
  | 51 => ⟨S128x4x4x32, .f32⟩
  | 52 => ⟨S128x4x4x32, .f32⟩
  | 53 => ⟨S128x4x4x32, .f32⟩
  | 54 => ⟨S1x4x1x32, .f32⟩
  | 55 => ⟨S128x4x4x32, .f32⟩
  | 56 => ⟨S128x4x4x32, .f32⟩
  | 57 => ⟨S1x4x1x32, .f32⟩
  | 58 => ⟨S128x4x4x32, .f32⟩
  | 59 => ⟨S128x4x4x32, .f32⟩
  | 60 => ⟨S128x4x4x32, .f32⟩
  | 61 => ⟨S128x4x4x64, .f32⟩
  | 62 => ⟨S128x4x4x128, .f32⟩
  | 63 => ⟨S128x4x1x4x128, .f32⟩
  | 64 => ⟨S128x4x1x4x128, .f32⟩
  | 65 => ⟨S128x4x2x4x128, .f32⟩
  | 66 => ⟨S128x516x2x2x64, .f32⟩
  | 67 => ⟨S128x512x2x2x64, .f32⟩
  | _ => ⟨S128x4x1024, .f32⟩

abbrev hbmTy (i : Nat) : BufTy := match i / 128 with
  | 0 => hbmTy0_0 i
  | 1 => hbmTy0_1 i
  | 2 => hbmTy0_2 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_cst_6 : Ref sig .tc := ⟨.hbm, 88, rfl⟩
abbrev main_v76 : Ref sig .tc := ⟨.hbm, 89, rfl⟩
abbrev main_v77 : Ref sig .tc := ⟨.hbm, 90, rfl⟩
abbrev main_cst_7 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_cst_8 : Ref sig .tc := ⟨.hbm, 132, rfl⟩
abbrev main_v118 : Ref sig .tc := ⟨.hbm, 133, rfl⟩
abbrev main_v119 : Ref sig .tc := ⟨.hbm, 134, rfl⟩
abbrev main_cst_9 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_cst_10 : Ref sig .tc := ⟨.hbm, 174, rfl⟩
abbrev main_v158 : Ref sig .tc := ⟨.hbm, 175, rfl⟩
abbrev main_v159 : Ref sig .tc := ⟨.hbm, 176, rfl⟩
abbrev main_cst_11 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_v184 : Ref sig .tc := ⟨.hbm, 202, rfl⟩
abbrev main_v185 : Ref sig .tc := ⟨.hbm, 203, rfl⟩
abbrev main_v186 : Ref sig .tc := ⟨.hbm, 204, rfl⟩
abbrev main_v187 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_v192 : Ref sig .tc := ⟨.hbm, 210, rfl⟩
abbrev main_cst_12 : Ref sig .tc := ⟨.hbm, 211, rfl⟩
abbrev main_v193 : Ref sig .tc := ⟨.hbm, 212, rfl⟩
abbrev main_v194 : Ref sig .tc := ⟨.hbm, 213, rfl⟩
abbrev main_cst_13 : Ref sig .tc := ⟨.hbm, 214, rfl⟩
abbrev main_v195 : Ref sig .tc := ⟨.hbm, 215, rfl⟩
abbrev main_v196 : Ref sig .tc := ⟨.hbm, 216, rfl⟩
abbrev main_v197 : Ref sig .tc := ⟨.hbm, 217, rfl⟩
abbrev main_v198 : Ref sig .tc := ⟨.hbm, 218, rfl⟩
abbrev main_v199 : Ref sig .tc := ⟨.hbm, 219, rfl⟩
abbrev main_v200 : Ref sig .tc := ⟨.hbm, 220, rfl⟩
abbrev main_v201 : Ref sig .tc := ⟨.hbm, 221, rfl⟩
abbrev main_v202 : Ref sig .tc := ⟨.hbm, 222, rfl⟩
abbrev main_v203 : Ref sig .tc := ⟨.hbm, 223, rfl⟩
abbrev main_v204 : Ref sig .tc := ⟨.hbm, 224, rfl⟩
abbrev main_v205 : Ref sig .tc := ⟨.hbm, 225, rfl⟩
abbrev main_v206 : Ref sig .tc := ⟨.hbm, 226, rfl⟩
abbrev main_v207 : Ref sig .tc := ⟨.hbm, 227, rfl⟩
abbrev main_v208 : Ref sig .tc := ⟨.hbm, 228, rfl⟩
abbrev main_v209 : Ref sig .tc := ⟨.hbm, 229, rfl⟩
abbrev main_v210 : Ref sig .tc := ⟨.hbm, 230, rfl⟩
abbrev main_v211 : Ref sig .tc := ⟨.hbm, 231, rfl⟩
abbrev main_v212 : Ref sig .tc := ⟨.hbm, 232, rfl⟩
abbrev main_v213 : Ref sig .tc := ⟨.hbm, 233, rfl⟩
abbrev main_v214 : Ref sig .tc := ⟨.hbm, 234, rfl⟩
abbrev main_v215 : Ref sig .tc := ⟨.hbm, 235, rfl⟩
abbrev main_v216 : Ref sig .tc := ⟨.hbm, 236, rfl⟩
abbrev main_v217 : Ref sig .tc := ⟨.hbm, 237, rfl⟩
abbrev main_v218 : Ref sig .tc := ⟨.hbm, 238, rfl⟩
abbrev main_v219 : Ref sig .tc := ⟨.hbm, 239, rfl⟩
abbrev main_v220 : Ref sig .tc := ⟨.hbm, 240, rfl⟩
abbrev main_v221 : Ref sig .tc := ⟨.hbm, 241, rfl⟩
abbrev main_v222 : Ref sig .tc := ⟨.hbm, 242, rfl⟩
abbrev main_v223 : Ref sig .tc := ⟨.hbm, 243, rfl⟩
abbrev main_v224 : Ref sig .tc := ⟨.hbm, 244, rfl⟩
abbrev main_v225 : Ref sig .tc := ⟨.hbm, 245, rfl⟩
abbrev main_v226 : Ref sig .tc := ⟨.hbm, 246, rfl⟩
abbrev main_v227 : Ref sig .tc := ⟨.hbm, 247, rfl⟩
abbrev main_cst_14 : Ref sig .tc := ⟨.hbm, 248, rfl⟩
abbrev main_v228 : Ref sig .tc := ⟨.hbm, 249, rfl⟩
abbrev main_v229 : Ref sig .tc := ⟨.hbm, 250, rfl⟩
abbrev main_cst_15 : Ref sig .tc := ⟨.hbm, 251, rfl⟩
abbrev main_v230 : Ref sig .tc := ⟨.hbm, 252, rfl⟩
abbrev main_v231 : Ref sig .tc := ⟨.hbm, 253, rfl⟩
abbrev main_v232 : Ref sig .tc := ⟨.hbm, 254, rfl⟩
abbrev main_v233 : Ref sig .tc := ⟨.hbm, 255, rfl⟩
abbrev main_v234 : Ref sig .tc := ⟨.hbm, 256, rfl⟩
abbrev main_v235 : Ref sig .tc := ⟨.hbm, 257, rfl⟩
abbrev main_v236 : Ref sig .tc := ⟨.hbm, 258, rfl⟩
abbrev main_v237 : Ref sig .tc := ⟨.hbm, 259, rfl⟩
abbrev main_v238 : Ref sig .tc := ⟨.hbm, 260, rfl⟩
abbrev main_v239 : Ref sig .tc := ⟨.hbm, 261, rfl⟩
abbrev main_v240 : Ref sig .tc := ⟨.hbm, 262, rfl⟩
abbrev main_v241 : Ref sig .tc := ⟨.hbm, 263, rfl⟩
abbrev main_v242 : Ref sig .tc := ⟨.hbm, 264, rfl⟩
abbrev main_v243 : Ref sig .tc := ⟨.hbm, 265, rfl⟩
abbrev main_v244 : Ref sig .tc := ⟨.hbm, 266, rfl⟩
abbrev main_v245 : Ref sig .tc := ⟨.hbm, 267, rfl⟩
abbrev main_v246 : Ref sig .tc := ⟨.hbm, 268, rfl⟩
abbrev main_v247 : Ref sig .tc := ⟨.hbm, 269, rfl⟩
abbrev main_v248 : Ref sig .tc := ⟨.hbm, 270, rfl⟩
abbrev main_v249 : Ref sig .tc := ⟨.hbm, 271, rfl⟩
abbrev main_v250 : Ref sig .tc := ⟨.hbm, 272, rfl⟩
abbrev main_v251 : Ref sig .tc := ⟨.hbm, 273, rfl⟩
abbrev main_v252 : Ref sig .tc := ⟨.hbm, 274, rfl⟩
abbrev main_v253 : Ref sig .tc := ⟨.hbm, 275, rfl⟩
abbrev main_v254 : Ref sig .tc := ⟨.hbm, 276, rfl⟩
abbrev main_v255 : Ref sig .tc := ⟨.hbm, 277, rfl⟩
abbrev main_v256 : Ref sig .tc := ⟨.hbm, 278, rfl⟩
abbrev main_v257 : Ref sig .tc := ⟨.hbm, 279, rfl⟩
abbrev main_v258 : Ref sig .tc := ⟨.hbm, 280, rfl⟩
abbrev main_v259 : Ref sig .tc := ⟨.hbm, 281, rfl⟩
abbrev main_v260 : Ref sig .tc := ⟨.hbm, 282, rfl⟩
abbrev main_v261 : Ref sig .tc := ⟨.hbm, 283, rfl⟩
abbrev main_v262 : Ref sig .tc := ⟨.hbm, 284, rfl⟩
abbrev main_cst_16 : Ref sig .tc := ⟨.hbm, 285, rfl⟩
abbrev main_v263 : Ref sig .tc := ⟨.hbm, 286, rfl⟩
abbrev main_v264 : Ref sig .tc := ⟨.hbm, 287, rfl⟩
abbrev main_cst_17 : Ref sig .tc := ⟨.hbm, 288, rfl⟩
abbrev main_v265 : Ref sig .tc := ⟨.hbm, 289, rfl⟩
abbrev main_v266 : Ref sig .tc := ⟨.hbm, 290, rfl⟩
abbrev main_v267 : Ref sig .tc := ⟨.hbm, 291, rfl⟩
abbrev main_v268 : Ref sig .tc := ⟨.hbm, 292, rfl⟩
abbrev main_v269 : Ref sig .tc := ⟨.hbm, 293, rfl⟩
abbrev main_v270 : Ref sig .tc := ⟨.hbm, 294, rfl⟩
abbrev main_v271 : Ref sig .tc := ⟨.hbm, 295, rfl⟩
abbrev main_v272 : Ref sig .tc := ⟨.hbm, 296, rfl⟩
abbrev main_v273 : Ref sig .tc := ⟨.hbm, 297, rfl⟩
abbrev main_v274 : Ref sig .tc := ⟨.hbm, 298, rfl⟩
abbrev main_v275 : Ref sig .tc := ⟨.hbm, 299, rfl⟩
abbrev main_v276 : Ref sig .tc := ⟨.hbm, 300, rfl⟩
abbrev main_v277 : Ref sig .tc := ⟨.hbm, 301, rfl⟩
abbrev main_v278 : Ref sig .tc := ⟨.hbm, 302, rfl⟩
abbrev main_v279 : Ref sig .tc := ⟨.hbm, 303, rfl⟩
abbrev main_v280 : Ref sig .tc := ⟨.hbm, 304, rfl⟩
abbrev main_v281 : Ref sig .tc := ⟨.hbm, 305, rfl⟩
abbrev main_v282 : Ref sig .tc := ⟨.hbm, 306, rfl⟩
abbrev main_v283 : Ref sig .tc := ⟨.hbm, 307, rfl⟩
abbrev main_v284 : Ref sig .tc := ⟨.hbm, 308, rfl⟩
abbrev main_v285 : Ref sig .tc := ⟨.hbm, 309, rfl⟩
abbrev main_v286 : Ref sig .tc := ⟨.hbm, 310, rfl⟩
abbrev main_v287 : Ref sig .tc := ⟨.hbm, 311, rfl⟩
abbrev main_v288 : Ref sig .tc := ⟨.hbm, 312, rfl⟩
abbrev main_v289 : Ref sig .tc := ⟨.hbm, 313, rfl⟩
abbrev main_v290 : Ref sig .tc := ⟨.hbm, 314, rfl⟩
abbrev main_v291 : Ref sig .tc := ⟨.hbm, 315, rfl⟩
abbrev main_v292 : Ref sig .tc := ⟨.hbm, 316, rfl⟩
abbrev main_v293 : Ref sig .tc := ⟨.hbm, 317, rfl⟩
abbrev main_v294 : Ref sig .tc := ⟨.hbm, 318, rfl⟩
abbrev main_v295 : Ref sig .tc := ⟨.hbm, 319, rfl⟩
abbrev main_v296 : Ref sig .tc := ⟨.hbm, 320, rfl⟩
abbrev main_v297 : Ref sig .tc := ⟨.hbm, 321, rfl⟩
abbrev main_v298 : Ref sig .tc := ⟨.hbm, 322, rfl⟩
abbrev main_v299 : Ref sig .tc := ⟨.hbm, 323, rfl⟩

abbrev nD : Nat := 1
abbrev τ : Topo := Topo.v7x

variable {F : FTy → Type} [FloatOps F]
-- ==== Kernel5.lean ====
abbrev S128x4x1024 : Shape := ⟨3, ![128, 4, 1024]⟩
abbrev S128x8x512 : Shape := ⟨3, ![128, 8, 512]⟩
abbrev S128x4x256 : Shape := ⟨3, ![128, 4, 256]⟩
abbrev S1x128 : Shape := ⟨2, ![1, 128]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S256x1024 : Shape := ⟨2, ![256, 1024]⟩
abbrev S_ : Shape := ⟨0, ![]⟩
abbrev S128x8x1024 : Shape := ⟨3, ![128, 8, 1024]⟩
abbrev S128x8x256 : Shape := ⟨3, ![128, 8, 256]⟩
abbrev S1024x256 : Shape := ⟨2, ![1024, 256]⟩
abbrev S1024x512 : Shape := ⟨2, ![1024, 512]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S512 : Shape := ⟨1, ![512]⟩
abbrev S512x1 : Shape := ⟨2, ![512, 1]⟩

abbrev nBuf : Space → Nat
  | .hbm => 27
  | .vmem => 20
  | .smem => 0
  | _ => 0

abbrev bufTy : (tb : Table) → Fin (tcTables nBuf tb) → BufTy
  | .hbm, ⟨0, _⟩ => ⟨S128x4x1024, .f32⟩
  | .hbm, ⟨1, _⟩ => ⟨S128x8x512, .f32⟩
  | .hbm, ⟨2, _⟩ => ⟨S128x8x512, .f32⟩
  | .hbm, ⟨3, _⟩ => ⟨S128x4x256, .f32⟩
  | .hbm, ⟨4, _⟩ => ⟨S1x128, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S1024x4096, .bf16⟩
  | .hbm, ⟨9, _⟩ => ⟨S4096x1024, .bf16⟩
  | .hbm, ⟨10, _⟩ => ⟨S1x1024, .f32⟩
  | .hbm, ⟨11, _⟩ => ⟨S256x1024, .bf16⟩
  | .hbm, ⟨12, _⟩ => ⟨S1024x1024, .bf16⟩
  | .hbm, ⟨13, _⟩ => ⟨S1x1024, .f32⟩
  | .hbm, ⟨14, _⟩ => ⟨S_, .i32⟩
  | .hbm, ⟨15, _⟩ => ⟨S_, .f32⟩
  | .hbm, ⟨16, _⟩ => ⟨S128x8x1024, .f32⟩
  | .hbm, ⟨17, _⟩ => ⟨S1024x1024, .f32⟩
  | .hbm, ⟨18, _⟩ => ⟨S_, .i32⟩
  | .hbm, ⟨19, _⟩ => ⟨S_, .f32⟩
  | .hbm, ⟨20, _⟩ => ⟨S128x8x256, .f32⟩
  | .hbm, ⟨21, _⟩ => ⟨S1024x256, .f32⟩
  | .hbm, ⟨22, _⟩ => ⟨S1024x512, .f32⟩
  | .hbm, ⟨23, _⟩ => ⟨S1024x512, .f32⟩
  | .hbm, ⟨24, _⟩ => ⟨S1024x1024, .f32⟩
  | .hbm, ⟨25, _⟩ => ⟨S128x8x1024, .f32⟩
  | .hbm, ⟨26, _⟩ => ⟨S128x4x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S1x128, .f32⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1024x4096, .bf16⟩
  | .local _ .vmem, ⟨13, _⟩ => ⟨S4096x1024, .bf16⟩
  | .local _ .vmem, ⟨14, _⟩ => ⟨S1x1024, .f32⟩
  | .local _ .vmem, ⟨15, _⟩ => ⟨S256x1024, .bf16⟩
  | .local _ .vmem, ⟨16, _⟩ => ⟨S1024x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_call0_v0 : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_call1_v0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference5Ideal.lean ====
abbrev S128x4x1024 : Shape := ⟨3, ![128, 4, 1024]⟩
abbrev S128x8x512 : Shape := ⟨3, ![128, 8, 512]⟩
abbrev S128x4x256 : Shape := ⟨3, ![128, 4, 256]⟩
abbrev S1x128 : Shape := ⟨2, ![1, 128]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S256x1024 : Shape := ⟨2, ![256, 1024]⟩
abbrev S128x4x512 : Shape := ⟨3, ![128, 4, 512]⟩
abbrev S128x4x4x128 : Shape := ⟨4, ![128, 4, 4, 128]⟩
abbrev S128 : Shape := ⟨1, ![128]⟩
abbrev S_ : Shape := ⟨0, ![]⟩
abbrev S128x4x4 : Shape := ⟨3, ![128, 4, 4]⟩
abbrev S128x4x4x1 : Shape := ⟨4, ![128, 4, 4, 1]⟩
abbrev S1x1x1x128 : Shape := ⟨4, ![1, 1, 1, 128]⟩
abbrev S1024 : Shape := ⟨1, ![1024]⟩
abbrev S128x4 : Shape := ⟨2, ![128, 4]⟩
abbrev S128x4x1 : Shape := ⟨3, ![128, 4, 1]⟩
abbrev S1x1x1024 : Shape := ⟨3, ![1, 1, 1024]⟩
abbrev S128x4x4096 : Shape := ⟨3, ![128, 4, 4096]⟩

abbrev nBuf : Space → Nat
  | .hbm => 133
  | .vmem => 0
  | .smem => 0
  | _ => 0

abbrev hbmTy0_0 (i : Nat) : BufTy := match i % 128 with
  | 0 => ⟨S128x4x1024, .f32⟩
  | 1 => ⟨S128x8x512, .f32⟩
  | 2 => ⟨S128x8x512, .f32⟩
  | 3 => ⟨S128x4x256, .f32⟩
  | 4 => ⟨S1x128, .f32⟩
  | 5 => ⟨S1024x1024, .bf16⟩
  | 6 => ⟨S1x1024, .f32⟩
  | 7 => ⟨S1x1024, .f32⟩
  | 8 => ⟨S1024x4096, .bf16⟩
  | 9 => ⟨S4096x1024, .bf16⟩
  | 10 => ⟨S1x1024, .f32⟩
  | 11 => ⟨S256x1024, .bf16⟩
  | 12 => ⟨S1024x1024, .bf16⟩
  | 13 => ⟨S1x1024, .f32⟩
  | 14 => ⟨S1024x1024, .f32⟩
  | 15 => ⟨S1024x4096, .f32⟩
  | 16 => ⟨S4096x1024, .f32⟩
  | 17 => ⟨S256x1024, .f32⟩
  | 18 => ⟨S1024x1024, .f32⟩
  | 19 => ⟨S128x4x512, .f32⟩
  | 20 => ⟨S128x4x4x128, .f32⟩
  | 21 => ⟨S128, .f32⟩
  | 22 => ⟨S128x4x4x128, .f32⟩
  | 23 => ⟨S_, .f32⟩
  | 24 => ⟨S128x4x4, .f32⟩
  | 25 => ⟨S128x4x4x1, .f32⟩
  | 26 => ⟨S_, .f32⟩
  | 27 => ⟨S128x4x4x1, .f32⟩
  | 28 => ⟨S128x4x4x1, .f32⟩
  | 29 => ⟨S_, .f32⟩
  | 30 => ⟨S128x4x4x1, .f32⟩
  | 31 => ⟨S128x4x4x1, .f32⟩
  | 32 => ⟨S128x4x4x1, .f32⟩
  | 33 => ⟨S128x4x4x128, .f32⟩
  | 34 => ⟨S128x4x4x128, .f32⟩
  | 35 => ⟨S1x1x1x128, .f32⟩
  | 36 => ⟨S128x4x4x128, .f32⟩
  | 37 => ⟨S128x4x4x128, .f32⟩
  | 38 => ⟨S_, .f32⟩
  | 39 => ⟨S128x4x4x128, .f32⟩
  | 40 => ⟨S128x4x4x128, .f32⟩
  | 41 => ⟨S128x4x512, .f32⟩
  | 42 => ⟨S128x4x512, .f32⟩
  | 43 => ⟨S128x4x1024, .f32⟩
  | 44 => ⟨S128x4x1024, .f32⟩
  | 45 => ⟨S1024, .f32⟩
  | 46 => ⟨S128x4x1024, .f32⟩
  | 47 => ⟨S_, .f32⟩
  | 48 => ⟨S128x4, .f32⟩
  | 49 => ⟨S128x4x1, .f32⟩
  | 50 => ⟨S_, .f32⟩
  | 51 => ⟨S128x4x1, .f32⟩
  | 52 => ⟨S128x4x1, .f32⟩
  | 53 => ⟨S_, .f32⟩
  | 54 => ⟨S128x4x1, .f32⟩
  | 55 => ⟨S128x4x1, .f32⟩
  | 56 => ⟨S128x4x1, .f32⟩
  | 57 => ⟨S128x4x1024, .f32⟩
  | 58 => ⟨S128x4x1024, .f32⟩
  | 59 => ⟨S1x1x1024, .f32⟩
  | 60 => ⟨S128x4x1024, .f32⟩
  | 61 => ⟨S128x4x1024, .f32⟩
  | 62 => ⟨S128x4x1024, .f32⟩
  | 63 => ⟨S1024, .f32⟩
  | 64 => ⟨S128x4x1024, .f32⟩
  | 65 => ⟨S_, .f32⟩
  | 66 => ⟨S128x4, .f32⟩
  | 67 => ⟨S128x4x1, .f32⟩
  | 68 => ⟨S_, .f32⟩
  | 69 => ⟨S128x4x1, .f32⟩
  | 70 => ⟨S128x4x1, .f32⟩
  | 71 => ⟨S_, .f32⟩
  | 72 => ⟨S128x4x1, .f32⟩
  | 73 => ⟨S128x4x1, .f32⟩
  | 74 => ⟨S128x4x1, .f32⟩
  | 75 => ⟨S128x4x1024, .f32⟩
  | 76 => ⟨S128x4x1024, .f32⟩
  | 77 => ⟨S1x1x1024, .f32⟩
  | 78 => ⟨S128x4x1024, .f32⟩
  | 79 => ⟨S128x4x1024, .f32⟩
  | 80 => ⟨S128x4x4096, .f32⟩
  | 81 => ⟨S_, .f32⟩
  | 82 => ⟨S128x4x4096, .f32⟩
  | 83 => ⟨S128x4x4096, .f32⟩
  | 84 => ⟨S128x4x4096, .f32⟩
  | 85 => ⟨S128x4x1024, .f32⟩
  | 86 => ⟨S1024, .f32⟩
  | 87 => ⟨S128x4x1024, .f32⟩
  | 88 => ⟨S_, .f32⟩
  | 89 => ⟨S128x4, .f32⟩
  | 90 => ⟨S128x4x1, .f32⟩
  | 91 => ⟨S_, .f32⟩
  | 92 => ⟨S128x4x1, .f32⟩
  | 93 => ⟨S128x4x1, .f32⟩
  | 94 => ⟨S_, .f32⟩
  | 95 => ⟨S128x4x1, .f32⟩
  | 96 => ⟨S128x4x1, .f32⟩
  | 97 => ⟨S128x4x1, .f32⟩
  | 98 => ⟨S128x4x1024, .f32⟩
  | 99 => ⟨S128x4x1024, .f32⟩
  | 100 => ⟨S1x1x1024, .f32⟩
  | 101 => ⟨S128x4x1024, .f32⟩
  | 102 => ⟨S128x4x1024, .f32⟩
  | 103 => ⟨S128x4x1024, .f32⟩
  | 104 => ⟨S128x4x1024, .f32⟩
  | 105 => ⟨S128x4x1024, .f32⟩
  | 106 => ⟨S128x4x1024, .f32⟩
  | 107 => ⟨S128x4x1024, .f32⟩
  | 108 => ⟨S_, .f32⟩
  | 109 => ⟨S128x4x1024, .f32⟩
  | 110 => ⟨S128x4x1024, .f32⟩
  | 111 => ⟨S_, .f32⟩
  | 112 => ⟨S128x4x1024, .f32⟩
  | 113 => ⟨S128x4x1024, .f32⟩
  | 114 => ⟨S128x4x1024, .f32⟩
  | 115 => ⟨S1024, .f32⟩
  | 116 => ⟨S128x4x1024, .f32⟩
  | 117 => ⟨S_, .f32⟩
  | 118 => ⟨S128x4, .f32⟩
  | 119 => ⟨S128x4x1, .f32⟩
  | 120 => ⟨S_, .f32⟩
  | 121 => ⟨S128x4x1, .f32⟩
  | 122 => ⟨S128x4x1, .f32⟩
  | 123 => ⟨S_, .f32⟩
  | 124 => ⟨S128x4x1, .f32⟩
  | 125 => ⟨S128x4x1, .f32⟩
  | 126 => ⟨S128x4x1, .f32⟩
  | 127 => ⟨S128x4x1024, .f32⟩
  | _ => ⟨S128x4x1024, .f32⟩

abbrev hbmTy0_1 (i : Nat) : BufTy := match i % 128 with
  | 0 => ⟨S128x4x1024, .f32⟩
  | 1 => ⟨S1x1x1024, .f32⟩
  | 2 => ⟨S128x4x1024, .f32⟩
  | 3 => ⟨S128x4x1024, .f32⟩
  | 4 => ⟨S128x4x1024, .f32⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call0_cst : Ref sig .tc := ⟨.hbm, 81, rfl⟩
abbrev main_call0_v0 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_9 : Ref sig .tc := ⟨.hbm, 88, rfl⟩
abbrev main_v62 : Ref sig .tc := ⟨.hbm, 89, rfl⟩
abbrev main_v63 : Ref sig .tc := ⟨.hbm, 90, rfl⟩
abbrev main_cst_10 : Ref sig .tc := ⟨.hbm, 91, rfl⟩
abbrev main_v64 : Ref sig .tc := ⟨.hbm, 92, rfl⟩
abbrev main_v65 : Ref sig .tc := ⟨.hbm, 93, rfl⟩
abbrev main_cst_11 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_12 : Ref sig .tc := ⟨.hbm, 108, rfl⟩
abbrev main_v79 : Ref sig .tc := ⟨.hbm, 109, rfl⟩
abbrev main_v80 : Ref sig .tc := ⟨.hbm, 110, rfl⟩
abbrev main_cst_13 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_14 : Ref sig .tc := ⟨.hbm, 117, rfl⟩
abbrev main_v86 : Ref sig .tc := ⟨.hbm, 118, rfl⟩
abbrev main_v87 : Ref sig .tc := ⟨.hbm, 119, rfl⟩
abbrev main_cst_15 : Ref sig .tc := ⟨.hbm, 120, rfl⟩
abbrev main_v88 : Ref sig .tc := ⟨.hbm, 121, rfl⟩
abbrev main_v89 : Ref sig .tc := ⟨.hbm, 122, rfl⟩
abbrev main_cst_16 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩

abbrev nD : Nat := 1
abbrev τ : Topo := Topo.v7x

variable {F : FTy → Type} [FloatOps F]
-- ==== Proof.Trips.lean ====
/-
  The four attention loops of the kernel, one per head, brought to one text: what a trip of each loop yields is the
  same function of the loaded key and value tiles (`step`), the queries laid out in two blocks are the same function
  of the loaded query columns (`k0_pay42`), and what is stored is the same function of the final state (`k0_pay58`).
-/
module

public import proofs.«01_k».proof.Proof.Gen.KernelIdeal.Value
public import Idealize.ShloMosaic.Lib.Pointwise

@[expose] public section

set_option maxRecDepth 65536

noncomputable section

namespace Cert.Proof.Diff

open Idealize.ShloMosaic Idealize.ShloMosaic.TcCoe Idealize.SL.Sem Cert.KernelIdeal Cert.KernelIdeal.Gen

/-- The carried state of a loop: running maximum, running sum of weights, running weighted sum of values. -/
abbrev State : Type := FVec Ideal S1x256 .f32 × FVec Ideal S1x256 .f32 × FVec Ideal S128x256 .f32

/-- One trip: the state after key tile `k`, from the column positions `pos`, the queries `qb`, the tiles' contents
    and the state before. -/
def step (i : grid0.Coords) (pos : IVec S1x256 32) (qb : FVec Ideal S256x128 .bf16) (k : Fin (k0_t3_loop i).trips)
    (kt : Vec Ideal S512x128 .bf16) (vt : Vec Ideal S1x1x128x512 .bf16) (s : State) : State :=
  (k0_pay47 i pos qb k s.1 kt, k0_pay50 i pos qb k s.1 s.2.1 kt, k0_pay51 i pos qb k s.1 s.2.2 kt vt)

/-- The key tile of trip `k` for head `h`: rows `512 k …` of the keys, columns `128 h …`. -/
def tileK (x1 : Vec Ideal S8192x512 .bf16) (h : Fin 4) (k : ℕ) : Vec Ideal S512x128 .bf16 := fun y =>
  x1 (ix2 ⟨(512 * k + (y 0).val) % 8192, Nat.mod_lt _ (by decide)⟩ ⟨128 * h.val + (y 1).val, by have := h.isLt; have : (y 1).val < 128 := (y 1).isLt; omega⟩)

/-- The value tile of trip `k` for head `h`: plane `k` of the values, rows `128 h …`. -/
def tileV (x2 : Vec Ideal S1x16x512x512 .bf16) (h : Fin 4) (k : ℕ) : Vec Ideal S1x1x128x512 .bf16 := fun y =>
  x2 (ix4 0 ⟨k % 16, Nat.mod_lt _ (by decide)⟩ ⟨128 * h.val + (y 2).val, by have := h.isLt; have : (y 2).val < 128 := (y 2).isLt; omega⟩ (y 3))

theorem ld_tileK (x1 : Vec Ideal S8192x512 .bf16) (h : Fin 4) (k : ℕ) (hk : k < 16) (off : Fin 2 → ℕ)
    (ho : off = ![512 * k, 128 * h.val]) (inb : ∀ a, off a + S512x128.size a ≤ S8192x512.size a) :
    View.ld x1 (Rect.unit (s := S8192x512) off S512x128.size inb) = tileK x1 h k := by
  subst ho
  rw [View.ld_unit]
  funext y
  show x1 _ = x1 _
  congr 1
  funext a
  apply Fin.ext
  match a with
  | ⟨0, _⟩ =>
    have hy : (y 0).val < 512 := (y 0).isLt
    show 512 * k + (y 0).val = (512 * k + (y 0).val) % 8192
    rw [Nat.mod_eq_of_lt (by omega)]
  | ⟨1, _⟩ => rfl

theorem ld_tileV (x2 : Vec Ideal S1x16x512x512 .bf16) (h : Fin 4) (k : ℕ) (hk : k < 16) (off : Fin 4 → ℕ)
    (ho : off = ![0, k, 128 * h.val, 0]) (inb : ∀ a, off a + S1x1x128x512.size a ≤ S1x16x512x512.size a) :
    View.ld x2 (Rect.unit (s := S1x16x512x512) off S1x1x128x512.size inb) = tileV x2 h k := by
  subst ho
  rw [View.ld_unit]
  funext y
  show x2 _ = x2 _
  congr 1
  funext a
  apply Fin.ext
  match a with
  | ⟨0, _⟩ =>
    have hy : (y 0).val < 1 := (y 0).isLt
    show 0 + (y 0).val = 0
    omega
  | ⟨1, _⟩ =>
    have hy : (y 1).val < 1 := (y 1).isLt
    show k + (y 1).val = k % 16
    rw [Nat.mod_eq_of_lt hk]; omega
  | ⟨2, _⟩ => rfl
  | ⟨3, _⟩ => show 0 + (y 3).val = (y 3).val; omega

/-- The sequence of states `S` is head `h`'s loop at grid point `i`: it starts empty and goes on by `step` over the
    head's tiles. -/
def IsRun (i : grid0.Coords) (h : Fin 4) (qb : FVec Ideal S256x128 .bf16) (x1 : Vec Ideal S8192x512 .bf16)
    (x2 : Vec Ideal S1x16x512x512 .bf16) (S : ℕ → State) : Prop :=
  S 0 = (k0_pay43, k0_pay44, k0_pay45) ∧
    ∀ k : Fin (k0_t3_loop i).trips,
      S (k.val + 1) = step i (k0_pay19 i) qb k (tileK x1 h k.val) (tileV x2 h k.val) (S k.val)

section
variable (𝒱 : Variants) (c : Dev nD) (bd : Option 𝒱.V) (i : grid0.Coords)
  (arg2 : Memref sig .tc .vmem S128x512 .bf16) (harg2 : arg2.IsWhole) (arg3 : Memref sig .tc .vmem S8192x512 .bf16)
  (harg3 : arg3.IsWhole) (arg4 : Memref sig .tc .vmem S1x16x512x512 .bf16) (harg4 : arg4.IsWhole)
  (arg5 : Memref sig .tc .vmem S1x64 .f32) (harg5 : arg5.IsWhole) (arg6 : Memref sig .tc .vmem S1x64 .f32)
  (harg6 : arg6.IsWhole) (arg7 : Memref sig .tc .vmem S1x64 .f32) (harg7 : arg7.IsWhole)
  (arg8 : Memref sig .tc .vmem S1x64 .f32) (harg8 : arg8.IsWhole) (arg9 : Memref sig .tc .vmem S128x512 .f32)
  (harg9 : arg9.IsWhole) (x1 : Vec Ideal S8192x512 .bf16) (x2 : Vec Ideal S1x16x512x512 .bf16)

/-- The first head's loop is a run of `step`. -/
theorem run0 (v25 : BitVec 32) (v30 v35 : FVec Ideal S1x1 .f32) (v45 : Vec Ideal S128x128 .bf16) :
    IsRun i 0 (k0_pay25 v45) x1 x2 (st_k0_t1 𝒱 c bd i arg2 harg2 arg3 harg3 arg4 harg4 arg5 harg5 arg6 harg6 arg7 harg7 arg8
      harg8 arg9 harg9 (k0_pay19 i) v25 v30 v35 v45 (harg3.unread x1) (harg4.unread x2) (k0_pay26, k0_pay27, k0_pay28)) := by
  refine ⟨rfl, fun k => ?_⟩
  have hk : k.val < 16 := lt_of_lt_of_le k.isLt (k0_t1_abs i).2.1
  rw [show k.val + 1 = (show Fin (k0_t1_loop i).trips from k).val + 1 from rfl, st_k0_t1_succ]
  rw [← ld_tileK x1 0 k.val hk _ (k0_off1_eq i k) (k0_off1_inb i k),
    ← ld_tileV x2 0 k.val hk _ (k0_off2_eq i k) (k0_off2_inb i k)]
  unfold tripR_k0_t1 trip_k0_t1
  dsimp only
  sl_unfold_words
  simp only [View.readAt_eq_ld, harg3.read_unread, harg4.read_unread]
  rfl

/-- The second head's loop is a run of `step`. -/
theorem run1 (v25 : BitVec 32) (v40 : FVec Ideal S1x1 .f32) (v43 : IVec S128x128 1) (v44 : FVec Ideal S128x128 .bf16)
    (v73 : FVec Ideal S256x128 .bf16) (v74 v75 : FVec Ideal S1x256 .f32) :
    IsRun i 1 (v73) x1 x2 (st_k0_t3 𝒱 c bd i arg2 harg2 arg3 harg3 arg4 harg4 arg5 harg5 arg6 harg6 arg7 harg7 arg8
      harg8 arg9 harg9 (k0_pay19 i) v25 v40 v43 v44 v73 v74 v75 (harg3.unread x1) (harg4.unread x2) (k0_pay43, k0_pay44, k0_pay45)) := by
  refine ⟨rfl, fun k => ?_⟩
  have hk : k.val < 16 := lt_of_lt_of_le k.isLt (k0_t3_abs i).2.1
  rw [show k.val + 1 = (show Fin (k0_t3_loop i).trips from k).val + 1 from rfl, st_k0_t3_succ]
  rw [← ld_tileK x1 1 k.val hk _ (k0_off5_eq i k) (k0_off5_inb i k),
    ← ld_tileV x2 1 k.val hk _ (k0_off6_eq i k) (k0_off6_inb i k)]
  unfold tripR_k0_t3 trip_k0_t3
  dsimp only
  sl_unfold_words
  simp only [View.readAt_eq_ld, harg3.read_unread, harg4.read_unread]
  rfl

/-- The third head's loop is a run of `step`. -/
theorem run2 (v25 : BitVec 32) (v40 : FVec Ideal S1x1 .f32) (v43 : IVec S128x128 1) (v44 : FVec Ideal S128x128 .bf16)
    (v73 : FVec Ideal S256x128 .bf16) (v74 v75 : FVec Ideal S1x256 .f32) (v95 : Vec Ideal S128x128 .bf16) :
    IsRun i 2 (k0_pay59 v43 v44 v95) x1 x2 (st_k0_t5 𝒱 c bd i arg2 harg2 arg3 harg3 arg4 harg4 arg5 harg5 arg6 harg6 arg7 harg7 arg8
      harg8 arg9 harg9 (k0_pay19 i) v25 v40 v43 v44 v73 v74 v75 v95 (harg3.unread x1) (harg4.unread x2) (k0_pay60, k0_pay61, k0_pay62)) := by
  refine ⟨rfl, fun k => ?_⟩
  have hk : k.val < 16 := lt_of_lt_of_le k.isLt (k0_t5_abs i).2.1
  rw [show k.val + 1 = (show Fin (k0_t5_loop i).trips from k).val + 1 from rfl, st_k0_t5_succ]
  rw [← ld_tileK x1 2 k.val hk _ (k0_off9_eq i k) (k0_off9_inb i k),
    ← ld_tileV x2 2 k.val hk _ (k0_off10_eq i k) (k0_off10_inb i k)]
  unfold tripR_k0_t5 trip_k0_t5
  dsimp only
  sl_unfold_words
  simp only [View.readAt_eq_ld, harg3.read_unread, harg4.read_unread]
  rfl

/-- The fourth head's loop is a run of `step`. -/
theorem run3 (v43 : IVec S128x128 1) (v44 : FVec Ideal S128x128 .bf16) (v120 : Vec Ideal S128x128 .bf16) :
    IsRun i 3 (k0_pay2 v43 v44 v120) x1 x2 (st_k0_t7 𝒱 c bd i arg2 harg2 arg3 harg3 arg4 harg4 arg5 harg5 arg6 harg6 arg7 harg7 arg8
      harg8 arg9 harg9 (k0_pay19 i) v43 v44 v120 (harg3.unread x1) (harg4.unread x2) (k0_pay3, k0_pay4, k0_pay5)) := by
  refine ⟨rfl, fun k => ?_⟩
  have hk : k.val < 16 := lt_of_lt_of_le k.isLt (k0_t7_abs i).2.1
  rw [show k.val + 1 = (show Fin (k0_t7_loop i).trips from k).val + 1 from rfl, st_k0_t7_succ]
  rw [← ld_tileK x1 3 k.val hk _ (k0_off13_eq i k) (k0_off13_inb i k),
    ← ld_tileV x2 3 k.val hk _ (k0_off14_eq i k) (k0_off14_inb i k)]
  unfold tripR_k0_t7 trip_k0_t7
  dsimp only
  sl_unfold_words
  simp only [View.readAt_eq_ld, harg3.read_unread, harg4.read_unread]
  rfl

end

theorem qb0 (v : Vec Ideal S128x128 .bf16) : k0_pay25 v = k0_pay42 v := rfl
theorem qb2 (v : Vec Ideal S128x128 .bf16) : k0_pay59 k0_pay23 k0_pay24 v = k0_pay42 v := rfl
theorem qb3 (v : Vec Ideal S128x128 .bf16) : k0_pay2 k0_pay23 k0_pay24 v = k0_pay42 v := rfl
theorem out0 (a b : FVec Ideal S1x1 .f32) (l : FVec Ideal S1x256 .f32) (acc : FVec Ideal S128x256 .f32) :
    k0_pay41 a b l acc = k0_pay58 (k0_pay22 a b) l acc := rfl
theorem out2 (a : FVec Ideal S1x1 .f32) (l : FVec Ideal S1x256 .f32) (acc : FVec Ideal S128x256 .f32) :
    k0_pay1 (k0_pay76 l acc) (k0_pay77 a l acc) = k0_pay58 a l acc := rfl
theorem out3 (a : FVec Ideal S1x1 .f32) (l : FVec Ideal S1x256 .f32) (acc : FVec Ideal S128x256 .f32) :
    k0_pay18 a l acc = k0_pay58 a l acc := rfl

end Cert.Proof.Diff
-- ==== Proof.Softmax.lean ====
/-
  The scalar arithmetic of the streaming softmax over the extended reals: weights, the invariant of the loop, one
  trip, the final quotient, and the reference's softmax brought to the same quotient of real sums.
-/
module

public import Idealize.ShloMosaic.Lib.Pointwise

@[expose] public section

noncomputable section

namespace Cert.Proof.Softmax

open Idealize.ShloMosaic

/-- The weight of a score: its exponential as a real number, zero at minus infinity. -/
def w (s : EReal) : ℝ := (Ideal.exp s).toReal

theorem w_bot : w ⊥ = 0 := by simp [w]

theorem w_coe (r : ℝ) : w (r : EReal) = Real.exp r := by simp [w]

theorem w_nonneg (s : EReal) (h : s ≠ ⊤) : 0 ≤ w s := by
  induction s with
  | bot => rw [w_bot]
  | top => exact absurd rfl h
  | coe r => rw [w_coe]; exact (Real.exp_pos r).le

/-- The exponential of a score less a finite maximum is the weight times the exponential of minus the maximum. -/
theorem exp_sub (s : EReal) (h : s ≠ ⊤) (M : ℝ) : Ideal.exp (s - (M : EReal)) = ((w s * Real.exp (-M) : ℝ) : EReal) := by
  induction s with
  | bot => rw [w_bot, EReal.bot_sub, zero_mul]; simp
  | top => exact absurd rfl h
  | coe r => rw [w_coe, ← EReal.coe_sub, Ideal.exp_coe, ← Real.exp_add, sub_eq_add_neg]

theorem sum_coe {ι : Type} (t : Finset ι) (f : ι → ℝ) : ∑ x ∈ t, ((f x : ℝ) : EReal) = ((∑ x ∈ t, f x : ℝ) : EReal) := by
  classical
  induction t using Finset.induction_on with
  | empty => simp
  | insert a t ha ih => rw [Finset.sum_insert ha, Finset.sum_insert ha, ih, EReal.coe_add]

/-- What the state of a column holds after some keys: the empty state, or the weights' sums scaled by a finite
    maximum. -/
def Inv (W A : ℝ) (m l a : EReal) : Prop :=
  (m = ⊥ ∧ l = 0 ∧ a = 0 ∧ W = 0 ∧ A = 0) ∨
    ∃ M : ℝ, m = (M : EReal) ∧ l = ((W * Real.exp (-M) : ℝ) : EReal) ∧ a = ((A * Real.exp (-M) : ℝ) : EReal)

theorem fold_max_ne_top {n : ℕ} (T : Fin n → EReal) (hT : ∀ x, T x ≠ ⊤) : Finset.univ.fold max ⊥ T ≠ ⊤ := by
  rw [← lt_top_iff_ne_top, Finset.fold_max_lt]
  exact ⟨bot_lt_top, fun x _ => lt_top_iff_ne_top.2 (hT x)⟩

theorem fold_max_ne_bot {n : ℕ} (T : Fin n → EReal) (x : Fin n) (hx : T x ≠ ⊥) : Finset.univ.fold max ⊥ T ≠ ⊥ := by
  rw [← bot_lt_iff_ne_bot, Finset.lt_fold_max]
  exact .inr ⟨x, Finset.mem_univ x, bot_lt_iff_ne_bot.2 hx⟩

/-- One trip keeps the invariant, adding the tile's weights to both sums, and leaves a finite maximum. -/
theorem trip {n : ℕ} (T : Fin n → EReal) (v : Fin n → ℝ) (hT : ∀ x, T x ≠ ⊤) (W A : ℝ) (m l a : EReal)
    (h : Inv W A m l a) (hne : m ≠ ⊥ ∨ ∃ x, T x ≠ ⊥) (m' : EReal) (hm' : m' = max m (Finset.univ.fold max ⊥ T)) :
    Inv (W + ∑ x, w (T x)) (A + ∑ x, v x * w (T x)) m' (Ideal.exp (m - m') * l + ∑ x, Ideal.exp (T x - m'))
      (Ideal.exp (m - m') * a + ∑ x, (v x : EReal) * Ideal.exp (T x - m')) ∧ m' ≠ ⊥ := by
  have hbot : m' ≠ ⊥ := by
    rw [hm']
    rcases hne with hne | ⟨x, hx⟩
    · exact fun e => hne (max_eq_bot.1 e).1
    · exact fun e => fold_max_ne_bot T x hx (max_eq_bot.1 e).2
  have hmt : m ≠ ⊤ := by
    rcases h with ⟨e, _⟩ | ⟨M, e, _⟩
    · rw [e]; exact bot_ne_top
    · rw [e]; exact EReal.coe_ne_top M
  have htop : m' ≠ ⊤ := by
    rw [hm', ← lt_top_iff_ne_top, max_lt_iff]
    exact ⟨lt_top_iff_ne_top.2 hmt, lt_top_iff_ne_top.2 (fold_max_ne_top T hT)⟩
  refine ⟨?_, hbot⟩
  clear hm'
  lift m' to ℝ using ⟨htop, hbot⟩ with M'
  have e1 : ∑ x, Ideal.exp (T x - (M' : EReal)) = (((∑ x, w (T x)) * Real.exp (-M') : ℝ) : EReal) := by
    rw [Finset.sum_congr rfl fun x _ => exp_sub (T x) (hT x) M', sum_coe, Finset.sum_mul]
  have e2 : ∑ x, (v x : EReal) * Ideal.exp (T x - (M' : EReal)) = (((∑ x, v x * w (T x)) * Real.exp (-M') : ℝ) : EReal) := by
    rw [Finset.sum_congr rfl fun x _ => by
      rw [exp_sub (T x) (hT x) M', ← EReal.coe_mul, ← mul_assoc], sum_coe, Finset.sum_mul]
  rw [e1, e2]
  refine .inr ⟨M', rfl, ?_, ?_⟩
  all_goals
    rcases h with ⟨rfl, rfl, rfl, rfl, rfl⟩ | ⟨M, rfl, rfl, rfl⟩
    · rw [mul_zero, zero_add, zero_add]
    · have hM : Real.exp M * Real.exp (-M) = 1 := by rw [← Real.exp_add]; simp
      rw [exp_sub _ hmt, w_coe, ← EReal.coe_mul, ← EReal.coe_add, add_mul, mul_mul_mul_comm, mul_comm (Real.exp (-M')),
        ← mul_assoc, mul_comm (Real.exp M), mul_assoc _ (Real.exp M), hM, mul_one]

/-- The stored quotient: with a positive sum of weights, the weighted values' sum over it. -/
theorem final (W A : ℝ) (m l a : EReal) (h : Inv W A m l a) (hW : 0 < W) : a * Ideal.div 1 l = ((A / W : ℝ) : EReal) := by
  rcases h with ⟨_, _, _, e, _⟩ | ⟨M, _, rfl, rfl⟩
  · exact absurd e hW.ne'
  · have hM := Real.exp_pos (-M)
    have : W * Real.exp (-M) ≠ 0 := by positivity
    rw [Ideal.div_coe this, one_mul, ← EReal.coe_mul]
    congr 1
    field_simp

/-- A softmax entry, for a finite maximum: the weight over the sum of the weights. -/
theorem soft {n : ℕ} (s : Fin n → EReal) (hs : ∀ k, s k ≠ ⊤) (M : ℝ) (hW : 0 < ∑ k, w (s k)) (k : Fin n) :
    Ideal.div (Ideal.exp (s k - (M : EReal))) (∑ k, Ideal.exp (s k - (M : EReal))) =
      ((w (s k) / ∑ k, w (s k) : ℝ) : EReal) := by
  have hM := Real.exp_pos (-M)
  rw [Finset.sum_congr rfl fun x _ => exp_sub (s x) (hs x) M, sum_coe, exp_sub (s k) (hs k) M, ← Finset.sum_mul]
  have : (∑ k, w (s k)) * Real.exp (-M) ≠ 0 := by positivity
  rw [Ideal.div_coe this, ← EReal.coe_mul]
  congr 1
  field_simp

/-- An extended real that is a real number. -/
def IsReal (x : EReal) : Prop := ∃ r : ℝ, x = (r : EReal)

theorem IsReal.ne_top {x : EReal} (h : IsReal x) : x ≠ ⊤ := by obtain ⟨r, rfl⟩ := h; exact EReal.coe_ne_top r

theorem IsReal.ne_bot {x : EReal} (h : IsReal x) : x ≠ ⊥ := by obtain ⟨r, rfl⟩ := h; exact EReal.coe_ne_bot r

theorem IsReal.coe_toReal {x : EReal} (h : IsReal x) : ((x.toReal : ℝ) : EReal) = x := by obtain ⟨r, rfl⟩ := h; simp

theorem IsReal.mul {x y : EReal} (h : IsReal x) (h' : IsReal y) : IsReal (x * y) := by
  obtain ⟨r, rfl⟩ := h; obtain ⟨t, rfl⟩ := h'; exact ⟨r * t, (EReal.coe_mul r t).symm⟩

theorem IsReal.sum {n : ℕ} (f : Fin n → EReal) (h : ∀ k, IsReal (f k)) : IsReal (∑ k, f k) := by
  choose g hg using h
  exact ⟨∑ k, g k, by rw [Finset.sum_congr rfl fun k _ => hg k, sum_coe]⟩

/-- The causal scores of a query at position `q`: the products with the keys up to `q`, minus infinity after. -/
def msk {N D : ℕ} (q : ℕ) (Q : Fin D → EReal) (K : Fin N → Fin D → EReal) (n : Fin N) : EReal :=
  if n.val ≤ q then ∑ e, Q e * K n e else ⊥

/-- Causal softmax attention of one query at position `q` and one value column, as a quotient of real sums. -/
def att {N D : ℕ} (q : ℕ) (Q : Fin D → EReal) (K : Fin N → Fin D → EReal) (V : Fin N → EReal) : ℝ :=
  (∑ n, (V n).toReal * w (msk q Q K n)) / ∑ n, w (msk q Q K n)

section
variable {N D : ℕ} (q : ℕ) (Q : Fin D → EReal) (K : Fin N → Fin D → EReal) (hQ : ∀ e, IsReal (Q e)) (hK : ∀ n e, IsReal (K n e))
include hQ hK

theorem msk_ne_top (n : Fin N) : msk q Q K n ≠ ⊤ := by
  unfold msk
  split
  · exact (IsReal.sum _ fun e => (hQ e).mul (hK n e)).ne_top
  · exact bot_ne_top

theorem msk_zero (hN : 0 < N) : msk q Q K ⟨0, hN⟩ ≠ ⊥ := by
  unfold msk
  rw [if_pos (Nat.zero_le q)]
  exact (IsReal.sum _ fun e => (hQ e).mul (hK _ e)).ne_bot

/-- The weights of a causal query have a positive sum. -/
theorem weights_pos (hN : 0 < N) : 0 < ∑ n, w (msk q Q K n) := by
  refine Finset.sum_pos' (fun n _ => w_nonneg _ (msk_ne_top q Q K hQ hK n)) ⟨⟨0, hN⟩, Finset.mem_univ _, ?_⟩
  have hr : IsReal (msk q Q K ⟨0, hN⟩) := by
    unfold msk
    rw [if_pos (Nat.zero_le q)]
    exact IsReal.sum _ fun e => (hQ e).mul (hK _ e)
  obtain ⟨r, hr⟩ := hr
  rw [hr, w_coe]
  exact Real.exp_pos r
end

end Cert.Proof.Softmax
-- ==== Proof.Trip.lean ====
/-
  The canonical trip of a head read at a column, and the softmax invariant carried through the trips.
-/
module
public import proofs.«01_k».proof.Proof.Trips
public import proofs.«01_k».proof.Proof.Softmax
public import Idealize.ShloMosaic.Lib.Tactic.WordOmega

@[expose] public section

set_option maxRecDepth 65536
noncomputable section
namespace Cert.Proof.Diff
open Idealize.ShloMosaic Idealize.ShloMosaic.TcCoe Idealize.SL.Sem Cert.KernelIdeal Cert.KernelIdeal.Gen

/-- The loop's trip count at a grid point. -/
theorem trips_eq (i : grid0.Coords) : (k0_t3_loop i).trips = (i 1).val / 4 + 1 := by
  have h : ∀ q : Fin 64, ∀ i : grid0.Coords, i 1 = q → (k0_t3_loop i).trips = q.val / 4 + 1 := by
    intro q i hi
    unfold k0_t3_loop
    rw [hi]
    clear hi i
    revert q
    decide +kernel
  exact h _ i rfl

/-- The kernel's causal test on words is the test on the numbers. -/
theorem mask_word (k x q j : ℕ) (hk : k < 16) (hx : x < 512) (hq : q < 64) (hj : j < 256) :
    IntOp.cmpi CmpIPredicate.sle (IntOp.addi (Scalar.muli (Scf.iv 0#32 1#32 k) 512#32) (BitVec.ofNat 32 x))
      (IntOp.addi (Scalar.muli (BitVec.ofNat 32 q) 128#32) (IntOp.andi (BitVec.ofNat 32 j) 127#32)) =
    BitVec.ofBool (decide (512 * k + x ≤ 128 * q + j % 128)) := by
  have e1 : ∀ k : Fin 16, Scalar.muli (Scf.iv 0#32 1#32 k.val) 512#32 = BitVec.ofNat 32 (512 * k.val) := by decide
  have e2 : ∀ q : Fin 64, Scalar.muli (BitVec.ofNat 32 q.val) 128#32 = BitVec.ofNat 32 (128 * q.val) := by decide
  have e3 : ∀ j : Fin 256, IntOp.andi (BitVec.ofNat 32 j.val) 127#32 = BitVec.ofNat 32 (j.val % 128) := by decide +kernel
  have e1' := e1 ⟨k, hk⟩
  have e2' := e2 ⟨q, hq⟩
  have e3' := e3 ⟨j, hj⟩
  dsimp only at e1' e2' e3'
  rw [e1', e2', e3']
  have a1 : IntOp.addi (BitVec.ofNat 32 (512 * k)) (BitVec.ofNat 32 x) = BitVec.ofNat 32 (512 * k + x) := (BitVec.ofNat_add ..).symm
  have a2 : IntOp.addi (BitVec.ofNat 32 (128 * q)) (BitVec.ofNat 32 (j % 128)) = BitVec.ofNat 32 (128 * q + j % 128) := (BitVec.ofNat_add ..).symm
  rw [a1, a2]
  show BitVec.ofBool (BitVec.sle _ _) = _
  congr 1
  rw [BitVec.sle_eq_decide, BitVec.toInt_eq_toNat_of_lt, BitVec.toInt_eq_toNat_of_lt] <;>
    simp only [BitVec.toNat_ofNat, Nat.reducePow]
  · congr 1; apply propext; omega
  all_goals omega

section
variable (i : grid0.Coords) (qb : FVec Ideal S256x128 .bf16) (k : Fin (k0_t3_loop i).trips)
    (kt : Vec Ideal S512x128 .bf16) (vt : Vec Ideal S1x1x128x512 .bf16)

/-- A masked score of a tile, at a key and a column. -/
theorem score_at (x : Fin 512) (j : Fin 256) : k0_pay46 i (k0_pay19 i) qb k kt (ix2 x j) =
    if 512 * k.val + x.val ≤ 128 * (i 1).val + j.val % 128 then ∑ e : Fin 128, kt (ix2 x e) * qb (ix2 j e) else ⊥ := by
  have hq : (i 1).val < 64 := (i 1).isLt
  have hk : k.val < 16 := lt_of_lt_of_le k.isLt (k0_t3_abs i).2.1
  pointwise [k0_pay46, k0_pay19]
  rw [mask_word k.val x.val (i 1).val j.val hk x.isLt hq j.isLt]
  by_cases h : 512 * k.val + x.val ≤ 128 * (i 1).val + j.val % 128
  · rw [if_pos h, decide_eq_true h]; rfl
  · rw [if_neg h, decide_eq_false h]; rfl

/-- The running maximum's new value at a column. -/
theorem max_at (j : Fin 256) (m : FVec Ideal S1x256 .f32) : k0_pay47 i (k0_pay19 i) qb k m kt (ix2 0 j) =
    max (m (ix2 0 j)) (Finset.univ.fold max ⊥ fun x => k0_pay46 i (k0_pay19 i) qb k kt (ix2 x j)) := by
  pointwise [k0_pay47]
  rw [show Ideal.ofBits FTy.f32 4286578688#32 = (⊥ : EReal) from by simp [Ideal.ofBits, Ideal.ieee]]

/-- The two-block queries at a column and a feature: the query's feature in its own half, zero in the other. -/
theorem q_at (j : Fin 256) (e : Fin 128) (a : Vec Ideal S128x128 .bf16) : k0_pay42 a (ix2 j e) =
    if j.val / 128 = e.val / 64 then a (ix2 ⟨j.val % 128, Nat.mod_lt _ (by decide)⟩ e) else 0 := by
  have hw : ∀ e : Fin 128, IntOp.cmpi CmpIPredicate.slt (BitVec.ofNat 32 e.val) 64#32 = BitVec.ofBool (decide (e.val < 64)) := by
    decide
  have := j.isLt
  have := e.isLt
  pointwise [k0_pay42, k0_pay23, k0_pay24]
  rw [hw e]
  by_cases hj : j.val < 128 <;> by_cases he : e.val < 64
  · rw [dif_pos hj, decide_eq_true he, if_pos (by omega)]
    show a _ = a _
    congr 2; apply Fin.ext; show j.val = j.val % 128; omega
  · rw [dif_pos hj, decide_eq_false he, if_neg (by omega)]; rfl
  · rw [dif_neg hj, decide_eq_true he]
    exact (if_neg (show ¬ j.val / 128 = e.val / 64 by omega)).symm
  · rw [dif_neg hj, decide_eq_false he]
    refine Eq.trans ?_ (if_pos (show j.val / 128 = e.val / 64 by omega)).symm
    show a _ = a _
    congr 2; apply Fin.ext; show j.val - 128 = j.val % 128; omega

/-- The 128-long product against the two-block queries is the 64-long product over the column's half. -/
theorem score_half (j : Fin 256) (a : Vec Ideal S128x128 .bf16) (f : Fin 128 → EReal) :
    ∑ e : Fin 128, f e * k0_pay42 a (ix2 j e) =
    ∑ e : Fin 64, f ⟨64 * (j.val / 128) + e.val, by have := j.isLt; have := e.isLt; omega⟩ *
      a (ix2 ⟨j.val % 128, Nat.mod_lt _ (by decide)⟩ ⟨64 * (j.val / 128) + e.val, by have := j.isLt; have := e.isLt; omega⟩) := by
  have := j.isLt
  simp only [q_at]
  rw [Fin.sum_univ_two_halves 64 64 rfl]
  have hz : ∀ (g : Fin 64 → Fin 128) (_ : ∀ e, ¬ j.val / 128 = (g e).val / 64),
      ∑ e : Fin 64, f (g e) * (if j.val / 128 = (g e).val / 64 then
        a (ix2 ⟨j.val % 128, Nat.mod_lt _ (by decide)⟩ (g e)) else 0) = 0 :=
    fun g hg => Finset.sum_eq_zero fun e _ => by rw [if_neg (hg e), mul_zero]
  have ho : ∀ (g : Fin 64 → Fin 128) (hg : ∀ e, (g e).val = 64 * (j.val / 128) + e.val),
      ∑ e : Fin 64, f (g e) * (if j.val / 128 = (g e).val / 64 then
        a (ix2 ⟨j.val % 128, Nat.mod_lt _ (by decide)⟩ (g e)) else 0) =
      ∑ e : Fin 64, f ⟨64 * (j.val / 128) + e.val, by have := j.isLt; have := e.isLt; omega⟩ *
        a (ix2 ⟨j.val % 128, Nat.mod_lt _ (by decide)⟩ ⟨64 * (j.val / 128) + e.val, by have := j.isLt; have := e.isLt; omega⟩) :=
    fun g hg => Finset.sum_congr rfl fun e _ => by
      rw [if_pos (by have := hg e; have := e.isLt; omega),
        show g e = ⟨64 * (j.val / 128) + e.val, by have := j.isLt; have := e.isLt; omega⟩ from Fin.ext (hg e)]
  by_cases hj : j.val < 128
  · rw [hz (fun e => ⟨64 + e.val, _⟩) (fun e => by have := e.isLt; show ¬ j.val / 128 = (64 + e.val) / 64; omega), add_zero]
    exact ho _ fun e => by show e.val = _; omega
  · rw [hz (fun e => ⟨e.val, _⟩) (fun e => by have := e.isLt; show ¬ j.val / 128 = e.val / 64; omega), zero_add]
    exact ho _ fun e => by show 64 + e.val = _; omega

/-- The running sum's new value at a column. -/
theorem l_at (j : Fin 256) (m l : FVec Ideal S1x256 .f32) : k0_pay50 i (k0_pay19 i) qb k m l kt (ix2 0 j) =
    Ideal.exp (m (ix2 0 j) - k0_pay47 i (k0_pay19 i) qb k m kt (ix2 0 j)) * l (ix2 0 j) +
      ∑ x, Ideal.exp (k0_pay46 i (k0_pay19 i) qb k kt (ix2 x j) - k0_pay47 i (k0_pay19 i) qb k m kt (ix2 0 j)) := by
  pointwise [k0_pay50, k0_pay48, k0_pay49]

/-- The running weighted sum's new value at a row and a column. -/
theorem acc_at (j : Fin 256) (d : Fin 128) (m : FVec Ideal S1x256 .f32) (acc : FVec Ideal S128x256 .f32) :
    k0_pay51 i (k0_pay19 i) qb k m acc kt vt (ix2 d j) =
    Ideal.exp (m (ix2 0 j) - k0_pay47 i (k0_pay19 i) qb k m kt (ix2 0 j)) * acc (ix2 d j) +
      ∑ x, vt (ix4 0 0 d x) *
        Ideal.exp (k0_pay46 i (k0_pay19 i) qb k kt (ix2 x j) - k0_pay47 i (k0_pay19 i) qb k m kt (ix2 0 j)) := by
  pointwise [k0_pay51, k0_pay48, k0_pay49]

end

/-- What a head stores, at a row and a column, from the final sums. -/
theorem out_at (r d : Fin 128) (lam : FVec Ideal S1x1 .f32) (l : FVec Ideal S1x256 .f32) (acc : FVec Ideal S128x256 .f32) :
    k0_pay58 lam l acc (ix2 r d) =
      acc (ix2 d ⟨r.val, by omega⟩) * Ideal.div 1 (l (ix2 0 ⟨r.val, by omega⟩)) -
        lam (ix2 0 0) * (acc (ix2 d ⟨128 + r.val, by omega⟩) * Ideal.div 1 (l (ix2 0 ⟨128 + r.val, by omega⟩))) := by
  pointwise [k0_pay58]

/-- The factor of the second attention, from the four vectors. -/
theorem lam_at (a b c d : Vec Ideal S1x64 .f32) : k0_pay22 (k0_pay20 a b) (k0_pay21 c d) (ix2 0 0) =
    Ideal.exp (∑ x, a (ix2 0 x) * b (ix2 0 x)) - Ideal.exp (∑ x, c (ix2 0 x) * d (ix2 0 x)) +
      Ideal.ofBits FTy.f32 1045220557#32 := by
  pointwise [k0_pay22, k0_pay20, k0_pay21]

open Softmax in
/-- A head's run keeps the softmax invariant: with the scores `s` and the values `v` of a column, after `t` trips the
    state holds the sums over the first `512 t` keys. -/
theorem run_inv (i : grid0.Coords) (h : Fin 4) (qb : FVec Ideal S256x128 .bf16) (x1 : Vec Ideal S8192x512 .bf16)
    (x2 : Vec Ideal S1x16x512x512 .bf16) (S : ℕ → State) (hS : IsRun i h qb x1 x2 S) (j : Fin 256) (d : Fin 128)
    (s : ℕ → EReal) (v : ℕ → ℝ) (hs : ∀ n, s n ≠ ⊤) (h0 : s 0 ≠ ⊥)
    (hsc : ∀ (k : Fin (k0_t3_loop i).trips) (x : Fin 512),
      k0_pay46 i (k0_pay19 i) qb k (tileK x1 h k.val) (ix2 x j) = s (512 * k.val + x.val))
    (hv : ∀ (k : Fin (k0_t3_loop i).trips) (x : Fin 512),
      tileV x2 h k.val (ix4 0 0 d x) = ((v (512 * k.val + x.val) : ℝ) : EReal)) :
    ∀ t ≤ (k0_t3_loop i).trips,
      Inv (∑ n ∈ Finset.range (512 * t), w (s n)) (∑ n ∈ Finset.range (512 * t), v n * w (s n))
        ((S t).1 (ix2 0 j)) ((S t).2.1 (ix2 0 j)) ((S t).2.2 (ix2 d j)) ∧ (0 < t → (S t).1 (ix2 0 j) ≠ ⊥) := by
  intro t
  induction t with
  | zero =>
    intro _
    refine ⟨.inl ?_, fun h => absurd h (lt_irrefl 0)⟩
    rw [hS.1]
    refine ⟨rfl, ?_, ?_, by simp, by simp⟩
    · pointwise [k0_pay44]
    · pointwise [k0_pay45]
  | succ t ih =>
    intro ht
    obtain ⟨ih1, ih2⟩ := ih (by omega)
    have e := hS.2 ⟨t, ht⟩
    dsimp only at e
    rw [e]
    have hsum : ∀ f : ℕ → ℝ, ∑ n ∈ Finset.range (512 * (t + 1)), f n =
        ∑ n ∈ Finset.range (512 * t), f n + ∑ x : Fin 512, f (512 * t + x.val) := by
      intro f
      rw [mul_add, mul_one, Finset.sum_range_add, Finset.sum_range (fun x => f (512 * t + x))]
    rw [hsum, hsum]
    have key := trip (fun x : Fin 512 => s (512 * t + x.val)) (fun x => v (512 * t + x.val)) (fun x => hs _) _ _ _ _ _ ih1
      (by
        rcases Nat.eq_zero_or_pos t with rfl | hp
        · exact .inr ⟨0, h0⟩
        · exact .inl (ih2 hp))
      (k0_pay47 i (k0_pay19 i) qb ⟨t, ht⟩ (S t).1 (tileK x1 h t) (ix2 0 j))
      (by rw [max_at]; simp only [hsc])
    refine ⟨?_, fun _ => key.2⟩
    have := key.1
    unfold step
    dsimp only
    rw [l_at, acc_at]
    have hv' := hv ⟨t, ht⟩
    dsimp only at hv'
    simp only [hsc, hv']
    exact this

end Cert.Proof.Diff
-- ==== Proof.Block.lean ====
/-
  What the kernel stores at a row of its block and a column of a head: the difference of two causal attentions of the
  block's query row over the batch's keys and values.
-/
module

public import proofs.«01_k».proof.Proof.Trip

@[expose] public section

set_option maxRecDepth 65536

noncomputable section

namespace Cert.Proof.Diff

open Idealize.ShloMosaic Idealize.ShloMosaic.TcCoe Idealize.SL.Sem Cert.KernelIdeal Cert.KernelIdeal.Gen
open Softmax

/-- The query of row `r`, head `h`, half `g` in the block of queries. -/
def bQ (x0 : Vec Ideal S128x512 .bf16) (h : Fin 4) (g : Fin 2) (r : Fin 128) (e : Fin 64) : EReal :=
  x0 (ix2 r ⟨128 * h.val + 64 * g.val + e.val, by omega⟩)

/-- The key at position `n`, head `h`, half `g`. -/
def bK (x1 : Vec Ideal S8192x512 .bf16) (h : Fin 4) (g : Fin 2) (n : Fin 8192) (e : Fin 64) : EReal :=
  x1 (ix2 n ⟨128 * h.val + 64 * g.val + e.val, by omega⟩)

/-- The value at position `n`, head `h`, column `d`. -/
def bV (x2 : Vec Ideal S1x16x512x512 .bf16) (h : Fin 4) (d : Fin 128) (n : Fin 8192) : EReal :=
  x2 (ix4 0 ⟨n.val / 512, by omega⟩ ⟨128 * h.val + d.val, by omega⟩ ⟨n.val % 512, by omega⟩)

/-- The query columns of head `h` in the block. -/
def tileQ (x0 : Vec Ideal S128x512 .bf16) (h : Fin 4) : Vec Ideal S128x128 .bf16 := fun y =>
  x0 (ix2 (y 0) ⟨128 * h.val + (y 1).val, by have := h.isLt; have : (y 1).val < 128 := (y 1).isLt; omega⟩)

section
variable (i : grid0.Coords) (h : Fin 4) (x0 : Vec Ideal S128x512 .bf16) (x1 : Vec Ideal S8192x512 .bf16)
    (x2 : Vec Ideal S1x16x512x512 .bf16) (h0 : ∀ y, IsReal (x0 y)) (h1 : ∀ y, IsReal (x1 y)) (h2 : ∀ y, IsReal (x2 y))
    (S : ℕ → State) (hS : IsRun i h (k0_pay42 (tileQ x0 h)) x1 x2 S)
include h0 h1 h2 hS

/-- The stored quotient of one half of the columns is the causal attention of the row over that half's features. -/
theorem half_value (g : Fin 2) (r d : Fin 128) :
    (S (k0_t3_loop i).trips).2.2 (ix2 d ⟨128 * g.val + r.val, by omega⟩) *
        Ideal.div 1 ((S (k0_t3_loop i).trips).2.1 (ix2 0 ⟨128 * g.val + r.val, by omega⟩)) =
      ((att (128 * (i 1).val + r.val) (bQ x0 h g r) (bK x1 h g) (bV x2 h d) : ℝ) : EReal) := by
  have hi : (i 1).val < 64 := (i 1).isLt
  have hr := r.isLt
  have hg := g.isLt
  set q := 128 * (i 1).val + r.val with hq
  set m : Fin 8192 → EReal := msk q (bQ x0 h g r) (bK x1 h g) with hm
  have hmt : ∀ n, m n ≠ ⊤ := msk_ne_top q _ _ (fun e => h0 _) (fun n e => h1 _)
  let s : ℕ → EReal := fun n => if hn : n < 8192 then m ⟨n, hn⟩ else ⊥
  let v : ℕ → ℝ := fun n => if hn : n < 8192 then (bV x2 h d ⟨n, hn⟩).toReal else 0
  have hkb : ∀ k : Fin (k0_t3_loop i).trips, k.val < 16 := fun k => lt_of_lt_of_le k.isLt (k0_t3_abs i).2.1
  have key := run_inv i h (k0_pay42 (tileQ x0 h)) x1 x2 S hS ⟨128 * g.val + r.val, by omega⟩ d s v
    (fun n => by
      by_cases hn : n < 8192
      · simp only [s, dif_pos hn]; exact hmt _
      · simp only [s, dif_neg hn]; exact bot_ne_top)
    (by simp only [s, dif_pos (show 0 < 8192 by decide)]; exact msk_zero q _ _ (fun e => h0 _) (fun n e => h1 _) (by decide))
    (fun k x => by
      have hk := hkb k
      have hx := x.isLt
      have hn : 512 * k.val + x.val < 8192 := by omega
      rw [score_at, score_half]
      simp only [s, dif_pos hn, hm, msk]
      refine if_congr (by omega) (Finset.sum_congr rfl fun e _ => ?_) rfl
      have he := e.isLt
      rw [mul_comm]
      have e1 : tileQ x0 h (ix2 ⟨(128 * g.val + r.val) % 128, Nat.mod_lt _ (by decide)⟩ ⟨64 * ((128 * g.val + r.val) / 128) + e.val, by omega⟩) = bQ x0 h g r e := by
        show x0 _ = x0 _
        congr 2
        · apply Fin.ext; show (128 * g.val + r.val) % 128 = r.val; omega
        · apply Fin.ext; show 128 * h.val + (64 * ((128 * g.val + r.val) / 128) + e.val) = 128 * h.val + 64 * g.val + e.val; omega
      have e2 : tileK x1 h k.val (ix2 x ⟨64 * ((128 * g.val + r.val) / 128) + e.val, by omega⟩) = bK x1 h g ⟨512 * k.val + x.val, hn⟩ e := by
        show x1 _ = x1 _
        congr 2
        · apply Fin.ext; show (512 * k.val + x.val) % 8192 = 512 * k.val + x.val; omega
        · apply Fin.ext; show 128 * h.val + (64 * ((128 * g.val + r.val) / 128) + e.val) = 128 * h.val + 64 * g.val + e.val; omega
      exact congrArg₂ (· * ·) e1 e2)
    (fun k x => by
      have hk := hkb k
      have hx := x.isLt
      have hn : 512 * k.val + x.val < 8192 := by omega
      simp only [v, dif_pos hn]
      rw [(show IsReal (bV x2 h d ⟨512 * k.val + x.val, hn⟩) from h2 _).coe_toReal]
      show x2 _ = x2 _
      congr 2
      · apply Fin.ext; show k.val % 16 = (512 * k.val + x.val) / 512; omega
      · apply Fin.ext; show x.val = (512 * k.val + x.val) % 512; omega)
    _ le_rfl
  have hT : 512 * (k0_t3_loop i).trips ≤ 8192 := by have := (k0_t3_abs i).2.1; omega
  have hext : ∀ f : ℕ → ℝ, (∀ n, s n = ⊥ → f n = 0) →
      ∑ n ∈ Finset.range (512 * (k0_t3_loop i).trips), f n = ∑ n : Fin 8192, f n.val := by
    intro f hf
    rw [Finset.sum_range fun n => f n]
    rw [← Finset.sum_range fun n => f n, ← Finset.sum_range (n := 8192) fun n => f n]
    refine Finset.sum_subset (Finset.range_subset_range.2 hT) fun n hn hn' => hf n ?_
    have hn1 := Finset.mem_range.1 hn
    have hn2 : ¬ n < 512 * (k0_t3_loop i).trips := fun h => hn' (Finset.mem_range.2 h)
    simp only [s, dif_pos hn1, hm, msk]
    rw [trips_eq] at hn2
    exact if_neg (by omega)
  rw [hext _ (fun n hn => by rw [hn, w_bot]), hext _ (fun n hn => by rw [hn, w_bot, mul_zero])] at key
  have hs : ∀ n : Fin 8192, s n.val = m n := fun n => by simp only [s, dif_pos n.isLt]
  have hv : ∀ n : Fin 8192, v n.val = (bV x2 h d n).toReal := fun n => by simp only [v, dif_pos n.isLt]
  simp only [hs, hv] at key
  exact final _ _ _ _ _ key.1 (weights_pos q _ _ (fun e => h0 _) (fun n e => h1 _) (by decide))

/-- What a head stores at a row and a column. -/
theorem head_value (lam : FVec Ideal S1x1 .f32) (r d : Fin 128) :
    k0_pay58 lam (S (k0_t3_loop i).trips).2.1 (S (k0_t3_loop i).trips).2.2 (ix2 r d) =
      ((att (128 * (i 1).val + r.val) (bQ x0 h 0 r) (bK x1 h 0) (bV x2 h d) : ℝ) : EReal) - lam (ix2 0 0) *
        ((att (128 * (i 1).val + r.val) (bQ x0 h 1 r) (bK x1 h 1) (bV x2 h d) : ℝ) : EReal) := by
  rw [out_at, ← half_value i h x0 x1 x2 h0 h1 h2 S hS 0 r d, ← half_value i h x0 x1 x2 h0 h1 h2 S hS 1 r d]
  simp only [Fin.val_zero, Fin.val_one, mul_zero, zero_add, mul_one]

end

end Cert.Proof.Diff
-- ==== Proof.Spec.lean ====
/-
  The differential attention as one function of the whole arrays, the value both programs are shown to compute.
-/
module

public import proofs.«01_k».proof.Proof.Softmax

@[expose] public section

noncomputable section

namespace Cert.Proof.Diff

open Idealize.ShloMosaic Softmax

/-- The factor of the second attention: the difference of two exponentials of products, plus the constant. -/
def lamOf (x3 x4 x5 x6 : Vec Ideal (⟨2, ![1, 64]⟩ : Shape) .f32) : EReal :=
  Ideal.exp (∑ x : Fin 64, x3 (ix2 0 x) * x4 (ix2 0 x)) - Ideal.exp (∑ x : Fin 64, x5 (ix2 0 x) * x6 (ix2 0 x)) +
    Ideal.ofBits FTy.f32 1045220557#32

/-- The query of row `r`, head `h`, half `g`. -/
def aQ (X : Vec Ideal (⟨2, ![65536, 512]⟩ : Shape) .bf16) (r : Fin 65536) (h : Fin 4) (g : Fin 2) (e : Fin 64) : EReal :=
  X (ix2 r ⟨128 * h.val + 64 * g.val + e.val, by omega⟩)

/-- The key of batch `b` at position `n`, head `h`, half `g`. -/
def aK (X : Vec Ideal (⟨2, ![65536, 512]⟩ : Shape) .bf16) (b : Fin 8) (h : Fin 4) (g : Fin 2) (n : Fin 8192) (e : Fin 64) : EReal :=
  X (ix2 ⟨8192 * b.val + n.val, by omega⟩ ⟨128 * h.val + 64 * g.val + e.val, by omega⟩)

/-- The value of batch `b` at position `n`, head `h`, column `d`. -/
def aV (X : Vec Ideal (⟨4, ![8, 16, 512, 512]⟩ : Shape) .bf16) (b : Fin 8) (h : Fin 4) (d : Fin 128) (n : Fin 8192) : EReal :=
  X (ix4 b ⟨n.val / 512, by omega⟩ ⟨128 * h.val + d.val, by omega⟩ ⟨n.val % 512, by omega⟩)

/-- The attention of row `r`, head `h`, over the features of half `g`. -/
def attAt (X0 X1 : Vec Ideal (⟨2, ![65536, 512]⟩ : Shape) .bf16) (X2 : Vec Ideal (⟨4, ![8, 16, 512, 512]⟩ : Shape) .bf16)
    (r : Fin 65536) (h : Fin 4) (d : Fin 128) (g : Fin 2) : ℝ :=
  att (r.val % 8192) (aQ X0 r h g) (aK X1 ⟨r.val / 8192, by omega⟩ h g) (aV X2 ⟨r.val / 8192, by omega⟩ h d)

/-- The differential attention: at row `r` and column `128 h + d`, the first attention less the factor times the second. -/
def diff (X0 X1 : Vec Ideal (⟨2, ![65536, 512]⟩ : Shape) .bf16) (X2 : Vec Ideal (⟨4, ![8, 16, 512, 512]⟩ : Shape) .bf16)
    (x3 x4 x5 x6 : Vec Ideal (⟨2, ![1, 64]⟩ : Shape) .f32) (y : (⟨2, ![65536, 512]⟩ : Shape).Idx) : EReal :=
  let h : Fin 4 := ⟨(y 1).val / 128, by have : (y 1).val < 512 := (y 1).isLt; omega⟩
  let d : Fin 128 := ⟨(y 1).val % 128, Nat.mod_lt _ (by decide)⟩
  ((attAt X0 X1 X2 (y 0) h d 0 : ℝ) : EReal) - lamOf x3 x4 x5 x6 * ((attAt X0 X1 X2 (y 0) h d 1 : ℝ) : EReal)

end Cert.Proof.Diff
-- ==== Proof.Stored.lean ====
/-
  The block the kernel stores at a grid point, read as one function of the input blocks.
-/
module

public import proofs.«01_k».proof.Proof.Block
public import proofs.«01_k».proof.Proof.Spec
public import Idealize.ShloMosaic.Lib.LoopRemainder

@[expose] public section

set_option maxRecDepth 65536

noncomputable section

namespace Cert.Proof.Diff

open Idealize.ShloMosaic Idealize.ShloMosaic.TcCoe Idealize.SL.Sem Cert.KernelIdeal Cert.KernelIdeal.Gen
open Softmax

/-- The block stored at grid point `i`: at row `r` and column `128 h + d`, the difference of the two attentions. -/
def blockG (i : grid0.Coords) (x0 : Vec Ideal S128x512 .bf16) (x1 : Vec Ideal S8192x512 .bf16)
    (x2 : Vec Ideal S1x16x512x512 .bf16) (lam : EReal) (h : Fin 4) (r d : Fin 128) : EReal :=
  ((att (128 * (i 1).val + r.val) (bQ x0 h 0 r) (bK x1 h 0) (bV x2 h d) : ℝ) : EReal) - lam *
    ((att (128 * (i 1).val + r.val) (bQ x0 h 1 r) (bK x1 h 1) (bV x2 h d) : ℝ) : EReal)

theorem ld_tileQ (x0 : Vec Ideal S128x512 .bf16) (h : Fin 4) (off : Fin 2 → ℕ)
    (ho : off = ![0, 128 * h.val]) (inb : ∀ a, off a + S128x128.size a ≤ S128x512.size a) :
    View.ld x0 (Rect.unit (s := S128x512) off S128x128.size inb) = tileQ x0 h := by
  subst ho
  rw [View.ld_unit]
  funext y
  show x0 _ = x0 _
  congr 1
  funext a
  apply Fin.ext
  match a with
  | ⟨0, _⟩ => show 0 + (y 0).val = (y 0).val; omega
  | ⟨1, _⟩ => rfl

theorem ld_row (x : Vec Ideal S1x64 .f32) (inb : ∀ a, (![0, 0] : Fin 2 → ℕ) a + S1x64.size a ≤ S1x64.size a) :
    View.ld x (Rect.unit (s := S1x64) ![0, 0] S1x64.size inb) = x := by
  rw [View.ld_unit]
  funext y
  show x _ = x _
  congr 1
  funext a
  apply Fin.ext
  match a with
  | ⟨0, _⟩ => show 0 + (y 0).val = (y 0).val; omega
  | ⟨1, _⟩ => show 0 + (y 1).val = (y 1).val; omega

section
variable (c : Dev nD) (i : grid0.Coords)
  (arg2 : Memref sig .tc .vmem S128x512 .bf16) (harg2 : arg2.IsWhole) (arg3 : Memref sig .tc .vmem S8192x512 .bf16)
  (harg3 : arg3.IsWhole) (arg4 : Memref sig .tc .vmem S1x16x512x512 .bf16) (harg4 : arg4.IsWhole)
  (arg5 : Memref sig .tc .vmem S1x64 .f32) (harg5 : arg5.IsWhole) (arg6 : Memref sig .tc .vmem S1x64 .f32)
  (harg6 : arg6.IsWhole) (arg7 : Memref sig .tc .vmem S1x64 .f32) (harg7 : arg7.IsWhole)
  (arg8 : Memref sig .tc .vmem S1x64 .f32) (harg8 : arg8.IsWhole) (arg9 : Memref sig .tc .vmem S128x512 .f32)
  (harg9 : arg9.IsWhole) (x0 : Vec Ideal S128x512 .bf16) (x1 : Vec Ideal S8192x512 .bf16)
  (x2 : Vec Ideal S1x16x512x512 .bf16) (x3 x4 x5 x6 : Vec Ideal S1x64 .f32)
  (h0 : ∀ y, IsReal (x0 y)) (h1 : ∀ y, IsReal (x1 y)) (h2 : ∀ y, IsReal (x2 y))
include h0 h1 h2

set_option maxHeartbeats 2000000 in
/-- The contents of the output window after the body at a grid point. -/
theorem stored (r : Fin 128) (h : Fin 4) (d : Fin 128) :
    out0_A_7 c i arg2 harg2 arg3 harg3 arg4 harg4 arg5 harg5 arg6 harg6 arg7 harg7 arg8 harg8 arg9 harg9 x0 x1 x2 x3 x4 x5 x6
        (ix2 r ⟨128 * h.val + d.val, by omega⟩) =
      blockG i x0 x1 x2 (lamOf x3 x4 x5 x6) h r d := by
  let G : S128x512.Idx → EReal := fun y =>
    blockG i x0 x1 x2 (lamOf x3 x4 x5 x6) ⟨(y 1).val / 128, by have : (y 1).val < 512 := (y 1).isLt; omega⟩ (y 0)
      ⟨(y 1).val % 128, Nat.mod_lt _ (by decide)⟩
  have hG : ∀ (h : Fin 4) (r d : Fin 128) (y : S128x512.Idx), (y 0).val = r.val → (y 1).val = 128 * h.val + d.val →
      blockG i x0 x1 x2 (lamOf x3 x4 x5 x6) h r d = G y := by
    intro h r d y e0 e1
    show _ = blockG i x0 x1 x2 _ _ _ _
    have hd := d.isLt
    congr 1 <;> apply Fin.ext
    · show h.val = (y 1).val / 128; omega
    · exact e0.symm
    · show d.val = (y 1).val % 128; omega
  rw [hG h r d (ix2 r ⟨128 * h.val + d.val, by omega⟩) rfl rfl]
  have hrun : ∀ (h : Fin 4) (qb : FVec Ideal S256x128 .bf16) (lam : FVec Ideal S1x1 .f32) (S : ℕ → State) (T : ℕ)
      (_ : lam (ix2 0 0) = lamOf x3 x4 x5 x6) (_ : qb = k0_pay42 (tileQ x0 h)) (_ : IsRun i h qb x1 x2 S)
      (_ : T = (k0_t3_loop i).trips)
      (r d : Fin 128) (y : S128x512.Idx), (y 0).val = r.val → (y 1).val = 128 * h.val + d.val →
      k0_pay58 lam (S T).2.1 (S T).2.2 (ix2 r d) = G y := by
    intro h qb lam S T hl hq hS hT r d y e0 e1
    subst hq hT
    rw [head_value i h x0 x1 x2 h0 h1 h2 S hS lam r d, hl]
    exact hG h r d y e0 e1
  have hcov := cover0_A_7 c i arg2 harg2 arg3 harg3 arg4 harg4 arg5 harg5 arg6 harg6 arg7 harg7 arg8 harg8 arg9 harg9 x0 x1 x2 x3 x4 x5 x6
  unfold out0_A_7
  rw [View.read_writes_eq_canon _ _ _ hcov]
  refine View.canon_apply_of_pieces G _ ?_ _ (hcov _)
  unfold kernelRun0_A
  dsimp only
  sl_unfold_words
  simp only [View.readAt_eq_ld, harg2.read_unread, harg3.read_unread, harg4.read_unread, harg5.read_unread,
    harg6.read_unread, harg7.read_unread, harg8.read_unread]
  have hld : ∀ x : Vec Ideal S1x64 .f32, View.ld x (Rect.unit ![0, 0] ![1, 64] inb_S1x64_S1x64_0_0) = x := fun x => ld_row x _
  have hlam : k0_pay22 (k0_pay20 x3 x4) (k0_pay21 x5 x6) (ix2 0 0) = lamOf x3 x4 x5 x6 := lam_at x3 x4 x5 x6
  intro p hp
  simp only [List.mem_cons, List.mem_nil_iff, or_false] at hp
  rcases hp with rfl | rfl | rfl | rfl
  all_goals
    intro y
    obtain ⟨r, d, rfl⟩ : ∃ r d, y = ix2 r d := ⟨y 0, y 1, eq_ix2 y⟩
    dsimp only
    simp only [Scf.rem_trips, st_k0_t2_zero, st_k0_t4_zero, st_k0_t6_zero, st_k0_t8_zero, hld]
    generalize hT : Scf.trips (0#32) _ (1#32) = T
  · rw [out3]
    refine hrun 3 _ _ _ _ hlam ?_ (run3 Variants.none c none i arg2 harg2 arg3 harg3 arg4 harg4 arg5 harg5 arg6 harg6 arg7 harg7
      arg8 harg8 arg9 harg9 x1 x2 _ _ _) hT.symm r d _ ?_ ?_
    · rw [← ld_tileQ x0 3 ![0, 384] rfl inb_S128x512_S128x128_0_384]; rfl
    · show 0 + 1 * r.val = r.val; omega
    · show 384 + 1 * d.val = 384 + d.val; omega
  · rw [out2]
    refine hrun 2 _ _ _ _ hlam ?_ (run2 Variants.none c none i arg2 harg2 arg3 harg3 arg4 harg4 arg5 harg5 arg6 harg6 arg7 harg7
      arg8 harg8 arg9 harg9 x1 x2 _ _ _ _ _ _ _ _) hT.symm r d _ ?_ ?_
    · rw [← ld_tileQ x0 2 ![0, 256] rfl inb_S128x512_S128x128_0_256]; rfl
    · show 0 + 1 * r.val = r.val; omega
    · show 256 + 1 * d.val = 256 + d.val; omega
  · refine hrun 1 _ _ _ _ hlam ?_ (run1 Variants.none c none i arg2 harg2 arg3 harg3 arg4 harg4 arg5 harg5 arg6 harg6 arg7 harg7
      arg8 harg8 arg9 harg9 x1 x2 _ _ _ _ _ _ _) hT.symm r d _ ?_ ?_
    · rw [← ld_tileQ x0 1 ![0, 128] rfl inb_S128x512_S128x128_0_128]
    · show 0 + 1 * r.val = r.val; omega
    · show 128 + 1 * d.val = 128 + d.val; omega
  · rw [out0]
    refine hrun 0 _ _ _ _ hlam ?_ (run0 Variants.none c none i arg2 harg2 arg3 harg3 arg4 harg4 arg5 harg5 arg6 harg6 arg7 harg7
      arg8 harg8 arg9 harg9 x1 x2 _ _ _ _) hT.symm r d _ ?_ ?_
    · rw [← ld_tileQ x0 0 ![0, 0] rfl inb_S128x512_S128x128_0_0]; rfl
    · show 0 + 1 * r.val = r.val; omega
    · show 0 + 1 * d.val = 0 + d.val; omega

end

end Cert.Proof.Diff
-- ==== Proof.Array.lean ====
/-
  The kernel's result array: every grid point's block is the block of the differential attention of the arguments.
-/
module

public import proofs.«01_k».proof.Proof.Stored
public import Idealize.ShloMosaic.Lib.Pipeline.ValueKit

@[expose] public section

set_option maxRecDepth 65536

noncomputable section

namespace Cert.Proof.Diff

open Idealize.ShloMosaic Idealize.ShloMosaic.TcCoe Idealize.SL.Sem Cert.KernelIdeal Cert.KernelIdeal.Gen
open Softmax

theorem idx0 : ∀ t : Fin grid0.N, win0_0.index t = ![t.val, 0] := by decide +kernel
theorem idx1 : ∀ t : Fin grid0.N, win0_1.index t = ![t.val / 64, 0] := by decide +kernel
theorem idx2 : ∀ t : Fin grid0.N, win0_2.index t = ![t.val / 64, 0, 0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![t.val, 0] := by decide +kernel
theorem coord1 : ∀ t : Fin grid0.N, (grid0.coords t 1).val = t.val % 64 := by decide +kernel

variable (m : (ℓ : Loc nD τ sig) → Buf (Elt Ideal) ℓ) (c : Dev nD)

/-- The arguments as arrays. -/
abbrev A0 : Vec Ideal S65536x512 .bf16 := m ((c.tc : Thread nD τ).loc main_arg0)
abbrev A1 : Vec Ideal S65536x512 .bf16 := m ((c.tc : Thread nD τ).loc main_arg1)
abbrev A2 : Vec Ideal S8x16x512x512 .bf16 := m ((c.tc : Thread nD τ).loc main_arg2)
abbrev A3 : Vec Ideal S1x64 .f32 := m ((c.tc : Thread nD τ).loc main_arg3)
abbrev A4 : Vec Ideal S1x64 .f32 := m ((c.tc : Thread nD τ).loc main_arg4)
abbrev A5 : Vec Ideal S1x64 .f32 := m ((c.tc : Thread nD τ).loc main_arg5)
abbrev A6 : Vec Ideal S1x64 .f32 := m ((c.tc : Thread nD τ).loc main_arg6)

theorem hN (t : Fin cfg0.N) : t.val < 512 := t.isLt

/-- The block of queries at a grid point. -/
theorem blk0 (t : Fin cfg0.N) (r : Fin 128) (e : Fin 512) :
    (iblk m c 0 t : Vec Ideal S128x512 .bf16) (ix2 r e) = A0 m c (ix2 ⟨128 * t.val + r.val, by have := hN t; omega⟩ e) := by
  have ht := hN t
  blk_ext! [iblk, V, idx0 t]

/-- The batch's keys at a grid point. -/
theorem blk1 (t : Fin cfg0.N) (r : Fin 8192) (e : Fin 512) :
    (iblk m c 1 t : Vec Ideal S8192x512 .bf16) (ix2 r e) = A1 m c (ix2 ⟨8192 * (t.val / 64) + r.val, by have := hN t; omega⟩ e) := by
  have ht := hN t
  blk_ext! [iblk, V, idx1 t]

/-- The batch's values at a grid point. -/
theorem blk2 (t : Fin cfg0.N) (p : Fin 16) (d x : Fin 512) :
    (iblk m c 2 t : Vec Ideal S1x16x512x512 .bf16) (ix4 0 p d x) = A2 m c (ix4 ⟨t.val / 64, by have := hN t; omega⟩ p d x) := by
  have ht := hN t
  blk_ext! [iblk, V, idx2 t]

/-- A vector of the factor at a grid point. -/
theorem blk3 (t : Fin cfg0.N) (e : Fin 64) :
    (iblk m c 3 t : Vec Ideal S1x64 .f32) (ix2 0 e) = A3 m c (ix2 0 e) := by
  have ht := hN t
  blk_ext! [iblk, V, idx3 t]

/-- A vector of the factor at a grid point. -/
theorem blk4 (t : Fin cfg0.N) (e : Fin 64) :
    (iblk m c 4 t : Vec Ideal S1x64 .f32) (ix2 0 e) = A4 m c (ix2 0 e) := by
  have ht := hN t
  blk_ext! [iblk, V, idx4 t]

/-- A vector of the factor at a grid point. -/
theorem blk5 (t : Fin cfg0.N) (e : Fin 64) :
    (iblk m c 5 t : Vec Ideal S1x64 .f32) (ix2 0 e) = A5 m c (ix2 0 e) := by
  have ht := hN t
  blk_ext! [iblk, V, idx5 t]

/-- A vector of the factor at a grid point. -/
theorem blk6 (t : Fin cfg0.N) (e : Fin 64) :
    (iblk m c 6 t : Vec Ideal S1x64 .f32) (ix2 0 e) = A6 m c (ix2 0 e) := by
  have ht := hN t
  blk_ext! [iblk, V, idx6 t]

/-- The kernel's result is the differential attention of its arguments, for arguments that are real numbers. -/
theorem result (h0 : ∀ y, IsReal (A0 m c y)) (h1 : ∀ y, IsReal (A1 m c y)) (h2 : ∀ y, IsReal (A2 m c y)) :
    (dats m 0 c).arrAt 7 cfg0.N = diff (A0 m c) (A1 m c) (A2 m c) (A3 m c) (A4 m c) (A5 m c) (A6 m c) := by
  refine (dats m 0 c).arrAt_eq_of_covers 7 _ (by decide +kernel) fun t hf y => ?_
  have ht := hN t
  blk_simp
  rw [after0_7]
  obtain ⟨r, j, rfl⟩ : ∃ (r : Fin 128) (j : Fin 512), y = ix2 r j := ⟨y 0, y 1, eq_ix2 y⟩
  obtain ⟨h, d, rfl⟩ : ∃ (h : Fin 4) (d : Fin 128), j = ⟨128 * h.val + d.val, by omega⟩ :=
    ⟨⟨j.val / 128, by omega⟩, ⟨j.val % 128, Nat.mod_lt _ (by decide)⟩, Fin.ext (by show j.val = 128 * (j.val / 128) + j.val % 128; omega)⟩
  have key := stored c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (iblk m c 0 t) (iblk m c 1 t)
    (iblk m c 2 t) (iblk m c 3 t) (iblk m c 4 t) (iblk m c 5 t) (iblk m c 6 t)
    (fun y => by obtain ⟨a, b, rfl⟩ : ∃ (a : Fin 128) (b : Fin 512), y = ix2 a b := ⟨y 0, y 1, eq_ix2 y⟩; rw [blk0]; exact h0 _)
    (fun y => by obtain ⟨a, b, rfl⟩ : ∃ (a : Fin 8192) (b : Fin 512), y = ix2 a b := ⟨y 0, y 1, eq_ix2 y⟩; rw [blk1]; exact h1 _)
    (fun y => by
      obtain ⟨z, a, b, e, rfl⟩ : ∃ (z : Fin 1) (a : Fin 16) (b e : Fin 512), y = ix4 z a b e := ⟨y 0, y 1, y 2, y 3, eq_ix4 y⟩
      obtain rfl : z = 0 := Subsingleton.elim _ _
      rw [blk2]; exact h2 _)
    r h d
  refine Eq.trans rfl (key.trans ?_)
  have hemb : ((win0_7.blk t).view.emb (ix2 r ⟨128 * h.val + d.val, by omega⟩) : S65536x512.Idx) =
      ix2 ⟨128 * t.val + r.val, by omega⟩ ⟨128 * h.val + d.val, by omega⟩ := by
    blk_ext [idx7 t]
  have hl : lamOf (iblk m c 3 t) (iblk m c 4 t) (iblk m c 5 t) (iblk m c 6 t) = lamOf (A3 m c) (A4 m c) (A5 m c) (A6 m c) := by
    unfold lamOf
    simp only [blk3, blk4, blk5, blk6]
  have hc := coord1 t
  have hr := r.isLt
  have hatt : ∀ g : Fin 2, att (128 * (grid0.coords t 1).val + r.val) (bQ (iblk m c 0 t) h g r) (bK (iblk m c 1 t) h g)
      (bV (iblk m c 2 t) h d) = attAt (A0 m c) (A1 m c) (A2 m c) ⟨128 * t.val + r.val, by omega⟩ h d g := by
    intro g
    unfold attAt
    congr 1
    · show _ = (128 * t.val + r.val) % 8192
      omega
    · funext e
      exact blk0 m c t r _
    · funext n e
      refine (blk1 m c t n _).trans (congrArg (A1 m c) ?_)
      congr 1
      apply Fin.ext
      show 8192 * (t.val / 64) + n.val = 8192 * ((128 * t.val + r.val) / 8192) + n.val
      omega
    · funext n
      refine (blk2 m c t _ _ _).trans (congrArg (A2 m c) ?_)
      congr 1
      apply Fin.ext
      show t.val / 64 = (128 * t.val + r.val) / 8192
      omega
  show _ = diff _ _ _ _ _ _ _ ((win0_7.blk t).view.emb (ix2 r ⟨128 * h.val + d.val, by omega⟩) : S65536x512.Idx)
  rw [hemb]
  have hd := d.isLt
  have e1 : (⟨(128 * h.val + d.val) / 128, by omega⟩ : Fin 4) = h := Fin.ext (by show (128 * h.val + d.val) / 128 = h.val; omega)
  have e2 : (⟨(128 * h.val + d.val) % 128, Nat.mod_lt _ (by decide)⟩ : Fin 128) = d := Fin.ext (by show (128 * h.val + d.val) % 128 = d.val; omega)
  show _ = ((attAt _ _ _ ⟨128 * t.val + r.val, by omega⟩ ⟨(128 * h.val + d.val) / 128, by omega⟩ ⟨(128 * h.val + d.val) % 128, Nat.mod_lt _ (by decide)⟩ 0 : ℝ) : EReal) -
    _ * ((attAt _ _ _ ⟨128 * t.val + r.val, by omega⟩ ⟨(128 * h.val + d.val) / 128, by omega⟩ ⟨(128 * h.val + d.val) % 128, Nat.mod_lt _ (by decide)⟩ 1 : ℝ) : EReal)
  rw [e1, e2, ← hatt 0, ← hatt 1, ← hl]
  rfl

end Cert.Proof.Diff
-- ==== Proof.Reference.lean ====
/-
  The reference's differential attention read index by index, in stages: the causal mask, the scores, the softmax, the result.
-/
module

public import proofs.«01_k».proof.Proof.Gen.ReferenceIdeal.Run
public import proofs.«01_k».proof.Proof.Spec
public import Idealize.ShloMosaic.Lib.Tactic.CleanTypes

@[expose] public section

set_option maxRecDepth 65536

noncomputable section

namespace Cert.Proof.Diff

open Idealize.ShloMosaic Idealize.ShloMosaic.TcCoe Idealize.SL.Sem Cert.ReferenceIdeal Cert.ReferenceIdeal.Gen
open Softmax

/-- The causal mask over batch, head, query and key. -/
def rMask : IVec S8x4x8192x8192 1 :=
  broadcastInDim S8x4x8192x8192 ![0, 1, 2, 3] bcast_S1x1x8192x8192_S8x4x8192x8192_0_1_2_3 (broadcastInDim S1x1x8192x8192 ![2, 3] bcast_S8192x8192_S1x1x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))

/-- The products of queries and keys over the first half of each head's features. -/
def rDot0 (X0 X1 : FVec Ideal S65536x512 .bf16) : FVec Ideal S8x4x8192x8192 .f32 :=
  Host.dotGeneral dot_S8x8192x4x64_S8x8192x4x64_S8x4x8192x8192_3_3_1_1_02_02 none (shapeCast _ (extractStridedSlice S8x8192x4x1x64 ![0, 0, 0, 0, 0] (shapeCast _ (extf .f32 X0 bitsLt_bf16_f32) shapeCasts_S65536x512_S8x8192x4x2x64) slices_S8x8192x4x2x64_S8x8192x4x1x64_0_0_0_0_0) shapeCasts_S8x8192x4x1x64_S8x8192x4x64) (shapeCast _ (extractStridedSlice S8x8192x4x1x64 ![0, 0, 0, 0, 0] (shapeCast _ (extf .f32 X1 bitsLt_bf16_f32) shapeCasts_S65536x512_S8x8192x4x2x64) slices_S8x8192x4x2x64_S8x8192x4x1x64_0_0_0_0_0) shapeCasts_S8x8192x4x1x64_S8x8192x4x64)

/-- The products over the second half. -/
def rDot1 (X0 X1 : FVec Ideal S65536x512 .bf16) : FVec Ideal S8x4x8192x8192 .f32 :=
  Host.dotGeneral dot_S8x8192x4x64_S8x8192x4x64_S8x4x8192x8192_3_3_1_1_02_02 none (shapeCast _ (extractStridedSlice S8x8192x4x1x64 ![0, 0, 0, 1, 0] (shapeCast _ (extf .f32 X0 bitsLt_bf16_f32) shapeCasts_S65536x512_S8x8192x4x2x64) slices_S8x8192x4x2x64_S8x8192x4x1x64_0_0_0_1_0) shapeCasts_S8x8192x4x1x64_S8x8192x4x64) (shapeCast _ (extractStridedSlice S8x8192x4x1x64 ![0, 0, 0, 1, 0] (shapeCast _ (extf .f32 X1 bitsLt_bf16_f32) shapeCasts_S65536x512_S8x8192x4x2x64) slices_S8x8192x4x2x64_S8x8192x4x1x64_0_0_0_1_0) shapeCasts_S8x8192x4x1x64_S8x8192x4x64)

/-- The masked scores. -/
def rScore (k : IVec S8x4x8192x8192 1) (d : FVec Ideal S8x4x8192x8192 .f32) : FVec Ideal S8x4x8192x8192 .f32 :=
  select k d (broadcastInDim S8x4x8192x8192 ![] bcast_S_S8x4x8192x8192 (id (constant S_ .f32 0xFF800000#32)))

/-- Each row's maximum score. -/
def rMax (s : FVec Ideal S8x4x8192x8192 .f32) : FVec Ideal S8x4x8192 .f32 :=
  Host.reduce FloatOps.maximumf s (constant S_ .f32 0xFF800000#32) reducesTo_S8x4x8192x8192_S8x4x8192_d3 h_S_

/-- The exponentials of the scores less their row's maximum. -/
def rExp (s : FVec Ideal S8x4x8192x8192 .f32) (u : FVec Ideal S8x4x8192 .f32) : FVec Ideal S8x4x8192x8192 .f32 :=
  Host.exp (subf s (broadcastInDim S8x4x8192x8192 ![0, 1, 2, 3] bcast_S8x4x8192x1_S8x4x8192x8192_0_1_2_3 (broadcastInDim S8x4x8192x1 ![0, 1, 2] bcast_S8x4x8192_S8x4x8192x1_0_1_2 (maximumf (broadcastInDim S8x4x8192 ![] bcast_S_S8x4x8192 (constant S_ .f32 0xFF800000#32)) u))))

/-- The attention weights: the exponentials over their row's sum, zero where masked. -/
def rProb (k : IVec S8x4x8192x8192 1) (e : FVec Ideal S8x4x8192x8192 .f32) : FVec Ideal S8x4x8192x8192 .f32 :=
  select k (Host.divf e (broadcastInDim S8x4x8192x8192 ![0, 1, 2, 3] bcast_S8x4x8192x1_S8x4x8192x8192_0_1_2_3 (broadcastInDim S8x4x8192x1 ![0, 1, 2] bcast_S8x4x8192_S8x4x8192x1_0_1_2 (Host.reduceAdd e (constant S_ .f32 0x00000000#32) reducesTo_S8x4x8192x8192_S8x4x8192_d3 h_S_)))) (broadcastInDim S8x4x8192x8192 ![] bcast_S_S8x4x8192x8192 (id (constant S_ .f32 0x00000000#32)))

/-- The factor of the second attention. -/
def rLam (x3 x4 x5 x6 : FVec Ideal S1x64 .f32) : FVec Ideal S_ .f32 :=
  addf (subf (Host.exp (Host.reduceAdd (mulf (shapeCast _ x3 shapeCasts_S1x64_S64) (shapeCast _ x4 shapeCasts_S1x64_S64)) (constant S_ .f32 0x00000000#32) reducesTo_S64_S_d0 h_S_)) (Host.exp (Host.reduceAdd (mulf (shapeCast _ x5 shapeCasts_S1x64_S64) (shapeCast _ x6 shapeCasts_S1x64_S64)) (constant S_ .f32 0x00000000#32) reducesTo_S64_S_d0 h_S_))) (constant S_ .f32 0x3E4CCCCD#32)

/-- The values weighted by the difference of the two attentions' weights. -/
def rOut (X2 : FVec Ideal S8x16x512x512 .bf16) (p0 p1 : FVec Ideal S8x4x8192x8192 .f32) (lam : FVec Ideal S_ .f32) : FVec Ideal S65536x512 .f32 :=
  shapeCast _ (transpose S8x8192x4x128 [0, 3, 1, 2] (Host.dotGeneral dot_S8x8192x4x128_S8x4x8192x8192_S8x4x128x8192_1_3_3_2_02_01 none (shapeCast _ (transpose S8x16x512x512 [0, 1, 3, 2] (extf .f32 X2 bitsLt_bf16_f32) transposes_S8x16x512x512_S8x16x512x512_0_1_3_2) shapeCasts_S8x16x512x512_S8x8192x4x128) (subf p0 (mulf (broadcastInDim S8x4x8192x8192 ![] bcast_S_S8x4x8192x8192 lam) p1))) transposes_S8x4x128x8192_S8x8192x4x128_0_3_1_2) shapeCasts_S8x8192x4x128_S65536x512

/-- The maximum along the last of four axes, at an index. -/
theorem max_last {a b n k : ℕ} (s : FVec Ideal (⟨4, ![a, b, n, k]⟩ : Shape) .f32)
    (h' : (⟨4, ![a, b, n, k]⟩ : Shape).ReducesTo [3] (⟨3, ![a, b, n]⟩ : Shape))
    (h : (⟨4, ![a, b, n, k]⟩ : Shape).Reduces [3] (⟨3, ![a, b, n]⟩ : Shape)) (hu : 0 < (⟨0, ![]⟩ : Shape).numel)
    (i : Fin a) (j : Fin b) (q : Fin n) :
    Host.reduce FloatOps.maximumf s (constant (⟨0, ![]⟩ : Shape) .f32 0xFF800000#32) h' hu (ix3 i j q) =
      Finset.univ.fold max ⊥ fun x => s (ix4 i j q x) := by
  rw [Host.reduce_eq_fold_single FloatOps.maximumf s _ h' h hu]
  have e : ∀ x : Fin k, h.lift (ix3 i j q) x = ix4 i j q x := fun x => by
    funext c; apply Fin.ext
    fin_cases c <;> rfl
  have hf : (s ∘ h.lift (ix3 i j q)) = fun x : Fin k => s (ix4 i j q x) := funext fun x => congrArg s (e x)
  have hb : Ideal.ofBits FTy.f32 0xFF800000#32 = (⊥ : EReal) := by simp [Ideal.ofBits, Ideal.ieee]
  exact congrArg₂ (fun z f => Finset.fold max z f (Finset.univ : Finset (Fin k))) hb hf

theorem rMask_at (b : Fin 8) (h : Fin 4) (q n : Fin 8192) :
    rMask (ix4 b h q n) = BitVec.ofBool (decide (n.val ≤ q.val)) := by
  have e : rMask (ix4 b h q n) = IntOp.cmpi CmpIPredicate.sle (BitVec.ofNat 32 n.val) (BitVec.ofNat 32 q.val) := by
    unfold rMask
    pointwise
  rw [e]
  show BitVec.ofBool (BitVec.sle _ _) = _
  congr 1
  rw [BitVec.sle_eq_decide, BitVec.toInt_eq_toNat_of_lt, BitVec.toInt_eq_toNat_of_lt] <;> simp only [BitVec.toNat_ofNat, Nat.reducePow]
  · congr 1; apply propext; omega
  all_goals omega

theorem rDot0_at (X0 X1 : FVec Ideal S65536x512 .bf16) (b : Fin 8) (h : Fin 4) (q n : Fin 8192) :
    rDot0 X0 X1 (ix4 b h q n) = ∑ e, aQ X0 ⟨8192 * b.val + q.val, by omega⟩ h 0 e * aK X1 b h 0 n e := by
  unfold rDot0 aQ aK
  pointwise
  simp only [mul_comm 8192, mul_comm 128]

theorem rDot1_at (X0 X1 : FVec Ideal S65536x512 .bf16) (b : Fin 8) (h : Fin 4) (q n : Fin 8192) :
    rDot1 X0 X1 (ix4 b h q n) = ∑ e, aQ X0 ⟨8192 * b.val + q.val, by omega⟩ h 1 e * aK X1 b h 1 n e := by
  unfold rDot1 aQ aK
  pointwise
  simp only [mul_comm 8192, mul_comm 128]

theorem rScore_at (k : IVec S8x4x8192x8192 1) (d : FVec Ideal S8x4x8192x8192 .f32) (y : S8x4x8192x8192.Idx) :
    rScore k d y = Scalar.select (k y) (d y) ⊥ := by
  have hb : Ideal.ofBits FTy.f32 0xFF800000#32 = (⊥ : EReal) := by simp [Ideal.ofBits, Ideal.ieee]
  rw [← hb]
  rfl

theorem rMax_at (s : FVec Ideal S8x4x8192x8192 .f32) (b : Fin 8) (h : Fin 4) (q : Fin 8192) :
    rMax s (ix3 b h q) = Finset.univ.fold max ⊥ fun x => s (ix4 b h q x) :=
  max_last s _ (by decide) _ b h q

theorem rExp_at (s : FVec Ideal S8x4x8192x8192 .f32) (u : FVec Ideal S8x4x8192 .f32) (b : Fin 8) (h : Fin 4) (q n : Fin 8192) :
    rExp s u (ix4 b h q n) = Ideal.exp (s (ix4 b h q n) - u (ix3 b h q)) := by
  unfold rExp
  pointwise
  rw [show Ideal.ofBits FTy.f32 4286578688#32 = (⊥ : EReal) from by simp [Ideal.ofBits, Ideal.ieee], max_bot_left]

theorem rProb_at (k : IVec S8x4x8192x8192 1) (e : FVec Ideal S8x4x8192x8192 .f32) (b : Fin 8) (h : Fin 4) (q n : Fin 8192) :
    rProb k e (ix4 b h q n) = Scalar.select (k (ix4 b h q n)) (Ideal.div (e (ix4 b h q n)) (∑ x, e (ix4 b h q x))) 0 := by
  unfold rProb
  pointwise
  rw [show id (constant (F := Ideal) S_ FTy.f32 0#32) ix0 = (0 : EReal) from Ideal.ofBits_zero .f32]

theorem rLam_at (x3 x4 x5 x6 : FVec Ideal S1x64 .f32) (y : S_.Idx) : rLam x3 x4 x5 x6 y = lamOf x3 x4 x5 x6 := by
  unfold rLam lamOf
  pointwise

theorem rOut_at (X2 : FVec Ideal S8x16x512x512 .bf16) (p0 p1 : FVec Ideal S8x4x8192x8192 .f32) (lam : FVec Ideal S_ .f32)
    (r : Fin 65536) (j : Fin 512) :
    rOut X2 p0 p1 lam (ix2 r j) = ∑ n : Fin 8192, aV X2 ⟨r.val / 8192, by omega⟩ ⟨j.val / 128, by omega⟩ ⟨j.val % 128, Nat.mod_lt _ (by decide)⟩ n *
      (p0 (ix4 ⟨r.val / 8192, by omega⟩ ⟨j.val / 128, by omega⟩ ⟨r.val % 8192, Nat.mod_lt _ (by decide)⟩ n) -
        lam ix0 * p1 (ix4 ⟨r.val / 8192, by omega⟩ ⟨j.val / 128, by omega⟩ ⟨r.val % 8192, Nat.mod_lt _ (by decide)⟩ n)) := by
  unfold rOut aV
  pointwise
  simp only [Nat.div_add_mod]

/-- An attention's weights from its products. -/
def rAtt (d : FVec Ideal S8x4x8192x8192 .f32) : FVec Ideal S8x4x8192x8192 .f32 :=
  rProb rMask (rExp (rScore rMask d) (rMax (rScore rMask d)))

/-- The two attentions' weights at an index, from any masked scores equal to the causal ones. -/
theorem weight_at (d : FVec Ideal S8x4x8192x8192 .f32) (Q : Fin 64 → EReal) (K : Fin 8192 → Fin 64 → EReal)
    (hQ : ∀ e, IsReal (Q e)) (hK : ∀ n e, IsReal (K n e)) (b : Fin 8) (h : Fin 4) (q : Fin 8192)
    (hd : ∀ n, d (ix4 b h q n) = ∑ e, Q e * K n e) (n : Fin 8192) :
    rAtt d (ix4 b h q n) =
      ((w (msk q.val Q K n) / ∑ n, w (msk q.val Q K n) : ℝ) : EReal) := by
  have hs : ∀ x, rScore rMask d (ix4 b h q x) = msk q.val Q K x := fun x => by
    rw [rScore_at, rMask_at, hd]
    unfold msk
    by_cases hx : x.val ≤ q.val
    · rw [if_pos hx, decide_eq_true hx]; rfl
    · rw [if_neg hx, decide_eq_false hx]; rfl
  have hm : IsReal (rMax (rScore rMask d) (ix3 b h q)) := by
    rw [rMax_at]
    simp only [hs]
    refine ⟨_, (EReal.coe_toReal (fold_max_ne_top _ (msk_ne_top _ Q K hQ hK)) (fold_max_ne_bot _ ⟨0, by decide⟩ (msk_zero _ Q K hQ hK (by decide)))).symm⟩
  obtain ⟨M, hM⟩ := hm
  have he : ∀ x, rExp (rScore rMask d) (rMax (rScore rMask d)) (ix4 b h q x) = Ideal.exp (msk q.val Q K x - (M : EReal)) := fun x => by
    rw [rExp_at, hs, hM]
  unfold rAtt
  rw [rProb_at, he, Finset.sum_congr rfl fun x _ => he x,
    soft _ (msk_ne_top _ Q K hQ hK) M (weights_pos _ Q K hQ hK (by decide)) n, rMask_at]
  by_cases hx : n.val ≤ q.val
  · rw [decide_eq_true hx]; rfl
  · rw [decide_eq_false hx, show msk q.val Q K n = ⊥ from if_neg hx, w_bot, zero_div]; rfl

variable (m : (ℓ : Loc nD τ sig) → Buf (Elt Ideal) ℓ) (c : Dev nD)

/-- The reference's result in the stages above. -/
theorem ref_eq : Value.res_main_v67 m c =
    rOut (m ((c.tc : Thread nD τ).loc main_arg2))
      (rAtt (rDot0 (m ((c.tc : Thread nD τ).loc main_arg0)) (m ((c.tc : Thread nD τ).loc main_arg1))))
      (rAtt (rDot1 (m ((c.tc : Thread nD τ).loc main_arg0)) (m ((c.tc : Thread nD τ).loc main_arg1))))
      (rLam (m ((c.tc : Thread nD τ).loc main_arg3)) (m ((c.tc : Thread nD τ).loc main_arg4)) (m ((c.tc : Thread nD τ).loc main_arg5))
        (m ((c.tc : Thread nD τ).loc main_arg6))) := by
  rfl

end Cert.Proof.Diff
-- ==== Proof.RefValue.lean ====
/-
  The reference's result is the differential attention, for arguments that are real numbers, which the precondition says.
-/
module

public import proofs.«01_k».proof.Proof.Reference
public import proofs.«01_k».proof.Proof.Gen.Pre_finite

@[expose] public section

set_option maxRecDepth 65536

noncomputable section

namespace Cert.Proof.Softmax

open Idealize.ShloMosaic

theorem IsReal.exp {x : EReal} (h : IsReal x) : IsReal (Ideal.exp x) := by
  obtain ⟨r, rfl⟩ := h; exact ⟨Real.exp r, by simp⟩

theorem IsReal.add {x y : EReal} (h : IsReal x) (h' : IsReal y) : IsReal (x + y) := by
  obtain ⟨r, rfl⟩ := h; obtain ⟨t, rfl⟩ := h'; exact ⟨r + t, (EReal.coe_add r t).symm⟩

theorem IsReal.sub {x y : EReal} (h : IsReal x) (h' : IsReal y) : IsReal (x - y) := by
  obtain ⟨r, rfl⟩ := h; obtain ⟨t, rfl⟩ := h'; exact ⟨r - t, (EReal.coe_sub r t).symm⟩

/-- A number whose absolute value is below plus infinity is real. -/
theorem isReal_of_abs (x : EReal) (h : max x (-x) < ⊤) : IsReal x := by
  induction x with
  | bot => simp at h
  | top => simp at h
  | coe r => exact ⟨r, rfl⟩

/-- Values weighted by the difference of two weightings: the difference of the two weighted sums. -/
theorem sum_diff {n : ℕ} (V : Fin n → EReal) (hV : ∀ k, IsReal (V k)) (a b : Fin n → ℝ) (A B : ℝ) (L : EReal) (hL : IsReal L) :
    ∑ k, V k * (((a k / A : ℝ) : EReal) - L * ((b k / B : ℝ) : EReal)) =
      (((∑ k, (V k).toReal * a k) / A : ℝ) : EReal) - L * (((∑ k, (V k).toReal * b k) / B : ℝ) : EReal) := by
  obtain ⟨l, rfl⟩ := hL
  have e : ∀ k, V k * (((a k / A : ℝ) : EReal) - (l : EReal) * ((b k / B : ℝ) : EReal)) =
      (((V k).toReal * a k / A - l * ((V k).toReal * b k / B) : ℝ) : EReal) := fun k => by
    rw [← (hV k).coe_toReal, ← EReal.coe_mul, ← EReal.coe_sub, ← EReal.coe_mul, EReal.toReal_coe]
    congr 1; ring
  rw [Finset.sum_congr rfl fun k _ => e k, sum_coe, ← EReal.coe_mul, ← EReal.coe_sub, Finset.sum_sub_distrib, ← Finset.mul_sum,
    Finset.sum_div, Finset.sum_div]

end Cert.Proof.Softmax

namespace Cert.Proof.Diff

open Idealize.ShloMosaic Idealize.ShloMosaic.TcCoe Idealize.SL.Sem Cert.ReferenceIdeal Cert.ReferenceIdeal.Gen
open Softmax

/-- The factor of the second attention is real. -/
theorem lamOf_real (x3 x4 x5 x6 : Vec Ideal (⟨2, ![1, 64]⟩ : Shape) .f32) (h3 : ∀ y, IsReal (x3 y)) (h4 : ∀ y, IsReal (x4 y))
    (h5 : ∀ y, IsReal (x5 y)) (h6 : ∀ y, IsReal (x6 y)) : IsReal (lamOf x3 x4 x5 x6) := by
  refine (((IsReal.sum _ fun x => (h3 _).mul (h4 _)).exp).sub ((IsReal.sum _ fun x => (h5 _).mul (h6 _)).exp)).add ?_
  simp only [Ideal.ofBits, Ideal.ieee]
  rw [if_neg (by decide), if_neg (by decide)]
  exact ⟨_, rfl⟩

variable (m : (ℓ : Loc nD τ sig) → Buf (Elt Ideal) ℓ) (c : Dev nD)

/-- The reference's result is the differential attention of its arguments, for arguments that are real numbers. -/
theorem ref_value (X0 X1 : Vec Ideal (⟨2, ![65536, 512]⟩ : Shape) .bf16) (X2 : Vec Ideal (⟨4, ![8, 16, 512, 512]⟩ : Shape) .bf16)
    (x3 x4 x5 x6 : Vec Ideal (⟨2, ![1, 64]⟩ : Shape) .f32)
    (h0 : ∀ y, IsReal (X0 y)) (h1 : ∀ y, IsReal (X1 y)) (h2 : ∀ y, IsReal (X2 y))
    (h3 : ∀ y, IsReal (x3 y)) (h4 : ∀ y, IsReal (x4 y)) (h5 : ∀ y, IsReal (x5 y)) (h6 : ∀ y, IsReal (x6 y)) :
    rOut X2 (rAtt (rDot0 X0 X1)) (rAtt (rDot1 X0 X1)) (rLam x3 x4 x5 x6) = diff X0 X1 X2 x3 x4 x5 x6 := by
  funext y
  obtain ⟨r, j, rfl⟩ : ∃ (r : Fin 65536) (j : Fin 512), y = ix2 r j := ⟨y 0, y 1, eq_ix2 y⟩
  have hr : (⟨8192 * (r.val / 8192) + r.val % 8192, by omega⟩ : Fin 65536) = r := Fin.ext (Nat.div_add_mod _ _)
  have p0 := weight_at (rDot0 X0 X1) (aQ X0 r ⟨j.val / 128, by omega⟩ 0) (aK X1 ⟨r.val / 8192, by omega⟩ ⟨j.val / 128, by omega⟩ 0)
    (fun _ => h0 _) (fun _ _ => h1 _) ⟨r.val / 8192, by omega⟩ ⟨j.val / 128, by omega⟩ ⟨r.val % 8192, Nat.mod_lt _ (by decide)⟩
    (fun n => by rw [rDot0_at]; simp only [hr])
  have p1 := weight_at (rDot1 X0 X1) (aQ X0 r ⟨j.val / 128, by omega⟩ 1) (aK X1 ⟨r.val / 8192, by omega⟩ ⟨j.val / 128, by omega⟩ 1)
    (fun _ => h0 _) (fun _ _ => h1 _) ⟨r.val / 8192, by omega⟩ ⟨j.val / 128, by omega⟩ ⟨r.val % 8192, Nat.mod_lt _ (by decide)⟩
    (fun n => by rw [rDot1_at]; simp only [hr])
  rw [rOut_at, rLam_at, Finset.sum_congr rfl fun n _ => by rw [p0 n, p1 n]]
  exact sum_diff _ (fun _ => h2 _) _ _ _ _ _ (lamOf_real _ _ _ _ h3 h4 h5 h6)

/-- An array whose elements all have an absolute value below plus infinity holds real numbers. -/
theorem real_of_mask {s : Shape} (x : FVec Ideal s .f32) (hb : (⟨0, ![]⟩ : Shape).BroadcastsInDim s (![] : Fin 0 → Fin s.rank))
    (h : cmpf .olt (Host.absf x) (broadcastInDim s ![] hb (constant (⟨0, ![]⟩ : Shape) .f32 0x7F800000#32)) = fun _ => 1#1) (y : s.Idx) :
    IsReal (x y) := by
  have e := congrFun h y
  apply isReal_of_abs
  have hb : Ideal.ofBits FTy.f32 0x7F800000#32 = (⊤ : EReal) := by simp [Ideal.ofBits, Ideal.ieee]
  rw [← hb]
  have e' : BitVec.ofBool (decide (max (x y) (-(x y)) < Ideal.ofBits FTy.f32 0x7F800000#32)) = 1#1 := e
  by_contra hc
  rw [decide_eq_false hc] at e'
  exact absurd e' (by decide)

end Cert.Proof.Diff
-- ==== Proof.DiffClaims.lean ====
/-
  The claims about the differential attention: both programs' frames, the named mask, and that kernel and reference
  compute one function.
-/
module

public import proofs.«01_k».proof.Defs
public import proofs.«01_k».proof.Proof.Gen.Kernel
public import proofs.«01_k».proof.Proof.Gen.Kernel.Frame
public import proofs.«01_k».proof.Proof.Gen.KernelIdeal.Value
public import proofs.«01_k».proof.Proof.Gen.Pre_finite
public import proofs.«01_k».proof.Proof.Array
public import proofs.«01_k».proof.Proof.RefValue
public import Idealize.ShloMosaic.Adequacy

@[expose] public section

noncomputable section

namespace Cert.Proof.Diff

open Idealize.ShloMosaic Idealize.ShloMosaic.TcCoe Idealize.SL.Sem
open Softmax

theorem frame_p : Cert.quiescent_Kernel := fun m ρ _ => Cert.Kernel.Gen.frame m ρ

theorem frame_pi : Cert.quiescent_KernelIdeal := fun m ρ _ => Cert.KernelIdeal.Gen.frame m ρ

theorem frame_pi_finite : Cert.quiescent_KernelIdeal_pre_finite := fun m ρ _ => Cert.KernelIdeal.Gen.frame m ρ

theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_ri_finite : Cert.quiescent_ReferenceIdeal_pre_finite := fun m ρ _ => frame_ri m ρ trivial

/-- The mask's constant is minus infinity over the extended reals. -/
theorem preserves : Cert.preserves_Kernel_KernelIdeal :=
  IdealRules.named_const.statement Cert.KernelIdeal.κ "mask" .f32 0xF149F2CA#32 ⊥ rfl

/-- From arguments that agree and are finite, the kernel's result and the reference's are the differential attention. -/
theorem algebraic : Cert.algebraic_KernelIdeal_ReferenceIdeal_pre_finite := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨p0, p1, p2, p3, p4, p5, p6⟩ := hpre c
  obtain ⟨a0, a1, a2, a3, a4, a5, a6⟩ := hagree c
  have r0 : ∀ y, IsReal (A0 m c y) := real_of_mask (s := Cert.KernelIdeal.S65536x512) (A0 m c) _ p0
  have r1 : ∀ y, IsReal (A1 m c y) := real_of_mask (s := Cert.KernelIdeal.S65536x512) (A1 m c) _ p1
  have r2 : ∀ y, IsReal (A2 m c y) := real_of_mask (s := Cert.KernelIdeal.S8x16x512x512) (A2 m c) _ p2
  have r3 : ∀ y, IsReal (A3 m c y) := real_of_mask (s := Cert.KernelIdeal.S1x64) (A3 m c) _ p3
  have r4 : ∀ y, IsReal (A4 m c y) := real_of_mask (s := Cert.KernelIdeal.S1x64) (A4 m c) _ p4
  have r5 : ∀ y, IsReal (A5 m c y) := real_of_mask (s := Cert.KernelIdeal.S1x64) (A5 m c) _ p5
  have r6 : ∀ y, IsReal (A6 m c y) := real_of_mask (s := Cert.KernelIdeal.S1x64) (A6 m c) _ p6
  rw [result m c r0 r1 r2, ref_eq, a0, a1, a2, a3, a4, a5, a6]
  exact ref_value _ _ _ _ _ _ _ r0 r1 r2 r3 r4 r5 r6

end Cert.Proof.Diff
-- ==== Proof.PostSpec.lean ====
/-
  What the layer's second half computes for one row: the attentions' outputs merged and projected, the MLP, the gated
  per-layer embedding, each added to the row after its normalization.
-/
module

public import Idealize.ShloMosaic.Lib.Pointwise

@[expose] public section

noncomputable section

namespace Cert.Proof.Post

open Idealize.ShloMosaic

/-- A row of an array. -/
abbrev rowOf {a b : ℕ} (v : (⟨2, ![a, b]⟩ : Shape).Idx → EReal) (r : Fin a) (e : Fin b) : EReal := v (ix2 r e)

/-- A row over the square root of its mean square (the sum over `c`, and the small constant added), times the gains. -/
def norm {n : ℕ} (c : EReal) (v g : Fin n → EReal) (k : Fin n) : EReal :=
  v k * Ideal.rsqrt (Ideal.div (∑ e, v e * v e) c + Ideal.ofBits .f32 0x358637BD#32) * g k

/-- `norm` over 1024 columns. -/
def norm1024 (v g : Fin 1024 → EReal) : Fin 1024 → EReal := norm (Ideal.ofBits .f32 0x44800000#32) v g

/-- `norm` over the 128 columns of a head, the gains scaled by one less the differential attention's constant. -/
def normHead (v g : Fin 128 → EReal) : Fin 128 → EReal :=
  norm (Ideal.ofBits .f32 0x43000000#32) v fun d => g d * Ideal.ofBits .f32 0x3F4CCCCD#32

/-- The attentions' outputs side by side: the first's 512 columns, then the second's four heads normalized. -/
def cat (a : Fin 512 → EReal) (b : Fin 4 → Fin 128 → EReal) (g : Fin 128 → EReal) (e : Fin 1024) : EReal :=
  if h : e.val < 512 then a ⟨e.val, h⟩
  else normHead (b ⟨(e.val - 512) / 128, by omega⟩) g ⟨(e.val - 512) % 128, Nat.mod_lt _ (by decide)⟩

/-- A row times a matrix. -/
def dot {p q : ℕ} (v : Fin p → EReal) (w : Fin p → Fin q → EReal) (k : Fin q) : EReal := ∑ e, v e * w e k

/-- The positive part, squared. -/
def relu2 (z : EReal) : EReal := max z 0 * max z 0

/-- The MLP of a row. -/
def mlp (v : Fin 1024 → EReal) (up : Fin 1024 → Fin 4096 → EReal) (dn : Fin 4096 → Fin 1024 → EReal) : Fin 1024 → EReal :=
  dot (fun e => relu2 (dot v up e)) dn

/-- The row after the merge. -/
def merge (x : Fin 1024 → EReal) (a : Fin 512 → EReal) (b : Fin 4 → Fin 128 → EReal) (dg : Fin 128 → EReal)
    (wo : Fin 1024 → Fin 1024 → EReal) (g : Fin 1024 → EReal) (k : Fin 1024) : EReal :=
  x k + norm1024 (dot (cat a b dg) wo) g k

/-- The row after the MLP. -/
def channel (x g : Fin 1024 → EReal) (up : Fin 1024 → Fin 4096 → EReal) (dn : Fin 4096 → Fin 1024 → EReal)
    (g' : Fin 1024 → EReal) (k : Fin 1024) : EReal :=
  x k + norm1024 (mlp (norm1024 x g) up dn) g' k

/-- The embedding of a row under its gate. -/
def gated (x : Fin 1024 → EReal) (p : Fin 256 → EReal) (wp : Fin 256 → Fin 1024 → EReal) (wg : Fin 1024 → Fin 1024 → EReal)
    (k : Fin 1024) : EReal :=
  dot p wp k * Ideal.logistic (dot x wg k)

/-- The row after the embedding. -/
def ple (x : Fin 1024 → EReal) (p : Fin 256 → EReal) (wp : Fin 256 → Fin 1024 → EReal) (wg : Fin 1024 → Fin 1024 → EReal)
    (g : Fin 1024 → EReal) (k : Fin 1024) : EReal :=
  x k + norm1024 (gated x p wp wg) g k

/-- One row of the layer's second half. -/
def row (x : Fin 1024 → EReal) (a : Fin 512 → EReal) (b : Fin 4 → Fin 128 → EReal) (p : Fin 256 → EReal)
    (dg : Fin 128 → EReal) (wo : Fin 1024 → Fin 1024 → EReal) (g6 g7 : Fin 1024 → EReal)
    (up : Fin 1024 → Fin 4096 → EReal) (dn : Fin 4096 → Fin 1024 → EReal) (g10 : Fin 1024 → EReal)
    (wp : Fin 256 → Fin 1024 → EReal) (wg : Fin 1024 → Fin 1024 → EReal) (g13 : Fin 1024 → EReal) : Fin 1024 → EReal :=
  ple (channel (merge x a b dg wo g6) g7 up dn g10) p wp wg g13

/-- The heads of a row of 512 columns. -/
abbrev heads {a : ℕ} (v : (⟨2, ![a, 512]⟩ : Shape).Idx → EReal) (r : Fin a) (h : Fin 4) (d : Fin 128) : EReal :=
  v (ix2 r ⟨128 * h.val + d.val, by omega⟩)

/-- The layer's second half on all rows, as an array. -/
def post (x : (⟨2, ![65536, 1024]⟩ : Shape).Idx → EReal) (a b : (⟨2, ![65536, 512]⟩ : Shape).Idx → EReal)
    (p : (⟨2, ![65536, 256]⟩ : Shape).Idx → EReal) (dg : (⟨2, ![1, 128]⟩ : Shape).Idx → EReal)
    (wo : (⟨2, ![1024, 1024]⟩ : Shape).Idx → EReal) (g6 g7 : (⟨2, ![1, 1024]⟩ : Shape).Idx → EReal)
    (up : (⟨2, ![1024, 4096]⟩ : Shape).Idx → EReal) (dn : (⟨2, ![4096, 1024]⟩ : Shape).Idx → EReal)
    (g10 : (⟨2, ![1, 1024]⟩ : Shape).Idx → EReal) (wp : (⟨2, ![256, 1024]⟩ : Shape).Idx → EReal)
    (wg : (⟨2, ![1024, 1024]⟩ : Shape).Idx → EReal) (g13 : (⟨2, ![1, 1024]⟩ : Shape).Idx → EReal)
    (y : (⟨2, ![65536, 1024]⟩ : Shape).Idx) : EReal :=
  row (rowOf x (y 0)) (rowOf a (y 0)) (heads b (y 0)) (rowOf p (y 0)) (rowOf dg 0) (rowOf wo) (rowOf g6 0) (rowOf g7 0) (rowOf up)
    (rowOf dn) (rowOf g10 0) (rowOf wp) (rowOf wg) (rowOf g13 0) (y 1)

/-- A sum over 4096 terms as four sums of 1024, added to zero in turn. -/
theorem sum_chunks (f : Fin 4096 → EReal) :
    (((0 + ∑ e : Fin 1024, f ⟨e.val, by omega⟩) + ∑ e : Fin 1024, f ⟨1024 + e.val, by omega⟩) +
      ∑ e : Fin 1024, f ⟨2048 + e.val, by omega⟩) + ∑ e : Fin 1024, f ⟨3072 + e.val, by omega⟩ = ∑ e, f e := by
  have h1 := Fin.sum_univ_add (a := 1024) (b := 3072) f
  have h2 := Fin.sum_univ_add (a := 1024) (b := 2048) fun e => f (Fin.natAdd 1024 e)
  have h3 := Fin.sum_univ_add (a := 1024) (b := 1024) fun e => f (Fin.natAdd 1024 (Fin.natAdd 1024 e))
  refine Eq.trans ?_ h1.symm
  rw [h2, h3, zero_add, add_assoc, add_assoc]
  refine congrArg₂ _ rfl (congrArg₂ _ rfl (congrArg₂ _ ?_ ?_)) <;>
    exact Finset.sum_congr rfl fun e _ => congrArg f (Fin.ext (by simp only [Fin.val_natAdd, Fin.val_castAdd]; omega))

end Cert.Proof.Post
-- ==== Proof.PostKernel.lean ====
/-
  The second call's payloads read index by index over blocks of rows.
-/
module

public import proofs.«01_k».proof.Proof.Gen.Kernel2Ideal.Frame
public import proofs.«01_k».proof.Proof.PostSpec
public import Idealize.ShloMosaic.Lib.Tactic.CleanTypes

@[expose] public section

set_option maxRecDepth 65536

noncomputable section

namespace Cert.Proof.Post

open Idealize.ShloMosaic Idealize.ShloMosaic.TcCoe Idealize.SL.Sem Cert.Kernel2Ideal Cert.Kernel2Ideal.Gen

/-- A block of rows over the square roots of their mean squares, the squares given apart, times the gains. -/
def kNorm (v s : FVec Ideal S512x1024 .f32) (g : FVec Ideal S1x1024 .f32) : FVec Ideal S512x1024 .f32 :=
  mulf (mulf v (broadcastTo S512x1024 (rsqrt (addf (divf (shapeCast S512x1 (multiReduction .add [1] S512 s 0x00000000#32 reduces_S512x1024_S512 (.inl rfl) rfl) shapeCasts_S512_S512x1)
    (broadcast S512x1 (Scalar.ofBits (F := Ideal) .f32 0x44800000#32))) (broadcast S512x1 (Scalar.ofBits (F := Ideal) .f32 0x358637BD#32)))) broadcasts_S512x1_S512x1024))
    (broadcastTo S512x1024 g broadcasts_S1x1024_S512x1024)

theorem kNorm_at (v : FVec Ideal S512x1024 .f32) (g : FVec Ideal S1x1024 .f32) (r : Fin 512) (k : Fin 1024) :
    kNorm v (mulf v v) g (ix2 r k) = norm1024 (rowOf v r) (rowOf g 0) k := by
  unfold kNorm norm1024 norm
  pointwise

/-- A block of rows times a square matrix. -/
def kDot (v : FVec Ideal S512x1024 .bf16) (w : FVec Ideal S1024x1024 .bf16) : FVec Ideal S512x1024 .f32 :=
  matmul dot_S512x1024_S1024x1024_S512x1024_1_0_0_1_n_n none v w (constant S512x1024 .f32 0x00000000#32)

theorem kDot_at (v : FVec Ideal S512x1024 .bf16) (w : FVec Ideal S1024x1024 .bf16) (r : Fin 512) (k : Fin 1024) :
    kDot v w (ix2 r k) = dot (rowOf v r) (rowOf w) k := by
  unfold kDot dot
  pointwise

theorem pay4_at (dg : Vec Ideal S1x128 .f32) (od : Vec Ideal S512x128 .f32) (r : Fin 512) (d : Fin 128) :
    k0_pay4 (F := Ideal) dg od (ix2 r d) = normHead (rowOf od r) (rowOf dg 0) d := by
  unfold normHead norm
  pointwise [k0_pay4, k0_pay2]

theorem pay5_at (dg : Vec Ideal S1x128 .f32) (od : Vec Ideal S512x128 .f32) (r : Fin 512) (d : Fin 128) :
    k0_pay5 (F := Ideal) dg od (ix2 r d) = normHead (rowOf od r) (rowOf dg 0) d :=
  pay4_at dg od r d

/-- The merged outputs of a block, as the kernel lays them out. -/
def kCat (a : FVec Ideal S512x512 .bf16) (b0 b1 b2 b3 : FVec Ideal S512x128 .bf16) : FVec Ideal S512x1024 .bf16 :=
  concatenate S512x1024 1 [⟨S512x512, a⟩, ⟨S512x128, b0⟩, ⟨S512x128, b1⟩, ⟨S512x128, b2⟩, ⟨S512x128, b3⟩] concatenates_S512x512_S512x128_S512x128_S512x128_S512x128_S512x1024_d1

theorem kCat_at (a : FVec Ideal S512x512 .bf16) (b : Fin 4 → FVec Ideal S512x128 .bf16) (r : Fin 512) (e : Fin 1024) :
    kCat a (b 0) (b 1) (b 2) (b 3) (ix2 r e) = if h : e.val < 512 then a (ix2 r ⟨e.val, h⟩)
      else b ⟨(e.val - 512) / 128, by omega⟩ (ix2 r ⟨(e.val - 512) % 128, Nat.mod_lt _ (by decide)⟩) := by
  unfold kCat
  pointwise
  have key : ∀ (i j : Fin 4) (u v : Fin 128), i.val = j.val → u.val = v.val → b i (ix2 r u) = b j (ix2 r v) := by
    intro i j u v hi hu
    rw [Fin.ext hi, Fin.ext hu]
  have he := e.isLt
  split_ifs
  all_goals first | rfl | apply key
  all_goals first
    | (show _ = (e.val - 512) % 128; simp only; omega)
    | (show 0 = (e.val - 512) / 128; omega)
    | (show 1 = (e.val - 512) / 128; omega)
    | (show 2 = (e.val - 512) / 128; omega)
    | (show 3 = (e.val - 512) / 128; omega)

theorem pay7_eq (x : Vec Ideal S512x1024 .f32) (dg : Vec Ideal S1x128 .f32) (a : Vec Ideal S512x512 .f32)
    (b0 b1 b2 b3 : Vec Ideal S512x128 .f32) (w : Vec Ideal S1024x1024 .bf16) (g : Vec Ideal S1x1024 .f32) :
    k0_pay7 (F := Ideal) x (k0_pay2 dg) (k0_pay3 a) (k0_pay4 dg b0) (k0_pay5 dg b1) b2 (k0_pay6 b2) (Scalar.ofBits .f32 0x43000000#32) b3 w g =
      addf x (kNorm (kDot (kCat (k0_pay3 a) (k0_pay4 dg b0) (k0_pay4 dg b1) (k0_pay4 dg b2) (k0_pay4 dg b3)) w)
        (mulf (kDot (kCat (k0_pay3 a) (k0_pay4 dg b0) (k0_pay4 dg b1) (k0_pay4 dg b2) (k0_pay4 dg b3)) w)
          (kDot (kCat (k0_pay3 a) (k0_pay4 dg b0) (k0_pay4 dg b1) (k0_pay4 dg b2) (k0_pay4 dg b3)) w)) g) := rfl

theorem pay9_at (v : FVec Ideal S512x1024 .f32) (g : Vec Ideal S1x1024 .f32) (r : Fin 512) (k : Fin 1024) :
    k0_pay9 (F := Ideal) v g (mulf v v) (ix2 r k) = norm1024 (rowOf v r) (rowOf g 0) k := kNorm_at v g r k

/-- One chunk of the MLP's inner layer. -/
def kUp (h : FVec Ideal S512x1024 .bf16) (w : FVec Ideal S1024x1024 .bf16) : FVec Ideal S512x1024 .bf16 :=
  truncf .bf16 (mulf (maximumf (kDot h w) (broadcast S512x1024 (Scalar.ofBits (F := Ideal) .f32 0x00000000#32)))
    (maximumf (kDot h w) (broadcast S512x1024 (Scalar.ofBits (F := Ideal) .f32 0x00000000#32)))) bitsLt_bf16_f32

theorem kUp_at (h : FVec Ideal S512x1024 .bf16) (w : FVec Ideal S1024x1024 .bf16) (r : Fin 512) (k : Fin 1024) :
    kUp h w (ix2 r k) = relu2 (dot (rowOf h r) (rowOf w) k) := by
  unfold kUp relu2
  rw [← kDot_at]
  pointwise

/-- The MLP of a block, its inner layer in four chunks. -/
def kMlp (h : FVec Ideal S512x1024 .bf16) (u0 d0 u1 d1 u2 d2 u3 d3 : FVec Ideal S1024x1024 .bf16) : FVec Ideal S512x1024 .f32 :=
  addf (addf (addf (addf (broadcast S512x1024 (Scalar.ofBits (F := Ideal) .f32 0x00000000#32)) (kDot (kUp h u0) d0)) (kDot (kUp h u1) d1)) (kDot (kUp h u2) d2)) (kDot (kUp h u3) d3)

theorem pay12_eq (v : FVec Ideal S512x1024 .f32) (g : Vec Ideal S1x1024 .f32) (s : FVec Ideal S512x1024 .f32)
    (u0 d0 u1 d1 u2 d2 u3 d3 : Vec Ideal S1024x1024 .bf16) (g' : Vec Ideal S1x1024 .f32) :
    k0_pay12 (F := Ideal) v (k0_pay9 v g s) (k0_pay10 v g s u0 d0 u1 d1) (k0_pay11 v g s u2) d2 u3 d3 g' =
      addf v (kNorm (kMlp (k0_pay9 v g s) u0 d0 u1 d1 u2 d2 u3 d3)
        (mulf (kMlp (k0_pay9 v g s) u0 d0 u1 d1 u2 d2 u3 d3) (kMlp (k0_pay9 v g s) u0 d0 u1 d1 u2 d2 u3 d3)) g') := rfl

theorem kMlp_at (h : FVec Ideal S512x1024 .bf16) (u0 d0 u1 d1 u2 d2 u3 d3 : FVec Ideal S1024x1024 .bf16)
    (up : Fin 1024 → Fin 4096 → EReal) (dn : Fin 4096 → Fin 1024 → EReal)
    (hu0 : ∀ j e, u0 (ix2 j e) = up j ⟨e.val, by omega⟩) (hu1 : ∀ j e, u1 (ix2 j e) = up j ⟨1024 + e.val, by omega⟩)
    (hu2 : ∀ j e, u2 (ix2 j e) = up j ⟨2048 + e.val, by omega⟩) (hu3 : ∀ j e, u3 (ix2 j e) = up j ⟨3072 + e.val, by omega⟩)
    (hd0 : ∀ e k, d0 (ix2 e k) = dn ⟨e.val, by omega⟩ k) (hd1 : ∀ e k, d1 (ix2 e k) = dn ⟨1024 + e.val, by omega⟩ k)
    (hd2 : ∀ e k, d2 (ix2 e k) = dn ⟨2048 + e.val, by omega⟩ k) (hd3 : ∀ e k, d3 (ix2 e k) = dn ⟨3072 + e.val, by omega⟩ k)
    (r : Fin 512) (k : Fin 1024) :
    kMlp h u0 d0 u1 d1 u2 d2 u3 d3 (ix2 r k) = mlp (rowOf h r) up dn k := by
  have hz : Ideal.ofBits FTy.f32 0x00000000#32 = (0 : EReal) := Ideal.ofBits_zero .f32
  show (((Ideal.ofBits FTy.f32 0x00000000#32 + kDot (kUp h u0) d0 (ix2 r k)) + kDot (kUp h u1) d1 (ix2 r k)) +
    kDot (kUp h u2) d2 (ix2 r k)) + kDot (kUp h u3) d3 (ix2 r k) = _
  rw [hz]
  simp only [kDot_at]
  unfold mlp
  refine Eq.trans ?_ (sum_chunks fun e => relu2 (dot (rowOf h r) up e) * dn e k)
  unfold dot rowOf
  simp only [kUp_at, hd0, hd1, hd2, hd3]
  unfold dot rowOf
  simp only [hu0, hu1, hu2, hu3]

/-- The embedding of a block times its weights. -/
def kEmb (p : FVec Ideal S512x256 .bf16) (w : FVec Ideal S256x1024 .bf16) : FVec Ideal S512x1024 .f32 :=
  matmul dot_S512x256_S256x1024_S512x1024_1_0_0_1_n_n none p w (constant S512x1024 .f32 0x00000000#32)

theorem kEmb_at (p : FVec Ideal S512x256 .bf16) (w : FVec Ideal S256x1024 .bf16) (r : Fin 512) (k : Fin 1024) :
    kEmb p w (ix2 r k) = dot (rowOf p r) (rowOf w) k := by
  unfold kEmb dot
  pointwise

/-- A load of a block of a two-axis array, at an index. -/
theorem ld_at {a b p q : ℕ} {φ : EltTy} (x : Vec Ideal (⟨2, ![a, b]⟩ : Shape) φ) (o0 o1 : ℕ)
    (inb : ∀ z, (![o0, o1] : Fin 2 → ℕ) z + (![p, q] : Fin 2 → ℕ) z ≤ (⟨2, ![a, b]⟩ : Shape).size z)
    (r : Fin p) (k : Fin q) (i : Fin a) (j : Fin b) (hi : i.val = o0 + r.val) (hj : j.val = o1 + k.val) :
    View.ld x (Rect.unit (s := (⟨2, ![a, b]⟩ : Shape)) ![o0, o1] ![p, q] inb) (ix2 r k) = x (ix2 i j) := by
  rw [View.ld_unit]
  show x _ = x _
  congr 1
  funext z
  apply Fin.ext
  match z with
  | ⟨0, _⟩ => exact hi.symm
  | ⟨1, _⟩ => exact hj.symm

/-- A load of a whole two-axis array. -/
theorem ld_whole {a b : ℕ} {φ : EltTy} (x : Vec Ideal (⟨2, ![a, b]⟩ : Shape) φ)
    (inb : ∀ z, (![0, 0] : Fin 2 → ℕ) z + (![a, b] : Fin 2 → ℕ) z ≤ (⟨2, ![a, b]⟩ : Shape).size z) :
    View.ld x (Rect.unit (s := (⟨2, ![a, b]⟩ : Shape)) ![0, 0] ![a, b] inb) = x := by
  funext y
  rw [show y = ix2 (y 0) (y 1) from eq_ix2 y]
  exact ld_at x 0 0 inb (y 0) (y 1) (y 0) (y 1) (Nat.zero_add _).symm (Nat.zero_add _).symm

section
variable (x0 : Vec Ideal S512x1024 .f32) (x1 : Vec Ideal S512x512 .f32) (x2 : Vec Ideal S512x512 .f32)
  (x3 : Vec Ideal S512x256 .f32) (x4 : Vec Ideal S1x128 .f32) (x5 : Vec Ideal S1024x1024 .bf16)
  (x6 : Vec Ideal S1x1024 .f32) (x7 : Vec Ideal S1x1024 .f32) (x8 : Vec Ideal S1024x4096 .bf16)
  (x9 : Vec Ideal S4096x1024 .bf16) (x10 : Vec Ideal S1x1024 .f32) (x11 : Vec Ideal S256x1024 .bf16)
  (x12 : Vec Ideal S1024x1024 .bf16) (x13 : Vec Ideal S1x1024 .f32)

/-- The block after the merge. -/
theorem merge_at (r : Fin 512) (k : Fin 1024) :
    k0_pay20 x0 x1 x2 x3 x4 x5 x6 x7 x8 x9 x10 x11 x12 x13 (ix2 r k) =
      merge (rowOf x0 r) (rowOf x1 r) (heads x2 r) (rowOf x4 0) (rowOf x5) (rowOf x6 0) k := by
  have e0 : View.ld x0 r0_0 = x0 := ld_whole x0 _
  have e1 : View.ld x4 r0_1 = x4 := ld_whole x4 _
  have e2 : View.ld x1 r0_2 = x1 := ld_whole x1 _
  have e7 : View.ld x5 r0_7 = x5 := ld_whole x5 _
  have e8 : View.ld x6 r0_8 = x6 := ld_whole x6 _
  unfold k0_pay20 k0_pay15 k0_pay16 k0_pay17 k0_pay18 k0_pay19
  rw [e0, e1, e2, e7, e8, pay7_eq]
  show x0 (ix2 r k) + _ = _
  rw [kNorm_at]
  unfold merge
  congr 2
  funext k
  show kDot _ _ (ix2 r k) = _
  rw [kDot_at]
  congr 1
  funext e
  let b : Fin 4 → FVec Ideal S512x128 .bf16 := ![k0_pay4 x4 (View.ld x2 r0_3), k0_pay4 x4 (View.ld x2 r0_4),
    k0_pay4 x4 (View.ld x2 r0_5), k0_pay4 x4 (View.ld x2 r0_6)]
  refine (kCat_at (k0_pay3 x1) b r e).trans ?_
  have hb : ∀ (h : Fin 4) (d : Fin 128), b h (ix2 r d) = normHead (heads x2 r h) (rowOf x4 0) d := by
    intro h d
    match h with
    | 0 => exact (pay4_at _ _ _ _).trans (congrArg (fun f => normHead f (rowOf x4 0) d) (funext fun d => ld_at x2 0 0 _ r d _ _ (Nat.zero_add _).symm rfl))
    | 1 => exact (pay4_at _ _ _ _).trans (congrArg (fun f => normHead f (rowOf x4 0) d) (funext fun d => ld_at x2 0 128 _ r d _ _ (Nat.zero_add _).symm rfl))
    | 2 => exact (pay4_at _ _ _ _).trans (congrArg (fun f => normHead f (rowOf x4 0) d) (funext fun d => ld_at x2 0 256 _ r d _ _ (Nat.zero_add _).symm rfl))
    | 3 => exact (pay4_at _ _ _ _).trans (congrArg (fun f => normHead f (rowOf x4 0) d) (funext fun d => ld_at x2 0 384 _ r d _ _ (Nat.zero_add _).symm rfl))
  unfold cat
  simp only [hb]
  rfl

/-- What the kernel stores from its input blocks, row by row. -/
theorem out_at (r : Fin 512) (k : Fin 1024) :
    out0_14 x0 x1 x2 x3 x4 x5 x6 x7 x8 x9 x10 x11 x12 x13 (ix2 r k) =
      row (rowOf x0 r) (rowOf x1 r) (heads x2 r) (rowOf x3 r) (rowOf x4 0) (rowOf x5) (rowOf x6 0) (rowOf x7 0) (rowOf x8)
        (rowOf x9) (rowOf x10 0) (rowOf x11) (rowOf x12) (rowOf x13 0) k := by
  have e7 : View.ld x7 r0_8 = x7 := ld_whole x7 _
  have e10 : View.ld x10 r0_8 = x10 := ld_whole x10 _
  have e13 : View.ld x13 r0_8 = x13 := ld_whole x13 _
  have e3 : View.ld x3 r0_17 = x3 := ld_whole x3 _
  have e11 : View.ld x11 r0_18 = x11 := ld_whole x11 _
  have e12 : View.ld x12 r0_7 = x12 := ld_whole x12 _
  have hm := merge_at x0 x1 x2 x3 x4 x5 x6 x7 x8 x9 x10 x11 x12 x13
  have hs : k0_pay21 x0 x1 x2 x3 x4 x5 x6 x7 x8 x9 x10 x11 x12 x13 =
    mulf (k0_pay20 x0 x1 x2 x3 x4 x5 x6 x7 x8 x9 x10 x11 x12 x13) (k0_pay20 x0 x1 x2 x3 x4 x5 x6 x7 x8 x9 x10 x11 x12 x13) := rfl
  unfold out0_14 k0_pay24 k0_pay23 k0_pay22
  rw [e7, e10, e13, e3, e11, e12, hs]
  generalize k0_pay20 x0 x1 x2 x3 x4 x5 x6 x7 x8 x9 x10 x11 x12 x13 = v at hm ⊢
  have hx2 : ∀ k, k0_pay12 (F := Ideal) v (k0_pay9 v x7 (mulf v v)) (k0_pay10 v x7 (mulf v v) (View.ld x8 r0_9) (View.ld x9 r0_10) (View.ld x8 r0_11) (View.ld x9 r0_12))
      (k0_pay11 v x7 (mulf v v) (View.ld x8 r0_13)) (View.ld x9 r0_14) (View.ld x8 r0_15) (View.ld x9 r0_16) x10 (ix2 r k) =
      channel (rowOf v r) (rowOf x7 0) (rowOf x8) (rowOf x9) (rowOf x10 0) k := by
    intro k
    rw [pay12_eq]
    show v (ix2 r k) + _ = _
    rw [kNorm_at]
    unfold channel
    congr 2
    funext k
    refine (kMlp_at _ _ _ _ _ _ _ _ _ (rowOf x8) (rowOf x9) ?_ ?_ ?_ ?_ ?_ ?_ ?_ ?_ r k).trans ?_
    · exact fun j e => ld_at x8 0 0 _ j e _ _ (Nat.zero_add _).symm (Nat.zero_add _).symm
    · exact fun j e => ld_at x8 0 1024 _ j e _ _ (Nat.zero_add _).symm rfl
    · exact fun j e => ld_at x8 0 2048 _ j e _ _ (Nat.zero_add _).symm rfl
    · exact fun j e => ld_at x8 0 3072 _ j e _ _ (Nat.zero_add _).symm rfl
    · exact fun j e => ld_at x9 0 0 _ j e _ _ (Nat.zero_add _).symm (Nat.zero_add _).symm
    · exact fun j e => ld_at x9 1024 0 _ j e _ _ rfl (Nat.zero_add _).symm
    · exact fun j e => ld_at x9 2048 0 _ j e _ _ rfl (Nat.zero_add _).symm
    · exact fun j e => ld_at x9 3072 0 _ j e _ _ rfl (Nat.zero_add _).symm
    · congr 1
      funext k
      exact pay9_at v x7 r k
  have hr : rowOf v r = merge (rowOf x0 r) (rowOf x1 r) (heads x2 r) (rowOf x4 0) (rowOf x5) (rowOf x6 0) := funext fun k => hm r k
  unfold row
  rw [← hr]
  have he : ∀ k, k0_pay13 (F := Ideal) v (k0_pay9 v x7 (mulf v v)) (k0_pay10 v x7 (mulf v v) (View.ld x8 r0_9) (View.ld x9 r0_10) (View.ld x8 r0_11) (View.ld x9 r0_12))
      (k0_pay11 v x7 (mulf v v) (View.ld x8 r0_13)) (View.ld x9 r0_14) (View.ld x8 r0_15) (View.ld x9 r0_16) x10 x3 x11 x12 (ix2 r k) =
      gated (channel (rowOf v r) (rowOf x7 0) (rowOf x8) (rowOf x9) (rowOf x10 0)) (rowOf x3 r) (rowOf x11) (rowOf x12) k := by
    intro k
    refine (show _ = kEmb (truncf .bf16 x3 bitsLt_bf16_f32) x11 (ix2 r k) * Ideal.logistic (kDot (truncf .bf16 (k0_pay12 (F := Ideal) v (k0_pay9 v x7 (mulf v v))
      (k0_pay10 v x7 (mulf v v) (View.ld x8 r0_9) (View.ld x9 r0_10) (View.ld x8 r0_11) (View.ld x9 r0_12))
      (k0_pay11 v x7 (mulf v v) (View.ld x8 r0_13)) (View.ld x9 r0_14) (View.ld x8 r0_15) (View.ld x9 r0_16) x10) bitsLt_bf16_f32) x12 (ix2 r k)) from rfl).trans ?_
    rw [kEmb_at, kDot_at]
    unfold gated
    congr 3
    exact funext hx2
  have hc := View.canon_cons_unit_zero (Val := Elt Ideal) (S := S512x1024) (e := .f32) (off := ![0, 0]) (by funext z; fin_cases z <;> rfl) inb_S512x1024_S512x1024_0_0
  refine (congrFun (hc _ []) (ix2 r k)).trans ?_
  refine (show _ = _ + kNorm _ (mulf _ _) x13 (ix2 r k) from rfl).trans ?_
  rw [kNorm_at, hx2]
  unfold ple
  congr 2
  exact funext he

end

end Cert.Proof.Post
-- ==== Proof.PostArray.lean ====
/-
  The second call's result array: every grid point's block is the block of the layer's second half of the arguments.
-/
module

public import proofs.«01_k».proof.Proof.PostKernel
public import Idealize.ShloMosaic.Lib.Pipeline.ValueKit

@[expose] public section

set_option maxRecDepth 65536

noncomputable section

namespace Cert.Proof.Post

open Idealize.ShloMosaic Idealize.ShloMosaic.TcCoe Idealize.SL.Sem Cert.Kernel2Ideal Cert.Kernel2Ideal.Gen

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![0, 0] := by decide +kernel
theorem idx9 : ∀ t : Fin grid0.N, win0_9.index t = ![0, 0] := by decide +kernel
theorem idx10 : ∀ t : Fin grid0.N, win0_10.index t = ![0, 0] := by decide +kernel
theorem idx11 : ∀ t : Fin grid0.N, win0_11.index t = ![0, 0] := by decide +kernel
theorem idx12 : ∀ t : Fin grid0.N, win0_12.index t = ![0, 0] := by decide +kernel
theorem idx13 : ∀ t : Fin grid0.N, win0_13.index t = ![0, 0] := by decide +kernel
theorem idx14 : ∀ t : Fin grid0.N, win0_14.index t = ![t.val, 0] := by decide +kernel

variable (m : (ℓ : Loc nD τ sig) → Buf (Elt Ideal) ℓ) (c : Dev nD)

/-- The arguments as arrays. -/
abbrev A0 : Vec Ideal S65536x1024 .f32 := m ((c.tc : Thread nD τ).loc main_arg0)
abbrev A1 : Vec Ideal S65536x512 .f32 := m ((c.tc : Thread nD τ).loc main_arg1)
abbrev A2 : Vec Ideal S65536x512 .f32 := m ((c.tc : Thread nD τ).loc main_arg2)
abbrev A3 : Vec Ideal S65536x256 .f32 := m ((c.tc : Thread nD τ).loc main_arg3)
abbrev A4 : Vec Ideal S1x128 .f32 := m ((c.tc : Thread nD τ).loc main_arg4)
abbrev A5 : Vec Ideal S1024x1024 .bf16 := m ((c.tc : Thread nD τ).loc main_arg5)
abbrev A6 : Vec Ideal S1x1024 .f32 := m ((c.tc : Thread nD τ).loc main_arg6)
abbrev A7 : Vec Ideal S1x1024 .f32 := m ((c.tc : Thread nD τ).loc main_arg7)
abbrev A8 : Vec Ideal S1024x4096 .bf16 := m ((c.tc : Thread nD τ).loc main_arg8)
abbrev A9 : Vec Ideal S4096x1024 .bf16 := m ((c.tc : Thread nD τ).loc main_arg9)
abbrev A10 : Vec Ideal S1x1024 .f32 := m ((c.tc : Thread nD τ).loc main_arg10)
abbrev A11 : Vec Ideal S256x1024 .bf16 := m ((c.tc : Thread nD τ).loc main_arg11)
abbrev A12 : Vec Ideal S1024x1024 .bf16 := m ((c.tc : Thread nD τ).loc main_arg12)
abbrev A13 : Vec Ideal S1x1024 .f32 := m ((c.tc : Thread nD τ).loc main_arg13)

theorem hN (t : Fin cfg0.N) : t.val < 128 := t.isLt

/-- The block of argument 0 at a grid point. -/
theorem blk0 (t : Fin cfg0.N) (r : Fin 512) (k : Fin 1024) :
    (iblk m c 0 t : Vec Ideal S512x1024 .f32) (ix2 r k) = A0 m c (ix2 ⟨512 * t.val + r.val, by have := hN t; omega⟩ k) := by
  have ht := hN t
  blk_ext! [iblk, V, idx0 t]

/-- The block of argument 1 at a grid point. -/
theorem blk1 (t : Fin cfg0.N) (r : Fin 512) (k : Fin 512) :
    (iblk m c 1 t : Vec Ideal S512x512 .f32) (ix2 r k) = A1 m c (ix2 ⟨512 * t.val + r.val, by have := hN t; omega⟩ k) := by
  have ht := hN t
  blk_ext! [iblk, V, idx1 t]

/-- The block of argument 2 at a grid point. -/
theorem blk2 (t : Fin cfg0.N) (r : Fin 512) (k : Fin 512) :
    (iblk m c 2 t : Vec Ideal S512x512 .f32) (ix2 r k) = A2 m c (ix2 ⟨512 * t.val + r.val, by have := hN t; omega⟩ k) := by
  have ht := hN t
  blk_ext! [iblk, V, idx2 t]

/-- The block of argument 3 at a grid point. -/
theorem blk3 (t : Fin cfg0.N) (r : Fin 512) (k : Fin 256) :
    (iblk m c 3 t : Vec Ideal S512x256 .f32) (ix2 r k) = A3 m c (ix2 ⟨512 * t.val + r.val, by have := hN t; omega⟩ k) := by
  have ht := hN t
  blk_ext! [iblk, V, idx3 t]

/-- Argument 4 is whole at every grid point. -/
theorem blk4 (t : Fin cfg0.N) (r : Fin 1) (k : Fin 128) :
    (iblk m c 4 t : Vec Ideal S1x128 .f32) (ix2 r k) = A4 m c (ix2 r k) := by
  have ht := hN t
  blk_ext! [iblk, V, idx4 t]

/-- Argument 5 is whole at every grid point. -/
theorem blk5 (t : Fin cfg0.N) (r : Fin 1024) (k : Fin 1024) :
    (iblk m c 5 t : Vec Ideal S1024x1024 .bf16) (ix2 r k) = A5 m c (ix2 r k) := by
  have ht := hN t
  blk_ext! [iblk, V, idx5 t]

/-- Argument 6 is whole at every grid point. -/
theorem blk6 (t : Fin cfg0.N) (r : Fin 1) (k : Fin 1024) :
    (iblk m c 6 t : Vec Ideal S1x1024 .f32) (ix2 r k) = A6 m c (ix2 r k) := by
  have ht := hN t
  blk_ext! [iblk, V, idx6 t]

/-- Argument 7 is whole at every grid point. -/
theorem blk7 (t : Fin cfg0.N) (r : Fin 1) (k : Fin 1024) :
    (iblk m c 7 t : Vec Ideal S1x1024 .f32) (ix2 r k) = A7 m c (ix2 r k) := by
  have ht := hN t
  blk_ext! [iblk, V, idx7 t]

/-- Argument 8 is whole at every grid point. -/
theorem blk8 (t : Fin cfg0.N) (r : Fin 1024) (k : Fin 4096) :
    (iblk m c 8 t : Vec Ideal S1024x4096 .bf16) (ix2 r k) = A8 m c (ix2 r k) := by
  have ht := hN t
  blk_ext! [iblk, V, idx8 t]

/-- Argument 9 is whole at every grid point. -/
theorem blk9 (t : Fin cfg0.N) (r : Fin 4096) (k : Fin 1024) :
    (iblk m c 9 t : Vec Ideal S4096x1024 .bf16) (ix2 r k) = A9 m c (ix2 r k) := by
  have ht := hN t
  blk_ext! [iblk, V, idx9 t]

/-- Argument 10 is whole at every grid point. -/
theorem blk10 (t : Fin cfg0.N) (r : Fin 1) (k : Fin 1024) :
    (iblk m c 10 t : Vec Ideal S1x1024 .f32) (ix2 r k) = A10 m c (ix2 r k) := by
  have ht := hN t
  blk_ext! [iblk, V, idx10 t]

/-- Argument 11 is whole at every grid point. -/
theorem blk11 (t : Fin cfg0.N) (r : Fin 256) (k : Fin 1024) :
    (iblk m c 11 t : Vec Ideal S256x1024 .bf16) (ix2 r k) = A11 m c (ix2 r k) := by
  have ht := hN t
  blk_ext! [iblk, V, idx11 t]

/-- Argument 12 is whole at every grid point. -/
theorem blk12 (t : Fin cfg0.N) (r : Fin 1024) (k : Fin 1024) :
    (iblk m c 12 t : Vec Ideal S1024x1024 .bf16) (ix2 r k) = A12 m c (ix2 r k) := by
  have ht := hN t
  blk_ext! [iblk, V, idx12 t]

/-- Argument 13 is whole at every grid point. -/
theorem blk13 (t : Fin cfg0.N) (r : Fin 1) (k : Fin 1024) :
    (iblk m c 13 t : Vec Ideal S1x1024 .f32) (ix2 r k) = A13 m c (ix2 r k) := by
  have ht := hN t
  blk_ext! [iblk, V, idx13 t]

/-- The call's result is the layer's second half of its arguments. -/
theorem result : (dats m 0 c).arrAt 14 cfg0.N = post (A0 m c) (A1 m c) (A2 m c) (A3 m c) (A4 m c) (A5 m c) (A6 m c) (A7 m c) (A8 m c) (A9 m c) (A10 m c) (A11 m c) (A12 m c) (A13 m c) := by
  refine (dats m 0 c).arrAt_eq_of_covers 14 _ (by decide +kernel) fun t hf y => ?_
  have ht := hN t
  blk_simp
  rw [after0_14]
  obtain ⟨r, k, rfl⟩ : ∃ (r : Fin 512) (k : Fin 1024), y = ix2 r k := ⟨y 0, y 1, eq_ix2 y⟩
  have hemb : ((win0_14.blk t).view.emb (ix2 r k) : S65536x1024.Idx) = ix2 ⟨512 * t.val + r.val, by omega⟩ k := by
    blk_ext [idx14 t]
  refine Eq.trans rfl ((out_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r k).trans ?_)
  show _ = post (A0 m c) (A1 m c) (A2 m c) (A3 m c) (A4 m c) (A5 m c) (A6 m c) (A7 m c) (A8 m c) (A9 m c) (A10 m c) (A11 m c) (A12 m c) (A13 m c) ((win0_14.blk t).view.emb (ix2 r k) : S65536x1024.Idx)
  rw [hemb]
  unfold rowOf heads
  simp only [blk0, blk1, blk2, blk3, blk4, blk5, blk6, blk7, blk8, blk9, blk10, blk11, blk12, blk13]
  rfl

end Cert.Proof.Post
-- ==== Proof.PostReference.lean ====
/-
  The second reference read index by index, in stages: the merge, the MLP, the gated embedding.
-/
module

public import proofs.«01_k».proof.Proof.Gen.Reference2Ideal.Run
public import proofs.«01_k».proof.Proof.PostSpec
public import Idealize.ShloMosaic.Lib.IdealHost
public import Idealize.ShloMosaic.Lib.Tactic.CleanTypes

@[expose] public section

set_option maxRecDepth 65536

noncomputable section

namespace Cert.Proof.Post

open Idealize.ShloMosaic Idealize.ShloMosaic.TcCoe Idealize.SL.Sem Cert.Reference2Ideal Cert.Reference2Ideal.Gen

/-- Rows over the square roots of their mean squares, times the gains. -/
def rNorm (v : FVec Ideal S65536x1024 .f32) (g : FVec Ideal S1x1024 .f32) : FVec Ideal S65536x1024 .f32 :=
  mulf (mulf v (broadcastInDim S65536x1024 ![0, 1] bcast_S65536x1_S65536x1024_0_1 (Host.rsqrt (addf (Host.divf (broadcastInDim S65536x1 ![0] bcast_S65536_S65536x1_0 (Host.reduceAdd (mulf v v) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32))))))
    (broadcastInDim S65536x1024 ![0, 1] bcast_S1x1024_S65536x1024_0_1 (broadcastInDim S1x1024 ![1] bcast_S1024_S1x1024_1 (shapeCast _ g shapeCasts_S1x1024_S1024)))

theorem rNorm_at (v : FVec Ideal S65536x1024 .f32) (g : FVec Ideal S1x1024 .f32) (n : Fin 65536) (k : Fin 1024) :
    rNorm v g (ix2 n k) = norm1024 (rowOf v n) (rowOf g 0) k := by
  unfold rNorm norm1024 norm
  pointwise

/-- The heads of the second attention normalized, scaled and laid side by side. -/
def rHeads (u : FVec Ideal S65536x4x128 .f32) (g : FVec Ideal S1x128 .f32) : FVec Ideal S65536x4x128 .f32 :=
  mulf (mulf (mulf u (broadcastInDim S65536x4x128 ![0, 1, 2] bcast_S65536x4x1_S65536x4x128_0_1_2 (Host.rsqrt (addf (Host.divf (broadcastInDim S65536x4x1 ![0, 1] bcast_S65536x4_S65536x4x1_0_1 (Host.reduceAdd (mulf u u) (constant S_ .f32 0x00000000#32) reducesTo_S65536x4x128_S65536x4_d2 h_S_)) (broadcastInDim S65536x4x1 ![] bcast_S_S65536x4x1 (constant S_ .f32 0x43000000#32))) (broadcastInDim S65536x4x1 ![] bcast_S_S65536x4x1 (constant S_ .f32 0x358637BD#32))))))
    (broadcastInDim S65536x4x128 ![0, 1, 2] bcast_S1x1x128_S65536x4x128_0_1_2 (broadcastInDim S1x1x128 ![2] bcast_S128_S1x1x128_2 (shapeCast _ g shapeCasts_S1x128_S128)))) (broadcastInDim S65536x4x128 ![] bcast_S_S65536x4x128 (constant S_ .f32 0x3F4CCCCD#32))

theorem rHeads_at (u : FVec Ideal S65536x4x128 .f32) (g : FVec Ideal S1x128 .f32) (n : Fin 65536) (h : Fin 4) (d : Fin 128) :
    rHeads u g (ix3 n h d) = normHead (fun d => u (ix3 n h d)) (rowOf g 0) d := by
  unfold rHeads normHead norm
  rw [← mul_assoc]
  pointwise

/-- The attentions' outputs side by side. -/
def rCat (a b : FVec Ideal S65536x512 .f32) (g : FVec Ideal S1x128 .f32) : FVec Ideal S65536x1024 .f32 :=
  concatenate S65536x1024 1 [⟨S65536x512, a⟩, ⟨S65536x512, (shapeCast _ (rHeads (shapeCast _ b shapeCasts_S65536x512_S65536x4x128) g) shapeCasts_S65536x4x128_S65536x512)⟩] concatenates_S65536x512_S65536x512_S65536x1024_d1

theorem split_at (b : FVec Ideal S65536x512 .f32) (n : Fin 65536) (h : Fin 4) (d : Fin 128) :
    shapeCast S65536x4x128 b shapeCasts_S65536x512_S65536x4x128 (ix3 n h d) = heads b n h d := by
  pointwise
  simp only [heads, mul_comm h.val]

theorem rCat_at (a b : FVec Ideal S65536x512 .f32) (g : FVec Ideal S1x128 .f32) (n : Fin 65536) (e : Fin 1024) :
    rCat a b g (ix2 n e) = cat (rowOf a n) (heads b n) (rowOf g 0) e := by
  unfold rCat cat
  generalize hv : rHeads (shapeCast _ b shapeCasts_S65536x512_S65536x4x128) g = v
  have hb : ∀ h d, v (ix3 n h d) = normHead (heads b n h) (rowOf g 0) d := by
    intro h d
    rw [← hv, rHeads_at]
    simp only [split_at]
  pointwise
  simp only [hb]

/-- The products of the printed reference, at an index. -/
theorem rDotOut_at (v : FVec Ideal S65536x1024 .f32) (w : FVec Ideal S1024x1024 .bf16) (n : Fin 65536) (k : Fin 1024) :
    Host.dotGeneral dot_S65536x1024_S1024x1024_S65536x1024_1_0_0_1_n_n none v (extf .f32 w bitsLt_bf16_f32) (ix2 n k) =
      dot (rowOf v n) (rowOf w) k := by
  unfold dot
  pointwise

theorem rDotUp_at (v : FVec Ideal S65536x1024 .f32) (w : FVec Ideal S1024x4096 .bf16) (n : Fin 65536) (k : Fin 4096) :
    Host.dotGeneral dot_S65536x1024_S1024x4096_S65536x4096_1_0_0_1_n_n none v (extf .f32 w bitsLt_bf16_f32) (ix2 n k) =
      dot (rowOf v n) (rowOf w) k := by
  unfold dot
  pointwise

theorem rDotDown_at (v : FVec Ideal S65536x4096 .f32) (w : FVec Ideal S4096x1024 .bf16) (n : Fin 65536) (k : Fin 1024) :
    Host.dotGeneral dot_S65536x4096_S4096x1024_S65536x1024_1_0_0_1_n_n none v (extf .f32 w bitsLt_bf16_f32) (ix2 n k) =
      dot (rowOf v n) (rowOf w) k := by
  unfold dot
  pointwise

theorem rDotPle_at (v : FVec Ideal S65536x256 .f32) (w : FVec Ideal S256x1024 .bf16) (n : Fin 65536) (k : Fin 1024) :
    Host.dotGeneral dot_S65536x256_S256x1024_S65536x1024_1_0_0_1_n_n none v (extf .f32 w bitsLt_bf16_f32) (ix2 n k) =
      dot (rowOf v n) (rowOf w) k := by
  unfold dot
  pointwise

/-- The positive part of the MLP's inner layer. -/
def rUp (v : FVec Ideal S65536x1024 .f32) (w : FVec Ideal S1024x4096 .bf16) : FVec Ideal S65536x4096 .f32 :=
  maximumf (Host.dotGeneral dot_S65536x1024_S1024x4096_S65536x4096_1_0_0_1_n_n none v (extf .f32 w bitsLt_bf16_f32))
    (broadcastInDim S65536x4096 ![] bcast_S_S65536x4096 (constant S_ .f32 0x00000000#32))

theorem rUp_at (v : FVec Ideal S65536x1024 .f32) (w : FVec Ideal S1024x4096 .bf16) (n : Fin 65536) (k : Fin 4096) :
    rUp v w (ix2 n k) = max (dot (rowOf v n) (rowOf w) k) 0 := by
  rw [← rDotUp_at]
  unfold rUp
  refine (show _ = max _ (Ideal.ofBits FTy.f32 0x00000000#32) from rfl).trans ?_
  rw [Ideal.ofBits_zero]

/-- The MLP. -/
def rMlp (v : FVec Ideal S65536x1024 .f32) (up : FVec Ideal S1024x4096 .bf16) (dn : FVec Ideal S4096x1024 .bf16) : FVec Ideal S65536x1024 .f32 :=
  Host.dotGeneral dot_S65536x4096_S4096x1024_S65536x1024_1_0_0_1_n_n none (mulf (rUp v up) (rUp v up)) (extf .f32 dn bitsLt_bf16_f32)

theorem rMlp_at (v : FVec Ideal S65536x1024 .f32) (up : FVec Ideal S1024x4096 .bf16) (dn : FVec Ideal S4096x1024 .bf16) (n : Fin 65536) (k : Fin 1024) :
    rMlp v up dn (ix2 n k) = mlp (rowOf v n) (rowOf up) (rowOf dn) k := by
  unfold rMlp mlp
  rw [rDotDown_at]
  congr 1
  funext e
  refine (show _ = rUp v up (ix2 n e) * rUp v up (ix2 n e) from rfl).trans ?_
  rw [rUp_at]
  rfl

/-- The embedding under its gate. -/
def rGated (x : FVec Ideal S65536x1024 .f32) (p : FVec Ideal S65536x256 .f32) (wp : FVec Ideal S256x1024 .bf16) (wg : FVec Ideal S1024x1024 .bf16) : FVec Ideal S65536x1024 .f32 :=
  mulf (Host.dotGeneral dot_S65536x256_S256x1024_S65536x1024_1_0_0_1_n_n none p (extf .f32 wp bitsLt_bf16_f32)) (Host.divf (broadcastInDim S65536x1024 ![] bcast_S_S65536x1024 (constant S_ .f32 0x3F800000#32)) (addf (broadcastInDim S65536x1024 ![] bcast_S_S65536x1024 (constant S_ .f32 0x3F800000#32)) (Host.exp (Host.negf (Host.dotGeneral dot_S65536x1024_S1024x1024_S65536x1024_1_0_0_1_n_n none x (extf .f32 wg bitsLt_bf16_f32))))))

theorem add_at (x y : FVec Ideal S65536x1024 .f32) (i : S65536x1024.Idx) : addf x y i = x i + y i := rfl

theorem rGated_at (x : FVec Ideal S65536x1024 .f32) (p : FVec Ideal S65536x256 .f32) (wp : FVec Ideal S256x1024 .bf16) (wg : FVec Ideal S1024x1024 .bf16)
    (n : Fin 65536) (k : Fin 1024) : rGated x p wp wg (ix2 n k) = gated (rowOf x n) (rowOf p n) (rowOf wp) (rowOf wg) k := by
  unfold rGated gated Ideal.logistic
  rw [← rDotPle_at, ← rDotOut_at, ← Ideal.ofBits_one_f32]
  rfl

/-- The reference's result in the stages above. -/
def rPost (x : FVec Ideal S65536x1024 .f32) (a b : FVec Ideal S65536x512 .f32) (p : FVec Ideal S65536x256 .f32)
    (dg : FVec Ideal S1x128 .f32) (wo : FVec Ideal S1024x1024 .bf16) (g6 g7 : FVec Ideal S1x1024 .f32)
    (up : FVec Ideal S1024x4096 .bf16) (dn : FVec Ideal S4096x1024 .bf16) (g10 : FVec Ideal S1x1024 .f32)
    (wp : FVec Ideal S256x1024 .bf16) (wg : FVec Ideal S1024x1024 .bf16) (g13 : FVec Ideal S1x1024 .f32) : FVec Ideal S65536x1024 .f32 :=
  let x1 := addf x (rNorm (Host.dotGeneral dot_S65536x1024_S1024x1024_S65536x1024_1_0_0_1_n_n none (rCat a b dg) (extf .f32 wo bitsLt_bf16_f32)) g6)
  let x2 := addf x1 (rNorm (rMlp (rNorm x1 g7) up dn) g10)
  addf x2 (rNorm (rGated x2 p wp wg) g13)

theorem rPost_eq (x : FVec Ideal S65536x1024 .f32) (a b : FVec Ideal S65536x512 .f32) (p : FVec Ideal S65536x256 .f32)
    (dg : FVec Ideal S1x128 .f32) (wo : FVec Ideal S1024x1024 .bf16) (g6 g7 : FVec Ideal S1x1024 .f32)
    (up : FVec Ideal S1024x4096 .bf16) (dn : FVec Ideal S4096x1024 .bf16) (g10 : FVec Ideal S1x1024 .f32)
    (wp : FVec Ideal S256x1024 .bf16) (wg : FVec Ideal S1024x1024 .bf16) (g13 : FVec Ideal S1x1024 .f32) :
    rPost x a b p dg wo g6 g7 up dn g10 wp wg g13 = post x a b p dg wo g6 g7 up dn g10 wp wg g13 := by
  funext y
  obtain ⟨n, k, rfl⟩ : ∃ (n : Fin 65536) (k : Fin 1024), y = ix2 n k := ⟨y 0, y 1, eq_ix2 y⟩
  show _ = row (rowOf x n) (rowOf a n) (heads b n) (rowOf p n) (rowOf dg 0) (rowOf wo) (rowOf g6 0) (rowOf g7 0) (rowOf up)
    (rowOf dn) (rowOf g10 0) (rowOf wp) (rowOf wg) (rowOf g13 0) k
  unfold rPost row
  generalize hx1 : addf x (rNorm (Host.dotGeneral dot_S65536x1024_S1024x1024_S65536x1024_1_0_0_1_n_n none (rCat a b dg) (extf .f32 wo bitsLt_bf16_f32)) g6) = x1
  have h1 : rowOf x1 n = merge (rowOf x n) (rowOf a n) (heads b n) (rowOf dg 0) (rowOf wo) (rowOf g6 0) := by
    funext k
    rw [← hx1]
    refine (add_at _ _ (ix2 n k)).trans ?_
    rw [rNorm_at]
    unfold merge
    congr 2
    funext k
    refine (rDotOut_at _ wo n k).trans ?_
    congr 1
    funext e
    exact rCat_at a b dg n e
  generalize hx2 : addf x1 (rNorm (rMlp (rNorm x1 g7) up dn) g10) = x2
  have h2 : rowOf x2 n = channel (rowOf x1 n) (rowOf g7 0) (rowOf up) (rowOf dn) (rowOf g10 0) := by
    funext k
    rw [← hx2]
    refine (add_at _ _ (ix2 n k)).trans ?_
    rw [rNorm_at]
    unfold channel
    congr 2
    funext k
    refine (rMlp_at _ up dn n k).trans ?_
    exact congrArg (fun f => mlp f (rowOf up) (rowOf dn) k) (funext fun e => rNorm_at x1 g7 n e)
  rw [← h1, ← h2, add_at]
  rw [rNorm_at]
  unfold ple
  congr 2
  funext k
  exact rGated_at x2 p wp wg n k

end Cert.Proof.Post
-- ==== Proof.PostClaims.lean ====
/-
  The claims about the layer's second half: both programs' frames, and that kernel and reference compute one function.
-/
module

public import proofs.«01_k».proof.Defs
public import proofs.«01_k».proof.Proof.Gen.Kernel2
public import proofs.«01_k».proof.Proof.Gen.Kernel2.Frame
public import proofs.«01_k».proof.Proof.Gen.Kernel2Ideal.Value
public import proofs.«01_k».proof.Proof.PostArray
public import proofs.«01_k».proof.Proof.PostReference
public import Idealize.ShloMosaic.Adequacy

@[expose] public section

noncomputable section

namespace Cert.Proof.Post

open Idealize.ShloMosaic Idealize.ShloMosaic.TcCoe Idealize.SL.Sem

theorem frame_p : Cert.quiescent_Kernel2 := fun m ρ _ => Cert.Kernel2.Gen.frame m ρ

theorem frame_pi : Cert.quiescent_Kernel2Ideal := fun m ρ _ => Cert.Kernel2Ideal.Gen.frame m ρ

theorem frame_ri : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- No operation of the kernel is replaced. -/
theorem preserves : Cert.preserves_Kernel2_Kernel2Ideal := trivial

set_option maxRecDepth 65536 in
/-- From arguments that agree, the kernel's result and the reference's are the layer's second half of them. -/
theorem algebraic : Cert.algebraic_Kernel2Ideal_Reference2Ideal := by
  intro m ρ m' ρ' hpre hagree
  refine ⟨_, Cert.Kernel2Ideal.Value.run_blocks (F := Ideal) m ρ, ?_⟩
  refine (θ_run Cert.Reference2Ideal.defs _ _).mono (fun _ h c => ⟨(h c).1.trans ?_, (h c).2⟩)
    (Cert.Reference2Ideal.Value.run (F := Ideal) m' ρ')
  obtain ⟨a0, a1, a2, a3, a4, a5, a6, a7, a8, a9, a10, a11, a12, a13⟩ := hagree c
  refine (show _ = rPost (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3))
      (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5))
      (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7))
      (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9))
      (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11))
      (m' ((c.tc : Thread Cert.Reference2Ideal.nD Cert.Reference2Ideal.τ).loc Cert.Reference2Ideal.main_arg12)) (m' ((c.tc : Thread Cert.Reference2Ideal.nD Cert.Reference2Ideal.τ).loc Cert.Reference2Ideal.main_arg13)) from rfl).trans ?_
  rw [rPost_eq, result m c, a0, a1, a2, a3, a4, a5, a6, a7, a8, a9, a10, a11, a12, a13]

end Cert.Proof.Post
-- ==== Proof.ProjSpec.lean ====
/-
  What the projection computes for one row: the normalized row times the weights, its queries and keys rotated by the
  row's position, each part laid out as a later step takes it.
-/
module

public import proofs.«01_k».proof.Proof.PostSpec

@[expose] public section

noncomputable section

namespace Cert.Proof.Proj

open Idealize.ShloMosaic

/-- The weights' columns in the kernel's order: the gates' 24 columns after all others, then zeros. -/
def wcol (w : Fin 1024 → Fin 2840 → EReal) (e : Fin 1024) (k : ℕ) : EReal :=
  if h : k < 1280 then w e ⟨k, by omega⟩
  else if h : k < 2816 then w e ⟨k + 24, by omega⟩
  else if h : k < 2840 then w e ⟨k - 1536, by omega⟩
  else 0

/-- The projection of a row, its columns in the kernel's order. -/
def zrow (x g : Fin 1024 → EReal) (w : Fin 1024 → Fin 2840 → EReal) (k : ℕ) : EReal :=
  ∑ e, Post.norm1024 x g e * wcol w e k

/-- The angle's cosine and sine at a position, for a frequency's index. -/
def angle (p j : ℕ) : EReal :=
  (((BitVec.ofNat 32 p).toInt : ℝ) : EReal) * Ideal.pow (Ideal.ofBits .f32 0x461C4000#32)
    (Ideal.div (-(((BitVec.ofNat 32 j).toInt : ℝ) : EReal)) (Ideal.ofBits .f32 0x42000000#32))

/-- The cosines' table over 128 lanes: the 32 frequencies four times. -/
def cosL (p l : ℕ) : EReal := Ideal.cos (angle p (l % 32))

/-- The sines' table over 128 lanes: the 32 frequencies four times, the first and the third time with the sign changed. -/
def sinL (p l : ℕ) : EReal := if l % 64 < 32 then -Ideal.sin (angle p (l % 32)) else Ideal.sin (angle p (l % 32))

/-- Column `k` of a row rotated in its group of 64 columns: each column and its partner 32 columns away. -/
def rot (z c s : ℕ → EReal) (k : ℕ) : EReal :=
  z k * c (k % 128) + (if k % 64 < 32 then z (k + 32) else z (k - 32)) * s (k % 128)

/-- The constant that scales the queries. -/
def scale : EReal := Ideal.ofBits .f32 0x3E000000#32

/-- A row's heads of 64 columns each in the first half of 128 lanes, zeros in the second. -/
def lanes (f : ℕ → EReal) (k : ℕ) : EReal := if k % 128 < 64 then f (64 * (k / 128) + k % 128) else 0

/-- The first attention's rows for its cache. -/
def fNsa (z c s : ℕ → EReal) (k : ℕ) : EReal := if 256 ≤ k ∧ k < 384 then rot z c s (512 + k) else z (512 + k)

/-- The first attention's rows for its window. -/
def fWin (z c s : ℕ → EReal) (k : ℕ) : EReal := if k < 128 then rot z c s (1024 + k) else z (1024 + k)

/-- The second attention's rows for its cache. -/
def fDiff (z c s : ℕ → EReal) (k : ℕ) : EReal := if k < 512 then rot z c s (1792 + k) else z (1792 + k)

/-- The first attention's queries, not rotated. -/
def fQc (z : ℕ → EReal) (k : ℕ) : EReal := lanes (fun e => z e * scale) k

/-- The first attention's queries, rotated. -/
def fQr (z c s : ℕ → EReal) (k : ℕ) : EReal := lanes (fun e => rot z c s e * scale) k

/-- The second attention's queries. -/
def fDq (z c s : ℕ → EReal) (k : ℕ) : EReal := rot z c s (1280 + k) * scale

/-- The gates. -/
def fGate (z : ℕ → EReal) (k : ℕ) : EReal := Ideal.logistic (z (2816 + k))

/-- The window's keys in lanes. -/
def fKwin (z c s : ℕ → EReal) (k : ℕ) : EReal := lanes (fun e => rot z c s (1024 + e)) k

/-- The second attention's keys. -/
def fDk (z c s : ℕ → EReal) (k : ℕ) : EReal := rot z c s (1792 + k)

/-- The first attention's keys, each head followed by the unit vector of the block of 64 positions that holds the row. -/
def fKaug (p : ℕ) (z c s : ℕ → EReal) (k : ℕ) : EReal :=
  if k % 256 < 64 then rot z c s (768 + (64 * (k / 256) + k % 256))
  else if k % 256 < 128 then 0
  else if k % 256 - 128 = p / 64 then 1 else 0

end Cert.Proof.Proj
-- ==== Proof.ProjKernel.lean ====
/-
  The steps of the projection's kernel read index by index over blocks of rows.
-/
module

public import proofs.«01_k».proof.Proof.Gen.Kernel3Ideal.Skeleton
public import proofs.«01_k».proof.Proof.ProjSpec
public import Idealize.ShloMosaic.Lib.Tactic.CleanTypes

@[expose] public section

set_option maxRecDepth 65536

noncomputable section

namespace Cert.Proof.Proj

open Idealize.ShloMosaic Idealize.ShloMosaic.TcCoe Idealize.SL.Sem Cert.Kernel3Ideal Cert.Kernel3Ideal.Gen

/-- A block of rows by columns holds `f` of the row and the column. -/
def Is {a b : ℕ} (v : (⟨2, ![a, b]⟩ : Shape).Idx → EReal) (f : Fin a → ℕ → EReal) : Prop :=
  ∀ (i : Fin a) (l : Fin b), v (ix2 i l) = f i l.val

theorem sel_group (l : Fin 128) (a b : EReal) :
    Scalar.select (IntOp.cmpi CmpIPredicate.slt (IntOp.andi (BitVec.ofNat 32 l.val) 63#32) 32#32) a b =
      if l.val % 64 < 32 then a else b := by
  have h : ∀ l : Fin 128, IntOp.cmpi CmpIPredicate.slt (IntOp.andi (BitVec.ofNat 32 l.val) 63#32) 32#32 =
      if l.val % 64 < 32 then 1#1 else 0#1 := by decide +kernel
  rw [h l]
  split_ifs <;> rfl

theorem sel_low (l : Fin 128) (a b : EReal) :
    Scalar.select (IntOp.cmpi CmpIPredicate.slt (BitVec.ofNat 32 l.val) 64#32) a b = if l.val < 64 then a else b := by
  have h : ∀ l : Fin 128, IntOp.cmpi CmpIPredicate.slt (BitVec.ofNat 32 l.val) 64#32 =
      if l.val < 64 then 1#1 else 0#1 := by decide +kernel
  rw [h l]
  split_ifs <;> rfl

/-- The rotation of a block of 128 lanes by the tables of cosines and sines. -/
def kRope (z C S : FVec Ideal S512x128 .f32) : FVec Ideal S512x128 .f32 :=
  addf (mulf z C) (mulf (select k0_pay10 (dynamicRotate 1 96#32 none z rotates_S512x128_d1)
    (dynamicRotate 1 32#32 none z rotates_S512x128_d1)) S)

theorem kRope_at (z C S : FVec Ideal S512x128 .f32) (i : Fin 512) (l : Fin 128) :
    kRope z C S (ix2 i l) = z (ix2 i l) * C (ix2 i l) + (if l.val % 64 < 32 then z (ix2 i ⟨(l.val + 32) % 128, by omega⟩)
      else z (ix2 i ⟨(l.val + 96) % 128, by omega⟩)) * S (ix2 i l) := by
  unfold kRope k0_pay10
  pointwise
  rw [sel_group]
  split_ifs <;> simp only [show l.val + 128 - 96 = l.val + 32 by omega, show l.val + 128 - 32 = l.val + 96 by omega]

/-- The first half of a block's lanes, zeros in the second. -/
def kLow (z : FVec Ideal S512x128 .f32) : FVec Ideal S512x128 .f32 :=
  select k0_pay9 z (broadcast S512x128 (Scalar.ofBits (F := Ideal) .f32 0x00000000#32))

/-- The second half of a block's lanes, moved to the first, zeros in the second. -/
def kHigh (z : FVec Ideal S512x128 .f32) : FVec Ideal S512x128 .f32 :=
  kLow (dynamicRotate 1 64#32 none z rotates_S512x128_d1)

theorem kLow_at (z : FVec Ideal S512x128 .f32) (i : Fin 512) (l : Fin 128) :
    kLow z (ix2 i l) = if l.val < 64 then z (ix2 i l) else 0 := by
  unfold kLow k0_pay9
  pointwise
  rw [sel_low]

theorem kHigh_at (z : FVec Ideal S512x128 .f32) (i : Fin 512) (l : Fin 128) :
    kHigh z (ix2 i l) = if l.val < 64 then z (ix2 i ⟨(l.val + 64) % 128, by omega⟩) else 0 := by
  unfold kHigh
  rw [kLow_at]
  pointwise
  simp only [show l.val + 128 - 64 = l.val + 64 by omega]

/-- A block times the queries' constant. -/
def kScale (z : FVec Ideal S512x128 .f32) : FVec Ideal S512x128 .f32 :=
  mulf z (broadcast S512x128 (Scalar.ofBits (F := Ideal) .f32 0x3E000000#32))

theorem kNorm_at (x : Vec Ideal S512x1024 .f32) (g : Vec Ideal S1x1024 .f32) (i : Fin 512) (k : Fin 1024) :
    k0_pay6 (F := Ideal) x g (ix2 i k) = Post.norm1024 (Post.rowOf x i) (Post.rowOf g 0) k := by
  unfold Post.norm1024 Post.norm
  pointwise [k0_pay6]

/-- Rotating the lanes that start at column `o` rotates the row's columns. -/
theorem rope_is (v C S : FVec Ideal S512x128 .f32) (z c s : Fin 512 → ℕ → EReal) (o : ℕ) (ho : o % 128 = 0)
    (hv : Is v fun i l => z i (o + l)) (hC : Is C c) (hS : Is S s) :
    Is (kRope v C S) fun i l => rot (z i) (c i) (s i) (o + l) := by
  intro i l
  have hl := l.isLt
  rw [kRope_at, hv, hC, hS]
  show _ = rot (z i) (c i) (s i) (o + l.val)
  unfold rot
  have e1 : (o + l.val) % 128 = l.val := by omega
  have e2 : (o + l.val) % 64 = l.val % 64 := by omega
  rw [e1, e2]
  congr 2
  split_ifs with h
  · refine (hv i _).trans (congrArg (z i) ?_)
    show o + (l.val + 32) % 128 = o + l.val + 32
    omega
  · refine (hv i _).trans (congrArg (z i) ?_)
    show o + (l.val + 96) % 128 = o + l.val - 32
    omega

theorem scale_is (v : FVec Ideal S512x128 .f32) (f : Fin 512 → ℕ → EReal) (hv : Is v f) :
    Is (kScale v) fun i l => f i l * scale := fun i l => congrArg (· * scale) (hv i l)

/-- Lanes `o …` in the first half of 128: the head at 128 lanes `2 o`. -/
theorem low_is (v : FVec Ideal S512x128 .f32) (f : Fin 512 → ℕ → EReal) (o : ℕ) (ho : o % 128 = 0)
    (hv : Is v fun i l => f i (o + l)) : Is (kLow v) fun i l => lanes (f i) (2 * o + l) := by
  intro i l
  have hl := l.isLt
  rw [kLow_at, hv]
  show _ = lanes (f i) (2 * o + l.val)
  unfold lanes
  have e : (2 * o + l.val) % 128 = l.val := by omega
  rw [e]
  split_ifs with h
  · show f i (o + l.val) = _
    congr 1
    omega
  · rfl

theorem high_is (v : FVec Ideal S512x128 .f32) (f : Fin 512 → ℕ → EReal) (o : ℕ) (ho : o % 128 = 0)
    (hv : Is v fun i l => f i (o + l)) : Is (kHigh v) fun i l => lanes (f i) (2 * o + 128 + l) := by
  intro i l
  have hl := l.isLt
  rw [kHigh_at, hv]
  show _ = lanes (f i) (2 * o + 128 + l.val)
  unfold lanes
  have e : (2 * o + 128 + l.val) % 128 = l.val := by omega
  rw [e]
  split_ifs with h
  · show f i (o + (l.val + 64) % 128) = _
    congr 1
    omega
  · rfl

/-- A slice of columns from `p` on. -/
theorem slice_is {n q : ℕ} (v : (⟨2, ![512, q]⟩ : Shape).Idx → EReal) (f : Fin 512 → ℕ → EReal) (o p : ℕ)
    (h : (⟨2, ![512, q]⟩ : Shape).Slices ![0, p] ⟨2, ![512, n]⟩) (hv : Is v fun i l => f i (o + l)) :
    Is (extractStridedSlice (⟨2, ![512, n]⟩ : Shape) ![0, p] v h) fun i l => f i (o + p + l) := by
  intro i l
  have hq : p + l.val < q := Nat.lt_of_lt_of_le (Nat.add_lt_add_left l.isLt _) (h.2 1)
  refine (congrArg v (?_ : _ = ix2 i ⟨p + l.val, hq⟩)).trans ((hv i _).trans (congrArg (f i) (Nat.add_assoc ..).symm))
  funext a
  apply Fin.ext
  match a with
  | ⟨0, _⟩ => show 0 + i.val = i.val; omega
  | ⟨1, _⟩ => rfl

/-- A block stored at column `o` on of an array of rows, read as a function of the row and the column. -/
theorem piece_at {n q : ℕ} (v : (⟨2, ![512, n]⟩ : Shape).Idx → EReal) (f' f : Fin 512 → ℕ → EReal) (o : ℕ)
    (inb : ∀ a, (![0, o] : Fin 2 → ℕ) a + (![512, n] : Fin 2 → ℕ) a ≤ (⟨2, ![512, q]⟩ : Shape).size a)
    (hv : Is v f') (h : ∀ i l, l < n → f' i l = f i (o + l))
    (x : (Rect.unit (s := (⟨2, ![512, q]⟩ : Shape)) ![0, o] ![512, n] inb).shape.Idx) :
    v x = f ((Rect.unit (s := (⟨2, ![512, q]⟩ : Shape)) ![0, o] ![512, n] inb).emb x 0)
      ((Rect.unit (s := (⟨2, ![512, q]⟩ : Shape)) ![0, o] ![512, n] inb).emb x 1).val := by
  obtain ⟨i, l, rfl⟩ : ∃ (i : Fin 512) (l : Fin n), x = ix2 i l := ⟨x 0, x 1, eq_ix2 x⟩
  rw [hv, h i l.val l.isLt]
  congr 1
  · apply Fin.ext
    show i.val = 0 + 1 * i.val
    omega
  · show o + l.val = o + 1 * l.val
    omega

/-- The rotation of the 128 columns from `p` on. -/
theorem rope_slice {q : ℕ} (v : (⟨2, ![512, q]⟩ : Shape).Idx → EReal) (C S : FVec Ideal S512x128 .f32) (z c s : Fin 512 → ℕ → EReal)
    (o p : ℕ) (h : (⟨2, ![512, q]⟩ : Shape).Slices ![0, p] S512x128) (hop : (o + p) % 128 = 0)
    (hv : Is v fun i l => z i (o + l)) (hC : Is C c) (hS : Is S s) :
    Is (kRope (extractStridedSlice S512x128 ![0, p] v h) C S) fun i l => rot (z i) (c i) (s i) (o + p + l) :=
  rope_is _ C S z c s (o + p) hop (slice_is v z o p h hv) hC hS

/-- The columns of a row's projection, from a block of weights. -/
def zblk (x : Vec Ideal S512x1024 .f32) (g : Vec Ideal S1x1024 .f32) (w : Vec Ideal S1024x2944 .bf16) (i : Fin 512) (k : ℕ) : EReal :=
  if h : k < 2944 then ∑ e, Post.norm1024 (Post.rowOf x i) (Post.rowOf g 0) e * w (ix2 e ⟨k, h⟩) else 0

section
variable (x : Vec Ideal S512x1024 .f32) (g : Vec Ideal S1x1024 .f32) (w : Vec Ideal S1024x2944 .bf16)

theorem zblk_of {n : ℕ} (o : ℕ) (ho : o + n ≤ 2944) (i : Fin 512) (k : Fin n) (off : Fin 2 → ℕ) (hoff : off = ![0, o])
    (inb : ∀ z, off z + (![1024, n] : Fin 2 → ℕ) z ≤ S1024x2944.size z) :
    ∑ e, k0_pay6 (F := Ideal) x g (ix2 i e) * View.ld w (Rect.unit (s := S1024x2944) off ![1024, n] inb) (ix2 e k) =
      zblk x g w i (o + k.val) := by
  subst hoff
  have hk : o + k.val < 2944 := by omega
  unfold zblk
  rw [dif_pos hk]
  refine Finset.sum_congr rfl fun e _ => ?_
  rw [kNorm_at]
  congr 1
  rw [View.ld_unit]
  show w _ = w _
  congr 1
  funext z
  apply Fin.ext
  match z with
  | ⟨0, _⟩ => show 0 + e.val = e.val; omega
  | ⟨1, _⟩ => rfl

theorem mm512_is (o : ℕ) (ho : o + 512 ≤ 2944) (inb : ∀ z, (![0, o] : Fin 2 → ℕ) z + (![1024, 512] : Fin 2 → ℕ) z ≤ S1024x2944.size z) :
    Is (k0_pay53 (F := Ideal) (k0_pay6 x g) (View.ld w (Rect.unit (s := S1024x2944) ![0, o] ![1024, 512] inb)))
      fun i l => zblk x g w i (o + l) := by
  intro i k
  refine Eq.trans ?_ (zblk_of x g w o ho i k _ rfl inb)
  generalize k0_pay6 (F := Ideal) x g = h
  pointwise [k0_pay53]

theorem mm768_is (o : ℕ) (ho : o + 768 ≤ 2944) (inb : ∀ z, (![0, o] : Fin 2 → ℕ) z + (![1024, 768] : Fin 2 → ℕ) z ≤ S1024x2944.size z) :
    Is (k0_pay47 (F := Ideal) (k0_pay6 x g) (View.ld w (Rect.unit (s := S1024x2944) ![0, o] ![1024, 768] inb)))
      fun i l => zblk x g w i (o + l) := by
  intro i k
  refine Eq.trans ?_ (zblk_of x g w o ho i k _ rfl inb)
  generalize k0_pay6 (F := Ideal) x g = h
  pointwise [k0_pay47]

theorem gate_is (o : ℕ) (ho : o + 128 ≤ 2944) (inb : ∀ z, (![0, o] : Fin 2 → ℕ) z + (![1024, 128] : Fin 2 → ℕ) z ≤ S1024x2944.size z) :
    Is (k0_pay66 (F := Ideal) (k0_pay6 x g) (View.ld w (Rect.unit (s := S1024x2944) ![0, o] ![1024, 128] inb)))
      fun i l => Ideal.logistic (zblk x g w i (o + l)) := by
  intro i k
  refine Eq.trans ?_ (congrArg Ideal.logistic (zblk_of x g w o ho i k _ rfl inb))
  generalize k0_pay6 (F := Ideal) x g = h
  pointwise [k0_pay66]

end

/-- A rotated query, scaled, in lanes: its first half. -/
theorem qr_low (Z : FVec Ideal S512x512 .f32) (C S : FVec Ideal S512x128 .f32) (z c s : Fin 512 → ℕ → EReal) (p : ℕ)
    (h : S512x512.Slices ![0, p] S512x128) (hp : (0 + p) % 128 = 0) (hZ : Is Z fun i l => z i (0 + l)) (hC : Is C c) (hS : Is S s) :
    Is (kLow (kScale (kRope (extractStridedSlice S512x128 ![0, p] Z h) C S))) fun i l => fQr (z i) (c i) (s i) (2 * p + l) :=
  low_is _ (fun i e => rot (z i) (c i) (s i) e * scale) p (by omega) (scale_is _ (fun i l => rot (z i) (c i) (s i) (p + l))
    (by simpa only [Nat.zero_add] using rope_slice Z C S z c s 0 p h hp hZ hC hS))

/-- A rotated query, scaled, in lanes: its second half. -/
theorem qr_high (Z : FVec Ideal S512x512 .f32) (C S : FVec Ideal S512x128 .f32) (z c s : Fin 512 → ℕ → EReal) (p : ℕ)
    (h : S512x512.Slices ![0, p] S512x128) (hp : (0 + p) % 128 = 0) (hZ : Is Z fun i l => z i (0 + l)) (hC : Is C c) (hS : Is S s) :
    Is (kHigh (kScale (kRope (extractStridedSlice S512x128 ![0, p] Z h) C S))) fun i l => fQr (z i) (c i) (s i) (2 * p + 128 + l) :=
  high_is _ (fun i e => rot (z i) (c i) (s i) e * scale) p (by omega) (scale_is _ (fun i l => rot (z i) (c i) (s i) (p + l))
    (by simpa only [Nat.zero_add] using rope_slice Z C S z c s 0 p h hp hZ hC hS))

section Lanes

variable (Z : FVec Ideal S512x512 .f32) (C S : FVec Ideal S512x128 .f32) (z c s : Fin 512 → ℕ → EReal)
  (hZ : Is Z fun i l => z i (0 + l)) (hC : Is C c) (hS : Is S s)
include hZ hC hS

theorem qr_896 : Is (k0_pay46 k0_pay9 (k0_pay44 C S k0_pay10 Z)) fun i l => fQr (z i) (c i) (s i) (896 + l) :=
  qr_high Z C S z c s 384 slices_S512x512_o0_384_S512x128 rfl hZ hC hS

theorem qr_768 : Is (k0_pay45 (k0_pay43 C S k0_pay9 k0_pay10 Z)) fun i l => fQr (z i) (c i) (s i) (768 + l) :=
  qr_low Z C S z c s 384 slices_S512x512_o0_384_S512x128 rfl hZ hC hS

theorem qr_640 : Is (k0_pay37 k0_pay9 (k0_pay33 C Z) (k0_pay34 S k0_pay10 Z)) fun i l => fQr (z i) (c i) (s i) (640 + l) :=
  qr_high Z C S z c s 256 slices_S512x512_o0_256_S512x128 rfl hZ hC hS

theorem qr_512 : Is (k0_pay36 k0_pay9 (k0_pay33 C Z) (k0_pay34 S k0_pay10 Z)) fun i l => fQr (z i) (c i) (s i) (512 + l) :=
  qr_low Z C S z c s 256 slices_S512x512_o0_256_S512x128 rfl hZ hC hS

theorem qr_384 : Is (k0_pay28 C S k0_pay9 k0_pay10 (k0_pay22 Z)) fun i l => fQr (z i) (c i) (s i) (384 + l) :=
  qr_high Z C S z c s 128 slices_S512x512_o0_128_S512x128 rfl hZ hC hS

theorem qr_256 : Is (k0_pay27 C S k0_pay9 k0_pay10 (k0_pay22 Z)) fun i l => fQr (z i) (c i) (s i) (256 + l) :=
  qr_low Z C S z c s 128 slices_S512x512_o0_128_S512x128 rfl hZ hC hS

end Lanes

theorem qr_128 (x : Vec Ideal S512x1024 .f32) (g : Vec Ideal S1x1024 .f32) (w : Vec Ideal S1024x512 .bf16)
    (C S : FVec Ideal S512x128 .f32) (z c s : Fin 512 → ℕ → EReal)
    (hZ : Is (k0_pay11 x g w) fun i l => z i (0 + l)) (hC : Is C c) (hS : Is S s) :
    Is (k0_pay21 C S k0_pay9 k0_pay10 (k0_pay12 x g w)) fun i l => fQr (z i) (c i) (s i) (128 + l) :=
  qr_high (k0_pay11 x g w) C S z c s 0 slices_S512x512_o0_0_S512x128 rfl hZ hC hS

theorem qr_0 (x : Vec Ideal S512x1024 .f32) (g : Vec Ideal S1x1024 .f32) (w : Vec Ideal S1024x512 .bf16)
    (C S : FVec Ideal S512x128 .f32) (z c s : Fin 512 → ℕ → EReal)
    (hZ : Is (k0_pay11 x g w) fun i l => z i (0 + l)) (hC : Is C c) (hS : Is S s) :
    Is (k0_pay20 C S k0_pay9 k0_pay10 (k0_pay12 x g w)) fun i l => fQr (z i) (c i) (s i) (0 + l) :=
  qr_low (k0_pay11 x g w) C S z c s 0 slices_S512x512_o0_0_S512x128 rfl hZ hC hS

end Cert.Proof.Proj
-- ==== Proof.ProjStored.lean ====
/-
  The blocks that the projection's kernel stores at a grid point, each as a function of the row and the column.
-/
module

public import proofs.«01_k».proof.Proof.Gen.Kernel3Ideal.Frame
public import proofs.«01_k».proof.Proof.ProjKernel
public import proofs.«01_k».proof.Proof.PostKernel

@[expose] public section

set_option maxRecDepth 65536

noncomputable section

namespace Cert.Proof.Proj

open Idealize.ShloMosaic Idealize.ShloMosaic.TcCoe Idealize.SL.Sem Cert.Kernel3Ideal Cert.Kernel3Ideal.Gen

variable (m : (ℓ : Loc nD τ sig) → Buf (Elt Ideal) ℓ) (c : Dev nD) (t : Fin cfg0.N)

/-- The projection of a row of the grid point's block. -/
def zK : Fin 512 → ℕ → EReal := zblk (iblk m c 0 t) (iblk m c 1 t) (iblk m c 2 t)

/-- The grid point's rows of the table of cosines. -/
def cK (i : Fin 512) (l : ℕ) : EReal := (iblk m c 3 t : Vec Ideal S512x128 .f32) (ix2 i ⟨l % 128, Nat.mod_lt _ (by decide)⟩)

/-- The grid point's rows of the table of sines. -/
def sK (i : Fin 512) (l : ℕ) : EReal := (iblk m c 4 t : Vec Ideal S512x128 .f32) (ix2 i ⟨l % 128, Nat.mod_lt _ (by decide)⟩)

theorem h512 (o : ℕ) (ho : o + 512 ≤ 2944) (inb : ∀ z, (![0, o] : Fin 2 → ℕ) z + (![1024, 512] : Fin 2 → ℕ) z ≤ S1024x2944.size z) :
    Is (k0_pay53 (F := Ideal) (k0_pay6 (iblk m c 0 t) (iblk m c 1 t)) (View.ld (iblk m c 2 t : Vec Ideal S1024x2944 .bf16) (Rect.unit (s := S1024x2944) ![0, o] ![1024, 512] inb)))
      fun i l => zK m c t i (o + l) := mm512_is _ _ _ o ho inb

theorem h768 (o : ℕ) (ho : o + 768 ≤ 2944) (inb : ∀ z, (![0, o] : Fin 2 → ℕ) z + (![1024, 768] : Fin 2 → ℕ) z ≤ S1024x2944.size z) :
    Is (k0_pay47 (F := Ideal) (k0_pay6 (iblk m c 0 t) (iblk m c 1 t)) (View.ld (iblk m c 2 t : Vec Ideal S1024x2944 .bf16) (Rect.unit (s := S1024x2944) ![0, o] ![1024, 768] inb)))
      fun i l => zK m c t i (o + l) := mm768_is _ _ _ o ho inb

theorem hG (o : ℕ) (ho : o + 128 ≤ 2944) (inb : ∀ z, (![0, o] : Fin 2 → ℕ) z + (![1024, 128] : Fin 2 → ℕ) z ≤ S1024x2944.size z) :
    Is (k0_pay66 (F := Ideal) (k0_pay6 (iblk m c 0 t) (iblk m c 1 t)) (View.ld (iblk m c 2 t : Vec Ideal S1024x2944 .bf16) (Rect.unit (s := S1024x2944) ![0, o] ![1024, 128] inb)))
      fun i l => Ideal.logistic (zK m c t i (o + l)) := gate_is _ _ _ o ho inb

theorem hC : Is (k0_pay7 (F := Ideal) (iblk m c 3 t)) (cK m c t) := by
  intro i l
  unfold cK
  simp only [Nat.mod_eq_of_lt l.isLt]
  pointwise [k0_pay7]

theorem hS : Is (k0_pay8 (F := Ideal) (iblk m c 4 t)) (sK m c t) := by
  intro i l
  unfold sK
  simp only [Nat.mod_eq_of_lt l.isLt]
  pointwise [k0_pay8]

theorem ld0 (inb : ∀ z, (![0, 0] : Fin 2 → ℕ) z + (![512, 1024] : Fin 2 → ℕ) z ≤ S512x1024.size z) :
    View.ld (iblk m c 0 t) (Rect.unit (s := S512x1024) ![0, 0] ![512, 1024] inb) = iblk m c 0 t := Post.ld_whole _ inb

theorem ld1 (inb : ∀ z, (![0, 0] : Fin 2 → ℕ) z + (![1, 1024] : Fin 2 → ℕ) z ≤ S1x1024.size z) :
    View.ld (iblk m c 1 t) (Rect.unit (s := S1x1024) ![0, 0] ![1, 1024] inb) = iblk m c 1 t := Post.ld_whole _ inb

theorem ld3 (inb : ∀ z, (![0, 0] : Fin 2 → ℕ) z + (![512, 128] : Fin 2 → ℕ) z ≤ S512x128.size z) :
    View.ld (iblk m c 3 t) (Rect.unit (s := S512x128) ![0, 0] ![512, 128] inb) = iblk m c 3 t := Post.ld_whole _ inb

theorem ld4 (inb : ∀ z, (![0, 0] : Fin 2 → ℕ) z + (![512, 128] : Fin 2 → ℕ) z ≤ S512x128.size z) :
    View.ld (iblk m c 4 t) (Rect.unit (s := S512x128) ![0, 0] ![512, 128] inb) = iblk m c 4 t := Post.ld_whole _ inb

/-- The window's keys, rotated. -/
theorem hW (inb : ∀ z, (![0, 512] : Fin 2 → ℕ) z + (![1024, 768] : Fin 2 → ℕ) z ≤ S1024x2944.size z) :
    Is (k0_pay51 (F := Ideal) (k0_pay6 (iblk m c 0 t) (iblk m c 1 t)) (k0_pay7 (iblk m c 3 t)) (k0_pay8 (iblk m c 4 t)) k0_pay10
      (View.ld (iblk m c 2 t : Vec Ideal S1024x2944 .bf16) (Rect.unit (s := S1024x2944) ![0, 512] ![1024, 768] inb)))
      fun i l => rot (zK m c t i) (cK m c t i) (sK m c t i) (1024 + (0 + l)) := by
  simp only [Nat.zero_add]
  exact rope_slice _ _ _ (zK m c t) _ _ 512 512 (by decide) rfl (h768 m c t 512 (by decide) (by decide)) (hC m c t) (hS m c t)

/-- The first attention's queries. -/
theorem stored5 : Is ((dats m 0 c).after 5 t : Vec Ideal S512x1024 .bf16) fun i => fQc (zK m c t i) := by
  intro i k
  rw [after0_5]
  unfold outsAt0 out0_A_5
  dsimp only
  refine (congrFun (View.read_writes_eq_canon _ _ _ fun y => cover0_A_5 ..) _).trans ?_
  let f : Fin 512 → ℕ → EReal := fun i => fQc (zK m c t i)
  refine View.canon_apply_of_pieces (Val := Elt Ideal) (e := .bf16) (fun y : S512x1024.Idx => f (y 0) (y 1).val) _ ?_ _ (cover0_A_5 ..)
  unfold kernelRun0_A
  dsimp only
  sl_unfold_words
  simp only [View.readAt_eq_ld, (hs0_0 t).read_unread, (hs0_1 t).read_unread, (hs0_2 t).read_unread, (hs0_3 t).read_unread, (hs0_4 t).read_unread]
  intro p hp
  simp only [List.mem_cons, List.mem_nil_iff, or_false, ld0, ld1, ld3, ld4] at hp
  rcases hp with rfl | rfl | rfl | rfl | rfl | rfl | rfl | rfl
  · exact piece_at _ _ f _ (by decide) (high_is _ (fun i e => zK m c t i e * scale) 384 rfl (scale_is _ _ (slice_is _ (zK m c t) 0 384 (by decide) (h512 m c t 0 (by decide) (by decide))))) fun i l _ => rfl
  · exact piece_at _ _ f _ (by decide) (low_is _ (fun i e => zK m c t i e * scale) 384 rfl (scale_is _ _ (slice_is _ (zK m c t) 0 384 (by decide) (h512 m c t 0 (by decide) (by decide))))) fun i l _ => rfl
  · exact piece_at _ _ f _ (by decide) (high_is _ (fun i e => zK m c t i e * scale) 256 rfl (scale_is _ _ (slice_is _ (zK m c t) 0 256 (by decide) (h512 m c t 0 (by decide) (by decide))))) fun i l _ => rfl
  · exact piece_at _ _ f _ (by decide) (low_is _ (fun i e => zK m c t i e * scale) 256 rfl (scale_is _ _ (slice_is _ (zK m c t) 0 256 (by decide) (h512 m c t 0 (by decide) (by decide))))) fun i l _ => rfl
  · exact piece_at _ _ f _ (by decide) (high_is _ (fun i e => zK m c t i e * scale) 128 rfl (scale_is _ _ (slice_is _ (zK m c t) 0 128 (by decide) (h512 m c t 0 (by decide) (by decide))))) fun i l _ => rfl
  · exact piece_at _ _ f _ (by decide) (low_is _ (fun i e => zK m c t i e * scale) 128 rfl (scale_is _ _ (slice_is _ (zK m c t) 0 128 (by decide) (h512 m c t 0 (by decide) (by decide))))) fun i l _ => rfl
  · exact piece_at _ _ f _ (by decide) (high_is _ (fun i e => zK m c t i e * scale) 0 rfl (scale_is _ _ (slice_is _ (zK m c t) 0 0 (by decide) (h512 m c t 0 (by decide) (by decide))))) fun i l _ => rfl
  · exact piece_at _ _ f _ (by decide) (low_is _ (fun i e => zK m c t i e * scale) 0 rfl (scale_is _ _ (slice_is _ (zK m c t) 0 0 (by decide) (h512 m c t 0 (by decide) (by decide))))) fun i l _ => rfl

/-- The first attention's rotated queries. -/
theorem stored6 : Is ((dats m 0 c).after 6 t : Vec Ideal S512x1024 .bf16) fun i => fQr (zK m c t i) (cK m c t i) (sK m c t i) := by
  intro i k
  rw [after0_6]
  unfold outsAt0 out0_A_6
  dsimp only
  refine (congrFun (View.read_writes_eq_canon _ _ _ fun y => cover0_A_6 ..) _).trans ?_
  let f : Fin 512 → ℕ → EReal := fun i => fQr (zK m c t i) (cK m c t i) (sK m c t i)
  refine View.canon_apply_of_pieces (Val := Elt Ideal) (e := .bf16) (fun y : S512x1024.Idx => f (y 0) (y 1).val) _ ?_ _ (cover0_A_6 ..)
  unfold kernelRun0_A
  dsimp only
  sl_unfold_words
  simp only [View.readAt_eq_ld, (hs0_0 t).read_unread, (hs0_1 t).read_unread, (hs0_2 t).read_unread, (hs0_3 t).read_unread, (hs0_4 t).read_unread]
  intro p hp
  simp only [List.mem_cons, List.mem_nil_iff, or_false, ld0, ld1, ld3, ld4] at hp
  rcases hp with rfl | rfl | rfl | rfl | rfl | rfl | rfl | rfl
  · exact piece_at _ _ f _ (by decide) (qr_896 _ _ _ (zK m c t) _ _ (h512 m c t 0 (by decide) (by decide)) (hC m c t) (hS m c t)) fun i l _ => rfl
  · exact piece_at _ _ f _ (by decide) (qr_768 _ _ _ (zK m c t) _ _ (h512 m c t 0 (by decide) (by decide)) (hC m c t) (hS m c t)) fun i l _ => rfl
  · exact piece_at _ _ f _ (by decide) (qr_640 _ _ _ (zK m c t) _ _ (h512 m c t 0 (by decide) (by decide)) (hC m c t) (hS m c t)) fun i l _ => rfl
  · exact piece_at _ _ f _ (by decide) (qr_512 _ _ _ (zK m c t) _ _ (h512 m c t 0 (by decide) (by decide)) (hC m c t) (hS m c t)) fun i l _ => rfl
  · exact piece_at _ _ f _ (by decide) (qr_384 _ _ _ (zK m c t) _ _ (h512 m c t 0 (by decide) (by decide)) (hC m c t) (hS m c t)) fun i l _ => rfl
  · exact piece_at _ _ f _ (by decide) (qr_256 _ _ _ (zK m c t) _ _ (h512 m c t 0 (by decide) (by decide)) (hC m c t) (hS m c t)) fun i l _ => rfl
  · exact piece_at _ _ f _ (by decide) (qr_128 _ _ _ _ _ (zK m c t) _ _ (h512 m c t 0 (by decide) (by decide)) (hC m c t) (hS m c t)) fun i l _ => rfl
  · exact piece_at _ _ f _ (by decide) (qr_0 _ _ _ _ _ (zK m c t) _ _ (h512 m c t 0 (by decide) (by decide)) (hC m c t) (hS m c t)) fun i l _ => rfl

/-- The second attention's queries. -/
theorem stored7 : Is ((dats m 0 c).after 7 t : Vec Ideal S512x512 .bf16) fun i => fDq (zK m c t i) (cK m c t i) (sK m c t i) := by
  intro i k
  rw [after0_7]
  unfold outsAt0 out0_A_7
  dsimp only
  refine (congrFun (View.read_writes_eq_canon _ _ _ fun y => cover0_A_7 ..) _).trans ?_
  let f : Fin 512 → ℕ → EReal := fun i => fDq (zK m c t i) (cK m c t i) (sK m c t i)
  refine View.canon_apply_of_pieces (Val := Elt Ideal) (e := .bf16) (fun y : S512x512.Idx => f (y 0) (y 1).val) _ ?_ _ (cover0_A_7 ..)
  unfold kernelRun0_A
  dsimp only
  sl_unfold_words
  simp only [View.readAt_eq_ld, (hs0_0 t).read_unread, (hs0_1 t).read_unread, (hs0_2 t).read_unread, (hs0_3 t).read_unread, (hs0_4 t).read_unread]
  intro p hp
  simp only [List.mem_cons, List.mem_nil_iff, or_false, ld0, ld1, ld3, ld4] at hp
  rcases hp with rfl | rfl | rfl | rfl
  · exact piece_at _ _ f _ (by decide) (scale_is _ _ (rope_slice _ _ _ (zK m c t) _ _ 1280 384 (by decide) rfl (h512 m c t 1280 (by decide) (by decide)) (hC m c t) (hS m c t))) fun i l _ => congrArg (fun k => rot (zK m c t i) (cK m c t i) (sK m c t i) k * scale) (Nat.add_assoc ..)
  · exact piece_at _ _ f _ (by decide) (scale_is _ _ (rope_slice _ _ _ (zK m c t) _ _ 1280 256 (by decide) rfl (h512 m c t 1280 (by decide) (by decide)) (hC m c t) (hS m c t))) fun i l _ => congrArg (fun k => rot (zK m c t i) (cK m c t i) (sK m c t i) k * scale) (Nat.add_assoc ..)
  · exact piece_at _ _ f _ (by decide) (scale_is _ _ (rope_slice _ _ _ (zK m c t) _ _ 1280 128 (by decide) rfl (h512 m c t 1280 (by decide) (by decide)) (hC m c t) (hS m c t))) fun i l _ => congrArg (fun k => rot (zK m c t i) (cK m c t i) (sK m c t i) k * scale) (Nat.add_assoc ..)
  · exact piece_at _ _ f _ (by decide) (scale_is _ _ (rope_slice _ _ _ (zK m c t) _ _ 1280 0 (by decide) rfl (h512 m c t 1280 (by decide) (by decide)) (hC m c t) (hS m c t))) fun i l _ => congrArg (fun k => rot (zK m c t i) (cK m c t i) (sK m c t i) k * scale) (Nat.add_assoc ..)

/-- The gates. -/
theorem stored8 : Is ((dats m 0 c).after 8 t : Vec Ideal S512x128 .f32) fun i => fGate (zK m c t i) := by
  intro i k
  rw [after0_8]
  unfold outsAt0 out0_A_8
  dsimp only
  refine (congrFun (View.read_writes_eq_canon _ _ _ fun y => cover0_A_8 ..) _).trans ?_
  let f : Fin 512 → ℕ → EReal := fun i => fGate (zK m c t i)
  refine View.canon_apply_of_pieces (Val := Elt Ideal) (e := .f32) (fun y : S512x128.Idx => f (y 0) (y 1).val) _ ?_ _ (cover0_A_8 ..)
  unfold kernelRun0_A
  dsimp only
  sl_unfold_words
  simp only [View.readAt_eq_ld, (hs0_0 t).read_unread, (hs0_1 t).read_unread, (hs0_2 t).read_unread, (hs0_3 t).read_unread, (hs0_4 t).read_unread]
  intro p hp
  simp only [List.mem_cons, List.mem_nil_iff, or_false, ld0, ld1, ld3, ld4] at hp
  subst hp
  exact piece_at _ _ f _ (by decide) (hG m c t 2816 (by decide) (by decide)) fun i l _ => congrArg (fun k => Ideal.logistic (zK m c t i (2816 + k))) (Nat.zero_add l).symm

/-- The first attention's rows for its cache. -/
theorem stored9 : Is ((dats m 0 c).after 9 t : Vec Ideal S512x512 .f32) fun i => fNsa (zK m c t i) (cK m c t i) (sK m c t i) := by
  intro i k
  rw [after0_9]
  unfold outsAt0 out0_A_9
  dsimp only
  refine (congrFun (View.read_writes_eq_canon _ _ _ fun y => cover0_A_9 ..) _).trans ?_
  let f : Fin 512 → ℕ → EReal := fun i => fNsa (zK m c t i) (cK m c t i) (sK m c t i)
  refine View.canon_apply_of_pieces (Val := Elt Ideal) (e := .f32) (fun y : S512x512.Idx => f (y 0) (y 1).val) _ ?_ _ (cover0_A_9 ..)
  unfold kernelRun0_A
  dsimp only
  sl_unfold_words
  simp only [View.readAt_eq_ld, (hs0_0 t).read_unread, (hs0_1 t).read_unread, (hs0_2 t).read_unread, (hs0_3 t).read_unread, (hs0_4 t).read_unread]
  intro p hp
  simp only [List.mem_cons, List.mem_nil_iff, or_false, ld0, ld1, ld3, ld4] at hp
  rcases hp with rfl | rfl | rfl
  · exact piece_at _ _ f _ (by decide) (slice_is _ (zK m c t) 512 384 (by decide) (h768 m c t 512 (by decide) (by decide))) fun i l hl => (congrArg (zK m c t i) (Nat.add_assoc ..)).trans (if_neg (by omega)).symm
  · exact piece_at _ _ f _ (by decide) (rope_slice _ _ _ (zK m c t) _ _ 512 256 (by decide) rfl (h768 m c t 512 (by decide) (by decide)) (hC m c t) (hS m c t)) fun i l hl => (congrArg (rot (zK m c t i) (cK m c t i) (sK m c t i)) (Nat.add_assoc ..)).trans (if_pos (by omega)).symm
  · exact piece_at _ _ f _ (by decide) (slice_is _ (zK m c t) 512 0 (by decide) (h768 m c t 512 (by decide) (by decide))) fun i l hl => (congrArg (zK m c t i) (Nat.add_assoc ..)).trans (if_neg (by omega)).symm

/-- The first attention's rows for its window. -/
theorem stored10 : Is ((dats m 0 c).after 10 t : Vec Ideal S512x256 .f32) fun i => fWin (zK m c t i) (cK m c t i) (sK m c t i) := by
  intro i k
  rw [after0_10]
  unfold outsAt0 out0_A_10
  dsimp only
  refine (congrFun (View.read_writes_eq_canon _ _ _ fun y => cover0_A_10 ..) _).trans ?_
  let f : Fin 512 → ℕ → EReal := fun i => fWin (zK m c t i) (cK m c t i) (sK m c t i)
  refine View.canon_apply_of_pieces (Val := Elt Ideal) (e := .f32) (fun y : S512x256.Idx => f (y 0) (y 1).val) _ ?_ _ (cover0_A_10 ..)
  unfold kernelRun0_A
  dsimp only
  sl_unfold_words
  simp only [View.readAt_eq_ld, (hs0_0 t).read_unread, (hs0_1 t).read_unread, (hs0_2 t).read_unread, (hs0_3 t).read_unread, (hs0_4 t).read_unread]
  intro p hp
  simp only [List.mem_cons, List.mem_nil_iff, or_false, ld0, ld1, ld3, ld4] at hp
  rcases hp with rfl | rfl
  · exact piece_at _ _ f _ (by decide) (slice_is _ (zK m c t) 512 640 (by decide) (h768 m c t 512 (by decide) (by decide))) fun i l hl => (congrArg (zK m c t i) (by omega)).trans (if_neg (by omega)).symm
  · exact piece_at _ _ f _ (by decide) (rope_slice _ _ _ (zK m c t) _ _ 512 512 (by decide) rfl (h768 m c t 512 (by decide) (by decide)) (hC m c t) (hS m c t)) fun i l hl => (congrArg (rot (zK m c t i) (cK m c t i) (sK m c t i)) (by omega)).trans (if_pos (by omega)).symm

/-- The second attention's rows for its cache. -/
theorem stored11 : Is ((dats m 0 c).after 11 t : Vec Ideal S512x1024 .f32) fun i => fDiff (zK m c t i) (cK m c t i) (sK m c t i) := by
  intro i k
  rw [after0_11]
  unfold outsAt0 out0_A_11
  dsimp only
  refine (congrFun (View.read_writes_eq_canon _ _ _ fun y => cover0_A_11 ..) _).trans ?_
  let f : Fin 512 → ℕ → EReal := fun i => fDiff (zK m c t i) (cK m c t i) (sK m c t i)
  refine View.canon_apply_of_pieces (Val := Elt Ideal) (e := .f32) (fun y : S512x1024.Idx => f (y 0) (y 1).val) _ ?_ _ (cover0_A_11 ..)
  unfold kernelRun0_A
  dsimp only
  sl_unfold_words
  simp only [View.readAt_eq_ld, (hs0_0 t).read_unread, (hs0_1 t).read_unread, (hs0_2 t).read_unread, (hs0_3 t).read_unread, (hs0_4 t).read_unread]
  intro p hp
  simp only [List.mem_cons, List.mem_nil_iff, or_false, ld0, ld1, ld3, ld4] at hp
  rcases hp with rfl | rfl | rfl | rfl | rfl
  · exact piece_at _ _ f _ (by decide) (h512 m c t 2304 (by decide) (by decide)) fun i l hl => (congrArg (zK m c t i) (by omega)).trans (if_neg (by omega)).symm
  · exact piece_at _ _ f _ (by decide) (rope_slice _ _ _ (zK m c t) _ _ 1792 384 (by decide) rfl (h512 m c t 1792 (by decide) (by decide)) (hC m c t) (hS m c t)) fun i l hl => (congrArg (rot (zK m c t i) (cK m c t i) (sK m c t i)) (Nat.add_assoc ..)).trans (if_pos (by omega)).symm
  · exact piece_at _ _ f _ (by decide) (rope_slice _ _ _ (zK m c t) _ _ 1792 256 (by decide) rfl (h512 m c t 1792 (by decide) (by decide)) (hC m c t) (hS m c t)) fun i l hl => (congrArg (rot (zK m c t i) (cK m c t i) (sK m c t i)) (Nat.add_assoc ..)).trans (if_pos (by omega)).symm
  · exact piece_at _ _ f _ (by decide) (rope_slice _ _ _ (zK m c t) _ _ 1792 128 (by decide) rfl (h512 m c t 1792 (by decide) (by decide)) (hC m c t) (hS m c t)) fun i l hl => (congrArg (rot (zK m c t i) (cK m c t i) (sK m c t i)) (Nat.add_assoc ..)).trans (if_pos (by omega)).symm
  · exact piece_at _ _ f _ (by decide) (rope_slice _ _ _ (zK m c t) _ _ 1792 0 (by decide) rfl (h512 m c t 1792 (by decide) (by decide)) (hC m c t) (hS m c t)) fun i l hl => (congrArg (rot (zK m c t i) (cK m c t i) (sK m c t i)) (Nat.add_assoc ..)).trans (if_pos (by omega)).symm

/-- The window's keys in lanes. -/
theorem stored14 : Is ((dats m 0 c).after 14 t : Vec Ideal S512x256 .bf16) fun i => fKwin (zK m c t i) (cK m c t i) (sK m c t i) := by
  intro i k
  rw [after0_14]
  unfold outsAt0 out0_A_14
  dsimp only
  refine (congrFun (View.read_writes_eq_canon _ _ _ fun y => cover0_A_14 ..) _).trans ?_
  let f : Fin 512 → ℕ → EReal := fun i => fKwin (zK m c t i) (cK m c t i) (sK m c t i)
  refine View.canon_apply_of_pieces (Val := Elt Ideal) (e := .bf16) (fun y : S512x256.Idx => f (y 0) (y 1).val) _ ?_ _ (cover0_A_14 ..)
  unfold kernelRun0_A
  dsimp only
  sl_unfold_words
  simp only [View.readAt_eq_ld, (hs0_0 t).read_unread, (hs0_1 t).read_unread, (hs0_2 t).read_unread, (hs0_3 t).read_unread, (hs0_4 t).read_unread]
  intro p hp
  simp only [List.mem_cons, List.mem_nil_iff, or_false, ld0, ld1, ld3, ld4] at hp
  rcases hp with rfl | rfl
  · exact piece_at _ _ f _ (by decide) (high_is _ (fun i e => rot (zK m c t i) (cK m c t i) (sK m c t i) (1024 + e)) 0 rfl (hW m c t (by decide))) fun i l _ => rfl
  · exact piece_at _ _ f _ (by decide) (low_is _ (fun i e => rot (zK m c t i) (cK m c t i) (sK m c t i) (1024 + e)) 0 rfl (hW m c t (by decide))) fun i l _ => rfl

/-- The second attention's keys. -/
theorem stored16 : Is ((dats m 0 c).after 16 t : Vec Ideal S512x512 .bf16) fun i => fDk (zK m c t i) (cK m c t i) (sK m c t i) := by
  intro i k
  rw [after0_16]
  unfold outsAt0 out0_A_16
  dsimp only
  refine (congrFun (View.read_writes_eq_canon _ _ _ fun y => cover0_A_16 ..) _).trans ?_
  let f : Fin 512 → ℕ → EReal := fun i => fDk (zK m c t i) (cK m c t i) (sK m c t i)
  refine View.canon_apply_of_pieces (Val := Elt Ideal) (e := .bf16) (fun y : S512x512.Idx => f (y 0) (y 1).val) _ ?_ _ (cover0_A_16 ..)
  unfold kernelRun0_A
  dsimp only
  sl_unfold_words
  simp only [View.readAt_eq_ld, (hs0_0 t).read_unread, (hs0_1 t).read_unread, (hs0_2 t).read_unread, (hs0_3 t).read_unread, (hs0_4 t).read_unread]
  intro p hp
  simp only [List.mem_cons, List.mem_nil_iff, or_false, ld0, ld1, ld3, ld4] at hp
  rcases hp with rfl | rfl | rfl | rfl
  · exact piece_at _ _ f _ (by decide) (rope_slice _ _ _ (zK m c t) _ _ 1792 384 (by decide) rfl (h512 m c t 1792 (by decide) (by decide)) (hC m c t) (hS m c t)) fun i l _ => congrArg (rot (zK m c t i) (cK m c t i) (sK m c t i)) (Nat.add_assoc ..)
  · exact piece_at _ _ f _ (by decide) (rope_slice _ _ _ (zK m c t) _ _ 1792 256 (by decide) rfl (h512 m c t 1792 (by decide) (by decide)) (hC m c t) (hS m c t)) fun i l _ => congrArg (rot (zK m c t i) (cK m c t i) (sK m c t i)) (Nat.add_assoc ..)
  · exact piece_at _ _ f _ (by decide) (rope_slice _ _ _ (zK m c t) _ _ 1792 128 (by decide) rfl (h512 m c t 1792 (by decide) (by decide)) (hC m c t) (hS m c t)) fun i l _ => congrArg (rot (zK m c t i) (cK m c t i) (sK m c t i)) (Nat.add_assoc ..)
  · exact piece_at _ _ f _ (by decide) (rope_slice _ _ _ (zK m c t) _ _ 1792 0 (by decide) rfl (h512 m c t 1792 (by decide) (by decide)) (hC m c t) (hS m c t)) fun i l _ => congrArg (rot (zK m c t i) (cK m c t i) (sK m c t i)) (Nat.add_assoc ..)

end Cert.Proof.Proj
-- ==== Proof.ProjTurned.lean ====
/-
  The blocks that the projection's kernel stores turned, and the keys beside their block's number, at a grid point.
-/
module

public import proofs.«01_k».proof.Proof.ProjStored

@[expose] public section

set_option maxRecDepth 65536

noncomputable section

namespace Cert.Proof.Proj

open Idealize.ShloMosaic Idealize.ShloMosaic.TcCoe Idealize.SL.Sem Cert.Kernel3Ideal Cert.Kernel3Ideal.Gen

/-- A turned block of rows. -/
theorem turn_at (v : FVec Ideal S512x128 .f32) (a b : Fin 1) (d : Fin 128) (i : Fin 512) :
    k0_pay71 (F := Ideal) v (ix4 a b d i) = v (ix2 i d) := by
  pointwise [k0_pay71]

/-- The first 128 columns of a block of rows turned, and likewise the others. -/
theorem turn512_at (v : FVec Ideal S512x512 .f32) (p : ℕ) (h : S512x512.Slices ![0, p] S512x128) (a b : Fin 1) (d : Fin 128) (i : Fin 512)
    (hp : p + 128 ≤ 512) : k0_pay71 (F := Ideal) (extractStridedSlice S512x128 ![0, p] v h) (ix4 a b d i) = v (ix2 i ⟨p + d.val, by omega⟩) := by
  rw [turn_at]
  pointwise

/-- 128 rows of a block turned. -/
theorem turn128_at (v : FVec Ideal S512x128 .f32) (p : ℕ) (h : S128x512.Slices ![0, p] S128x128) (a b : Fin 1) (d : Fin 128) (i : Fin 128)
    (hp : p + 128 ≤ 512) :
    shapeCast S1x1x128x128 (extractStridedSlice S128x128 ![0, p] (k0_pay74 (F := Ideal) v) h) shapeCasts_S128x128_S1x1x128x128 (ix4 a b d i)
      = v (ix2 ⟨p + i.val, by omega⟩ d) := by
  pointwise [k0_pay74]

theorem word_row : ∀ a : Fin 128, Scalar.muli (Scalar.select (Scalar.andi (Scalar.xori (Scalar.cmpi .slt (Scalar.remsi (BitVec.ofNat 32 a.val)
      (Scalar.select (Scalar.cmpi .eq 16#32 0#32) 1#32 16#32)) 0#32) (Scalar.cmpi .slt (Scalar.select (Scalar.cmpi .eq 16#32 0#32) 1#32 16#32) 0#32))
      (Scalar.cmpi .ne (Scalar.remsi (BitVec.ofNat 32 a.val) (Scalar.select (Scalar.cmpi .eq 16#32 0#32) 1#32 16#32)) 0#32))
      (Scalar.addi (Scalar.remsi (BitVec.ofNat 32 a.val) (Scalar.select (Scalar.cmpi .eq 16#32 0#32) 1#32 16#32)) (Scalar.select (Scalar.cmpi .eq 16#32 0#32) 1#32 16#32))
      (Scalar.remsi (BitVec.ofNat 32 a.val) (Scalar.select (Scalar.cmpi .eq 16#32 0#32) 1#32 16#32))) 512#32 = BitVec.ofNat 32 (512 * (a.val % 16)) := by
  decide +kernel

theorem word_block : ∀ n : Fin 8192, IntOp.shrsi .vector (BitVec.ofNat 32 n.val) 6#32 = BitVec.ofNat 32 (n.val / 64) := by
  decide +kernel

theorem cmp_eq (a b : ℕ) (ha : a < 2 ^ 32) (hb : b < 2 ^ 32) :
    IntOp.cmpi .eq (BitVec.ofNat 32 a) (BitVec.ofNat 32 b) = if a = b then 1#1 else 0#1 := by
  have e : (BitVec.ofNat 32 a = BitVec.ofNat 32 b) ↔ a = b := by
    rw [← BitVec.toNat_inj, BitVec.toNat_ofNat, BitVec.toNat_ofNat, Nat.mod_eq_of_lt ha, Nat.mod_eq_of_lt hb]
  unfold IntOp.cmpi
  dsimp only
  by_cases h : a = b
  · rw [if_pos h, beq_iff_eq.mpr (e.mpr h)]
    rfl
  · rw [if_neg h, beq_eq_false_iff_ne.mpr fun q => h (e.mp q)]
    rfl

/-- Whether a lane is a row's block's number. -/
theorem own_at (a : Fin 128) (i : Fin 512) (l : Fin 128) (u v : EReal) :
    Scalar.select (k0_pay67 (BitVec.ofNat 32 a.val) (iota .tc S512x128 32 [1] iota_S512x128_d1_w32) (ix2 i l)) u v
      = if l.val = (512 * (a.val % 16) + i.val) / 64 then u else v := by
  have h : k0_pay67 (BitVec.ofNat 32 a.val) (iota .tc S512x128 32 [1] iota_S512x128_d1_w32) (ix2 i l)
      = IntOp.cmpi .eq (BitVec.ofNat 32 l.val) (IntOp.shrsi .vector (BitVec.ofNat 32 (512 * (a.val % 16)) + BitVec.ofNat 32 i.val) 6#32) := by
    unfold k0_pay67
    dsimp only
    rw [word_row a]
    pointwise
    rfl
  rw [h, ← BitVec.ofNat_add, word_block ⟨512 * (a.val % 16) + i.val, by omega⟩]
  have hi : i.val < 512 := i.isLt
  have hl : l.val < 128 := l.isLt
  refine (congrArg (fun b => Scalar.select b u v) (cmp_eq l.val ((512 * (a.val % 16) + i.val) / 64) (by omega) (by omega))).trans ?_
  split_ifs <;> rfl

/-- The block's number of a row, one in its lane. -/
theorem own_is (a : ℕ) (ha : a < 128) :
    Is (k0_pay68 (F := Ideal) (k0_pay67 (BitVec.ofNat 32 a) (iota .tc S512x128 32 [1] iota_S512x128_d1_w32)) (Scalar.ofBits .f32 0x3F800000#32) (Scalar.ofBits .f32 0x00000000#32))
      fun i l => if l = (512 * (a % 16) + i.val) / 64 then 1 else 0 := by
  intro i l
  refine Eq.trans ?_ (own_at ⟨a, ha⟩ i l 1 0)
  pointwise [k0_pay68]

/-- The keys' lanes within the block of 512 lanes. -/
theorem kaug_key (p : ℕ) (z c s : ℕ → EReal) (j l : ℕ) (hl : l < 128) :
    lanes (fun e => rot z c s (768 + e)) (128 * j + l) = fKaug p z c s (256 * j + l) := by
  unfold lanes fKaug
  by_cases h : l < 64
  · rw [if_pos (by omega), if_pos (by omega)]
    exact congrArg (rot z c s) (by omega)
  · rw [if_neg (by omega), if_neg (by omega), if_pos (by omega)]

theorem kaug_own (p : ℕ) (z c s : ℕ → EReal) (j l : ℕ) (hl : l < 128) :
    (if l = p / 64 then 1 else 0) = fKaug p z c s (256 * j + 128 + l) := by
  unfold fKaug
  rw [if_neg (show ¬(256 * j + 128 + l) % 256 < 64 by omega), if_neg (show ¬(256 * j + 128 + l) % 256 < 128 by omega), show (256 * j + 128 + l) % 256 - 128 = l by omega]

theorem turn17_0 (v : FVec Ideal S512x512 .f32) (a b : Fin 1) (d : Fin 128) (i : Fin 512) :
    k0_pay80 (F := Ideal) v (ix4 a b d i) = v (ix2 i ⟨0 + d.val, by omega⟩) :=
  turn512_at v 0 slices_S512x512_o0_0_S512x128 a b d i (by decide)

theorem turn17_128 (v : FVec Ideal S512x512 .f32) (a b : Fin 1) (d : Fin 128) (i : Fin 512) :
    k0_pay1 (F := Ideal) (k0_pay82 v) (ix4 a b d i) = v (ix2 i ⟨128 + d.val, by omega⟩) :=
  turn512_at v 128 slices_S512x512_o0_128_S512x128 a b d i (by decide)

theorem turn17_256 (v : FVec Ideal S512x512 .f32) (a b : Fin 1) (d : Fin 128) (i : Fin 512) :
    k0_pay3 (F := Ideal) v (ix4 a b d i) = v (ix2 i ⟨256 + d.val, by omega⟩) :=
  turn512_at v 256 slices_S512x512_o0_256_S512x128 a b d i (by decide)

theorem turn17_384 (v : FVec Ideal S512x512 .f32) (a b : Fin 1) (d : Fin 128) (i : Fin 512) :
    k0_pay5 (F := Ideal) v (ix4 a b d i) = v (ix2 i ⟨384 + d.val, by omega⟩) :=
  turn512_at v 384 slices_S512x512_o0_384_S512x128 a b d i (by decide)

theorem turn15_0 (v : FVec Ideal S512x128 .f32) (a b : Fin 1) (d i : Fin 128) :
    k0_pay75 (F := Ideal) (k0_pay74 v) (ix4 a b d i) = v (ix2 ⟨0 + i.val, by omega⟩ d) :=
  turn128_at v 0 slices_S128x512_o0_0_S128x128 a b d i (by decide)

theorem turn15_128 (v : FVec Ideal S512x128 .f32) (a b : Fin 1) (d i : Fin 128) :
    k0_pay76 (F := Ideal) (k0_pay74 v) (ix4 a b d i) = v (ix2 ⟨128 + i.val, by omega⟩ d) :=
  turn128_at v 128 slices_S128x512_o0_128_S128x128 a b d i (by decide)

theorem turn15_256 (v : FVec Ideal S512x128 .f32) (a b : Fin 1) (d i : Fin 128) :
    k0_pay77 (F := Ideal) (k0_pay74 v) (ix4 a b d i) = v (ix2 ⟨256 + i.val, by omega⟩ d) :=
  turn128_at v 256 slices_S128x512_o0_256_S128x128 a b d i (by decide)

theorem turn15_384 (v : FVec Ideal S512x128 .f32) (a b : Fin 1) (d i : Fin 128) :
    k0_pay78 (F := Ideal) (k0_pay74 v) (ix4 a b d i) = v (ix2 ⟨384 + i.val, by omega⟩ d) :=
  turn128_at v 384 slices_S128x512_o0_384_S128x128 a b d i (by decide)

theorem fin_row {n : ℕ} {f : Fin n → ℕ → EReal} {i j : Fin n} {k l : ℕ} (h : i.val = j.val) (h' : k = l) : f i k = f j l := by
  rw [Fin.ext h, h']

theorem coord : ∀ t : Fin cfg0.N, (grid0.coords t 0).val = t.val := by decide +kernel

variable (m : (ℓ : Loc nD τ sig) → Buf (Elt Ideal) ℓ) (c : Dev nD) (t : Fin cfg0.N)

/-- The selected keys, rotated. -/
theorem hKey (inb : ∀ z, (![0, 512] : Fin 2 → ℕ) z + (![1024, 768] : Fin 2 → ℕ) z ≤ S1024x2944.size z) :
    Is (k0_pay49 (F := Ideal) (k0_pay6 (iblk m c 0 t) (iblk m c 1 t)) (k0_pay7 (iblk m c 3 t)) (k0_pay8 (iblk m c 4 t)) k0_pay10
      (View.ld (iblk m c 2 t : Vec Ideal S1024x2944 .bf16) (Rect.unit (s := S1024x2944) ![0, 512] ![1024, 768] inb)))
      fun i l => rot (zK m c t i) (cK m c t i) (sK m c t i) (768 + (0 + l)) := by
  simp only [Nat.zero_add]
  exact rope_slice _ _ _ (zK m c t) _ _ 512 256 (by decide) rfl (h768 m c t 512 (by decide) (by decide)) (hC m c t) (hS m c t)

/-- The selected values, turned. -/
theorem stored13 (a b : Fin 1) (d : Fin 128) (i : Fin 512) :
    ((dats m 0 c).after 13 t : Vec Ideal S1x1x128x512 .bf16) (ix4 a b d i) = zK m c t i (896 + d.val) := by
  rw [after0_13]
  unfold outsAt0 out0_A_13
  dsimp only
  refine (congrFun (View.read_writes_eq_canon _ _ _ fun y => cover0_A_13 ..) _).trans ?_
  refine View.canon_apply_of_pieces (Val := Elt Ideal) (e := .bf16) (fun y : S1x1x128x512.Idx => zK m c t (y 3) (896 + (y 2).val)) _ ?_ _ (cover0_A_13 ..)
  unfold kernelRun0_A
  dsimp only
  sl_unfold_words
  simp only [View.readAt_eq_ld, (hs0_0 t).read_unread, (hs0_1 t).read_unread, (hs0_2 t).read_unread, (hs0_3 t).read_unread, (hs0_4 t).read_unread]
  intro p hp
  simp only [List.mem_cons, List.mem_nil_iff, or_false, ld0, ld1, ld3, ld4] at hp
  subst hp
  · intro x
    obtain ⟨a, b, d, i, rfl⟩ : ∃ (a b : Fin 1) (d : Fin 128) (i : Fin 512), x = ix4 a b d i := ⟨_, _, _, _, eq_ix4 x⟩
    refine (turn_at _ a b d i).trans ((slice_is _ (zK m c t) 512 384 (by decide) (h768 m c t 512 (by decide) (by decide)) i d).trans (fin_row ?_ ?_))
    · show i.val = 0 + 1 * i.val
      omega
    · show 512 + 384 + d.val = 896 + (0 + 1 * d.val)
      omega

/-- The window's values, turned. -/
theorem stored15 (a : Fin 1) (b : Fin 4) (d : Fin 128) (i : Fin 128) :
    ((dats m 0 c).after 15 t : Vec Ideal S1x4x128x128 .bf16) (ix4 a b d i) = zK m c t ⟨128 * b.val + i.val, by omega⟩ (1152 + d.val) := by
  rw [after0_15]
  unfold outsAt0 out0_A_15
  dsimp only
  refine (congrFun (View.read_writes_eq_canon _ _ _ fun y => cover0_A_15 ..) _).trans ?_
  refine View.canon_apply_of_pieces (Val := Elt Ideal) (e := .bf16) (fun y : S1x4x128x128.Idx => zK m c t ⟨128 * (y 1).val + (y 3).val, by have h1 : (y 1).val < 4 := (y 1).isLt; have h3 : (y 3).val < 128 := (y 3).isLt; omega⟩ (1152 + (y 2).val)) _ ?_ _ (cover0_A_15 ..)
  unfold kernelRun0_A
  dsimp only
  sl_unfold_words
  simp only [View.readAt_eq_ld, (hs0_0 t).read_unread, (hs0_1 t).read_unread, (hs0_2 t).read_unread, (hs0_3 t).read_unread, (hs0_4 t).read_unread]
  intro p hp
  simp only [List.mem_cons, List.mem_nil_iff, or_false, ld0, ld1, ld3, ld4] at hp
  rcases hp with rfl | rfl | rfl | rfl
  · intro x
    obtain ⟨a, b, d, i, rfl⟩ : ∃ (a b : Fin 1) (d i : Fin 128), x = ix4 a b d i := ⟨_, _, _, _, eq_ix4 x⟩
    refine (turn15_384 _ a b d i).trans ((slice_is _ (zK m c t) 512 640 (by decide) (h768 m c t 512 (by decide) (by decide)) _ d).trans (fin_row ?_ ?_))
    · show 384 + i.val = 128 * (3 + 1 * b.val) + (0 + 1 * i.val)
      omega
    · show 512 + 640 + d.val = 1152 + (0 + 1 * d.val)
      omega
  · intro x
    obtain ⟨a, b, d, i, rfl⟩ : ∃ (a b : Fin 1) (d i : Fin 128), x = ix4 a b d i := ⟨_, _, _, _, eq_ix4 x⟩
    refine (turn15_256 _ a b d i).trans ((slice_is _ (zK m c t) 512 640 (by decide) (h768 m c t 512 (by decide) (by decide)) _ d).trans (fin_row ?_ ?_))
    · show 256 + i.val = 128 * (2 + 1 * b.val) + (0 + 1 * i.val)
      omega
    · show 512 + 640 + d.val = 1152 + (0 + 1 * d.val)
      omega
  · intro x
    obtain ⟨a, b, d, i, rfl⟩ : ∃ (a b : Fin 1) (d i : Fin 128), x = ix4 a b d i := ⟨_, _, _, _, eq_ix4 x⟩
    refine (turn15_128 _ a b d i).trans ((slice_is _ (zK m c t) 512 640 (by decide) (h768 m c t 512 (by decide) (by decide)) _ d).trans (fin_row ?_ ?_))
    · show 128 + i.val = 128 * (1 + 1 * b.val) + (0 + 1 * i.val)
      omega
    · show 512 + 640 + d.val = 1152 + (0 + 1 * d.val)
      omega
  · intro x
    obtain ⟨a, b, d, i, rfl⟩ : ∃ (a b : Fin 1) (d i : Fin 128), x = ix4 a b d i := ⟨_, _, _, _, eq_ix4 x⟩
    refine (turn15_0 _ a b d i).trans ((slice_is _ (zK m c t) 512 640 (by decide) (h768 m c t 512 (by decide) (by decide)) _ d).trans (fin_row ?_ ?_))
    · show 0 + i.val = 128 * (0 + 1 * b.val) + (0 + 1 * i.val)
      omega
    · show 512 + 640 + d.val = 1152 + (0 + 1 * d.val)
      omega

/-- The second attention's values, turned. -/
theorem stored17 (a b : Fin 1) (d i : Fin 512) :
    ((dats m 0 c).after 17 t : Vec Ideal S1x1x512x512 .bf16) (ix4 a b d i) = zK m c t i (2304 + d.val) := by
  rw [after0_17]
  unfold outsAt0 out0_A_17
  dsimp only
  refine (congrFun (View.read_writes_eq_canon _ _ _ fun y => cover0_A_17 ..) _).trans ?_
  refine View.canon_apply_of_pieces (Val := Elt Ideal) (e := .bf16) (fun y : S1x1x512x512.Idx => zK m c t (y 3) (2304 + (y 2).val)) _ ?_ _ (cover0_A_17 ..)
  unfold kernelRun0_A
  dsimp only
  sl_unfold_words
  simp only [View.readAt_eq_ld, (hs0_0 t).read_unread, (hs0_1 t).read_unread, (hs0_2 t).read_unread, (hs0_3 t).read_unread, (hs0_4 t).read_unread]
  intro p hp
  simp only [List.mem_cons, List.mem_nil_iff, or_false, ld0, ld1, ld3, ld4] at hp
  rcases hp with rfl | rfl | rfl | rfl
  · intro x
    obtain ⟨a, b, d, i, rfl⟩ : ∃ (a b : Fin 1) (d : Fin 128) (i : Fin 512), x = ix4 a b d i := ⟨_, _, _, _, eq_ix4 x⟩
    refine (turn17_384 _ a b d i).trans ((h512 m c t 2304 (by decide) (by decide) i _).trans (fin_row ?_ ?_))
    · show i.val = 0 + 1 * i.val
      omega
    · show 2304 + (384 + d.val) = 2304 + (384 + 1 * d.val)
      omega
  · intro x
    obtain ⟨a, b, d, i, rfl⟩ : ∃ (a b : Fin 1) (d : Fin 128) (i : Fin 512), x = ix4 a b d i := ⟨_, _, _, _, eq_ix4 x⟩
    refine (turn17_256 _ a b d i).trans ((h512 m c t 2304 (by decide) (by decide) i _).trans (fin_row ?_ ?_))
    · show i.val = 0 + 1 * i.val
      omega
    · show 2304 + (256 + d.val) = 2304 + (256 + 1 * d.val)
      omega
  · intro x
    obtain ⟨a, b, d, i, rfl⟩ : ∃ (a b : Fin 1) (d : Fin 128) (i : Fin 512), x = ix4 a b d i := ⟨_, _, _, _, eq_ix4 x⟩
    refine (turn17_128 _ a b d i).trans ((h512 m c t 2304 (by decide) (by decide) i _).trans (fin_row ?_ ?_))
    · show i.val = 0 + 1 * i.val
      omega
    · show 2304 + (128 + d.val) = 2304 + (128 + 1 * d.val)
      omega
  · intro x
    obtain ⟨a, b, d, i, rfl⟩ : ∃ (a b : Fin 1) (d : Fin 128) (i : Fin 512), x = ix4 a b d i := ⟨_, _, _, _, eq_ix4 x⟩
    refine (turn17_0 _ a b d i).trans ((h512 m c t 2304 (by decide) (by decide) i _).trans (fin_row ?_ ?_))
    · show i.val = 0 + 1 * i.val
      omega
    · show 2304 + (0 + d.val) = 2304 + (0 + 1 * d.val)
      omega

/-- The keys in lanes beside their block's number. -/
theorem stored12 (i : Fin 512) (k : Fin 512) :
    ((dats m 0 c).after 12 t : Vec Ideal S512x512 .bf16) (ix2 i k) = fKaug (512 * (t.val % 16) + i.val) (zK m c t i) (cK m c t i) (sK m c t i) k.val := by
  rw [after0_12]
  unfold outsAt0 out0_A_12
  dsimp only
  refine (congrFun (View.read_writes_eq_canon _ _ _ fun y => cover0_A_12 ..) _).trans ?_
  let f : Fin 512 → ℕ → EReal := fun i => fKaug (512 * (t.val % 16) + i.val) (zK m c t i) (cK m c t i) (sK m c t i)
  refine View.canon_apply_of_pieces (Val := Elt Ideal) (e := .bf16) (fun y : S512x512.Idx => f (y 0) (y 1).val) _ ?_ _ (cover0_A_12 ..)
  unfold kernelRun0_A
  dsimp only
  sl_unfold_words
  simp only [View.readAt_eq_ld, (hs0_0 t).read_unread, (hs0_1 t).read_unread, (hs0_2 t).read_unread, (hs0_3 t).read_unread, (hs0_4 t).read_unread]
  intro p hp
  simp only [List.mem_cons, List.mem_nil_iff, or_false, ld0, ld1, ld3, ld4] at hp
  rcases hp with rfl | rfl | rfl | rfl
  · exact piece_at _ _ f _ (by decide) (own_is (grid0.coords t 0).val (coord t ▸ t.isLt)) fun i l hl => by rw [coord]; exact kaug_own _ _ _ _ 1 l hl
  · exact piece_at _ _ f _ (by decide) (high_is _ (fun i e => rot (zK m c t i) (cK m c t i) (sK m c t i) (768 + e)) 0 rfl (hKey m c t (by decide))) fun i l hl => (congrArg (lanes _) (by omega)).trans (kaug_key _ _ _ _ 1 l hl)
  · exact piece_at _ _ f _ (by decide) (own_is (grid0.coords t 0).val (coord t ▸ t.isLt)) fun i l hl => by rw [coord]; exact kaug_own _ _ _ _ 0 l hl
  · exact piece_at _ _ f _ (by decide) (low_is _ (fun i e => rot (zK m c t i) (cK m c t i) (sK m c t i) (768 + e)) 0 rfl (hKey m c t (by decide))) fun i l hl => (congrArg (lanes _) (by omega)).trans (kaug_key _ _ _ _ 0 l hl)

end Cert.Proof.Proj
-- ==== Proof.ProjArray.lean ====
/-
  The projection call's result arrays: every grid point's block is the block of the projection of the arguments.
-/
module

public import proofs.«01_k».proof.Proof.ProjTurned
public import Idealize.ShloMosaic.Lib.Pipeline.ValueKit
public import Idealize.ShloMosaic.Lib.StableHlo.ReadAt

@[expose] public section

set_option maxRecDepth 65536

noncomputable section

namespace Cert.Proof.Proj

open Idealize.ShloMosaic Idealize.ShloMosaic.TcCoe Idealize.SL.Sem Cert.Kernel3Ideal Cert.Kernel3Ideal.Gen

variable (m : (ℓ : Loc nD τ sig) → Buf (Elt Ideal) ℓ) (c : Dev nD)

/-- The arguments as arrays. -/
abbrev A0 : Vec Ideal S8x8192x1024 .f32 := m ((c.tc : Thread nD τ).loc main_arg0)
abbrev A1 : Vec Ideal S1024 .f32 := m ((c.tc : Thread nD τ).loc main_arg1)
abbrev A2 : Vec Ideal S1024x2840 .f32 := m ((c.tc : Thread nD τ).loc main_arg2)

theorem v_x (r : Fin 65536) (k : Fin 1024) :
    (V m c main_v19 : Vec Ideal S65536x1024 .f32) (ix2 r k) = A0 m c (ix3 ⟨r.val / 8192, by omega⟩ ⟨r.val % 8192, by omega⟩ k) := by
  unfold V
  after_reads_at

theorem v_g (k : Fin 1024) : (V m c main_v20 : Vec Ideal S1x1024 .f32) (ix2 0 k) = A1 m c (ix1 k) := by
  unfold V
  after_reads_at

theorem v_w (e : Fin 1024) (k : Fin 2944) :
    (V m c main_v26 : Vec Ideal S1024x2944 .bf16) (ix2 e k) = wcol (fun e k => A2 m c (ix2 e k)) e k.val := by
  unfold V wcol
  after_reads_at
  after_reads_at
  have hk := k.isLt
  by_cases h1 : k.val < 1280
  · rw [dif_pos h1, dif_pos h1]
  · rw [dif_neg h1, dif_neg h1]
    by_cases h2 : k.val - 1280 < 1536
    · rw [dif_pos h2, dif_pos (show k.val < 2816 by omega)]
      refine congrArg (fun i => A2 m c (ix2 e i)) (Fin.ext ?_)
      show 1304 + (k.val - 1280) = k.val + 24
      omega
    · rw [dif_neg h2, dif_neg (show ¬k.val < 2816 by omega)]
      by_cases h3 : k.val - 1280 - 1536 < 24
      · rw [dif_pos h3, dif_pos (show k.val < 2840 by omega)]
        refine congrArg (fun i => A2 m c (ix2 e i)) (Fin.ext ?_)
        show 1280 + (k.val - 1280 - 1536) = k.val - 1536
        omega
      · rw [dif_neg h3, dif_neg (show ¬k.val < 2840 by omega)]

/-- Four tables of 32 lanes beside each other. -/
theorem four (f g : ℕ → EReal) (l : ℕ) (hl : l < 128) :
    (if _ : l < 32 then f l else if _ : l - 32 < 32 then g (l - 32) else if _ : l - 32 - 32 < 32 then f (l - 32 - 32) else g (l - 32 - 32 - 32))
      = if l % 64 < 32 then f (l % 32) else g (l % 32) := by
  split_ifs <;> first | omega | (congr 1; omega)

theorem v_c (p : Fin 8192) (l : Fin 128) : (V m c main_v15 : Vec Ideal S8192x128 .f32) (ix2 p l) = cosL p.val l.val := by
  unfold V
  after_reads_at
  after_reads_at
  refine (four (fun j => Ideal.cos (angle p.val j)) (fun j => Ideal.cos (angle p.val j)) l.val l.isLt).trans ?_
  rw [ite_self]
  rfl

theorem v_s (p : Fin 8192) (l : Fin 128) : (V m c main_v18 : Vec Ideal S8192x128 .f32) (ix2 p l) = sinL p.val l.val := by
  unfold V
  after_reads_at
  after_reads_at
  exact four (fun j => -Ideal.sin (angle p.val j)) (fun j => Ideal.sin (angle p.val j)) l.val l.isLt

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![t.val % 16, 0] := by decide +kernel
theorem idx4 : ∀ t : Fin grid0.N, win0_4.index t = ![t.val % 16, 0] := by decide +kernel
theorem idx5 : ∀ t : Fin grid0.N, win0_5.index t = ![t.val, 0] := by decide +kernel
theorem idx6 : ∀ t : Fin grid0.N, win0_6.index t = ![t.val, 0] := by decide +kernel
theorem idx7 : ∀ t : Fin grid0.N, win0_7.index t = ![t.val, 0] := by decide +kernel
theorem idx8 : ∀ t : Fin grid0.N, win0_8.index t = ![t.val, 0] := by decide +kernel
theorem idx9 : ∀ t : Fin grid0.N, win0_9.index t = ![t.val, 0] := by decide +kernel
theorem idx10 : ∀ t : Fin grid0.N, win0_10.index t = ![t.val, 0] := by decide +kernel
theorem idx11 : ∀ t : Fin grid0.N, win0_11.index t = ![t.val, 0] := by decide +kernel
theorem idx12 : ∀ t : Fin grid0.N, win0_12.index t = ![t.val, 0] := by decide +kernel
theorem idx14 : ∀ t : Fin grid0.N, win0_14.index t = ![t.val, 0] := by decide +kernel
theorem idx16 : ∀ t : Fin grid0.N, win0_16.index t = ![t.val, 0] := by decide +kernel
theorem idx13 : ∀ t : Fin grid0.N, win0_13.index t = ![t.val / 16, t.val % 16, 0, 0] := by decide +kernel
theorem idx15 : ∀ t : Fin grid0.N, win0_15.index t = ![t.val / 16, t.val % 16, 0, 0] := by decide +kernel
theorem idx17 : ∀ t : Fin grid0.N, win0_17.index t = ![t.val / 16, t.val % 16, 0, 0] := by decide +kernel

theorem hN (t : Fin cfg0.N) : t.val < 128 := t.isLt

theorem blk0 (t : Fin cfg0.N) (r : Fin 512) (k : Fin 1024) :
    (iblk m c 0 t : Vec Ideal S512x1024 .f32) (ix2 r k) = (V m c main_v19 : Vec Ideal S65536x1024 .f32) (ix2 ⟨512 * t.val + r.val, by have := hN t; omega⟩ k) := by
  have ht := hN t
  unfold iblk
  generalize V m c = W
  blk_ext! [idx0 t]

theorem blk1 (t : Fin cfg0.N) (k : Fin 1024) :
    (iblk m c 1 t : Vec Ideal S1x1024 .f32) (ix2 0 k) = (V m c main_v20 : Vec Ideal S1x1024 .f32) (ix2 0 k) := by
  unfold iblk
  generalize V m c = W
  blk_ext! [idx1 t]

theorem blk2 (t : Fin cfg0.N) (e : Fin 1024) (k : Fin 2944) :
    (iblk m c 2 t : Vec Ideal S1024x2944 .bf16) (ix2 e k) = (V m c main_v26 : Vec Ideal S1024x2944 .bf16) (ix2 e k) := by
  unfold iblk
  generalize V m c = W
  blk_ext! [idx2 t]

theorem blk3 (t : Fin cfg0.N) (r : Fin 512) (l : Fin 128) :
    (iblk m c 3 t : Vec Ideal S512x128 .f32) (ix2 r l) = (V m c main_v15 : Vec Ideal S8192x128 .f32) (ix2 ⟨512 * (t.val % 16) + r.val, by omega⟩ l) := by
  unfold iblk
  generalize V m c = W
  blk_ext! [idx3 t]

theorem blk4 (t : Fin cfg0.N) (r : Fin 512) (l : Fin 128) :
    (iblk m c 4 t : Vec Ideal S512x128 .f32) (ix2 r l) = (V m c main_v18 : Vec Ideal S8192x128 .f32) (ix2 ⟨512 * (t.val % 16) + r.val, by omega⟩ l) := by
  unfold iblk
  generalize V m c = W
  blk_ext! [idx4 t]

/-- The projection of a row of the arguments. -/
def zR (b : Fin 8) (p : Fin 8192) : ℕ → EReal :=
  zrow (fun k => A0 m c (ix3 b p k)) (fun k => A1 m c (ix1 k)) fun e k => A2 m c (ix2 e k)

/-- The sequence and the position of a row of the grid point's block. -/
def bT (t : Fin cfg0.N) : Fin 8 := ⟨t.val / 16, by have := hN t; omega⟩
def pT (t : Fin cfg0.N) (r : Fin 512) : Fin 8192 := ⟨512 * (t.val % 16) + r.val, by omega⟩

theorem z_eq (t : Fin cfg0.N) (r : Fin 512) : zK m c t r = zR m c (bT t) (pT t r) := by
  have ht := hN t
  funext k
  unfold zK zblk zR zrow
  have hx : Post.rowOf (iblk m c 0 t : Vec Ideal S512x1024 .f32) r = fun k => A0 m c (ix3 (bT t) (pT t r) k) := by
    funext k
    refine (blk0 m c t r k).trans ((v_x m c _ k).trans (congrArg₂ (fun b p => A0 m c (ix3 b p k)) (Fin.ext ?_) (Fin.ext ?_)))
    · show (512 * t.val + r.val) / 8192 = t.val / 16
      omega
    · show (512 * t.val + r.val) % 8192 = 512 * (t.val % 16) + r.val
      omega
  have hg : Post.rowOf (iblk m c 1 t : Vec Ideal S1x1024 .f32) 0 = fun k => A1 m c (ix1 k) := by
    funext k
    exact (blk1 m c t k).trans (v_g m c k)
  rw [hx, hg]
  by_cases h : k < 2944
  · rw [dif_pos h]
    exact Finset.sum_congr rfl fun e _ => congrArg _ ((blk2 m c t e ⟨k, h⟩).trans (v_w m c e ⟨k, h⟩))
  · rw [dif_neg h]
    refine (Finset.sum_eq_zero fun e _ => ?_).symm
    unfold wcol
    rw [dif_neg (by omega), dif_neg (by omega), dif_neg (by omega), mul_zero]

theorem c_eq (t : Fin cfg0.N) (r : Fin 512) : cK m c t r = cosL (pT t r).val := by
  funext l
  refine (blk3 m c t r _).trans ((v_c m c _ _).trans ?_)
  show cosL _ (l % 128) = _
  unfold cosL
  rw [show l % 128 % 32 = l % 32 by omega]
  rfl

theorem s_eq (t : Fin cfg0.N) (r : Fin 512) : sK m c t r = sinL (pT t r).val := by
  funext l
  refine (blk4 m c t r _).trans ((v_s m c _ _).trans ?_)
  show sinL _ (l % 128) = _
  unfold sinL
  rw [show l % 128 % 32 = l % 32 by omega, show l % 128 % 64 = l % 64 by omega]
  rfl

/-- A function of the sequence, the position and the column as an array of rows. -/
def rows (n : ℕ) (f : Fin 8 → Fin 8192 → ℕ → EReal) (y : (⟨2, ![65536, n]⟩ : Shape).Idx) : EReal :=
  f ⟨(y 0).val / 8192, by have h : (y 0).val < 65536 := (y 0).isLt; omega⟩ ⟨(y 0).val % 8192, by omega⟩ (y 1).val

theorem rows_at (n : ℕ) (f : Fin 8 → Fin 8192 → ℕ → EReal) (t : Fin cfg0.N) (r : Fin 512) (k : Fin n) :
    rows n f (ix2 ⟨512 * t.val + r.val, by have := hN t; omega⟩ k) = f (bT t) (pT t r) k.val := by
  have ht := hN t
  refine congrArg₂ (fun b p => f b p k.val) (Fin.ext ?_) (Fin.ext ?_)
  · show (512 * t.val + r.val) / 8192 = t.val / 16
    omega
  · show (512 * t.val + r.val) % 8192 = 512 * (t.val % 16) + r.val
    omega

theorem result5 : (dats m 0 c).arrAt 5 cfg0.N = rows 1024 fun b p => fQc (zR m c b p) := by
  refine (dats m 0 c).arrAt_eq_of_covers 5 _ (by decide +kernel) fun t hf y => ?_
  have ht := hN t
  blk_simp
  obtain ⟨r, k, rfl⟩ : ∃ (r : Fin 512) (k : Fin 1024), y = ix2 r k := ⟨y 0, y 1, eq_ix2 y⟩
  have hemb : ((win0_5.blk t).view.emb (ix2 r k) : S65536x1024.Idx) = ix2 ⟨512 * t.val + r.val, by omega⟩ k := by
    blk_ext [idx5 t]
  refine Eq.trans (stored5 m c t r k) ?_
  show _ = rows 1024 _ ((win0_5.blk t).view.emb (ix2 r k) : S65536x1024.Idx)
  rw [hemb, rows_at]
  dsimp only
  rw [z_eq]

theorem result6 : (dats m 0 c).arrAt 6 cfg0.N = rows 1024 fun b p => fQr (zR m c b p) (cosL p.val) (sinL p.val) := by
  refine (dats m 0 c).arrAt_eq_of_covers 6 _ (by decide +kernel) fun t hf y => ?_
  have ht := hN t
  blk_simp
  obtain ⟨r, k, rfl⟩ : ∃ (r : Fin 512) (k : Fin 1024), y = ix2 r k := ⟨y 0, y 1, eq_ix2 y⟩
  have hemb : ((win0_6.blk t).view.emb (ix2 r k) : S65536x1024.Idx) = ix2 ⟨512 * t.val + r.val, by omega⟩ k := by
    blk_ext [idx6 t]
  refine Eq.trans (stored6 m c t r k) ?_
  show _ = rows 1024 _ ((win0_6.blk t).view.emb (ix2 r k) : S65536x1024.Idx)
  rw [hemb, rows_at]
  dsimp only
  rw [z_eq, c_eq, s_eq]

theorem result7 : (dats m 0 c).arrAt 7 cfg0.N = rows 512 fun b p => fDq (zR m c b p) (cosL p.val) (sinL p.val) := by
  refine (dats m 0 c).arrAt_eq_of_covers 7 _ (by decide +kernel) fun t hf y => ?_
  have ht := hN t
  blk_simp
  obtain ⟨r, k, rfl⟩ : ∃ (r : Fin 512) (k : Fin 512), y = ix2 r k := ⟨y 0, y 1, eq_ix2 y⟩
  have hemb : ((win0_7.blk t).view.emb (ix2 r k) : S65536x512.Idx) = ix2 ⟨512 * t.val + r.val, by omega⟩ k := by
    blk_ext [idx7 t]
  refine Eq.trans (stored7 m c t r k) ?_
  show _ = rows 512 _ ((win0_7.blk t).view.emb (ix2 r k) : S65536x512.Idx)
  rw [hemb, rows_at]
  dsimp only
  rw [z_eq, c_eq, s_eq]

theorem result8 : (dats m 0 c).arrAt 8 cfg0.N = rows 128 fun b p => fGate (zR m c b p) := by
  refine (dats m 0 c).arrAt_eq_of_covers 8 _ (by decide +kernel) fun t hf y => ?_
  have ht := hN t
  blk_simp
  obtain ⟨r, k, rfl⟩ : ∃ (r : Fin 512) (k : Fin 128), y = ix2 r k := ⟨y 0, y 1, eq_ix2 y⟩
  have hemb : ((win0_8.blk t).view.emb (ix2 r k) : S65536x128.Idx) = ix2 ⟨512 * t.val + r.val, by omega⟩ k := by
    blk_ext [idx8 t]
  refine Eq.trans (stored8 m c t r k) ?_
  show _ = rows 128 _ ((win0_8.blk t).view.emb (ix2 r k) : S65536x128.Idx)
  rw [hemb, rows_at]
  dsimp only
  rw [z_eq]

theorem result9 : (dats m 0 c).arrAt 9 cfg0.N = rows 512 fun b p => fNsa (zR m c b p) (cosL p.val) (sinL p.val) := by
  refine (dats m 0 c).arrAt_eq_of_covers 9 _ (by decide +kernel) fun t hf y => ?_
  have ht := hN t
  blk_simp
  obtain ⟨r, k, rfl⟩ : ∃ (r : Fin 512) (k : Fin 512), y = ix2 r k := ⟨y 0, y 1, eq_ix2 y⟩
  have hemb : ((win0_9.blk t).view.emb (ix2 r k) : S65536x512.Idx) = ix2 ⟨512 * t.val + r.val, by omega⟩ k := by
    blk_ext [idx9 t]
  refine Eq.trans (stored9 m c t r k) ?_
  show _ = rows 512 _ ((win0_9.blk t).view.emb (ix2 r k) : S65536x512.Idx)
  rw [hemb, rows_at]
  dsimp only
  rw [z_eq, c_eq, s_eq]

theorem result10 : (dats m 0 c).arrAt 10 cfg0.N = rows 256 fun b p => fWin (zR m c b p) (cosL p.val) (sinL p.val) := by
  refine (dats m 0 c).arrAt_eq_of_covers 10 _ (by decide +kernel) fun t hf y => ?_
  have ht := hN t
  blk_simp
  obtain ⟨r, k, rfl⟩ : ∃ (r : Fin 512) (k : Fin 256), y = ix2 r k := ⟨y 0, y 1, eq_ix2 y⟩
  have hemb : ((win0_10.blk t).view.emb (ix2 r k) : S65536x256.Idx) = ix2 ⟨512 * t.val + r.val, by omega⟩ k := by
    blk_ext [idx10 t]
  refine Eq.trans (stored10 m c t r k) ?_
  show _ = rows 256 _ ((win0_10.blk t).view.emb (ix2 r k) : S65536x256.Idx)
  rw [hemb, rows_at]
  dsimp only
  rw [z_eq, c_eq, s_eq]

theorem result11 : (dats m 0 c).arrAt 11 cfg0.N = rows 1024 fun b p => fDiff (zR m c b p) (cosL p.val) (sinL p.val) := by
  refine (dats m 0 c).arrAt_eq_of_covers 11 _ (by decide +kernel) fun t hf y => ?_
  have ht := hN t
  blk_simp
  obtain ⟨r, k, rfl⟩ : ∃ (r : Fin 512) (k : Fin 1024), y = ix2 r k := ⟨y 0, y 1, eq_ix2 y⟩
  have hemb : ((win0_11.blk t).view.emb (ix2 r k) : S65536x1024.Idx) = ix2 ⟨512 * t.val + r.val, by omega⟩ k := by
    blk_ext [idx11 t]
  refine Eq.trans (stored11 m c t r k) ?_
  show _ = rows 1024 _ ((win0_11.blk t).view.emb (ix2 r k) : S65536x1024.Idx)
  rw [hemb, rows_at]
  dsimp only
  rw [z_eq, c_eq, s_eq]

theorem result12 : (dats m 0 c).arrAt 12 cfg0.N = rows 512 fun b p => fKaug p.val (zR m c b p) (cosL p.val) (sinL p.val) := by
  refine (dats m 0 c).arrAt_eq_of_covers 12 _ (by decide +kernel) fun t hf y => ?_
  have ht := hN t
  blk_simp
  obtain ⟨r, k, rfl⟩ : ∃ (r : Fin 512) (k : Fin 512), y = ix2 r k := ⟨y 0, y 1, eq_ix2 y⟩
  have hemb : ((win0_12.blk t).view.emb (ix2 r k) : S65536x512.Idx) = ix2 ⟨512 * t.val + r.val, by omega⟩ k := by
    blk_ext [idx12 t]
  refine Eq.trans (stored12 m c t r k) ?_
  show _ = rows 512 _ ((win0_12.blk t).view.emb (ix2 r k) : S65536x512.Idx)
  rw [hemb, rows_at, z_eq, c_eq, s_eq]
  rfl

theorem result14 : (dats m 0 c).arrAt 14 cfg0.N = rows 256 fun b p => fKwin (zR m c b p) (cosL p.val) (sinL p.val) := by
  refine (dats m 0 c).arrAt_eq_of_covers 14 _ (by decide +kernel) fun t hf y => ?_
  have ht := hN t
  blk_simp
  obtain ⟨r, k, rfl⟩ : ∃ (r : Fin 512) (k : Fin 256), y = ix2 r k := ⟨y 0, y 1, eq_ix2 y⟩
  have hemb : ((win0_14.blk t).view.emb (ix2 r k) : S65536x256.Idx) = ix2 ⟨512 * t.val + r.val, by omega⟩ k := by
    blk_ext [idx14 t]
  refine Eq.trans (stored14 m c t r k) ?_
  show _ = rows 256 _ ((win0_14.blk t).view.emb (ix2 r k) : S65536x256.Idx)
  rw [hemb, rows_at]
  dsimp only
  rw [z_eq, c_eq, s_eq]

theorem result16 : (dats m 0 c).arrAt 16 cfg0.N = rows 512 fun b p => fDk (zR m c b p) (cosL p.val) (sinL p.val) := by
  refine (dats m 0 c).arrAt_eq_of_covers 16 _ (by decide +kernel) fun t hf y => ?_
  have ht := hN t
  blk_simp
  obtain ⟨r, k, rfl⟩ : ∃ (r : Fin 512) (k : Fin 512), y = ix2 r k := ⟨y 0, y 1, eq_ix2 y⟩
  have hemb : ((win0_16.blk t).view.emb (ix2 r k) : S65536x512.Idx) = ix2 ⟨512 * t.val + r.val, by omega⟩ k := by
    blk_ext [idx16 t]
  refine Eq.trans (stored16 m c t r k) ?_
  show _ = rows 512 _ ((win0_16.blk t).view.emb (ix2 r k) : S65536x512.Idx)
  rw [hemb, rows_at]
  dsimp only
  rw [z_eq, c_eq, s_eq]

/-- A function of the sequence, the position and the column as an array of turned blocks of `E` positions. -/
def turned (B D E o : ℕ) (z : Fin 8 → Fin 8192 → ℕ → EReal) (y : (⟨4, ![8, B, D, E]⟩ : Shape).Idx) : EReal :=
  z (y 0) ⟨(E * (y 1).val + (y 3).val) % 8192, Nat.mod_lt _ (by decide)⟩ (o + (y 2).val)

theorem result13 : (dats m 0 c).arrAt 13 cfg0.N = turned 16 128 512 896 (zR m c) := by
  refine (dats m 0 c).arrAt_eq_of_covers 13 _ (by decide +kernel) fun t hf y => ?_
  have ht := hN t
  blk_simp
  obtain ⟨a, b, d, i, rfl⟩ : ∃ (a : Fin 1) (b : Fin 1) (d : Fin 128) (i : Fin 512), y = ix4 a b d i := ⟨_, _, _, _, eq_ix4 y⟩
  have hemb : ((win0_13.blk t).view.emb (ix4 a b d i) : S8x16x128x512.Idx) = ix4 ⟨t.val / 16, by omega⟩ ⟨1 * (t.val % 16) + b.val, by omega⟩ d i := by
    blk_ext [idx13 t]
  refine Eq.trans (stored13 m c t a b d i) ?_
  show _ = turned 16 128 512 896 (zR m c) ((win0_13.blk t).view.emb (ix4 a b d i) : S8x16x128x512.Idx)
  rw [z_eq, hemb]
  refine congrArg (fun p => zR m c (bT t) p (896 + d.val)) (Fin.ext ?_)
  show 512 * (t.val % 16) + i.val = (512 * (1 * (t.val % 16) + b.val) + i.val) % 8192
  omega

theorem result15 : (dats m 0 c).arrAt 15 cfg0.N = turned 64 128 128 1152 (zR m c) := by
  refine (dats m 0 c).arrAt_eq_of_covers 15 _ (by decide +kernel) fun t hf y => ?_
  have ht := hN t
  blk_simp
  obtain ⟨a, b, d, i, rfl⟩ : ∃ (a : Fin 1) (b : Fin 4) (d : Fin 128) (i : Fin 128), y = ix4 a b d i := ⟨_, _, _, _, eq_ix4 y⟩
  have hemb : ((win0_15.blk t).view.emb (ix4 a b d i) : S8x64x128x128.Idx) = ix4 ⟨t.val / 16, by omega⟩ ⟨4 * (t.val % 16) + b.val, by omega⟩ d i := by
    blk_ext [idx15 t]
  refine Eq.trans (stored15 m c t a b d i) ?_
  show _ = turned 64 128 128 1152 (zR m c) ((win0_15.blk t).view.emb (ix4 a b d i) : S8x64x128x128.Idx)
  rw [z_eq, hemb]
  refine congrArg (fun p => zR m c (bT t) p (1152 + d.val)) (Fin.ext ?_)
  show 512 * (t.val % 16) + (128 * b.val + i.val) = (128 * (4 * (t.val % 16) + b.val) + i.val) % 8192
  omega

theorem result17 : (dats m 0 c).arrAt 17 cfg0.N = turned 16 512 512 2304 (zR m c) := by
  refine (dats m 0 c).arrAt_eq_of_covers 17 _ (by decide +kernel) fun t hf y => ?_
  have ht := hN t
  blk_simp
  obtain ⟨a, b, d, i, rfl⟩ : ∃ (a : Fin 1) (b : Fin 1) (d : Fin 512) (i : Fin 512), y = ix4 a b d i := ⟨_, _, _, _, eq_ix4 y⟩
  have hemb : ((win0_17.blk t).view.emb (ix4 a b d i) : S8x16x512x512.Idx) = ix4 ⟨t.val / 16, by omega⟩ ⟨1 * (t.val % 16) + b.val, by omega⟩ d i := by
    blk_ext [idx17 t]
  refine Eq.trans (stored17 m c t a b d i) ?_
  show _ = turned 16 512 512 2304 (zR m c) ((win0_17.blk t).view.emb (ix4 a b d i) : S8x16x512x512.Idx)
  rw [z_eq, hemb]
  refine congrArg (fun p => zR m c (bT t) p (2304 + d.val)) (Fin.ext ?_)
  show 512 * (t.val % 16) + i.val = (512 * (1 * (t.val % 16) + b.val) + i.val) % 8192
  omega

end Cert.Proof.Proj
-- ==== Proof.ProjTail.lean ====
/-
  What the lines after the projection call make of its result arrays.
-/
module

public import proofs.«01_k».proof.Proof.ProjTurned
public import Idealize.ShloMosaic.Lib.Pipeline.ValueKit
public import Idealize.ShloMosaic.Lib.StableHlo.ReadAt

@[expose] public section

set_option maxRecDepth 65536

noncomputable section

namespace Cert.Proof.Proj

open Idealize.ShloMosaic Idealize.ShloMosaic.TcCoe Idealize.SL.Sem Cert.Kernel3Ideal Cert.Kernel3Ideal.Gen

variable (W : Valuation τ sig (Elt Ideal))

/-- This result read in the call's array that it reshapes or cuts. -/
theorem tail28 (b : Fin 8) (p : Fin 8192) (j : Fin 4) (h : Fin 2) (d : Fin 64) :
    (StableHlo.after hostOps1 W (Proc.devRef .tc main_v28) : Vec Ideal S8x8192x4x2x64 .f32) (ix5 b p j h d)
      = (W (Proc.devRef .tc main_v27_4) : Vec Ideal S65536x512 .f32) (ix2 ⟨b.val * 8192 + p.val, by omega⟩ ⟨j.val * 128 + h.val * 64 + d.val, by omega⟩) := by
  after_reads_at

/-- This result read in the call's array that it reshapes or cuts. -/
theorem tail29 (b : Fin 8) (p : Fin 8192) (j : Fin 2) (h : Fin 4) (e : Fin 128) :
    (StableHlo.after hostOps1 W (Proc.devRef .tc main_v29) : Vec Ideal S8x8192x2x4x128 .f32) (ix5 b p j h e)
      = (W (Proc.devRef .tc main_v27_6) : Vec Ideal S65536x1024 .f32) (ix2 ⟨b.val * 8192 + p.val, by omega⟩ ⟨j.val * 512 + h.val * 128 + e.val, by omega⟩) := by
  after_reads_at

/-- This result read in the call's array that it reshapes or cuts. -/
theorem tail30 (b : Fin 8) (p : Fin 8192) (j h : Fin 2) (d : Fin 64) :
    (StableHlo.after hostOps1 W (Proc.devRef .tc main_v30) : Vec Ideal S8x8192x2x2x64 .f32) (ix5 b p j h d)
      = (W (Proc.devRef .tc main_v27_5) : Vec Ideal S65536x256 .f32) (ix2 ⟨b.val * 8192 + p.val, by omega⟩ ⟨j.val * 128 + h.val * 64 + d.val, by omega⟩) := by
  after_reads_at

/-- The last 512 positions. -/
theorem last512 (x : Vec Ideal S8x8192x2x2x64 .f32) (b : Fin 8) (q : Fin 512) (j h : Fin 2) (d : Fin 64) :
    (extractStridedSlice S8x512x2x2x64 ![0, 7680, 0, 0, 0] x slices_S8x8192x2x2x64_S8x512x2x2x64_0_7680_0_0_0 : Vec Ideal S8x512x2x2x64 .f32) (ix5 b q j h d)
      = x (ix5 b ⟨7680 + q.val, by omega⟩ j h d) := by
  pointwise

/-- The window's result is the last positions of its rows. -/
theorem tail31 : (StableHlo.after hostOps1 W (Proc.devRef .tc main_v31) : Vec Ideal S8x512x2x2x64 .f32)
    = extractStridedSlice S8x512x2x2x64 ![0, 7680, 0, 0, 0] (StableHlo.after hostOps1 W (Proc.devRef .tc main_v30)) slices_S8x8192x2x2x64_S8x512x2x2x64_0_7680_0_0_0 := by
  after_reads_simp

/-- This result read in the call's array that it reshapes or cuts. -/
theorem tail32 (r : Fin 65536) (k : Fin 24) :
    (StableHlo.after hostOps1 W (Proc.devRef .tc main_v32) : Vec Ideal S65536x24 .f32) (ix2 r k)
      = (W (Proc.devRef .tc main_v27_3) : Vec Ideal S65536x128 .f32) (ix2 r ⟨k.val, by omega⟩) := by
  after_reads_at

end Cert.Proof.Proj
-- ==== Proof.ProjReference.lean ====
/-
  The reference of the projection read index by index.
-/
module

public import proofs.«01_k».proof.Proof.Gen.Reference3Ideal.Run
public import proofs.«01_k».proof.Proof.ProjTurned
public import Idealize.ShloMosaic.Lib.Tactic.CleanTypes

@[expose] public section

set_option maxRecDepth 65536

noncomputable section

namespace Cert.Proof.ProjRef

open Idealize.ShloMosaic Idealize.ShloMosaic.TcCoe Idealize.SL.Sem Cert.Reference3Ideal Cert.Reference3Ideal.Gen Cert.Reference3Ideal.Value Cert.Proof.Proj Idealize.ShloMosaic.StableHlo

/-- The integers zero and one as extended reals. -/
theorem zero_int : (FloatOps.sitofp (F := Ideal) FTy.f32 0#32 : EReal) = 0 := by
  show ((((0#32 : BitVec 32).toInt : ℤ) : ℝ) : EReal) = 0
  rw [show (0#32 : BitVec 32).toInt = 0 from rfl, Int.cast_zero, EReal.coe_zero]

theorem one_nat : (FloatOps.uitofp (F := Ideal) FTy.f32 1#1 : EReal) = 1 := by
  show ((((1#1 : BitVec 1).toNat : ℕ) : ℝ) : EReal) = 1
  rw [show (1#1 : BitVec 1).toNat = 1 from rfl, Nat.cast_one, EReal.coe_one]

theorem zero_nat : (FloatOps.uitofp (F := Ideal) FTy.f32 0#1 : EReal) = 0 := by
  show ((((0#1 : BitVec 1).toNat : ℕ) : ℝ) : EReal) = 0
  rw [show (0#1 : BitVec 1).toNat = 0 from rfl, Nat.cast_zero, EReal.coe_zero]

/-- Plane 0 of 6. -/
def plane0 {F : FTy → Type} [FloatOps F] (x : (⟨S8x8192x6x2x64, .f32⟩ : BufTy).Contents (Elt F)) : (⟨S8x8192x2x64, .f32⟩ : BufTy).Contents (Elt F) :=
  shapeCast _ (extractStridedSlice S8x8192x1x2x64 ![0, 0, 0, 0, 0] x slices_S8x8192x6x2x64_S8x8192x1x2x64_0_0_0_0_0) shapeCasts_S8x8192x1x2x64_S8x8192x2x64

/-- An entry of it. -/
theorem plane0_at (x : Vec Ideal S8x8192x6x2x64 .f32) (b : Fin 8) (p : Fin 8192) (h : Fin 2) (d : Fin 64) :
    plane0 x (ix4 b p h d) = x (ix5 b p 0 h d) := by
  unfold plane0
  pointwise

/-- Plane 1 of 6. -/
def plane1 {F : FTy → Type} [FloatOps F] (x : (⟨S8x8192x6x2x64, .f32⟩ : BufTy).Contents (Elt F)) : (⟨S8x8192x2x64, .f32⟩ : BufTy).Contents (Elt F) :=
  shapeCast _ (extractStridedSlice S8x8192x1x2x64 ![0, 0, 1, 0, 0] x slices_S8x8192x6x2x64_S8x8192x1x2x64_0_0_1_0_0) shapeCasts_S8x8192x1x2x64_S8x8192x2x64

/-- An entry of it. -/
theorem plane1_at (x : Vec Ideal S8x8192x6x2x64 .f32) (b : Fin 8) (p : Fin 8192) (h : Fin 2) (d : Fin 64) :
    plane1 x (ix4 b p h d) = x (ix5 b p 1 h d) := by
  unfold plane1
  pointwise

/-- Plane 3 of 6. -/
def plane3 {F : FTy → Type} [FloatOps F] (x : (⟨S8x8192x6x2x64, .f32⟩ : BufTy).Contents (Elt F)) : (⟨S8x8192x2x64, .f32⟩ : BufTy).Contents (Elt F) :=
  shapeCast _ (extractStridedSlice S8x8192x1x2x64 ![0, 0, 3, 0, 0] x slices_S8x8192x6x2x64_S8x8192x1x2x64_0_0_3_0_0) shapeCasts_S8x8192x1x2x64_S8x8192x2x64

/-- An entry of it. -/
theorem plane3_at (x : Vec Ideal S8x8192x6x2x64 .f32) (b : Fin 8) (p : Fin 8192) (h : Fin 2) (d : Fin 64) :
    plane3 x (ix4 b p h d) = x (ix5 b p 3 h d) := by
  unfold plane3
  pointwise

/-- Plane 5 of 6. -/
def plane5 {F : FTy → Type} [FloatOps F] (x : (⟨S8x8192x6x2x64, .f32⟩ : BufTy).Contents (Elt F)) : (⟨S8x8192x2x64, .f32⟩ : BufTy).Contents (Elt F) :=
  shapeCast _ (extractStridedSlice S8x8192x1x2x64 ![0, 0, 5, 0, 0] x slices_S8x8192x6x2x64_S8x8192x1x2x64_0_0_5_0_0) shapeCasts_S8x8192x1x2x64_S8x8192x2x64

/-- An entry of it. -/
theorem plane5_at (x : Vec Ideal S8x8192x6x2x64 .f32) (b : Fin 8) (p : Fin 8192) (h : Fin 2) (d : Fin 64) :
    plane5 x (ix4 b p h d) = x (ix5 b p 5 h d) := by
  unfold plane5
  pointwise

/-- Plane 2 of 4. -/
def planeNsa {F : FTy → Type} [FloatOps F] (x : (⟨S8x8192x4x2x64, .f32⟩ : BufTy).Contents (Elt F)) : (⟨S8x8192x2x64, .f32⟩ : BufTy).Contents (Elt F) :=
  shapeCast _ (extractStridedSlice S8x8192x1x2x64 ![0, 0, 2, 0, 0] x slices_S8x8192x4x2x64_S8x8192x1x2x64_0_0_2_0_0) shapeCasts_S8x8192x1x2x64_S8x8192x2x64

/-- An entry of it. -/
theorem planeNsa_at (x : Vec Ideal S8x8192x4x2x64 .f32) (b : Fin 8) (p : Fin 8192) (h : Fin 2) (d : Fin 64) :
    planeNsa x (ix4 b p h d) = x (ix5 b p 2 h d) := by
  unfold planeNsa
  pointwise

/-- Plane 0 of 2. -/
def planeWin {F : FTy → Type} [FloatOps F] (x : (⟨S8x8192x2x2x64, .f32⟩ : BufTy).Contents (Elt F)) : (⟨S8x8192x2x64, .f32⟩ : BufTy).Contents (Elt F) :=
  shapeCast _ (extractStridedSlice S8x8192x1x2x64 ![0, 0, 0, 0, 0] x slices_S8x8192x2x2x64_S8x8192x1x2x64_0_0_0_0_0) shapeCasts_S8x8192x1x2x64_S8x8192x2x64

/-- An entry of it. -/
theorem planeWin_at (x : Vec Ideal S8x8192x2x2x64 .f32) (b : Fin 8) (p : Fin 8192) (h : Fin 2) (d : Fin 64) :
    planeWin x (ix4 b p h d) = x (ix5 b p 0 h d) := by
  unfold planeWin
  pointwise

/-- Plane 0 of 2. -/
def planeDiff {F : FTy → Type} [FloatOps F] (x : (⟨S8x8192x2x4x128, .f32⟩ : BufTy).Contents (Elt F)) : (⟨S8x8192x4x128, .f32⟩ : BufTy).Contents (Elt F) :=
  shapeCast _ (extractStridedSlice S8x8192x1x4x128 ![0, 0, 0, 0, 0] x slices_S8x8192x2x4x128_S8x8192x1x4x128_0_0_0_0_0) shapeCasts_S8x8192x1x4x128_S8x8192x4x128

/-- An entry of it. -/
theorem planeDiff_at (x : Vec Ideal S8x8192x2x4x128 .f32) (b : Fin 8) (p : Fin 8192) (h : Fin 4) (d : Fin 128) :
    planeDiff x (ix4 b p h d) = x (ix5 b p 0 h d) := by
  unfold planeDiff
  pointwise

/-- 4 planes stacked. -/
def stackNsa {F : FTy → Type} [FloatOps F] (x0 x1 x2 x3 : (⟨S8x8192x2x64, .f32⟩ : BufTy).Contents (Elt F)) : (⟨S8x8192x4x2x64, .f32⟩ : BufTy).Contents (Elt F) :=
  concatenate S8x8192x4x2x64 2 [⟨S8x8192x1x2x64, ((broadcastInDim S8x8192x1x2x64 ![0, 1, 3, 4] bcast_S8x8192x2x64_S8x8192x1x2x64_0_1_3_4 x0) : (⟨S8x8192x1x2x64, .f32⟩ : BufTy).Contents (Elt F))⟩, ⟨S8x8192x1x2x64, ((broadcastInDim S8x8192x1x2x64 ![0, 1, 3, 4] bcast_S8x8192x2x64_S8x8192x1x2x64_0_1_3_4 x1) : (⟨S8x8192x1x2x64, .f32⟩ : BufTy).Contents (Elt F))⟩, ⟨S8x8192x1x2x64, ((broadcastInDim S8x8192x1x2x64 ![0, 1, 3, 4] bcast_S8x8192x2x64_S8x8192x1x2x64_0_1_3_4 x2) : (⟨S8x8192x1x2x64, .f32⟩ : BufTy).Contents (Elt F))⟩, ⟨S8x8192x1x2x64, ((broadcastInDim S8x8192x1x2x64 ![0, 1, 3, 4] bcast_S8x8192x2x64_S8x8192x1x2x64_0_1_3_4 x3) : (⟨S8x8192x1x2x64, .f32⟩ : BufTy).Contents (Elt F))⟩] concatenates_S8x8192x1x2x64_S8x8192x1x2x64_S8x8192x1x2x64_S8x8192x1x2x64_S8x8192x4x2x64_d2

/-- An entry of it. -/
theorem stackNsa_at (x0 x1 x2 x3 : Vec Ideal S8x8192x2x64 .f32) (b : Fin 8) (p : Fin 8192) (j : Fin 4) (h : Fin 2) (d : Fin 64) :
    stackNsa x0 x1 x2 x3 (ix5 b p j h d) = if j.val < 1 then x0 (ix4 b p h d) else if j.val < 2 then x1 (ix4 b p h d) else if j.val < 3 then x2 (ix4 b p h d) else x3 (ix4 b p h d) := by
  unfold stackNsa
  pointwise
  split_ifs <;> first | omega | rfl

/-- 2 planes stacked. -/
def stackWin {F : FTy → Type} [FloatOps F] (x0 x1 : (⟨S8x8192x2x64, .f32⟩ : BufTy).Contents (Elt F)) : (⟨S8x8192x2x2x64, .f32⟩ : BufTy).Contents (Elt F) :=
  concatenate S8x8192x2x2x64 2 [⟨S8x8192x1x2x64, ((broadcastInDim S8x8192x1x2x64 ![0, 1, 3, 4] bcast_S8x8192x2x64_S8x8192x1x2x64_0_1_3_4 x0) : (⟨S8x8192x1x2x64, .f32⟩ : BufTy).Contents (Elt F))⟩, ⟨S8x8192x1x2x64, ((broadcastInDim S8x8192x1x2x64 ![0, 1, 3, 4] bcast_S8x8192x2x64_S8x8192x1x2x64_0_1_3_4 x1) : (⟨S8x8192x1x2x64, .f32⟩ : BufTy).Contents (Elt F))⟩] concatenates_S8x8192x1x2x64_S8x8192x1x2x64_S8x8192x2x2x64_d2

/-- An entry of it. -/
theorem stackWin_at (x0 x1 : Vec Ideal S8x8192x2x64 .f32) (b : Fin 8) (p : Fin 8192) (j : Fin 2) (h : Fin 2) (d : Fin 64) :
    stackWin x0 x1 (ix5 b p j h d) = if j.val < 1 then x0 (ix4 b p h d) else x1 (ix4 b p h d) := by
  unfold stackWin
  pointwise
  split_ifs <;> first | omega | rfl

/-- 2 planes stacked. -/
def stackDiff {F : FTy → Type} [FloatOps F] (x0 x1 : (⟨S8x8192x4x128, .f32⟩ : BufTy).Contents (Elt F)) : (⟨S8x8192x2x4x128, .f32⟩ : BufTy).Contents (Elt F) :=
  concatenate S8x8192x2x4x128 2 [⟨S8x8192x1x4x128, ((broadcastInDim S8x8192x1x4x128 ![0, 1, 3, 4] bcast_S8x8192x4x128_S8x8192x1x4x128_0_1_3_4 x0) : (⟨S8x8192x1x4x128, .f32⟩ : BufTy).Contents (Elt F))⟩, ⟨S8x8192x1x4x128, ((broadcastInDim S8x8192x1x4x128 ![0, 1, 3, 4] bcast_S8x8192x4x128_S8x8192x1x4x128_0_1_3_4 x1) : (⟨S8x8192x1x4x128, .f32⟩ : BufTy).Contents (Elt F))⟩] concatenates_S8x8192x1x4x128_S8x8192x1x4x128_S8x8192x2x4x128_d2

/-- An entry of it. -/
theorem stackDiff_at (x0 x1 : Vec Ideal S8x8192x4x128 .f32) (b : Fin 8) (p : Fin 8192) (j : Fin 2) (h : Fin 4) (d : Fin 128) :
    stackDiff x0 x1 (ix5 b p j h d) = if j.val < 1 then x0 (ix4 b p h d) else x1 (ix4 b p h d) := by
  unfold stackDiff
  pointwise
  split_ifs <;> first | omega | rfl

/-- Two halves of 64 columns side by side. -/
def beside {F : FTy → Type} [FloatOps F] (x y : (⟨S8x8192x4x64, .f32⟩ : BufTy).Contents (Elt F)) : (⟨S8x8192x4x128, .f32⟩ : BufTy).Contents (Elt F) :=
  concatenate S8x8192x4x128 3 [⟨S8x8192x4x64, x⟩, ⟨S8x8192x4x64, y⟩] concatenates_S8x8192x4x64_S8x8192x4x64_S8x8192x4x128_d3

/-- An entry of it. -/
theorem beside_at (x y : Vec Ideal S8x8192x4x64 .f32) (b : Fin 8) (p : Fin 8192) (h : Fin 4) (e : Fin 128) :
    beside x y (ix4 b p h e) = if he : e.val < 64 then x (ix4 b p h ⟨e.val, he⟩) else y (ix4 b p h ⟨e.val - 64, by omega⟩) := by
  unfold beside
  pointwise

/-- Zeros in the second half of 128 lanes. -/
def pad2 {F : FTy → Type} [FloatOps F] (x : (⟨S8x8192x2x64, .f32⟩ : BufTy).Contents (Elt F)) : (⟨S8x8192x2x128, .f32⟩ : BufTy).Contents (Elt F) :=
  pad S8x8192x2x128 ![0, 0, 0, 0] ![0, 0, 0, 64] ![0, 0, 0, 0] x (sitofp .f32 (constantI S_ 32 0#32)) pads_S8x8192x2x64_S8x8192x2x128_000_000_000_0640 h_S_

theorem pad2_at (x : Vec Ideal S8x8192x2x64 .f32) (b : Fin 8) (p : Fin 8192) (h : Fin 2) (l : Fin 128) :
    pad2 x (ix4 b p h l) = if hl : l.val < 64 then x (ix4 b p h ⟨l.val, hl⟩) else 0 := by
  unfold pad2
  pointwise
  rw [zero_int]

/-- Zeros in the second half of 128 lanes. -/
def pad8 {F : FTy → Type} [FloatOps F] (x : (⟨S8x8192x8x64, .f32⟩ : BufTy).Contents (Elt F)) : (⟨S8x8192x8x128, .f32⟩ : BufTy).Contents (Elt F) :=
  pad S8x8192x8x128 ![0, 0, 0, 0] ![0, 0, 0, 64] ![0, 0, 0, 0] x (sitofp .f32 (constantI S_ 32 0#32)) pads_S8x8192x8x64_S8x8192x8x128_000_000_000_0640 h_S_

theorem pad8_at (x : Vec Ideal S8x8192x8x64 .f32) (b : Fin 8) (p : Fin 8192) (h : Fin 8) (l : Fin 128) :
    pad8 x (ix4 b p h l) = if hl : l.val < 64 then x (ix4 b p h ⟨l.val, hl⟩) else 0 := by
  unfold pad8
  pointwise
  rw [zero_int]

/-- The rows of all sequences in one list, the heads side by side. -/
def list8x128 {F : FTy → Type} [FloatOps F] (x : (⟨S8x8192x8x128, .f32⟩ : BufTy).Contents (Elt F)) : (⟨S65536x1024, .f32⟩ : BufTy).Contents (Elt F) := shapeCast _ x shapeCasts_S8x8192x8x128_S65536x1024

/-- An entry of it. -/
theorem list8x128_at (x : Vec Ideal S8x8192x8x128 .f32) (r : Fin 65536) (k : Fin 1024) :
    list8x128 x (ix2 r k) = x (ix4 ⟨r.val / 8192, by omega⟩ ⟨r.val % 8192, by omega⟩ ⟨k.val / 128, by omega⟩ ⟨k.val % 128, by omega⟩) := by
  unfold list8x128
  pointwise

/-- The rows of all sequences in one list, the heads side by side. -/
def list4x128 {F : FTy → Type} [FloatOps F] (x : (⟨S8x8192x4x128, .f32⟩ : BufTy).Contents (Elt F)) : (⟨S65536x512, .f32⟩ : BufTy).Contents (Elt F) := shapeCast _ x shapeCasts_S8x8192x4x128_S65536x512

/-- An entry of it. -/
theorem list4x128_at (x : Vec Ideal S8x8192x4x128 .f32) (r : Fin 65536) (k : Fin 512) :
    list4x128 x (ix2 r k) = x (ix4 ⟨r.val / 8192, by omega⟩ ⟨r.val % 8192, by omega⟩ ⟨k.val / 128, by omega⟩ ⟨k.val % 128, by omega⟩) := by
  unfold list4x128
  pointwise

/-- The rows of all sequences in one list, the heads side by side. -/
def list2x128 {F : FTy → Type} [FloatOps F] (x : (⟨S8x8192x2x128, .f32⟩ : BufTy).Contents (Elt F)) : (⟨S65536x256, .f32⟩ : BufTy).Contents (Elt F) := shapeCast _ x shapeCasts_S8x8192x2x128_S65536x256

/-- An entry of it. -/
theorem list2x128_at (x : Vec Ideal S8x8192x2x128 .f32) (r : Fin 65536) (k : Fin 256) :
    list2x128 x (ix2 r k) = x (ix4 ⟨r.val / 8192, by omega⟩ ⟨r.val % 8192, by omega⟩ ⟨k.val / 128, by omega⟩ ⟨k.val % 128, by omega⟩) := by
  unfold list2x128
  pointwise

/-- The rows of all sequences in one list, the heads side by side. -/
def list8x3 {F : FTy → Type} [FloatOps F] (x : (⟨S8x8192x8x3, .f32⟩ : BufTy).Contents (Elt F)) : (⟨S65536x24, .f32⟩ : BufTy).Contents (Elt F) := shapeCast _ x shapeCasts_S8x8192x8x3_S65536x24

/-- An entry of it. -/
theorem list8x3_at (x : Vec Ideal S8x8192x8x3 .f32) (r : Fin 65536) (k : Fin 24) :
    list8x3 x (ix2 r k) = x (ix4 ⟨r.val / 8192, by omega⟩ ⟨r.val % 8192, by omega⟩ ⟨k.val / 3, by omega⟩ ⟨k.val % 3, by omega⟩) := by
  unfold list8x3
  pointwise

/-- The rows of all sequences in one list, the heads side by side. -/
def list2x256 {F : FTy → Type} [FloatOps F] (x : (⟨S8x8192x2x256, .f32⟩ : BufTy).Contents (Elt F)) : (⟨S65536x512, .f32⟩ : BufTy).Contents (Elt F) := shapeCast _ x shapeCasts_S8x8192x2x256_S65536x512

/-- An entry of it. -/
theorem list2x256_at (x : Vec Ideal S8x8192x2x256 .f32) (r : Fin 65536) (k : Fin 512) :
    list2x256 x (ix2 r k) = x (ix4 ⟨r.val / 8192, by omega⟩ ⟨r.val % 8192, by omega⟩ ⟨k.val / 256, by omega⟩ ⟨k.val % 256, by omega⟩) := by
  unfold list2x256
  pointwise

/-- The gates' columns through the logistic function. -/
def gates {F : FTy → Type} [FloatOps F] (x : (⟨S8x8192x8x3, .f32⟩ : BufTy).Contents (Elt F)) : (⟨S8x8192x8x3, .f32⟩ : BufTy).Contents (Elt F) :=
  Host.divf (broadcastInDim S8x8192x8x3 ![] bcast_S_S8x8192x8x3 (constant S_ .f32 0x3F800000#32)) (addf (broadcastInDim S8x8192x8x3 ![] bcast_S_S8x8192x8x3 (constant S_ .f32 0x3F800000#32)) (Host.exp (Host.negf x)))

/-- An entry of it. -/
theorem gates_at (x : Vec Ideal S8x8192x8x3 .f32) (b : Fin 8) (p : Fin 8192) (h : Fin 8) (d : Fin 3) :
    gates x (ix4 b p h d) = Ideal.logistic (x (ix4 b p h d)) := by
  unfold gates Ideal.logistic
  pointwise

/-- For each position the unit vector of its block of 64 positions. -/
def eye {F : FTy → Type} [FloatOps F] : (⟨S8192x128, .f32⟩ : BufTy).Contents (Elt F) :=
  shapeCast _ (broadcastInDim S128x64x128 ![0, 1, 2] bcast_S128x1x128_S128x64x128_0_1_2 (broadcastInDim S128x1x128 ![0, 2] bcast_S128x128_S128x1x128_0_2 (uitofp .f32 (cmpi .eq (addi (iotaInDim S128x128 32 0) (broadcastInDim S128x128 ![] bcast_S_S128x128 (constantI S_ 32 0#32))) (iotaInDim S128x128 32 1))))) shapeCasts_S128x64x128_S8192x128

/-- An entry of it. -/
theorem eye_at (p : Fin 8192) (l : Fin 128) :
    (eye : Vec Ideal S8192x128 .f32) (ix2 p l) = if l.val = p.val / 64 then 1 else 0 := by
  unfold eye
  pointwise
  rw [show (IntOp.addi (BitVec.ofNat 32 (p.val / 64)) 0#32 : BitVec 32) = BitVec.ofNat 32 (p.val / 64) from BitVec.add_zero _,
    cmp_eq _ _ (by omega) (by omega)]
  by_cases h : l.val = p.val / 64
  · rw [if_pos h, if_pos h.symm]
    exact one_nat
  · rw [if_neg h, if_neg (Ne.symm h)]
    exact zero_nat

/-- Heads of 128 lanes, each followed by the same 128 columns. -/
def augment {F : FTy → Type} [FloatOps F] (x : (⟨S8x8192x2x128, .f32⟩ : BufTy).Contents (Elt F)) (y : (⟨S8192x128, .f32⟩ : BufTy).Contents (Elt F)) : (⟨S8x8192x2x256, .f32⟩ : BufTy).Contents (Elt F) :=
  concatenate S8x8192x2x256 3 [⟨S8x8192x2x128, x⟩, ⟨S8x8192x2x128, (broadcastInDim S8x8192x2x128 ![0, 1, 2, 3] bcast_S1x8192x1x128_S8x8192x2x128_0_1_2_3 (broadcastInDim S1x8192x1x128 ![1, 3] bcast_S8192x128_S1x8192x1x128_1_3 y))⟩] concatenates_S8x8192x2x128_S8x8192x2x128_S8x8192x2x256_d3

/-- An entry of it. -/
theorem augment_at (x : Vec Ideal S8x8192x2x128 .f32) (y : Vec Ideal S8192x128 .f32) (b : Fin 8) (p : Fin 8192) (h : Fin 2) (l : Fin 256) :
    augment x y (ix4 b p h l) = if hl : l.val < 128 then x (ix4 b p h ⟨l.val, hl⟩) else y (ix2 p ⟨l.val - 128, by omega⟩) := by
  unfold augment
  pointwise

/-- The rotation of heads of 64 columns given as their halves. -/
def rope2 {F : FTy → Type} [FloatOps F] (x1 x2 : (⟨S8x8192x2x32, .f32⟩ : BufTy).Contents (Elt F)) (c s : (⟨S8192x1x32, .f32⟩ : BufTy).Contents (Elt F)) :
    (⟨S8x8192x2x64, .f32⟩ : BufTy).Contents (Elt F) :=
  concatenate S8x8192x2x64 3 [⟨S8x8192x2x32, (subf (mulf x1 (broadcastInDim S8x8192x2x32 ![0, 1, 2, 3] bcast_S1x8192x1x32_S8x8192x2x32_0_1_2_3 (broadcastInDim S1x8192x1x32 ![1, 2, 3] bcast_S8192x1x32_S1x8192x1x32_1_2_3 c))) (mulf x2 (broadcastInDim S8x8192x2x32 ![0, 1, 2, 3] bcast_S1x8192x1x32_S8x8192x2x32_0_1_2_3 (broadcastInDim S1x8192x1x32 ![1, 2, 3] bcast_S8192x1x32_S1x8192x1x32_1_2_3 s))))⟩, ⟨S8x8192x2x32, (addf (mulf x2 (broadcastInDim S8x8192x2x32 ![0, 1, 2, 3] bcast_S1x8192x1x32_S8x8192x2x32_0_1_2_3 (broadcastInDim S1x8192x1x32 ![1, 2, 3] bcast_S8192x1x32_S1x8192x1x32_1_2_3 c))) (mulf x1 (broadcastInDim S8x8192x2x32 ![0, 1, 2, 3] bcast_S1x8192x1x32_S8x8192x2x32_0_1_2_3 (broadcastInDim S1x8192x1x32 ![1, 2, 3] bcast_S8192x1x32_S1x8192x1x32_1_2_3 s))))⟩] concatenates_S8x8192x2x32_S8x8192x2x32_S8x8192x2x64_d3

theorem rope2_at (x1 x2 : Vec Ideal S8x8192x2x32 .f32) (c s : Vec Ideal S8192x1x32 .f32) (b : Fin 8) (p : Fin 8192) (h : Fin 2) (d : Fin 64) :
    rope2 x1 x2 c s (ix4 b p h d) = if hd : d.val < 32 then x1 (ix4 b p h ⟨d.val, hd⟩) * c (ix3 p 0 ⟨d.val, hd⟩) - x2 (ix4 b p h ⟨d.val, hd⟩) * s (ix3 p 0 ⟨d.val, hd⟩)
      else x2 (ix4 b p h ⟨d.val - 32, by omega⟩) * c (ix3 p 0 ⟨d.val - 32, by omega⟩) + x1 (ix4 b p h ⟨d.val - 32, by omega⟩) * s (ix3 p 0 ⟨d.val - 32, by omega⟩) := by
  unfold rope2
  pointwise

/-- The rotation of heads of 64 columns given as their halves. -/
def rope4 {F : FTy → Type} [FloatOps F] (x1 x2 : (⟨S8x8192x4x32, .f32⟩ : BufTy).Contents (Elt F)) (c s : (⟨S8192x1x32, .f32⟩ : BufTy).Contents (Elt F)) :
    (⟨S8x8192x4x64, .f32⟩ : BufTy).Contents (Elt F) :=
  concatenate S8x8192x4x64 3 [⟨S8x8192x4x32, (subf (mulf x1 (broadcastInDim S8x8192x4x32 ![0, 1, 2, 3] bcast_S1x8192x1x32_S8x8192x4x32_0_1_2_3 (broadcastInDim S1x8192x1x32 ![1, 2, 3] bcast_S8192x1x32_S1x8192x1x32_1_2_3 c))) (mulf x2 (broadcastInDim S8x8192x4x32 ![0, 1, 2, 3] bcast_S1x8192x1x32_S8x8192x4x32_0_1_2_3 (broadcastInDim S1x8192x1x32 ![1, 2, 3] bcast_S8192x1x32_S1x8192x1x32_1_2_3 s))))⟩, ⟨S8x8192x4x32, (addf (mulf x2 (broadcastInDim S8x8192x4x32 ![0, 1, 2, 3] bcast_S1x8192x1x32_S8x8192x4x32_0_1_2_3 (broadcastInDim S1x8192x1x32 ![1, 2, 3] bcast_S8192x1x32_S1x8192x1x32_1_2_3 c))) (mulf x1 (broadcastInDim S8x8192x4x32 ![0, 1, 2, 3] bcast_S1x8192x1x32_S8x8192x4x32_0_1_2_3 (broadcastInDim S1x8192x1x32 ![1, 2, 3] bcast_S8192x1x32_S1x8192x1x32_1_2_3 s))))⟩] concatenates_S8x8192x4x32_S8x8192x4x32_S8x8192x4x64_d3

theorem rope4_at (x1 x2 : Vec Ideal S8x8192x4x32 .f32) (c s : Vec Ideal S8192x1x32 .f32) (b : Fin 8) (p : Fin 8192) (h : Fin 4) (d : Fin 64) :
    rope4 x1 x2 c s (ix4 b p h d) = if hd : d.val < 32 then x1 (ix4 b p h ⟨d.val, hd⟩) * c (ix3 p 0 ⟨d.val, hd⟩) - x2 (ix4 b p h ⟨d.val, hd⟩) * s (ix3 p 0 ⟨d.val, hd⟩)
      else x2 (ix4 b p h ⟨d.val - 32, by omega⟩) * c (ix3 p 0 ⟨d.val - 32, by omega⟩) + x1 (ix4 b p h ⟨d.val - 32, by omega⟩) * s (ix3 p 0 ⟨d.val - 32, by omega⟩) := by
  unfold rope4
  pointwise

/-- The rotation of heads of 64 columns given as their halves. -/
def rope8 {F : FTy → Type} [FloatOps F] (x1 x2 : (⟨S8x8192x8x32, .f32⟩ : BufTy).Contents (Elt F)) (c s : (⟨S8192x1x32, .f32⟩ : BufTy).Contents (Elt F)) :
    (⟨S8x8192x8x64, .f32⟩ : BufTy).Contents (Elt F) :=
  concatenate S8x8192x8x64 3 [⟨S8x8192x8x32, (subf (mulf x1 (broadcastInDim S8x8192x8x32 ![0, 1, 2, 3] bcast_S1x8192x1x32_S8x8192x8x32_0_1_2_3 (broadcastInDim S1x8192x1x32 ![1, 2, 3] bcast_S8192x1x32_S1x8192x1x32_1_2_3 c))) (mulf x2 (broadcastInDim S8x8192x8x32 ![0, 1, 2, 3] bcast_S1x8192x1x32_S8x8192x8x32_0_1_2_3 (broadcastInDim S1x8192x1x32 ![1, 2, 3] bcast_S8192x1x32_S1x8192x1x32_1_2_3 s))))⟩, ⟨S8x8192x8x32, (addf (mulf x2 (broadcastInDim S8x8192x8x32 ![0, 1, 2, 3] bcast_S1x8192x1x32_S8x8192x8x32_0_1_2_3 (broadcastInDim S1x8192x1x32 ![1, 2, 3] bcast_S8192x1x32_S1x8192x1x32_1_2_3 c))) (mulf x1 (broadcastInDim S8x8192x8x32 ![0, 1, 2, 3] bcast_S1x8192x1x32_S8x8192x8x32_0_1_2_3 (broadcastInDim S1x8192x1x32 ![1, 2, 3] bcast_S8192x1x32_S1x8192x1x32_1_2_3 s))))⟩] concatenates_S8x8192x8x32_S8x8192x8x32_S8x8192x8x64_d3

theorem rope8_at (x1 x2 : Vec Ideal S8x8192x8x32 .f32) (c s : Vec Ideal S8192x1x32 .f32) (b : Fin 8) (p : Fin 8192) (h : Fin 8) (d : Fin 64) :
    rope8 x1 x2 c s (ix4 b p h d) = if hd : d.val < 32 then x1 (ix4 b p h ⟨d.val, hd⟩) * c (ix3 p 0 ⟨d.val, hd⟩) - x2 (ix4 b p h ⟨d.val, hd⟩) * s (ix3 p 0 ⟨d.val, hd⟩)
      else x2 (ix4 b p h ⟨d.val - 32, by omega⟩) * c (ix3 p 0 ⟨d.val - 32, by omega⟩) + x1 (ix4 b p h ⟨d.val - 32, by omega⟩) * s (ix3 p 0 ⟨d.val - 32, by omega⟩) := by
  unfold rope8
  pointwise

/-- Every entry times the queries' constant. -/
def scaled8 {F : FTy → Type} [FloatOps F] (x : (⟨S8x8192x8x64, .f32⟩ : BufTy).Contents (Elt F)) : (⟨S8x8192x8x64, .f32⟩ : BufTy).Contents (Elt F) := mulf x (broadcastInDim S8x8192x8x64 ![] bcast_S_S8x8192x8x64 (constant S_ .f32 0x3E000000#32))

/-- An entry of it. -/
theorem scaled8_at (x : Vec Ideal S8x8192x8x64 .f32) (b : Fin 8) (p : Fin 8192) (h : Fin 8) (d : Fin 64) : scaled8 x (ix4 b p h d) = x (ix4 b p h d) * scale := by
  unfold scaled8
  pointwise
  rfl

/-- Every entry times the queries' constant. -/
def scaled4 {F : FTy → Type} [FloatOps F] (x : (⟨S8x8192x4x128, .f32⟩ : BufTy).Contents (Elt F)) : (⟨S8x8192x4x128, .f32⟩ : BufTy).Contents (Elt F) := mulf x (broadcastInDim S8x8192x4x128 ![] bcast_S_S8x8192x4x128 (constant S_ .f32 0x3E000000#32))

/-- An entry of it. -/
theorem scaled4_at (x : Vec Ideal S8x8192x4x128 .f32) (b : Fin 8) (p : Fin 8192) (h : Fin 4) (d : Fin 128) : scaled4 x (ix4 b p h d) = x (ix4 b p h d) * scale := by
  unfold scaled4
  pointwise
  rfl

/-- The second attention's values. -/
def dv {F : FTy → Type} [FloatOps F] (V0 : Valuation τ sig (Elt F)) : (⟨S8x8192x4x128, .f32⟩ : BufTy).Contents (Elt F) :=
  shapeCast _ (extractStridedSlice S8x8192x512 ![0, 0, 2328] (res_main_v14 V0) slices_S8x8192x2840_S8x8192x512_0_0_2328) shapeCasts_S8x8192x512_S8x8192x4x128

/-- The gates' columns. -/
def gcols {F : FTy → Type} [FloatOps F] (V0 : Valuation τ sig (Elt F)) : (⟨S8x8192x8x3, .f32⟩ : BufTy).Contents (Elt F) :=
  shapeCast _ (extractStridedSlice S8x8192x24 ![0, 0, 1280] (res_main_v14 V0) slices_S8x8192x2840_S8x8192x24_0_0_1280) shapeCasts_S8x8192x24_S8x8192x8x3

/-- The first attention's rows for its cache. -/
def out0 {F : FTy → Type} [FloatOps F] (V0 : Valuation τ sig (Elt F)) : (⟨S8x8192x4x2x64, .f32⟩ : BufTy).Contents (Elt F) :=
  stackNsa (plane0 (res_main_v18 V0)) (plane1 (res_main_v18 V0)) (rope2 (res_main_v88 V0) (res_main_v89 V0) (res_main_v85 V0) (res_main_v87 V0)) (plane3 (res_main_v18 V0))

/-- The second attention's rows for its cache. -/
def out1 {F : FTy → Type} [FloatOps F] (V0 : Valuation τ sig (Elt F)) : (⟨S8x8192x2x4x128, .f32⟩ : BufTy).Contents (Elt F) :=
  stackDiff (beside (rope4 (res_main_v240 V0) (res_main_v241 V0) (res_main_v237 V0) (res_main_v239 V0)) (rope4 (res_main_v275 V0) (res_main_v276 V0) (res_main_v272 V0) (res_main_v274 V0))) (dv V0)

/-- The window's last rows. -/
def out2 {F : FTy → Type} [FloatOps F] (V0 : Valuation τ sig (Elt F)) : (⟨S8x512x2x2x64, .f32⟩ : BufTy).Contents (Elt F) :=
  extractStridedSlice S8x512x2x2x64 ![0, 7680, 0, 0, 0] (res_main_v151 V0) slices_S8x8192x2x2x64_S8x512x2x2x64_0_7680_0_0_0

/-- The first attention's queries, not rotated. -/
def out3 {F : FTy → Type} [FloatOps F] (V0 : Valuation τ sig (Elt F)) : (⟨S65536x1024, .bf16⟩ : BufTy).Contents (Elt F) :=
  truncf .bf16 (list8x128 (pad8 (scaled8 (res_main_v16 V0)))) bitsLt_bf16_f32

/-- The first attention's queries, rotated. -/
def out4 {F : FTy → Type} [FloatOps F] (V0 : Valuation τ sig (Elt F)) : (⟨S65536x1024, .bf16⟩ : BufTy).Contents (Elt F) :=
  truncf .bf16 (list8x128 (pad8 (scaled8 (rope8 (res_main_v49 V0) (res_main_v50 V0) (res_main_v46 V0) (res_main_v48 V0))))) bitsLt_bf16_f32

/-- The second attention's queries. -/
def out5 {F : FTy → Type} [FloatOps F] (V0 : Valuation τ sig (Elt F)) : (⟨S65536x512, .bf16⟩ : BufTy).Contents (Elt F) :=
  truncf .bf16 (list4x128 (scaled4 (beside (rope4 (res_main_v170 V0) (res_main_v171 V0) (res_main_v167 V0) (res_main_v169 V0)) (rope4 (res_main_v205 V0) (res_main_v206 V0) (res_main_v202 V0) (res_main_v204 V0))))) bitsLt_bf16_f32

/-- The gates. -/
def out6 {F : FTy → Type} [FloatOps F] (V0 : Valuation τ sig (Elt F)) : (⟨S65536x24, .f32⟩ : BufTy).Contents (Elt F) :=
  list8x3 (gates (gcols V0))

/-- The window's keys. -/
def out7 {F : FTy → Type} [FloatOps F] (V0 : Valuation τ sig (Elt F)) : (⟨S65536x256, .bf16⟩ : BufTy).Contents (Elt F) :=
  truncf .bf16 (list2x128 (pad2 (planeWin (res_main_v151 V0)))) bitsLt_bf16_f32

/-- The second attention's keys. -/
def out8 {F : FTy → Type} [FloatOps F] (V0 : Valuation τ sig (Elt F)) : (⟨S65536x512, .bf16⟩ : BufTy).Contents (Elt F) :=
  truncf .bf16 (list4x128 (planeDiff (out1 V0))) bitsLt_bf16_f32

/-- The first attention's keys with their blocks' unit vectors. -/
def out9 {F : FTy → Type} [FloatOps F] (V0 : Valuation τ sig (Elt F)) : (⟨S65536x512, .bf16⟩ : BufTy).Contents (Elt F) :=
  truncf .bf16 (list2x256 (augment (pad2 (planeNsa (out0 V0))) eye)) bitsLt_bf16_f32

variable (V0 : Valuation τ sig (Elt Ideal))

/-- The arguments as arrays. -/
abbrev A0 : Vec Ideal S8x8192x1024 .f32 := V0 (Proc.devRef .tc main_arg0)
abbrev A1 : Vec Ideal S1024 .f32 := V0 (Proc.devRef .tc main_arg1)
abbrev A2 : Vec Ideal S1024x2840 .f32 := V0 (Proc.devRef .tc main_arg2)

/-- The projection of a row, its columns in the kernel's order. -/
def zV (b : Fin 8) (p : Fin 8192) : ℕ → EReal :=
  zrow (fun k => A0 V0 (ix3 b p k)) (fun k => A1 V0 (ix1 k)) fun e k => A2 V0 (ix2 e k)

/-- The projection at a row and a column. -/
theorem v14_at (b : Fin 8) (p : Fin 8192) (n : Fin 2840) :
    (res_main_v14 V0 : Vec Ideal S8x8192x2840 .f32) (ix3 b p n)
      = ∑ e, Post.norm1024 (fun k => A0 V0 (ix3 b p k)) (fun k => A1 V0 (ix1 k)) e * A2 V0 (ix2 e n) := by
  unfold res_main_v14 Post.norm1024 Post.norm
  pointwise

/-- The reference's columns in the kernel's order. -/
theorem z_of (b : Fin 8) (p : Fin 8192) (n : Fin 2840) (k : ℕ)
    (hk : k < 1280 ∧ n.val = k ∨ 1280 ≤ k ∧ k < 2816 ∧ n.val = k + 24 ∨ 2816 ≤ k ∧ k < 2840 ∧ n.val + 1536 = k) :
    (res_main_v14 V0 : Vec Ideal S8x8192x2840 .f32) (ix3 b p n) = zV V0 b p k := by
  refine (v14_at V0 b p n).trans ?_
  unfold zV zrow wcol
  refine Finset.sum_congr (M := EReal) rfl fun e _ => congrArg (HMul.hMul (α := EReal) _) ?_
  split_ifs <;> first | omega | (refine congrArg (fun i => A2 V0 (ix2 e i)) (Fin.ext ?_); dsimp only; omega)

/-- The angles. -/
theorem v44_at (p : Fin 8192) (j : Fin 32) : (res_main_v44 V0 : Vec Ideal S8192x32 .f32) (ix2 p j) = angle p.val j.val := by
  unfold res_main_v44 res_main_v0
  pointwise
  rfl

/-- A column and its partner in the reference's halves are the rotation. -/
theorem rope_rot (z : ℕ → EReal) (p o d : ℕ) (ho : o % 64 = 0) (hd : d < 64) :
    (if d < 32 then z (o + d) * Ideal.cos (angle p d) - z (o + 32 + d) * Ideal.sin (angle p d)
      else z (o + 32 + (d - 32)) * Ideal.cos (angle p (d - 32)) + z (o + (d - 32)) * Ideal.sin (angle p (d - 32)))
      = rot z (cosL p) (sinL p) (o + d) := by
  unfold rot cosL sinL
  by_cases h : d < 32
  · rw [if_pos h, if_pos (show (o + d) % 64 < 32 by omega), if_pos (show (o + d) % 128 % 64 < 32 by omega),
      show (o + d) % 128 % 32 = d by omega, show o + d + 32 = o + 32 + d by omega, mul_neg, ← sub_eq_add_neg]
  · rw [if_neg h, if_neg (show ¬(o + d) % 64 < 32 by omega), if_neg (show ¬(o + d) % 128 % 64 < 32 by omega),
      show (o + d) % 128 % 32 = d - 32 by omega, show o + 32 + (d - 32) = o + d by omega, show o + d - 32 = o + (d - 32) by omega]

/-- These columns are the row's from a fixed one on. -/
theorem v16_at (b : Fin 8) (p : Fin 8192) (h : Fin 8) (d : Fin 64) :
    (res_main_v16 V0 : Vec Ideal S8x8192x8x64 .f32) (ix4 b p h d) = zV V0 b p (64 * h.val + d.val) := by
  unfold res_main_v16
  pointwise
  refine z_of V0 b p _ _ ?_
  dsimp only
  omega

/-- These columns are the row's from a fixed one on. -/
theorem v18_at (b : Fin 8) (p : Fin 8192) (j : Fin 6) (h : Fin 2) (d : Fin 64) :
    (res_main_v18 V0 : Vec Ideal S8x8192x6x2x64 .f32) (ix5 b p j h d) = zV V0 b p (512 + 128 * j.val + 64 * h.val + d.val) := by
  unfold res_main_v18
  pointwise
  refine z_of V0 b p _ _ ?_
  dsimp only
  omega

/-- These columns are the row's from a fixed one on. -/
theorem v28_at (b : Fin 8) (p : Fin 8192) (h : Fin 4) (j : Fin 2) (d : Fin 64) :
    (res_main_v28 V0 : Vec Ideal S8x8192x4x2x64 .f32) (ix5 b p h j d) = zV V0 b p (1280 + 128 * h.val + 64 * j.val + d.val) := by
  unfold res_main_v28
  pointwise
  refine z_of V0 b p _ _ ?_
  dsimp only
  omega

/-- These columns are the row's from a fixed one on. -/
theorem v30_at (b : Fin 8) (p : Fin 8192) (h : Fin 4) (j : Fin 2) (d : Fin 64) :
    (res_main_v30 V0 : Vec Ideal S8x8192x4x2x64 .f32) (ix5 b p h j d) = zV V0 b p (1792 + 128 * h.val + 64 * j.val + d.val) := by
  unfold res_main_v30
  pointwise
  refine z_of V0 b p _ _ ?_
  dsimp only
  omega

/-- These columns are the row's from a fixed one on. -/
theorem v71_at (b : Fin 8) (p : Fin 8192) (h : Fin 2) (d : Fin 64) :
    (res_main_v71 V0 : Vec Ideal S8x8192x2x64 .f32) (ix4 b p h d) = zV V0 b p (768 + 64 * h.val + d.val) := by
  unfold res_main_v71
  pointwise
  refine (v18_at V0 b p 2 h d).trans (congrArg (zV V0 b p) ?_)
  simp; try omega

/-- These columns are the row's from a fixed one on. -/
theorem v113_at (b : Fin 8) (p : Fin 8192) (h : Fin 2) (d : Fin 64) :
    (res_main_v113 V0 : Vec Ideal S8x8192x2x64 .f32) (ix4 b p h d) = zV V0 b p (1024 + 64 * h.val + d.val) := by
  unfold res_main_v113
  pointwise
  refine (v18_at V0 b p 4 h d).trans (congrArg (zV V0 b p) ?_)
  simp; try omega

/-- These columns are the row's from a fixed one on. -/
theorem v153_at (b : Fin 8) (p : Fin 8192) (h : Fin 4) (d : Fin 64) :
    (res_main_v153 V0 : Vec Ideal S8x8192x4x64 .f32) (ix4 b p h d) = zV V0 b p (1280 + 128 * h.val + d.val) := by
  unfold res_main_v153
  pointwise
  refine (v28_at V0 b p h 0 d).trans (congrArg (zV V0 b p) ?_)
  simp; try omega

/-- These columns are the row's from a fixed one on. -/
theorem v188_at (b : Fin 8) (p : Fin 8192) (h : Fin 4) (d : Fin 64) :
    (res_main_v188 V0 : Vec Ideal S8x8192x4x64 .f32) (ix4 b p h d) = zV V0 b p (1344 + 128 * h.val + d.val) := by
  unfold res_main_v188
  pointwise
  refine (v28_at V0 b p h 1 d).trans (congrArg (zV V0 b p) ?_)
  simp; try omega

/-- These columns are the row's from a fixed one on. -/
theorem v223_at (b : Fin 8) (p : Fin 8192) (h : Fin 4) (d : Fin 64) :
    (res_main_v223 V0 : Vec Ideal S8x8192x4x64 .f32) (ix4 b p h d) = zV V0 b p (1792 + 128 * h.val + d.val) := by
  unfold res_main_v223
  pointwise
  refine (v30_at V0 b p h 0 d).trans (congrArg (zV V0 b p) ?_)
  simp; try omega

/-- These columns are the row's from a fixed one on. -/
theorem v258_at (b : Fin 8) (p : Fin 8192) (h : Fin 4) (d : Fin 64) :
    (res_main_v258 V0 : Vec Ideal S8x8192x4x64 .f32) (ix4 b p h d) = zV V0 b p (1856 + 128 * h.val + d.val) := by
  unfold res_main_v258
  pointwise
  refine (v30_at V0 b p h 1 d).trans (congrArg (zV V0 b p) ?_)
  simp; try omega

/-- A half of each head. -/
theorem lo2_at (x : Vec Ideal S8x8192x2x64 .f32) (b : Fin 8) (p : Fin 8192) (h : Fin 2) (d : Fin 32) :
    (extractStridedSlice S8x8192x2x32 ![0, 0, 0, 0] x slices_S8x8192x2x64_S8x8192x2x32_0_0_0_0 : Vec Ideal S8x8192x2x32 .f32) (ix4 b p h d)
      = x (ix4 b p h ⟨d.val, by omega⟩) := by
  pointwise

/-- A half of each head. -/
theorem hi2_at (x : Vec Ideal S8x8192x2x64 .f32) (b : Fin 8) (p : Fin 8192) (h : Fin 2) (d : Fin 32) :
    (extractStridedSlice S8x8192x2x32 ![0, 0, 0, 32] x slices_S8x8192x2x64_S8x8192x2x32_0_0_0_32 : Vec Ideal S8x8192x2x32 .f32) (ix4 b p h d)
      = x (ix4 b p h ⟨32 + d.val, by omega⟩) := by
  pointwise

/-- A half of each head. -/
theorem lo4_at (x : Vec Ideal S8x8192x4x64 .f32) (b : Fin 8) (p : Fin 8192) (h : Fin 4) (d : Fin 32) :
    (extractStridedSlice S8x8192x4x32 ![0, 0, 0, 0] x slices_S8x8192x4x64_S8x8192x4x32_0_0_0_0 : Vec Ideal S8x8192x4x32 .f32) (ix4 b p h d)
      = x (ix4 b p h ⟨d.val, by omega⟩) := by
  pointwise

/-- A half of each head. -/
theorem hi4_at (x : Vec Ideal S8x8192x4x64 .f32) (b : Fin 8) (p : Fin 8192) (h : Fin 4) (d : Fin 32) :
    (extractStridedSlice S8x8192x4x32 ![0, 0, 0, 32] x slices_S8x8192x4x64_S8x8192x4x32_0_0_0_32 : Vec Ideal S8x8192x4x32 .f32) (ix4 b p h d)
      = x (ix4 b p h ⟨32 + d.val, by omega⟩) := by
  pointwise

/-- A half of each head. -/
theorem lo8_at (x : Vec Ideal S8x8192x8x64 .f32) (b : Fin 8) (p : Fin 8192) (h : Fin 8) (d : Fin 32) :
    (extractStridedSlice S8x8192x8x32 ![0, 0, 0, 0] x slices_S8x8192x8x64_S8x8192x8x32_0_0_0_0 : Vec Ideal S8x8192x8x32 .f32) (ix4 b p h d)
      = x (ix4 b p h ⟨d.val, by omega⟩) := by
  pointwise

/-- A half of each head. -/
theorem hi8_at (x : Vec Ideal S8x8192x8x64 .f32) (b : Fin 8) (p : Fin 8192) (h : Fin 8) (d : Fin 32) :
    (extractStridedSlice S8x8192x8x32 ![0, 0, 0, 32] x slices_S8x8192x8x64_S8x8192x8x32_0_0_0_32 : Vec Ideal S8x8192x8x32 .f32) (ix4 b p h d)
      = x (ix4 b p h ⟨32 + d.val, by omega⟩) := by
  pointwise

/-- The cos of the angle. -/
theorem v46_at (p : Fin 8192) (j : Fin 32) : (res_main_v46 V0 : Vec Ideal S8192x1x32 .f32) (ix3 p 0 j) = Ideal.cos (angle p.val j.val) := by
  unfold res_main_v46
  pointwise
  exact congrArg Ideal.cos (v44_at V0 p j)

/-- The sin of the angle. -/
theorem v48_at (p : Fin 8192) (j : Fin 32) : (res_main_v48 V0 : Vec Ideal S8192x1x32 .f32) (ix3 p 0 j) = Ideal.sin (angle p.val j.val) := by
  unfold res_main_v48
  pointwise
  exact congrArg Ideal.sin (v44_at V0 p j)

/-- Heads whose columns lie at `o + n * h` in a row `z`, rotated: the row's rotation at those columns. -/
theorem rope2_is (x : Vec Ideal S8x8192x2x64 .f32) (z : Fin 8 → Fin 8192 → ℕ → EReal) (o n : ℕ) (ho : o % 64 = 0) (hn : n % 64 = 0)
    (hx : ∀ b p h d, x (ix4 b p h d) = z b p (o + n * h.val + d.val)) (b : Fin 8) (p : Fin 8192) (h : Fin 2) (d : Fin 64) :
    rope2 (extractStridedSlice S8x8192x2x32 ![0, 0, 0, 0] x slices_S8x8192x2x64_S8x8192x2x32_0_0_0_0)
      (extractStridedSlice S8x8192x2x32 ![0, 0, 0, 32] x slices_S8x8192x2x64_S8x8192x2x32_0_0_0_32)
      (res_main_v46 V0) (res_main_v48 V0) (ix4 b p h d) = rot (z b p) (cosL p.val) (sinL p.val) (o + n * h.val + d.val) := by
  rw [rope2_at, ← rope_rot (z b p) p.val (o + n * h.val) d.val (by rw [Nat.add_mod, Nat.mul_mod, ho, hn]; simp) d.isLt]
  by_cases hd : d.val < 32
  · rw [dif_pos hd, if_pos hd, lo2_at, hi2_at, hx, hx, v46_at, v48_at]
    simp only [Nat.add_assoc]
  · rw [dif_neg hd, if_neg hd, lo2_at, hi2_at, hx, hx, v46_at, v48_at]
    simp only [Nat.add_assoc]

/-- Heads whose columns lie at `o + n * h` in a row `z`, rotated: the row's rotation at those columns. -/
theorem rope4_is (x : Vec Ideal S8x8192x4x64 .f32) (z : Fin 8 → Fin 8192 → ℕ → EReal) (o n : ℕ) (ho : o % 64 = 0) (hn : n % 64 = 0)
    (hx : ∀ b p h d, x (ix4 b p h d) = z b p (o + n * h.val + d.val)) (b : Fin 8) (p : Fin 8192) (h : Fin 4) (d : Fin 64) :
    rope4 (extractStridedSlice S8x8192x4x32 ![0, 0, 0, 0] x slices_S8x8192x4x64_S8x8192x4x32_0_0_0_0)
      (extractStridedSlice S8x8192x4x32 ![0, 0, 0, 32] x slices_S8x8192x4x64_S8x8192x4x32_0_0_0_32)
      (res_main_v46 V0) (res_main_v48 V0) (ix4 b p h d) = rot (z b p) (cosL p.val) (sinL p.val) (o + n * h.val + d.val) := by
  rw [rope4_at, ← rope_rot (z b p) p.val (o + n * h.val) d.val (by rw [Nat.add_mod, Nat.mul_mod, ho, hn]; simp) d.isLt]
  by_cases hd : d.val < 32
  · rw [dif_pos hd, if_pos hd, lo4_at, hi4_at, hx, hx, v46_at, v48_at]
    simp only [Nat.add_assoc]
  · rw [dif_neg hd, if_neg hd, lo4_at, hi4_at, hx, hx, v46_at, v48_at]
    simp only [Nat.add_assoc]

/-- Heads whose columns lie at `o + n * h` in a row `z`, rotated: the row's rotation at those columns. -/
theorem rope8_is (x : Vec Ideal S8x8192x8x64 .f32) (z : Fin 8 → Fin 8192 → ℕ → EReal) (o n : ℕ) (ho : o % 64 = 0) (hn : n % 64 = 0)
    (hx : ∀ b p h d, x (ix4 b p h d) = z b p (o + n * h.val + d.val)) (b : Fin 8) (p : Fin 8192) (h : Fin 8) (d : Fin 64) :
    rope8 (extractStridedSlice S8x8192x8x32 ![0, 0, 0, 0] x slices_S8x8192x8x64_S8x8192x8x32_0_0_0_0)
      (extractStridedSlice S8x8192x8x32 ![0, 0, 0, 32] x slices_S8x8192x8x64_S8x8192x8x32_0_0_0_32)
      (res_main_v46 V0) (res_main_v48 V0) (ix4 b p h d) = rot (z b p) (cosL p.val) (sinL p.val) (o + n * h.val + d.val) := by
  rw [rope8_at, ← rope_rot (z b p) p.val (o + n * h.val) d.val (by rw [Nat.add_mod, Nat.mul_mod, ho, hn]; simp) d.isLt]
  by_cases hd : d.val < 32
  · rw [dif_pos hd, if_pos hd, lo8_at, hi8_at, hx, hx, v46_at, v48_at]
    simp only [Nat.add_assoc]
  · rw [dif_neg hd, if_neg hd, lo8_at, hi8_at, hx, hx, v46_at, v48_at]
    simp only [Nat.add_assoc]

/-- The second attention's values are the row's last columns before the gates. -/
theorem dv_at (b : Fin 8) (p : Fin 8192) (h : Fin 4) (e : Fin 128) : dv V0 (ix4 b p h e) = zV V0 b p (2304 + 128 * h.val + e.val) := by
  unfold dv
  pointwise
  refine z_of V0 b p _ _ ?_
  dsimp only
  omega

/-- The gates' columns in the row. -/
theorem gcols_at (b : Fin 8) (p : Fin 8192) (h : Fin 8) (d : Fin 3) : gcols V0 (ix4 b p h d) = zV V0 b p (2816 + 3 * h.val + d.val) := by
  unfold gcols
  pointwise
  refine z_of V0 b p _ _ ?_
  dsimp only
  omega

/-- The window's rows at every position. -/
theorem win_at (b : Fin 8) (p : Fin 8192) (j h : Fin 2) (d : Fin 64) :
    (res_main_v151 V0 : Vec Ideal S8x8192x2x2x64 .f32) (ix5 b p j h d) = fWin (zV V0 b p) (cosL p.val) (sinL p.val) (128 * j.val + 64 * h.val + d.val) := by
  refine (congrFun (show res_main_v151 V0 = stackWin (rope2 (res_main_v130 V0) (res_main_v131 V0) (res_main_v127 V0) (res_main_v129 V0)) (plane5 (res_main_v18 V0)) from rfl) _).trans ?_
  refine (stackWin_at _ _ b p j h d).trans ?_
  unfold fWin
  by_cases hj : j.val < 1
  · rw [if_pos hj, if_pos (by omega)]
    exact (rope2_is V0 (res_main_v113 V0) (zV V0) 1024 64 (by norm_num) (by norm_num) (v113_at V0) b p h d).trans (congrArg (rot (zV V0 b p) (cosL p.val) (sinL p.val)) (by omega))
  · rw [if_neg hj, if_neg (by omega)]
    exact (plane5_at _ b p h d).trans ((v18_at V0 b p 5 h d).trans (congrArg (zV V0 b p) (show 512 + 128 * 5 + 64 * h.val + d.val = _ by omega)))

/-- The cache's rows of the first attention: four planes, the third rotated. -/
theorem out0_at (b : Fin 8) (p : Fin 8192) (j : Fin 4) (h : Fin 2) (d : Fin 64) :
    out0 V0 (ix5 b p j h d) = fNsa (zV V0 b p) (cosL p.val) (sinL p.val) (128 * j.val + 64 * h.val + d.val) := by
  refine (stackNsa_at _ _ _ _ b p j h d).trans ?_
  unfold fNsa
  by_cases h0 : j.val < 1
  · rw [if_pos h0, if_neg (by omega)]
    exact (plane0_at _ b p h d).trans ((v18_at V0 b p 0 h d).trans (congrArg (zV V0 b p) (show 512 + 128 * 0 + 64 * h.val + d.val = _ by omega)))
  rw [if_neg h0]
  by_cases h1 : j.val < 2
  · rw [if_pos h1, if_neg (by omega)]
    exact (plane1_at _ b p h d).trans ((v18_at V0 b p 1 h d).trans (congrArg (zV V0 b p) (show 512 + 128 * 1 + 64 * h.val + d.val = _ by omega)))
  rw [if_neg h1]
  by_cases h2 : j.val < 3
  · rw [if_pos h2, if_pos (by omega)]
    exact (rope2_is V0 (res_main_v71 V0) (zV V0) 768 64 (by norm_num) (by norm_num) (v71_at V0) b p h d).trans (congrArg (rot (zV V0 b p) (cosL p.val) (sinL p.val)) (by omega))
  · rw [if_neg h2, if_neg (by omega)]
    exact (plane3_at _ b p h d).trans ((v18_at V0 b p 3 h d).trans (congrArg (zV V0 b p) (show 512 + 128 * 3 + 64 * h.val + d.val = _ by omega)))

/-- The two halves of a head, each rotated: the rotation of the row from column 1792 on. -/
theorem keys_at (b : Fin 8) (p : Fin 8192) (h : Fin 4) (e : Fin 128) :
    beside (rope4 (res_main_v240 V0) (res_main_v241 V0) (res_main_v237 V0) (res_main_v239 V0)) (rope4 (res_main_v275 V0) (res_main_v276 V0) (res_main_v272 V0) (res_main_v274 V0)) (ix4 b p h e)
      = rot (zV V0 b p) (cosL p.val) (sinL p.val) (1792 + 128 * h.val + e.val) := by
  refine (beside_at _ _ b p h e).trans ?_
  by_cases he : e.val < 64
  · rw [dif_pos he]
    exact rope4_is V0 (res_main_v223 V0) (zV V0) 1792 128 (by norm_num) (by norm_num) (v223_at V0) b p h ⟨e.val, he⟩
  · rw [dif_neg he]
    refine (rope4_is V0 (res_main_v258 V0) (zV V0) 1856 128 (by norm_num) (by norm_num) (v258_at V0) b p h ⟨e.val - 64, by omega⟩).trans (congrArg (rot (zV V0 b p) (cosL p.val) (sinL p.val)) ?_)
    dsimp only
    omega

/-- The two halves of a head, each rotated: the rotation of the row from column 1280 on. -/
theorem queries_at (b : Fin 8) (p : Fin 8192) (h : Fin 4) (e : Fin 128) :
    beside (rope4 (res_main_v170 V0) (res_main_v171 V0) (res_main_v167 V0) (res_main_v169 V0)) (rope4 (res_main_v205 V0) (res_main_v206 V0) (res_main_v202 V0) (res_main_v204 V0)) (ix4 b p h e)
      = rot (zV V0 b p) (cosL p.val) (sinL p.val) (1280 + 128 * h.val + e.val) := by
  refine (beside_at _ _ b p h e).trans ?_
  by_cases he : e.val < 64
  · rw [dif_pos he]
    exact rope4_is V0 (res_main_v153 V0) (zV V0) 1280 128 (by norm_num) (by norm_num) (v153_at V0) b p h ⟨e.val, he⟩
  · rw [dif_neg he]
    refine (rope4_is V0 (res_main_v188 V0) (zV V0) 1344 128 (by norm_num) (by norm_num) (v188_at V0) b p h ⟨e.val - 64, by omega⟩).trans (congrArg (rot (zV V0 b p) (cosL p.val) (sinL p.val)) ?_)
    dsimp only
    omega

/-- The cache's rows of the second attention: rotated keys, then values. -/
theorem out1_at (b : Fin 8) (p : Fin 8192) (j : Fin 2) (h : Fin 4) (e : Fin 128) :
    out1 V0 (ix5 b p j h e) = fDiff (zV V0 b p) (cosL p.val) (sinL p.val) (512 * j.val + 128 * h.val + e.val) := by
  refine (stackDiff_at _ _ b p j h e).trans ?_
  unfold fDiff
  by_cases hj : j.val < 1
  · rw [if_pos hj, if_pos (by omega)]
    exact (keys_at V0 b p h e).trans (congrArg (rot (zV V0 b p) (cosL p.val) (sinL p.val)) (by omega))
  · rw [if_neg hj, if_neg (by omega)]
    exact (dv_at V0 b p h e).trans (congrArg (zV V0 b p) (by omega))

/-- The window's result is the last 512 positions of its rows. -/
theorem out2_at (b : Fin 8) (q : Fin 512) (j h : Fin 2) (d : Fin 64) :
    out2 V0 (ix5 b q j h d) = fWin (zV V0 b ⟨7680 + q.val, by omega⟩) (cosL (7680 + q.val)) (sinL (7680 + q.val)) (128 * j.val + 64 * h.val + d.val) := by
  refine Eq.trans ?_ (win_at V0 b ⟨7680 + q.val, by omega⟩ j h d)
  unfold out2
  generalize res_main_v151 V0 = y
  pointwise

/-- The queries scaled, in lanes. -/
theorem out3_at (r : Fin 65536) (k : Fin 1024) : out3 V0 (ix2 r k) = fQc (zV V0 ⟨r.val / 8192, by omega⟩ ⟨r.val % 8192, by omega⟩) k.val := by
  refine (list8x128_at _ r k).trans ((pad8_at _ _ _ _ _).trans ?_)
  unfold fQc lanes
  dsimp only
  by_cases h : k.val % 128 < 64
  · rw [dif_pos h, if_pos h]
    refine (scaled8_at _ _ _ _ _).trans ?_
    rw [v16_at]
  · rw [dif_neg h, if_neg h]

/-- The rotated queries scaled, in lanes. -/
theorem out4_at (r : Fin 65536) (k : Fin 1024) : out4 V0 (ix2 r k) = fQr (zV V0 ⟨r.val / 8192, by omega⟩ ⟨r.val % 8192, by omega⟩) (cosL (r.val % 8192)) (sinL (r.val % 8192)) k.val := by
  refine (list8x128_at _ r k).trans ((pad8_at _ _ _ _ _).trans ?_)
  unfold fQr lanes
  dsimp only
  by_cases h : k.val % 128 < 64
  · rw [dif_pos h, if_pos h]
    refine (scaled8_at _ _ _ _ _).trans (congrArg (fun y => y * scale) ?_)
    exact (rope8_is V0 (res_main_v16 V0) (zV V0) 0 64 (by norm_num) (by norm_num) (fun b p h d => (v16_at V0 b p h d).trans (congrArg (zV V0 b p) (by omega))) _ _ _ _).trans (congrArg (rot _ _ _) (by dsimp only; omega))
  · rw [dif_neg h, if_neg h]

/-- The second attention's queries, rotated and scaled. -/
theorem out5_at (r : Fin 65536) (k : Fin 512) : out5 V0 (ix2 r k) = fDq (zV V0 ⟨r.val / 8192, by omega⟩ ⟨r.val % 8192, by omega⟩) (cosL (r.val % 8192)) (sinL (r.val % 8192)) k.val := by
  refine (list4x128_at _ r k).trans ((scaled4_at _ _ _ _ _).trans (congrArg (fun y => y * scale) ?_))
  exact (queries_at V0 _ _ _ _).trans (congrArg (rot _ _ _) (by dsimp only; omega))

/-- The gates. -/
theorem out6_at (r : Fin 65536) (k : Fin 24) : out6 V0 (ix2 r k) = fGate (zV V0 ⟨r.val / 8192, by omega⟩ ⟨r.val % 8192, by omega⟩) k.val := by
  refine (list8x3_at _ r k).trans ((gates_at _ _ _ _ _).trans (congrArg Ideal.logistic ?_))
  exact (gcols_at V0 _ _ _ _).trans (congrArg (zV V0 _ _) (by dsimp only; omega))

/-- The window's keys in lanes. -/
theorem out7_at (r : Fin 65536) (k : Fin 256) : out7 V0 (ix2 r k) = fKwin (zV V0 ⟨r.val / 8192, by omega⟩ ⟨r.val % 8192, by omega⟩) (cosL (r.val % 8192)) (sinL (r.val % 8192)) k.val := by
  refine (list2x128_at _ r k).trans ((pad2_at _ _ _ _ _).trans ?_)
  unfold fKwin lanes
  dsimp only
  by_cases h : k.val % 128 < 64
  · rw [dif_pos h, if_pos h]
    refine (planeWin_at _ _ _ _ _).trans ((win_at V0 _ _ 0 _ _).trans ?_)
    unfold fWin
    rw [if_pos (by dsimp only; omega)]
    refine congrArg (rot _ _ _) ?_
    show 1024 + (128 * 0 + 64 * (k.val / 128) + k.val % 128) = _
    omega
  · rw [dif_neg h, if_neg h]

/-- The second attention's keys. -/
theorem out8_at (r : Fin 65536) (k : Fin 512) : out8 V0 (ix2 r k) = fDk (zV V0 ⟨r.val / 8192, by omega⟩ ⟨r.val % 8192, by omega⟩) (cosL (r.val % 8192)) (sinL (r.val % 8192)) k.val := by
  unfold out8
  have e : ∀ y : Vec Ideal S8x8192x2x4x128 .f32, (truncf .bf16 (list4x128 (planeDiff y)) bitsLt_bf16_f32 : Vec Ideal S65536x512 .bf16) (ix2 r k)
      = y (ix5 ⟨r.val / 8192, by omega⟩ ⟨r.val % 8192, by omega⟩ 0 ⟨k.val / 128, by omega⟩ ⟨k.val % 128, by omega⟩) :=
    fun y => (list4x128_at _ r k).trans (planeDiff_at _ _ _ _ _)
  rw [e, out1_at]
  unfold fDiff fDk
  rw [if_pos (by dsimp only; omega)]
  refine congrArg (rot _ _ _) ?_
  dsimp only
  omega

/-- The first attention's keys in lanes and the blocks' unit vectors, of any planes. -/
theorem augmented (y : Vec Ideal S8x8192x4x2x64 .f32) (r : Fin 65536) (k : Fin 512) :
    (truncf .bf16 (list2x256 (augment (pad2 (planeNsa y)) eye)) bitsLt_bf16_f32 : Vec Ideal S65536x512 .bf16) (ix2 r k)
      = if h : k.val % 256 < 64 then y (ix5 ⟨r.val / 8192, by omega⟩ ⟨r.val % 8192, by omega⟩ 2 ⟨k.val / 256, by omega⟩ ⟨k.val % 256, h⟩)
        else if k.val % 256 < 128 then 0
        else if k.val % 256 - 128 = r.val % 8192 / 64 then 1 else 0 := by
  refine (list2x256_at _ r k).trans ((augment_at _ _ _ _ _ _).trans ?_)
  dsimp only
  by_cases h : k.val % 256 < 128
  · rw [dif_pos h, if_pos h]
    refine (pad2_at _ _ _ _ _).trans ?_
    dsimp only
    by_cases h' : k.val % 256 < 64
    · rw [dif_pos h', dif_pos h']
      exact planeNsa_at _ _ _ _ _
    · rw [dif_neg h', dif_neg h']
  · rw [dif_neg h, dif_neg (by omega), if_neg h]
    exact eye_at _ _

/-- The first attention's keys in lanes, each head followed by its block's unit vector. -/
theorem out9_at (r : Fin 65536) (k : Fin 512) : out9 V0 (ix2 r k) = fKaug (r.val % 8192) (zV V0 ⟨r.val / 8192, by omega⟩ ⟨r.val % 8192, by omega⟩) (cosL (r.val % 8192)) (sinL (r.val % 8192)) k.val := by
  unfold out9
  rw [augmented]
  unfold fKaug
  by_cases h : k.val % 256 < 64
  · rw [dif_pos h, if_pos h, out0_at]
    unfold fNsa
    rw [if_pos (by dsimp only; omega)]
    refine congrArg (rot _ _ _) ?_
    dsimp only
    omega
  · rw [dif_neg h, if_neg h]

end Cert.Proof.ProjRef
-- ==== Proof.ProjSame.lean ====
/-
  What the projection call leaves is what the reference of the projection computes.
-/
module

public import proofs.«01_k».proof.Proof.ProjArray
public import proofs.«01_k».proof.Proof.ProjTail
public import proofs.«01_k».proof.Proof.ProjReference

@[expose] public section

set_option maxRecDepth 65536

noncomputable section

namespace Cert.Proof.Proj

open Idealize.ShloMosaic Idealize.ShloMosaic.TcCoe Idealize.SL.Sem Cert.Kernel3Ideal Cert.Kernel3Ideal.Gen Cert.Proof.ProjRef

variable (m : (ℓ : Loc nD τ sig) → Buf (Elt Ideal) ℓ) (c : Dev nD)

/-- The arrays after the call: the result windows' arrays, all others as before it. -/
abbrev afterCall : Valuation τ sig (Elt Ideal) :=
  Pipeline.withArrays (cfgs 0).spec c (V0 m c) fun w => (dats m 0 c).arrAt w (cfgs 0).N

/-- A result window's array after the call. -/
theorem call_arr (w : Fin 18) : afterCall m c (Proc.devRef .tc (Pipeline.arrRef spec0 w)) = (dats m 0 c).arrAt w cfg0.N :=
  Pipeline.withArrays_arr spec0 (by decide) c (V0 m c) (fun w => (dats m 0 c).arrAt w (cfgs 0).N) w

/-- Row and position of a sequence's row in the list of all rows. -/
theorem rows_of (n : ℕ) (f : Fin 8 → Fin 8192 → ℕ → EReal) (b : Fin 8) (p : Fin 8192) (k : Fin n) :
    rows n f (ix2 ⟨b.val * 8192 + p.val, by omega⟩ k) = f b p k.val := by
  unfold rows
  refine congrArg₂ (fun b p => f b p k.val) (Fin.ext ?_) (Fin.ext ?_)
  · show (b.val * 8192 + p.val) / 8192 = b.val
    omega
  · show (b.val * 8192 + p.val) % 8192 = p.val
    omega

variable (U : Valuation Cert.Reference3Ideal.τ Cert.Reference3Ideal.sig (Elt Ideal)) (hz : ∀ b p, zV U b p = zR m c b p)

include hz

/-- Result 3 is the reference's. -/
theorem same3 : (rows 1024 fun b p => fQc (zR m c b p)) = (out3 U : Vec Ideal ⟨2, ![65536, 1024]⟩ .bf16) := by
  funext y
  obtain ⟨r, k, rfl⟩ : ∃ (r : Fin 65536) (k : Fin 1024), y = ix2 r k := ⟨y 0, y 1, eq_ix2 y⟩
  refine Eq.trans ?_ (out3_at U r k).symm
  rw [hz]
  rfl

/-- Result 4 is the reference's. -/
theorem same4 : (rows 1024 fun b p => fQr (zR m c b p) (cosL p.val) (sinL p.val)) = (out4 U : Vec Ideal ⟨2, ![65536, 1024]⟩ .bf16) := by
  funext y
  obtain ⟨r, k, rfl⟩ : ∃ (r : Fin 65536) (k : Fin 1024), y = ix2 r k := ⟨y 0, y 1, eq_ix2 y⟩
  refine Eq.trans ?_ (out4_at U r k).symm
  rw [hz]
  rfl

/-- Result 5 is the reference's. -/
theorem same5 : (rows 512 fun b p => fDq (zR m c b p) (cosL p.val) (sinL p.val)) = (out5 U : Vec Ideal ⟨2, ![65536, 512]⟩ .bf16) := by
  funext y
  obtain ⟨r, k, rfl⟩ : ∃ (r : Fin 65536) (k : Fin 512), y = ix2 r k := ⟨y 0, y 1, eq_ix2 y⟩
  refine Eq.trans ?_ (out5_at U r k).symm
  rw [hz]
  rfl

/-- Result 7 is the reference's. -/
theorem same7 : (rows 256 fun b p => fKwin (zR m c b p) (cosL p.val) (sinL p.val)) = (out7 U : Vec Ideal ⟨2, ![65536, 256]⟩ .bf16) := by
  funext y
  obtain ⟨r, k, rfl⟩ : ∃ (r : Fin 65536) (k : Fin 256), y = ix2 r k := ⟨y 0, y 1, eq_ix2 y⟩
  refine Eq.trans ?_ (out7_at U r k).symm
  rw [hz]
  rfl

/-- Result 8 is the reference's. -/
theorem same8 : (rows 512 fun b p => fDk (zR m c b p) (cosL p.val) (sinL p.val)) = (out8 U : Vec Ideal ⟨2, ![65536, 512]⟩ .bf16) := by
  funext y
  obtain ⟨r, k, rfl⟩ : ∃ (r : Fin 65536) (k : Fin 512), y = ix2 r k := ⟨y 0, y 1, eq_ix2 y⟩
  refine Eq.trans ?_ (out8_at U r k).symm
  rw [hz]
  rfl

/-- Result 9 is the reference's. -/
theorem same9 : (rows 512 fun b p => fKaug p.val (zR m c b p) (cosL p.val) (sinL p.val)) = (out9 U : Vec Ideal ⟨2, ![65536, 512]⟩ .bf16) := by
  funext y
  obtain ⟨r, k, rfl⟩ : ∃ (r : Fin 65536) (k : Fin 512), y = ix2 r k := ⟨y 0, y 1, eq_ix2 y⟩
  refine Eq.trans ?_ (out9_at U r k).symm
  rw [hz]
  rfl

/-- Result 0 is the reference's. -/
theorem same0 : (StableHlo.after hostOps1 (afterCall m c) (Proc.devRef .tc main_v28) : Vec Ideal S8x8192x4x2x64 .f32) = out0 U := by
  funext y
  obtain ⟨b, p, j, h, d, rfl⟩ : ∃ (b : Fin 8) (p : Fin 8192) (j : Fin 4) (h : Fin 2) (d : Fin 64), y = ix5 b p j h d := ⟨_, _, _, _, _, eq_ix5 y⟩
  refine Eq.trans ?_ (out0_at U b p j h d).symm
  refine (tail28 (afterCall m c) b p j h d).trans ?_
  refine (congrFun ((call_arr m c 9).trans (result9 m c)) _).trans ?_
  refine (rows_of 512 _ b p ⟨j.val * 128 + h.val * 64 + d.val, by omega⟩).trans ?_
  rw [hz]
  dsimp only
  congr 1
  omega

/-- Result 1 is the reference's. -/
theorem same1 : (StableHlo.after hostOps1 (afterCall m c) (Proc.devRef .tc main_v29) : Vec Ideal S8x8192x2x4x128 .f32) = out1 U := by
  funext y
  obtain ⟨b, p, j, h, e, rfl⟩ : ∃ (b : Fin 8) (p : Fin 8192) (j : Fin 2) (h : Fin 4) (e : Fin 128), y = ix5 b p j h e := ⟨_, _, _, _, _, eq_ix5 y⟩
  refine Eq.trans ?_ (out1_at U b p j h e).symm
  refine (tail29 (afterCall m c) b p j h e).trans ?_
  refine (congrFun ((call_arr m c 11).trans (result11 m c)) _).trans ?_
  refine (rows_of 1024 _ b p ⟨j.val * 512 + h.val * 128 + e.val, by omega⟩).trans ?_
  rw [hz]
  dsimp only
  congr 1
  omega

/-- Result 2 is the reference's. -/
theorem same2 : (StableHlo.after hostOps1 (afterCall m c) (Proc.devRef .tc main_v31) : Vec Ideal S8x512x2x2x64 .f32) = out2 U := by
  funext y
  obtain ⟨b, q, j, h, d, rfl⟩ : ∃ (b : Fin 8) (q : Fin 512) (j : Fin 2) (h : Fin 2) (d : Fin 64), y = ix5 b q j h d := ⟨_, _, _, _, _, eq_ix5 y⟩
  refine Eq.trans ?_ (out2_at U b q j h d).symm
  refine ((congrFun (tail31 (afterCall m c)) _).trans ((last512 _ b q j h d).trans (tail30 (afterCall m c) b ⟨7680 + q.val, by omega⟩ j h d))).trans ?_
  refine (congrFun ((call_arr m c 10).trans (result10 m c)) _).trans ?_
  refine (rows_of 256 _ b ⟨7680 + q.val, by omega⟩ ⟨j.val * 128 + h.val * 64 + d.val, by omega⟩).trans ?_
  rw [hz]
  dsimp only
  congr 1
  omega

/-- Result 6 is the reference's. -/
theorem same6 : (StableHlo.after hostOps1 (afterCall m c) (Proc.devRef .tc main_v32) : Vec Ideal S65536x24 .f32) = out6 U := by
  funext y
  obtain ⟨r, k, rfl⟩ : ∃ (r : Fin 65536) (k : Fin 24), y = ix2 r k := ⟨y 0, y 1, eq_ix2 y⟩
  refine Eq.trans ?_ (out6_at U r k).symm
  refine (tail32 (afterCall m c) r k).trans ?_
  refine (congrFun ((call_arr m c 8).trans (result8 m c)) _).trans ?_
  rw [hz]
  rfl

end Cert.Proof.Proj
-- ==== Proof.ProjClaims.lean ====
/-
  The claims about the projection: both programs' frames, and that kernel and reference compute the same results.
-/
module

public import proofs.«01_k».proof.Defs
public import proofs.«01_k».proof.Proof.Gen.Kernel3
public import proofs.«01_k».proof.Proof.Gen.Kernel3.Frame
public import proofs.«01_k».proof.Proof.ProjSame
public import Idealize.ShloMosaic.Adequacy

@[expose] public section

noncomputable section

namespace Cert.Proof.Proj

open Idealize.ShloMosaic Idealize.ShloMosaic.TcCoe Idealize.SL.Sem Cert.Proof.ProjRef

/-- The projection kernel ends, with its arguments unchanged. -/
theorem frame_p : Cert.quiescent_Kernel3 := fun m ρ _ => Cert.Kernel3.Gen.frame m ρ

/-- So does the kernel over the extended reals. -/
theorem frame_pi : Cert.quiescent_Kernel3Ideal := fun m ρ _ => Cert.Kernel3Ideal.Gen.frame m ρ

/-- So does its reference. -/
theorem frame_ri : Cert.quiescent_Reference3Ideal := fun m ρ _ =>
  (θ_run Cert.Reference3Ideal.defs _ _).mono (fun r h => ⟨fun c => (h c).2.2.2.2.2.2.2.2.2.2, Idealize.ShloMosaic.sem_eq_zero_of_no_sems (by decide) r.2⟩)
    (Cert.Reference3Ideal.Value.run (F := Ideal) m ρ)

/-- No operation of the kernel is replaced. -/
theorem preserves : Cert.preserves_Kernel3_Kernel3Ideal := trivial

section Reference

open Cert.Reference3Ideal Cert.Reference3Ideal.Value

set_option maxRecDepth 65536 in
/-- The reference's run, its results read as the functions of its arguments that `ProjReference` defines. -/
theorem run_reference (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v111) = out0 (StableHlo.launchContents m c)
      ∧ r.2.mem ((c.tc : Thread nD τ).loc main_v295) = out1 (StableHlo.launchContents m c)
      ∧ r.2.mem ((c.tc : Thread nD τ).loc main_v311) = out2 (StableHlo.launchContents m c)
      ∧ r.2.mem ((c.tc : Thread nD τ).loc main_v316) = out3 (StableHlo.launchContents m c)
      ∧ r.2.mem ((c.tc : Thread nD τ).loc main_v321) = out4 (StableHlo.launchContents m c)
      ∧ r.2.mem ((c.tc : Thread nD τ).loc main_v326) = out5 (StableHlo.launchContents m c)
      ∧ r.2.mem ((c.tc : Thread nD τ).loc main_v327) = out6 (StableHlo.launchContents m c)
      ∧ r.2.mem ((c.tc : Thread nD τ).loc main_v332) = out7 (StableHlo.launchContents m c)
      ∧ r.2.mem ((c.tc : Thread nD τ).loc main_v336) = out8 (StableHlo.launchContents m c)
      ∧ r.2.mem ((c.tc : Thread nD τ).loc main_v338) = out9 (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨h0, h1, h2, h3, h4, h5, h6, h7, h8, h9, ha⟩ := h c
    exact ⟨h0, h1, h2, h3, h4, h5, h6, h7, h8, h9, ha⟩) (run (F := Ideal) m g)

end Reference

section Kernel

open Cert.Kernel3Ideal Cert.Kernel3Ideal.Gen

set_option maxRecDepth 65536 in
/-- The kernel's run, its results those of the reference on arguments that agree. -/
theorem run_kernel (m : (ℓ : Loc nD τ sig) → Buf (Elt Ideal) ℓ) (g : Dev nD → PrngReg)
    (U : Dev nD → Valuation Cert.Reference3Ideal.τ Cert.Reference3Ideal.sig (Elt Ideal)) (hz : ∀ c b p, zV (U c) b p = zR m c b p) :
    θ_run (defs (F := Ideal)) (onTc (τ := τ) (main (F := Ideal))) ⟨m, fun _ => 0, g⟩ fun r => ∀ c : Dev nD,
      r.2.mem ((c.tc : Thread nD τ).loc main_v28) = out0 (U c)
      ∧ r.2.mem ((c.tc : Thread nD τ).loc main_v29) = out1 (U c)
      ∧ r.2.mem ((c.tc : Thread nD τ).loc main_v31) = out2 (U c)
      ∧ r.2.mem ((c.tc : Thread nD τ).loc main_v27_0) = out3 (U c)
      ∧ r.2.mem ((c.tc : Thread nD τ).loc main_v27_1) = out4 (U c)
      ∧ r.2.mem ((c.tc : Thread nD τ).loc main_v27_2) = out5 (U c)
      ∧ r.2.mem ((c.tc : Thread nD τ).loc main_v32) = out6 (U c)
      ∧ r.2.mem ((c.tc : Thread nD τ).loc main_v27_9) = out7 (U c)
      ∧ r.2.mem ((c.tc : Thread nD τ).loc main_v27_11) = out8 (U c)
      ∧ r.2.mem ((c.tc : Thread nD τ).loc main_v27_7) = out9 (U c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (θ_run_and (Gen.run_main m g) (Gen.unchanged m g))
  obtain ⟨h, hargs⟩ := h
  have e0 := ((h c).2 main_v28 (by decide)).trans (same0 m c (U c) (hz c))
  have e1 := ((h c).2 main_v29 (by decide)).trans (same1 m c (U c) (hz c))
  have e2 := ((h c).2 main_v31 (by decide)).trans (same2 m c (U c) (hz c))
  have e3 := ((h c).1 5).trans ((result5 m c).trans (same3 m c (U c) (hz c)))
  have e4 := ((h c).1 6).trans ((result6 m c).trans (same4 m c (U c) (hz c)))
  have e5 := ((h c).1 7).trans ((result7 m c).trans (same5 m c (U c) (hz c)))
  have e6 := ((h c).2 main_v32 (by decide)).trans (same6 m c (U c) (hz c))
  have e7 := ((h c).1 14).trans ((result14 m c).trans (same7 m c (U c) (hz c)))
  have e8 := ((h c).1 16).trans ((result16 m c).trans (same8 m c (U c) (hz c)))
  have e9 := ((h c).1 12).trans ((result12 m c).trans (same9 m c (U c) (hz c)))
  exact ⟨e0, e1, e2, e3, e4, e5, e6, e7, e8, e9, hargs c⟩

end Kernel

set_option maxRecDepth 65536 in
/-- From arguments that agree, kernel and reference compute the same ten results. -/
theorem algebraic : Cert.algebraic_Kernel3Ideal_Reference3Ideal := by
  intro m g m' g' hpre hagree
  have hz : ∀ c b p, zV (StableHlo.launchContents m' c) b p = zR m c b p := by
    intro c b p
    obtain ⟨a0, a1, a2⟩ := hagree c
    have e0 : ProjRef.A0 (StableHlo.launchContents m' c) = A0 m c := a0
    have e1 : ProjRef.A1 (StableHlo.launchContents m' c) = A1 m c := a1
    have e2 : ProjRef.A2 (StableHlo.launchContents m' c) = A2 m c := a2
    unfold zV zR
    rw [e0, e1, e2]
  exact ⟨fun c => out0 (StableHlo.launchContents m' c), fun c => out1 (StableHlo.launchContents m' c), fun c => out2 (StableHlo.launchContents m' c), fun c => out3 (StableHlo.launchContents m' c), fun c => out4 (StableHlo.launchContents m' c), fun c => out5 (StableHlo.launchContents m' c), fun c => out6 (StableHlo.launchContents m' c), fun c => out7 (StableHlo.launchContents m' c), fun c => out8 (StableHlo.launchContents m' c), fun c => out9 (StableHlo.launchContents m' c), run_kernel m g (fun c => StableHlo.launchContents m' c) hz, run_reference m' g'⟩

end Cert.Proof.Proj
-- ==== Proof.SampStored.lean ====
/-
  The blocks that the sample's projection stores at a grid point, each as a function of the row and the column.
-/
module

public import proofs.«01_k».proof.Proof.Gen.Kernel4Ideal.Frame
public import proofs.«01_k».proof.Proof.ProjKernel
public import proofs.«01_k».proof.Proof.PostKernel

@[expose] public section

set_option maxRecDepth 65536

noncomputable section

namespace Cert.Proof.Samp

open Cert.Proof.Proj (Is zblk mm512_is mm768_is piece_at slice_is rope_slice rot fNsa fWin fDiff)
open Idealize.ShloMosaic Idealize.ShloMosaic.TcCoe Idealize.SL.Sem Cert.Kernel4Ideal Cert.Kernel4Ideal.Gen

variable (m : (ℓ : Loc nD τ sig) → Buf (Elt Ideal) ℓ) (c : Dev nD) (t : Fin cfg0.N)

/-- The projection of a row of the grid point's block. -/
def zK : Fin 512 → ℕ → EReal := zblk (iblk m c 0 t) (iblk m c 1 t) (iblk m c 2 t)

/-- The grid point's rows of the table of cosines. -/
def cK (i : Fin 512) (l : ℕ) : EReal := (iblk m c 3 t : Vec Ideal S512x128 .f32) (ix2 i ⟨l % 128, Nat.mod_lt _ (by decide)⟩)

/-- The grid point's rows of the table of sines. -/
def sK (i : Fin 512) (l : ℕ) : EReal := (iblk m c 4 t : Vec Ideal S512x128 .f32) (ix2 i ⟨l % 128, Nat.mod_lt _ (by decide)⟩)

theorem h512 (o : ℕ) (ho : o + 512 ≤ 2944) (inb : ∀ z, (![0, o] : Fin 2 → ℕ) z + (![1024, 512] : Fin 2 → ℕ) z ≤ S1024x2944.size z) :
    Is (k0_pay50 (F := Ideal) (k0_pay3 (iblk m c 0 t) (iblk m c 1 t)) (View.ld (iblk m c 2 t : Vec Ideal S1024x2944 .bf16) (Rect.unit (s := S1024x2944) ![0, o] ![1024, 512] inb)))
      fun i l => zK m c t i (o + l) := mm512_is _ _ _ o ho inb

theorem h768 (o : ℕ) (ho : o + 768 ≤ 2944) (inb : ∀ z, (![0, o] : Fin 2 → ℕ) z + (![1024, 768] : Fin 2 → ℕ) z ≤ S1024x2944.size z) :
    Is (k0_pay44 (F := Ideal) (k0_pay3 (iblk m c 0 t) (iblk m c 1 t)) (View.ld (iblk m c 2 t : Vec Ideal S1024x2944 .bf16) (Rect.unit (s := S1024x2944) ![0, o] ![1024, 768] inb)))
      fun i l => zK m c t i (o + l) := mm768_is _ _ _ o ho inb

theorem hC : Is (k0_pay4 (F := Ideal) (iblk m c 3 t)) (cK m c t) := by
  intro i l
  unfold cK
  simp only [Nat.mod_eq_of_lt l.isLt]
  pointwise [k0_pay4]

theorem hS : Is (k0_pay5 (F := Ideal) (iblk m c 4 t)) (sK m c t) := by
  intro i l
  unfold sK
  simp only [Nat.mod_eq_of_lt l.isLt]
  pointwise [k0_pay5]

theorem ld0 (inb : ∀ z, (![0, 0] : Fin 2 → ℕ) z + (![512, 1024] : Fin 2 → ℕ) z ≤ S512x1024.size z) :
    View.ld (iblk m c 0 t) (Rect.unit (s := S512x1024) ![0, 0] ![512, 1024] inb) = iblk m c 0 t := Post.ld_whole _ inb

theorem ld1 (inb : ∀ z, (![0, 0] : Fin 2 → ℕ) z + (![1, 1024] : Fin 2 → ℕ) z ≤ S1x1024.size z) :
    View.ld (iblk m c 1 t) (Rect.unit (s := S1x1024) ![0, 0] ![1, 1024] inb) = iblk m c 1 t := Post.ld_whole _ inb

theorem ld3 (inb : ∀ z, (![0, 0] : Fin 2 → ℕ) z + (![512, 128] : Fin 2 → ℕ) z ≤ S512x128.size z) :
    View.ld (iblk m c 3 t) (Rect.unit (s := S512x128) ![0, 0] ![512, 128] inb) = iblk m c 3 t := Post.ld_whole _ inb

theorem ld4 (inb : ∀ z, (![0, 0] : Fin 2 → ℕ) z + (![512, 128] : Fin 2 → ℕ) z ≤ S512x128.size z) :
    View.ld (iblk m c 4 t) (Rect.unit (s := S512x128) ![0, 0] ![512, 128] inb) = iblk m c 4 t := Post.ld_whole _ inb

/-- The first attention's rows for its cache. -/
theorem stored9 : Is ((dats m 0 c).after 9 t : Vec Ideal S512x512 .f32) fun i => fNsa (zK m c t i) (cK m c t i) (sK m c t i) := by
  intro i k
  rw [after0_9]
  unfold outsAt0 out0_A_9
  dsimp only
  refine (congrFun (View.read_writes_eq_canon _ _ _ fun y => cover0_A_9 ..) _).trans ?_
  let f : Fin 512 → ℕ → EReal := fun i => fNsa (zK m c t i) (cK m c t i) (sK m c t i)
  refine View.canon_apply_of_pieces (Val := Elt Ideal) (e := .f32) (fun y : S512x512.Idx => f (y 0) (y 1).val) _ ?_ _ (cover0_A_9 ..)
  unfold kernelRun0_A
  dsimp only
  sl_unfold_words
  simp only [View.readAt_eq_ld, (hs0_0 t).read_unread, (hs0_1 t).read_unread, (hs0_2 t).read_unread, (hs0_3 t).read_unread, (hs0_4 t).read_unread]
  intro p hp
  simp only [List.mem_cons, List.mem_nil_iff, or_false, ld0, ld1, ld3, ld4] at hp
  rcases hp with rfl | rfl | rfl
  · exact piece_at _ _ f _ (by decide) (slice_is _ (zK m c t) 512 384 (by decide) (h768 m c t 512 (by decide) (by decide))) fun i l hl => (congrArg (zK m c t i) (Nat.add_assoc ..)).trans (if_neg (by omega)).symm
  · exact piece_at _ _ f _ (by decide) (rope_slice _ _ _ (zK m c t) _ _ 512 256 (by decide) rfl (h768 m c t 512 (by decide) (by decide)) (hC m c t) (hS m c t)) fun i l hl => (congrArg (rot (zK m c t i) (cK m c t i) (sK m c t i)) (Nat.add_assoc ..)).trans (if_pos (by omega)).symm
  · exact piece_at _ _ f _ (by decide) (slice_is _ (zK m c t) 512 0 (by decide) (h768 m c t 512 (by decide) (by decide))) fun i l hl => (congrArg (zK m c t i) (Nat.add_assoc ..)).trans (if_neg (by omega)).symm

/-- The first attention's rows for its window. -/
theorem stored10 : Is ((dats m 0 c).after 10 t : Vec Ideal S512x256 .f32) fun i => fWin (zK m c t i) (cK m c t i) (sK m c t i) := by
  intro i k
  rw [after0_10]
  unfold outsAt0 out0_A_10
  dsimp only
  refine (congrFun (View.read_writes_eq_canon _ _ _ fun y => cover0_A_10 ..) _).trans ?_
  let f : Fin 512 → ℕ → EReal := fun i => fWin (zK m c t i) (cK m c t i) (sK m c t i)
  refine View.canon_apply_of_pieces (Val := Elt Ideal) (e := .f32) (fun y : S512x256.Idx => f (y 0) (y 1).val) _ ?_ _ (cover0_A_10 ..)
  unfold kernelRun0_A
  dsimp only
  sl_unfold_words
  simp only [View.readAt_eq_ld, (hs0_0 t).read_unread, (hs0_1 t).read_unread, (hs0_2 t).read_unread, (hs0_3 t).read_unread, (hs0_4 t).read_unread]
  intro p hp
  simp only [List.mem_cons, List.mem_nil_iff, or_false, ld0, ld1, ld3, ld4] at hp
  rcases hp with rfl | rfl
  · exact piece_at _ _ f _ (by decide) (slice_is _ (zK m c t) 512 640 (by decide) (h768 m c t 512 (by decide) (by decide))) fun i l hl => (congrArg (zK m c t i) (by omega)).trans (if_neg (by omega)).symm
  · exact piece_at _ _ f _ (by decide) (rope_slice _ _ _ (zK m c t) _ _ 512 512 (by decide) rfl (h768 m c t 512 (by decide) (by decide)) (hC m c t) (hS m c t)) fun i l hl => (congrArg (rot (zK m c t i) (cK m c t i) (sK m c t i)) (by omega)).trans (if_pos (by omega)).symm

/-- The second attention's rows for its cache. -/
theorem stored11 : Is ((dats m 0 c).after 11 t : Vec Ideal S512x1024 .f32) fun i => fDiff (zK m c t i) (cK m c t i) (sK m c t i) := by
  intro i k
  rw [after0_11]
  unfold outsAt0 out0_A_11
  dsimp only
  refine (congrFun (View.read_writes_eq_canon _ _ _ fun y => cover0_A_11 ..) _).trans ?_
  let f : Fin 512 → ℕ → EReal := fun i => fDiff (zK m c t i) (cK m c t i) (sK m c t i)
  refine View.canon_apply_of_pieces (Val := Elt Ideal) (e := .f32) (fun y : S512x1024.Idx => f (y 0) (y 1).val) _ ?_ _ (cover0_A_11 ..)
  unfold kernelRun0_A
  dsimp only
  sl_unfold_words
  simp only [View.readAt_eq_ld, (hs0_0 t).read_unread, (hs0_1 t).read_unread, (hs0_2 t).read_unread, (hs0_3 t).read_unread, (hs0_4 t).read_unread]
  intro p hp
  simp only [List.mem_cons, List.mem_nil_iff, or_false, ld0, ld1, ld3, ld4] at hp
  rcases hp with rfl | rfl | rfl | rfl | rfl
  · exact piece_at _ _ f _ (by decide) (h512 m c t 2304 (by decide) (by decide)) fun i l hl => (congrArg (zK m c t i) (by omega)).trans (if_neg (by omega)).symm
  · exact piece_at _ _ f _ (by decide) (rope_slice _ _ _ (zK m c t) _ _ 1792 384 (by decide) rfl (h512 m c t 1792 (by decide) (by decide)) (hC m c t) (hS m c t)) fun i l hl => (congrArg (rot (zK m c t i) (cK m c t i) (sK m c t i)) (Nat.add_assoc ..)).trans (if_pos (by omega)).symm
  · exact piece_at _ _ f _ (by decide) (rope_slice _ _ _ (zK m c t) _ _ 1792 256 (by decide) rfl (h512 m c t 1792 (by decide) (by decide)) (hC m c t) (hS m c t)) fun i l hl => (congrArg (rot (zK m c t i) (cK m c t i) (sK m c t i)) (Nat.add_assoc ..)).trans (if_pos (by omega)).symm
  · exact piece_at _ _ f _ (by decide) (rope_slice _ _ _ (zK m c t) _ _ 1792 128 (by decide) rfl (h512 m c t 1792 (by decide) (by decide)) (hC m c t) (hS m c t)) fun i l hl => (congrArg (rot (zK m c t i) (cK m c t i) (sK m c t i)) (Nat.add_assoc ..)).trans (if_pos (by omega)).symm
  · exact piece_at _ _ f _ (by decide) (rope_slice _ _ _ (zK m c t) _ _ 1792 0 (by decide) rfl (h512 m c t 1792 (by decide) (by decide)) (hC m c t) (hS m c t)) fun i l hl => (congrArg (rot (zK m c t i) (cK m c t i) (sK m c t i)) (Nat.add_assoc ..)).trans (if_pos (by omega)).symm

end Cert.Proof.Samp
-- ==== Proof.SampArray.lean ====
/-
  The sample's projection call: every grid point's block is the block of the projection of the padded rows.
-/
module

public import proofs.«01_k».proof.Proof.SampStored
public import proofs.«01_k».proof.Proof.ProjArray

@[expose] public section

set_option maxRecDepth 65536

noncomputable section

namespace Cert.Proof.Samp

open Cert.Proof.Proj (wcol zrow zblk angle cosL sinL rot fNsa fWin fDiff four)
open Idealize.ShloMosaic Idealize.ShloMosaic.TcCoe Idealize.SL.Sem Cert.Kernel4Ideal Cert.Kernel4Ideal.Gen

variable (m : (ℓ : Loc nD τ sig) → Buf (Elt Ideal) ℓ) (c : Dev nD)

/-- The arguments as arrays. -/
abbrev A0 : Vec Ideal S128x4x1024 .f32 := m ((c.tc : Thread nD τ).loc main_arg0)
abbrev A1 : Vec Ideal S128x512x2x2x64 .f32 := m ((c.tc : Thread nD τ).loc main_arg1)
abbrev A2 : Vec Ideal S1024 .f32 := m ((c.tc : Thread nD τ).loc main_arg2)
abbrev A3 : Vec Ideal S1024x2840 .f32 := m ((c.tc : Thread nD τ).loc main_arg3)

/-- The first four rows of each group of eight are the argument's. -/
theorem v_x (b : Fin 128) (q : Fin 4) (k : Fin 1024) :
    (V m c main_v23 : Vec Ideal S1024x1024 .f32) (ix2 ⟨b.val * 8 + q.val, by omega⟩ k) = A0 m c (ix3 b q k) := by
  unfold V
  after_reads_at
  simp only [show (b.val * 8 + q.val) % 8 = q.val by omega]
  rw [dif_pos q.isLt]

theorem v_g (k : Fin 1024) : (V m c main_v24 : Vec Ideal S1x1024 .f32) (ix2 0 k) = A2 m c (ix1 k) := by
  unfold V
  after_reads_at

theorem v_w (e : Fin 1024) (k : Fin 2944) :
    (V m c main_v30 : Vec Ideal S1024x2944 .bf16) (ix2 e k) = wcol (fun e k => A3 m c (ix2 e k)) e k.val := by
  unfold V wcol
  after_reads_at
  after_reads_at
  have hk := k.isLt
  by_cases h1 : k.val < 1280
  · rw [dif_pos h1, dif_pos h1]
  · rw [dif_neg h1, dif_neg h1]
    by_cases h2 : k.val - 1280 < 1536
    · rw [dif_pos h2, dif_pos (show k.val < 2816 by omega)]
      refine congrArg (fun i => A3 m c (ix2 e i)) (Fin.ext ?_)
      show 1304 + (k.val - 1280) = k.val + 24
      omega
    · rw [dif_neg h2, dif_neg (show ¬k.val < 2816 by omega)]
      by_cases h3 : k.val - 1280 - 1536 < 24
      · rw [dif_pos h3, dif_pos (show k.val < 2840 by omega)]
        refine congrArg (fun i => A3 m c (ix2 e i)) (Fin.ext ?_)
        show 1280 + (k.val - 1280 - 1536) = k.val - 1536
        omega
      · rw [dif_neg h3, dif_neg (show ¬k.val < 2840 by omega)]

/-- The words of a row's position: 8192 and the row's place in its group of eight. -/
theorem word_position : ∀ r : Fin 1024, IntOp.addi 8192#32 (Scalar.select (IntOp.andi
    (IntOp.cmpi CmpIPredicate.ne (IntOp.cmpi CmpIPredicate.slt (IntOp.remsi ArithUnit.host (BitVec.ofNat 32 r.val) (Scalar.select (IntOp.cmpi CmpIPredicate.eq 8#32 0#32) 1#32 8#32)) 0#32)
      (IntOp.cmpi CmpIPredicate.slt (Scalar.select (IntOp.cmpi CmpIPredicate.eq 8#32 0#32) 1#32 8#32) 0#32))
    (IntOp.cmpi CmpIPredicate.ne (IntOp.remsi ArithUnit.host (BitVec.ofNat 32 r.val) (Scalar.select (IntOp.cmpi CmpIPredicate.eq 8#32 0#32) 1#32 8#32)) 0#32))
    (IntOp.addi (IntOp.remsi ArithUnit.host (BitVec.ofNat 32 r.val) (Scalar.select (IntOp.cmpi CmpIPredicate.eq 8#32 0#32) 1#32 8#32)) (Scalar.select (IntOp.cmpi CmpIPredicate.eq 8#32 0#32) 1#32 8#32))
    (IntOp.remsi ArithUnit.host (BitVec.ofNat 32 r.val) (Scalar.select (IntOp.cmpi CmpIPredicate.eq 8#32 0#32) 1#32 8#32))) = BitVec.ofNat 32 (8192 + r.val % 8) := by
  decide +kernel

theorem v_c (p : Fin 1024) (l : Fin 128) : (V m c main_v18 : Vec Ideal S1024x128 .f32) (ix2 p l) = cosL (8192 + p.val % 8) l.val := by
  unfold V
  after_reads_at
  after_reads_at
  simp only [id_eq, constantI]
  rw [word_position p]
  refine (four (fun j => Ideal.cos (angle (8192 + p.val % 8) j)) (fun j => Ideal.cos (angle (8192 + p.val % 8) j)) l.val l.isLt).trans ?_
  rw [ite_self]
  rfl

theorem v_s (p : Fin 1024) (l : Fin 128) : (V m c main_v21 : Vec Ideal S1024x128 .f32) (ix2 p l) = sinL (8192 + p.val % 8) l.val := by
  unfold V
  after_reads_at
  after_reads_at
  simp only [id_eq, constantI]
  rw [word_position p]
  exact four (fun j => -Ideal.sin (angle (8192 + p.val % 8) j)) (fun j => Ideal.sin (angle (8192 + p.val % 8) j)) l.val l.isLt

theorem idx0 : ∀ t : Fin grid0.N, win0_0.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx9 : ∀ t : Fin grid0.N, win0_9.index t = ![t.val, 0] := by decide +kernel
theorem idx10 : ∀ t : Fin grid0.N, win0_10.index t = ![t.val, 0] := by decide +kernel
theorem idx11 : ∀ t : Fin grid0.N, win0_11.index t = ![t.val, 0] := by decide +kernel
theorem idx1 : ∀ t : Fin grid0.N, win0_1.index t = ![0, 0] := by decide +kernel
theorem idx2 : ∀ t : Fin grid0.N, win0_2.index t = ![0, 0] := by decide +kernel

theorem hN (t : Fin cfg0.N) : t.val < 2 := t.isLt

theorem blk0 (t : Fin cfg0.N) (r : Fin 512) (k : Fin 1024) :
    (iblk m c 0 t : Vec Ideal S512x1024 .f32) (ix2 r k) = (V m c main_v23 : Vec Ideal S1024x1024 .f32) (ix2 ⟨512 * t.val + r.val, by have := hN t; omega⟩ k) := by
  have ht := hN t
  unfold iblk
  generalize V m c = W
  blk_ext! [idx0 t]

theorem blk1 (t : Fin cfg0.N) (k : Fin 1024) :
    (iblk m c 1 t : Vec Ideal S1x1024 .f32) (ix2 0 k) = (V m c main_v24 : Vec Ideal S1x1024 .f32) (ix2 0 k) := by
  unfold iblk
  generalize V m c = W
  blk_ext! [idx1 t]

theorem blk2 (t : Fin cfg0.N) (e : Fin 1024) (k : Fin 2944) :
    (iblk m c 2 t : Vec Ideal S1024x2944 .bf16) (ix2 e k) = (V m c main_v30 : Vec Ideal S1024x2944 .bf16) (ix2 e k) := by
  unfold iblk
  generalize V m c = W
  blk_ext! [idx2 t]

theorem blk3 (t : Fin cfg0.N) (r : Fin 512) (l : Fin 128) :
    (iblk m c 3 t : Vec Ideal S512x128 .f32) (ix2 r l) = (V m c main_v18 : Vec Ideal S1024x128 .f32) (ix2 ⟨512 * t.val + r.val, by have := hN t; omega⟩ l) := by
  have ht := hN t
  unfold iblk
  generalize V m c = W
  blk_ext! [idx3 t]

theorem blk4 (t : Fin cfg0.N) (r : Fin 512) (l : Fin 128) :
    (iblk m c 4 t : Vec Ideal S512x128 .f32) (ix2 r l) = (V m c main_v21 : Vec Ideal S1024x128 .f32) (ix2 ⟨512 * t.val + r.val, by have := hN t; omega⟩ l) := by
  have ht := hN t
  unfold iblk
  generalize V m c = W
  blk_ext! [idx4 t]

/-- The padded rows. -/
def xP (r : Fin 1024) (k : Fin 1024) : EReal := (V m c main_v23 : Vec Ideal S1024x1024 .f32) (ix2 r k)

/-- The projection of a padded row. -/
def zP (r : Fin 1024) : ℕ → EReal := zrow (xP m c r) (fun k => A2 m c (ix1 k)) fun e k => A3 m c (ix2 e k)

/-- The projection of a row of the arguments. -/
def zR (b : Fin 128) (p : Fin 4) : ℕ → EReal :=
  zrow (fun k => A0 m c (ix3 b p k)) (fun k => A2 m c (ix1 k)) fun e k => A3 m c (ix2 e k)

/-- The padded rows that are a row of the arguments. -/
theorem zP_row (b : Fin 128) (p : Fin 4) : zP m c ⟨b.val * 8 + p.val, by omega⟩ = zR m c b p := by
  unfold zP zR
  exact congrArg (fun x => zrow x _ _) (funext fun k => v_x m c b p k)

/-- The row that a row of the grid point's block is. -/
def rT (t : Fin cfg0.N) (r : Fin 512) : Fin 1024 := ⟨512 * t.val + r.val, by have := hN t; omega⟩

theorem z_eq (t : Fin cfg0.N) (r : Fin 512) : zK m c t r = zP m c (rT t r) := by
  funext k
  unfold zK zblk zP zrow
  have hx : Post.rowOf (iblk m c 0 t : Vec Ideal S512x1024 .f32) r = xP m c (rT t r) := by
    funext k
    exact blk0 m c t r k
  have hg : Post.rowOf (iblk m c 1 t : Vec Ideal S1x1024 .f32) 0 = fun k => A2 m c (ix1 k) := by
    funext k
    exact (blk1 m c t k).trans (v_g m c k)
  rw [hx, hg]
  by_cases h : k < 2944
  · rw [dif_pos h]
    exact Finset.sum_congr rfl fun e _ => congrArg _ ((blk2 m c t e ⟨k, h⟩).trans (v_w m c e ⟨k, h⟩))
  · rw [dif_neg h]
    refine (Finset.sum_eq_zero fun e _ => ?_).symm
    unfold wcol
    rw [dif_neg (by omega), dif_neg (by omega), dif_neg (by omega), mul_zero]

theorem c_eq (t : Fin cfg0.N) (r : Fin 512) : cK m c t r = cosL (8192 + (rT t r).val % 8) := by
  funext l
  refine (blk3 m c t r _).trans ((v_c m c _ _).trans ?_)
  show cosL _ (l % 128) = _
  unfold cosL
  rw [show l % 128 % 32 = l % 32 by omega]
  rfl

theorem s_eq (t : Fin cfg0.N) (r : Fin 512) : sK m c t r = sinL (8192 + (rT t r).val % 8) := by
  funext l
  refine (blk4 m c t r _).trans ((v_s m c _ _).trans ?_)
  show sinL _ (l % 128) = _
  unfold sinL
  rw [show l % 128 % 32 = l % 32 by omega, show l % 128 % 64 = l % 64 by omega]
  rfl

/-- A function of the row and the column as an array of rows. -/
def rows (n : ℕ) (f : Fin 1024 → ℕ → EReal) (y : (⟨2, ![1024, n]⟩ : Shape).Idx) : EReal := f (y 0) (y 1).val

theorem result9 : (dats m 0 c).arrAt 9 cfg0.N = rows 512 fun r => fNsa (zP m c r) (cosL (8192 + r.val % 8)) (sinL (8192 + r.val % 8)) := by
  refine (dats m 0 c).arrAt_eq_of_covers 9 _ (by decide +kernel) fun t hf y => ?_
  have ht := hN t
  blk_simp
  obtain ⟨r, k, rfl⟩ : ∃ (r : Fin 512) (k : Fin 512), y = ix2 r k := ⟨y 0, y 1, eq_ix2 y⟩
  have hemb : ((win0_9.blk t).view.emb (ix2 r k) : S1024x512.Idx) = ix2 ⟨512 * t.val + r.val, by omega⟩ k := by
    blk_ext [idx9 t]
  refine Eq.trans (stored9 m c t r k) ?_
  show _ = rows 512 _ ((win0_9.blk t).view.emb (ix2 r k) : S1024x512.Idx)
  rw [hemb]
  dsimp only
  rw [z_eq, c_eq, s_eq]
  rfl

theorem result10 : (dats m 0 c).arrAt 10 cfg0.N = rows 256 fun r => fWin (zP m c r) (cosL (8192 + r.val % 8)) (sinL (8192 + r.val % 8)) := by
  refine (dats m 0 c).arrAt_eq_of_covers 10 _ (by decide +kernel) fun t hf y => ?_
  have ht := hN t
  blk_simp
  obtain ⟨r, k, rfl⟩ : ∃ (r : Fin 512) (k : Fin 256), y = ix2 r k := ⟨y 0, y 1, eq_ix2 y⟩
  have hemb : ((win0_10.blk t).view.emb (ix2 r k) : S1024x256.Idx) = ix2 ⟨512 * t.val + r.val, by omega⟩ k := by
    blk_ext [idx10 t]
  refine Eq.trans (stored10 m c t r k) ?_
  show _ = rows 256 _ ((win0_10.blk t).view.emb (ix2 r k) : S1024x256.Idx)
  rw [hemb]
  dsimp only
  rw [z_eq, c_eq, s_eq]
  rfl

theorem result11 : (dats m 0 c).arrAt 11 cfg0.N = rows 1024 fun r => fDiff (zP m c r) (cosL (8192 + r.val % 8)) (sinL (8192 + r.val % 8)) := by
  refine (dats m 0 c).arrAt_eq_of_covers 11 _ (by decide +kernel) fun t hf y => ?_
  have ht := hN t
  blk_simp
  obtain ⟨r, k, rfl⟩ : ∃ (r : Fin 512) (k : Fin 1024), y = ix2 r k := ⟨y 0, y 1, eq_ix2 y⟩
  have hemb : ((win0_11.blk t).view.emb (ix2 r k) : S1024x1024.Idx) = ix2 ⟨512 * t.val + r.val, by omega⟩ k := by
    blk_ext [idx11 t]
  refine Eq.trans (stored11 m c t r k) ?_
  show _ = rows 1024 _ ((win0_11.blk t).view.emb (ix2 r k) : S1024x1024.Idx)
  rw [hemb]
  dsimp only
  rw [z_eq, c_eq, s_eq]
  rfl

end Cert.Proof.Samp
-- ==== Proof.SampTail.lean ====
/-
  What the lines after the sample's projection call make of its result arrays.
-/
module

public import proofs.«01_k».proof.Proof.SampStored
public import Idealize.ShloMosaic.Lib.Pipeline.ValueKit
public import Idealize.ShloMosaic.Lib.StableHlo.ReadAt

@[expose] public section

set_option maxRecDepth 65536

noncomputable section

namespace Cert.Proof.Samp

open Idealize.ShloMosaic Idealize.ShloMosaic.TcCoe Idealize.SL.Sem Cert.Kernel4Ideal Cert.Kernel4Ideal.Gen

/-- The first four of each eight rows. -/
theorem nsa_rows (x : Vec Ideal S1024x512 .f32) (b : Fin 128) (p : Fin 4) (k : Fin 512) :
    (extractStridedSlice S128x4x512 ![0, 0, 0] (shapeCast S128x8x512 x shapeCasts_S1024x512_S128x8x512) slices_S128x8x512_S128x4x512_0_0_0 : Vec Ideal S128x4x512 .f32) (ix3 b p k)
      = x (ix2 ⟨b.val * 8 + p.val, by omega⟩ k) := by
  pointwise

/-- The columns as planes and heads. -/
theorem nsa_heads (y : Vec Ideal S128x4x512 .f32) (b : Fin 128) (p : Fin 4) (j : Fin 4) (h : Fin 2) (d : Fin 64) :
    (shapeCast S128x4x4x2x64 y shapeCasts_S128x4x512_S128x4x4x2x64 : Vec Ideal S128x4x4x2x64 .f32) (ix5 b p j h d)
      = y (ix3 b p ⟨j.val * 128 + h.val * 64 + d.val, by omega⟩) := by
  pointwise

/-- The first four of each eight rows. -/
theorem diff_rows (x : Vec Ideal S1024x1024 .f32) (b : Fin 128) (p : Fin 4) (k : Fin 1024) :
    (extractStridedSlice S128x4x1024 ![0, 0, 0] (shapeCast S128x8x1024 x shapeCasts_S1024x1024_S128x8x1024) slices_S128x8x1024_S128x4x1024_0_0_0 : Vec Ideal S128x4x1024 .f32) (ix3 b p k)
      = x (ix2 ⟨b.val * 8 + p.val, by omega⟩ k) := by
  pointwise

/-- The columns as planes and heads. -/
theorem diff_heads (y : Vec Ideal S128x4x1024 .f32) (b : Fin 128) (p : Fin 4) (j : Fin 2) (h : Fin 4) (e : Fin 128) :
    (shapeCast S128x4x2x4x128 y shapeCasts_S128x4x1024_S128x4x2x4x128 : Vec Ideal S128x4x2x4x128 .f32) (ix5 b p j h e)
      = y (ix3 b p ⟨j.val * 512 + h.val * 128 + e.val, by omega⟩) := by
  pointwise

/-- The first four of each eight rows. -/
theorem win_rows (x : Vec Ideal S1024x256 .f32) (b : Fin 128) (p : Fin 4) (k : Fin 256) :
    (extractStridedSlice S128x4x256 ![0, 0, 0] (shapeCast S128x8x256 x shapeCasts_S1024x256_S128x8x256) slices_S128x8x256_S128x4x256_0_0_0 : Vec Ideal S128x4x256 .f32) (ix3 b p k)
      = x (ix2 ⟨b.val * 8 + p.val, by omega⟩ k) := by
  pointwise

/-- The columns as planes and heads. -/
theorem win_heads (y : Vec Ideal S128x512x256 .f32) (b : Fin 128) (p : Fin 512) (j h : Fin 2) (d : Fin 64) :
    (shapeCast S128x512x2x2x64 y shapeCasts_S128x512x256_S128x512x2x2x64 : Vec Ideal S128x512x2x2x64 .f32) (ix5 b p j h d)
      = y (ix3 b p ⟨j.val * 128 + h.val * 64 + d.val, by omega⟩) := by
  pointwise

/-- Planes and heads as columns. -/
theorem win_columns (x : Vec Ideal S128x512x2x2x64 .f32) (b : Fin 128) (p : Fin 512) (j h : Fin 2) (d : Fin 64) :
    (shapeCast S128x512x256 x shapeCasts_S128x512x2x2x64_S128x512x256 : Vec Ideal S128x512x256 .f32) (ix3 b p ⟨j.val * 128 + h.val * 64 + d.val, by omega⟩)
      = x (ix5 b p j h d) := by
  pointwise

/-- The window moved on by four rows. -/
theorem win_moved (x : Vec Ideal S128x512x256 .f32) (y : Vec Ideal S128x4x256 .f32) (b : Fin 128) (p : Fin 512) (k : Fin 256) :
    (extractStridedSlice S128x512x256 ![0, 4, 0] (concatenate S128x516x256 1 [⟨S128x512x256, x⟩, ⟨S128x4x256, y⟩] concatenates_S128x512x256_S128x4x256_S128x516x256_d1) slices_S128x516x256_S128x512x256_0_4_0 : Vec Ideal S128x512x256 .f32) (ix3 b p k)
      = if hp : p.val < 508 then x (ix3 b ⟨4 + p.val, by omega⟩ k) else y (ix3 b ⟨p.val - 508, by omega⟩ k) := by
  pointwise
  by_cases hp : p.val < 508
  · rw [dif_pos hp, dif_pos (by omega)]
  · rw [dif_neg hp, dif_neg (by omega)]
    refine congrArg (fun i => y (ix3 b i k)) (Fin.ext ?_)
    dsimp only
    omega

variable (W : Valuation τ sig (Elt Ideal))

/-- The first attention's result read in the call's array. -/
theorem tail38 (b : Fin 128) (p : Fin 4) (j : Fin 4) (h : Fin 2) (d : Fin 64) :
    (StableHlo.after hostOps1 W (Proc.devRef .tc main_v38) : Vec Ideal S128x4x4x2x64 .f32) (ix5 b p j h d)
      = (W (Proc.devRef .tc main_v31_4) : Vec Ideal S1024x512 .f32) (ix2 ⟨b.val * 8 + p.val, by omega⟩ ⟨j.val * 128 + h.val * 64 + d.val, by omega⟩) := by
  have e : (StableHlo.after hostOps1 W (Proc.devRef .tc main_v38) : Vec Ideal S128x4x4x2x64 .f32)
      = shapeCast S128x4x4x2x64 (extractStridedSlice S128x4x512 ![0, 0, 0] (shapeCast S128x8x512 (W (Proc.devRef .tc main_v31_4) : Vec Ideal S1024x512 .f32) shapeCasts_S1024x512_S128x8x512) slices_S128x8x512_S128x4x512_0_0_0) shapeCasts_S128x4x512_S128x4x4x2x64 := by
    after_reads_simp
    rfl
  rw [e]
  exact (nsa_heads _ b p j h d).trans (nsa_rows _ b p _)

/-- The second attention's result read in the call's array. -/
theorem tail41 (b : Fin 128) (p : Fin 4) (j : Fin 2) (h : Fin 4) (e : Fin 128) :
    (StableHlo.after hostOps1 W (Proc.devRef .tc main_v41) : Vec Ideal S128x4x2x4x128 .f32) (ix5 b p j h e)
      = (W (Proc.devRef .tc main_v31_6) : Vec Ideal S1024x1024 .f32) (ix2 ⟨b.val * 8 + p.val, by omega⟩ ⟨j.val * 512 + h.val * 128 + e.val, by omega⟩) := by
  have e' : (StableHlo.after hostOps1 W (Proc.devRef .tc main_v41) : Vec Ideal S128x4x2x4x128 .f32)
      = shapeCast S128x4x2x4x128 (extractStridedSlice S128x4x1024 ![0, 0, 0] (shapeCast S128x8x1024 (W (Proc.devRef .tc main_v31_6) : Vec Ideal S1024x1024 .f32) shapeCasts_S1024x1024_S128x8x1024) slices_S128x8x1024_S128x4x1024_0_0_0) shapeCasts_S128x4x1024_S128x4x2x4x128 := by
    after_reads_simp
    rfl
  rw [e']
  exact (diff_heads _ b p j h e).trans (diff_rows _ b p _)

/-- The window's result read in the window before and in the call's array. -/
theorem tail43 (b : Fin 128) (p : Fin 512) (j h : Fin 2) (d : Fin 64) :
    (StableHlo.after hostOps1 W (Proc.devRef .tc main_v43) : Vec Ideal S128x512x2x2x64 .f32) (ix5 b p j h d)
      = if hp : p.val < 508 then (W (Proc.devRef .tc main_arg1) : Vec Ideal S128x512x2x2x64 .f32) (ix5 b ⟨4 + p.val, by omega⟩ j h d)
        else (W (Proc.devRef .tc main_v31_5) : Vec Ideal S1024x256 .f32) (ix2 ⟨b.val * 8 + (p.val - 508), by omega⟩ ⟨j.val * 128 + h.val * 64 + d.val, by omega⟩) := by
  have e : (StableHlo.after hostOps1 W (Proc.devRef .tc main_v43) : Vec Ideal S128x512x2x2x64 .f32)
      = shapeCast S128x512x2x2x64 (extractStridedSlice S128x512x256 ![0, 4, 0] (concatenate S128x516x256 1 [⟨S128x512x256, shapeCast S128x512x256 (W (Proc.devRef .tc main_arg1) : Vec Ideal S128x512x2x2x64 .f32) shapeCasts_S128x512x2x2x64_S128x512x256⟩,
          ⟨S128x4x256, extractStridedSlice S128x4x256 ![0, 0, 0] (shapeCast S128x8x256 (W (Proc.devRef .tc main_v31_5) : Vec Ideal S1024x256 .f32) shapeCasts_S1024x256_S128x8x256) slices_S128x8x256_S128x4x256_0_0_0⟩] concatenates_S128x512x256_S128x4x256_S128x516x256_d1) slices_S128x516x256_S128x512x256_0_4_0) shapeCasts_S128x512x256_S128x512x2x2x64 := by
    after_reads_simp
    rfl
  rw [e]
  refine (win_heads _ b p j h d).trans ((win_moved _ _ b p _).trans ?_)
  by_cases hp : p.val < 508
  · rw [dif_pos hp, dif_pos hp]
    exact win_columns _ b _ j h d
  · rw [dif_neg hp, dif_neg hp]
    exact win_rows _ b ⟨p.val - 508, by omega⟩ _

end Cert.Proof.Samp
-- ==== Proof.SampReference.lean ====
/-
  The reference of the sample's projection read index by index.
-/
module

public import proofs.«01_k».proof.Proof.Gen.Reference4Ideal.Run
public import proofs.«01_k».proof.Proof.ProjReference

@[expose] public section

set_option maxRecDepth 65536

noncomputable section

namespace Cert.Proof.SampRef

open Cert.Proof.Proj (wcol zrow angle cosL sinL rot fNsa fWin fDiff)
open Cert.Proof.ProjRef (rope_rot)
open Idealize.ShloMosaic Idealize.ShloMosaic.TcCoe Idealize.SL.Sem Cert.Reference4Ideal Cert.Reference4Ideal.Gen Cert.Reference4Ideal.Value Idealize.ShloMosaic.StableHlo

/-- Plane 0 of 6. -/
def plane0 {F : FTy → Type} [FloatOps F] (x : (⟨S128x4x6x2x64, .f32⟩ : BufTy).Contents (Elt F)) : (⟨S128x4x2x64, .f32⟩ : BufTy).Contents (Elt F) :=
  shapeCast _ (extractStridedSlice S128x4x1x2x64 ![0, 0, 0, 0, 0] x slices_S128x4x6x2x64_S128x4x1x2x64_0_0_0_0_0) shapeCasts_S128x4x1x2x64_S128x4x2x64

/-- An entry of it. -/
theorem plane0_at (x : Vec Ideal S128x4x6x2x64 .f32) (b : Fin 128) (p : Fin 4) (h : Fin 2) (d : Fin 64) :
    plane0 x (ix4 b p h d) = x (ix5 b p 0 h d) := by
  unfold plane0
  pointwise

/-- Plane 1 of 6. -/
def plane1 {F : FTy → Type} [FloatOps F] (x : (⟨S128x4x6x2x64, .f32⟩ : BufTy).Contents (Elt F)) : (⟨S128x4x2x64, .f32⟩ : BufTy).Contents (Elt F) :=
  shapeCast _ (extractStridedSlice S128x4x1x2x64 ![0, 0, 1, 0, 0] x slices_S128x4x6x2x64_S128x4x1x2x64_0_0_1_0_0) shapeCasts_S128x4x1x2x64_S128x4x2x64

/-- An entry of it. -/
theorem plane1_at (x : Vec Ideal S128x4x6x2x64 .f32) (b : Fin 128) (p : Fin 4) (h : Fin 2) (d : Fin 64) :
    plane1 x (ix4 b p h d) = x (ix5 b p 1 h d) := by
  unfold plane1
  pointwise

/-- Plane 3 of 6. -/
def plane3 {F : FTy → Type} [FloatOps F] (x : (⟨S128x4x6x2x64, .f32⟩ : BufTy).Contents (Elt F)) : (⟨S128x4x2x64, .f32⟩ : BufTy).Contents (Elt F) :=
  shapeCast _ (extractStridedSlice S128x4x1x2x64 ![0, 0, 3, 0, 0] x slices_S128x4x6x2x64_S128x4x1x2x64_0_0_3_0_0) shapeCasts_S128x4x1x2x64_S128x4x2x64

/-- An entry of it. -/
theorem plane3_at (x : Vec Ideal S128x4x6x2x64 .f32) (b : Fin 128) (p : Fin 4) (h : Fin 2) (d : Fin 64) :
    plane3 x (ix4 b p h d) = x (ix5 b p 3 h d) := by
  unfold plane3
  pointwise

/-- Plane 5 of 6. -/
def plane5 {F : FTy → Type} [FloatOps F] (x : (⟨S128x4x6x2x64, .f32⟩ : BufTy).Contents (Elt F)) : (⟨S128x4x2x64, .f32⟩ : BufTy).Contents (Elt F) :=
  shapeCast _ (extractStridedSlice S128x4x1x2x64 ![0, 0, 5, 0, 0] x slices_S128x4x6x2x64_S128x4x1x2x64_0_0_5_0_0) shapeCasts_S128x4x1x2x64_S128x4x2x64

/-- An entry of it. -/
theorem plane5_at (x : Vec Ideal S128x4x6x2x64 .f32) (b : Fin 128) (p : Fin 4) (h : Fin 2) (d : Fin 64) :
    plane5 x (ix4 b p h d) = x (ix5 b p 5 h d) := by
  unfold plane5
  pointwise

/-- 4 planes stacked. -/
def stackNsa {F : FTy → Type} [FloatOps F] (x0 x1 x2 x3 : (⟨S128x4x2x64, .f32⟩ : BufTy).Contents (Elt F)) : (⟨S128x4x4x2x64, .f32⟩ : BufTy).Contents (Elt F) :=
  concatenate S128x4x4x2x64 2 [⟨S128x4x1x2x64, ((broadcastInDim S128x4x1x2x64 ![0, 1, 3, 4] bcast_S128x4x2x64_S128x4x1x2x64_0_1_3_4 x0) : (⟨S128x4x1x2x64, .f32⟩ : BufTy).Contents (Elt F))⟩, ⟨S128x4x1x2x64, ((broadcastInDim S128x4x1x2x64 ![0, 1, 3, 4] bcast_S128x4x2x64_S128x4x1x2x64_0_1_3_4 x1) : (⟨S128x4x1x2x64, .f32⟩ : BufTy).Contents (Elt F))⟩, ⟨S128x4x1x2x64, ((broadcastInDim S128x4x1x2x64 ![0, 1, 3, 4] bcast_S128x4x2x64_S128x4x1x2x64_0_1_3_4 x2) : (⟨S128x4x1x2x64, .f32⟩ : BufTy).Contents (Elt F))⟩, ⟨S128x4x1x2x64, ((broadcastInDim S128x4x1x2x64 ![0, 1, 3, 4] bcast_S128x4x2x64_S128x4x1x2x64_0_1_3_4 x3) : (⟨S128x4x1x2x64, .f32⟩ : BufTy).Contents (Elt F))⟩] concatenates_S128x4x1x2x64_S128x4x1x2x64_S128x4x1x2x64_S128x4x1x2x64_S128x4x4x2x64_d2

/-- An entry of it. -/
theorem stackNsa_at (x0 x1 x2 x3 : Vec Ideal S128x4x2x64 .f32) (b : Fin 128) (p : Fin 4) (j : Fin 4) (h : Fin 2) (d : Fin 64) :
    stackNsa x0 x1 x2 x3 (ix5 b p j h d) = if j.val < 1 then x0 (ix4 b p h d) else if j.val < 2 then x1 (ix4 b p h d) else if j.val < 3 then x2 (ix4 b p h d) else x3 (ix4 b p h d) := by
  unfold stackNsa
  pointwise
  split_ifs <;> first | omega | rfl

/-- 2 planes stacked. -/
def stackWin {F : FTy → Type} [FloatOps F] (x0 x1 : (⟨S128x4x2x64, .f32⟩ : BufTy).Contents (Elt F)) : (⟨S128x4x2x2x64, .f32⟩ : BufTy).Contents (Elt F) :=
  concatenate S128x4x2x2x64 2 [⟨S128x4x1x2x64, ((broadcastInDim S128x4x1x2x64 ![0, 1, 3, 4] bcast_S128x4x2x64_S128x4x1x2x64_0_1_3_4 x0) : (⟨S128x4x1x2x64, .f32⟩ : BufTy).Contents (Elt F))⟩, ⟨S128x4x1x2x64, ((broadcastInDim S128x4x1x2x64 ![0, 1, 3, 4] bcast_S128x4x2x64_S128x4x1x2x64_0_1_3_4 x1) : (⟨S128x4x1x2x64, .f32⟩ : BufTy).Contents (Elt F))⟩] concatenates_S128x4x1x2x64_S128x4x1x2x64_S128x4x2x2x64_d2

/-- An entry of it. -/
theorem stackWin_at (x0 x1 : Vec Ideal S128x4x2x64 .f32) (b : Fin 128) (p : Fin 4) (j : Fin 2) (h : Fin 2) (d : Fin 64) :
    stackWin x0 x1 (ix5 b p j h d) = if j.val < 1 then x0 (ix4 b p h d) else x1 (ix4 b p h d) := by
  unfold stackWin
  pointwise
  split_ifs <;> first | omega | rfl

/-- 2 planes stacked. -/
def stackDiff {F : FTy → Type} [FloatOps F] (x0 x1 : (⟨S128x4x4x128, .f32⟩ : BufTy).Contents (Elt F)) : (⟨S128x4x2x4x128, .f32⟩ : BufTy).Contents (Elt F) :=
  concatenate S128x4x2x4x128 2 [⟨S128x4x1x4x128, ((broadcastInDim S128x4x1x4x128 ![0, 1, 3, 4] bcast_S128x4x4x128_S128x4x1x4x128_0_1_3_4 x0) : (⟨S128x4x1x4x128, .f32⟩ : BufTy).Contents (Elt F))⟩, ⟨S128x4x1x4x128, ((broadcastInDim S128x4x1x4x128 ![0, 1, 3, 4] bcast_S128x4x4x128_S128x4x1x4x128_0_1_3_4 x1) : (⟨S128x4x1x4x128, .f32⟩ : BufTy).Contents (Elt F))⟩] concatenates_S128x4x1x4x128_S128x4x1x4x128_S128x4x2x4x128_d2

/-- An entry of it. -/
theorem stackDiff_at (x0 x1 : Vec Ideal S128x4x4x128 .f32) (b : Fin 128) (p : Fin 4) (j : Fin 2) (h : Fin 4) (d : Fin 128) :
    stackDiff x0 x1 (ix5 b p j h d) = if j.val < 1 then x0 (ix4 b p h d) else x1 (ix4 b p h d) := by
  unfold stackDiff
  pointwise
  split_ifs <;> first | omega | rfl

/-- Two halves of 64 columns side by side. -/
def beside {F : FTy → Type} [FloatOps F] (x y : (⟨S128x4x4x64, .f32⟩ : BufTy).Contents (Elt F)) : (⟨S128x4x4x128, .f32⟩ : BufTy).Contents (Elt F) :=
  concatenate S128x4x4x128 3 [⟨S128x4x4x64, x⟩, ⟨S128x4x4x64, y⟩] concatenates_S128x4x4x64_S128x4x4x64_S128x4x4x128_d3

/-- An entry of it. -/
theorem beside_at (x y : Vec Ideal S128x4x4x64 .f32) (b : Fin 128) (p : Fin 4) (h : Fin 4) (e : Fin 128) :
    beside x y (ix4 b p h e) = if he : e.val < 64 then x (ix4 b p h ⟨e.val, he⟩) else y (ix4 b p h ⟨e.val - 64, by omega⟩) := by
  unfold beside
  pointwise

/-- The rotation of heads of 64 columns given as their halves. -/
def rope2 {F : FTy → Type} [FloatOps F] (x1 x2 : (⟨S128x4x2x32, .f32⟩ : BufTy).Contents (Elt F)) (c s : (⟨S4x1x32, .f32⟩ : BufTy).Contents (Elt F)) :
    (⟨S128x4x2x64, .f32⟩ : BufTy).Contents (Elt F) :=
  concatenate S128x4x2x64 3 [⟨S128x4x2x32, (subf (mulf x1 (broadcastInDim S128x4x2x32 ![0, 1, 2, 3] bcast_S1x4x1x32_S128x4x2x32_0_1_2_3 (broadcastInDim S1x4x1x32 ![1, 2, 3] bcast_S4x1x32_S1x4x1x32_1_2_3 c))) (mulf x2 (broadcastInDim S128x4x2x32 ![0, 1, 2, 3] bcast_S1x4x1x32_S128x4x2x32_0_1_2_3 (broadcastInDim S1x4x1x32 ![1, 2, 3] bcast_S4x1x32_S1x4x1x32_1_2_3 s))))⟩, ⟨S128x4x2x32, (addf (mulf x2 (broadcastInDim S128x4x2x32 ![0, 1, 2, 3] bcast_S1x4x1x32_S128x4x2x32_0_1_2_3 (broadcastInDim S1x4x1x32 ![1, 2, 3] bcast_S4x1x32_S1x4x1x32_1_2_3 c))) (mulf x1 (broadcastInDim S128x4x2x32 ![0, 1, 2, 3] bcast_S1x4x1x32_S128x4x2x32_0_1_2_3 (broadcastInDim S1x4x1x32 ![1, 2, 3] bcast_S4x1x32_S1x4x1x32_1_2_3 s))))⟩] concatenates_S128x4x2x32_S128x4x2x32_S128x4x2x64_d3

theorem rope2_at (x1 x2 : Vec Ideal S128x4x2x32 .f32) (c s : Vec Ideal S4x1x32 .f32) (b : Fin 128) (p : Fin 4) (h : Fin 2) (d : Fin 64) :
    rope2 x1 x2 c s (ix4 b p h d) = if hd : d.val < 32 then x1 (ix4 b p h ⟨d.val, hd⟩) * c (ix3 p 0 ⟨d.val, hd⟩) - x2 (ix4 b p h ⟨d.val, hd⟩) * s (ix3 p 0 ⟨d.val, hd⟩)
      else x2 (ix4 b p h ⟨d.val - 32, by omega⟩) * c (ix3 p 0 ⟨d.val - 32, by omega⟩) + x1 (ix4 b p h ⟨d.val - 32, by omega⟩) * s (ix3 p 0 ⟨d.val - 32, by omega⟩) := by
  unfold rope2
  pointwise

/-- The rotation of heads of 64 columns given as their halves. -/
def rope4 {F : FTy → Type} [FloatOps F] (x1 x2 : (⟨S128x4x4x32, .f32⟩ : BufTy).Contents (Elt F)) (c s : (⟨S4x1x32, .f32⟩ : BufTy).Contents (Elt F)) :
    (⟨S128x4x4x64, .f32⟩ : BufTy).Contents (Elt F) :=
  concatenate S128x4x4x64 3 [⟨S128x4x4x32, (subf (mulf x1 (broadcastInDim S128x4x4x32 ![0, 1, 2, 3] bcast_S1x4x1x32_S128x4x4x32_0_1_2_3 (broadcastInDim S1x4x1x32 ![1, 2, 3] bcast_S4x1x32_S1x4x1x32_1_2_3 c))) (mulf x2 (broadcastInDim S128x4x4x32 ![0, 1, 2, 3] bcast_S1x4x1x32_S128x4x4x32_0_1_2_3 (broadcastInDim S1x4x1x32 ![1, 2, 3] bcast_S4x1x32_S1x4x1x32_1_2_3 s))))⟩, ⟨S128x4x4x32, (addf (mulf x2 (broadcastInDim S128x4x4x32 ![0, 1, 2, 3] bcast_S1x4x1x32_S128x4x4x32_0_1_2_3 (broadcastInDim S1x4x1x32 ![1, 2, 3] bcast_S4x1x32_S1x4x1x32_1_2_3 c))) (mulf x1 (broadcastInDim S128x4x4x32 ![0, 1, 2, 3] bcast_S1x4x1x32_S128x4x4x32_0_1_2_3 (broadcastInDim S1x4x1x32 ![1, 2, 3] bcast_S4x1x32_S1x4x1x32_1_2_3 s))))⟩] concatenates_S128x4x4x32_S128x4x4x32_S128x4x4x64_d3

theorem rope4_at (x1 x2 : Vec Ideal S128x4x4x32 .f32) (c s : Vec Ideal S4x1x32 .f32) (b : Fin 128) (p : Fin 4) (h : Fin 4) (d : Fin 64) :
    rope4 x1 x2 c s (ix4 b p h d) = if hd : d.val < 32 then x1 (ix4 b p h ⟨d.val, hd⟩) * c (ix3 p 0 ⟨d.val, hd⟩) - x2 (ix4 b p h ⟨d.val, hd⟩) * s (ix3 p 0 ⟨d.val, hd⟩)
      else x2 (ix4 b p h ⟨d.val - 32, by omega⟩) * c (ix3 p 0 ⟨d.val - 32, by omega⟩) + x1 (ix4 b p h ⟨d.val - 32, by omega⟩) * s (ix3 p 0 ⟨d.val - 32, by omega⟩) := by
  unfold rope4
  pointwise

/-- The second attention's values. -/
def dv {F : FTy → Type} [FloatOps F] (V0 : Valuation τ sig (Elt F)) : (⟨S128x4x4x128, .f32⟩ : BufTy).Contents (Elt F) :=
  shapeCast _ (extractStridedSlice S128x4x512 ![0, 0, 2328] (res_main_v16 V0) slices_S128x4x2840_S128x4x512_0_0_2328) shapeCasts_S128x4x512_S128x4x4x128

/-- The first attention's rows for its cache. -/
def out0 {F : FTy → Type} [FloatOps F] (V0 : Valuation τ sig (Elt F)) : (⟨S128x4x4x2x64, .f32⟩ : BufTy).Contents (Elt F) :=
  stackNsa (plane0 (res_main_v20 V0)) (plane1 (res_main_v20 V0)) (rope2 (res_main_v90 V0) (res_main_v91 V0) (res_main_v87 V0) (res_main_v89 V0)) (plane3 (res_main_v20 V0))

/-- The second attention's rows for its cache. -/
def out1 {F : FTy → Type} [FloatOps F] (V0 : Valuation τ sig (Elt F)) : (⟨S128x4x2x4x128, .f32⟩ : BufTy).Contents (Elt F) :=
  stackDiff (beside (rope4 (res_main_v242 V0) (res_main_v243 V0) (res_main_v239 V0) (res_main_v241 V0)) (rope4 (res_main_v277 V0) (res_main_v278 V0) (res_main_v274 V0) (res_main_v276 V0))) (dv V0)

/-- The sample's rows for the window. -/
def winNew {F : FTy → Type} [FloatOps F] (V0 : Valuation τ sig (Elt F)) : (⟨S128x4x2x2x64, .f32⟩ : BufTy).Contents (Elt F) :=
  stackWin (rope2 (res_main_v132 V0) (res_main_v133 V0) (res_main_v129 V0) (res_main_v131 V0)) (plane5 (res_main_v20 V0))

/-- The window moved on by four rows. -/
def moved {F : FTy → Type} [FloatOps F] (x : (⟨S128x512x2x2x64, .f32⟩ : BufTy).Contents (Elt F)) (y : (⟨S128x4x2x2x64, .f32⟩ : BufTy).Contents (Elt F)) : (⟨S128x512x2x2x64, .f32⟩ : BufTy).Contents (Elt F) :=
  extractStridedSlice S128x512x2x2x64 ![0, 4, 0, 0, 0] (concatenate S128x516x2x2x64 1 [⟨S128x512x2x2x64, x⟩, ⟨S128x4x2x2x64, y⟩] concatenates_S128x512x2x2x64_S128x4x2x2x64_S128x516x2x2x64_d1) slices_S128x516x2x2x64_S128x512x2x2x64_0_4_0_0_0

/-- An entry of it. -/
theorem moved_at (x : Vec Ideal S128x512x2x2x64 .f32) (y : Vec Ideal S128x4x2x2x64 .f32) (b : Fin 128) (p : Fin 512) (j h : Fin 2) (d : Fin 64) :
    moved x y (ix5 b p j h d) = if hp : p.val < 508 then x (ix5 b ⟨4 + p.val, by omega⟩ j h d) else y (ix5 b ⟨p.val - 508, by omega⟩ j h d) := by
  unfold moved
  pointwise
  by_cases hp : p.val < 508
  · rw [dif_pos hp, dif_pos (by omega)]
  · rw [dif_neg hp, dif_neg (by omega)]
    refine congrArg (fun i => y (ix5 b i j h d)) (Fin.ext ?_)
    dsimp only
    omega

/-- The window after the sample. -/
def out2 {F : FTy → Type} [FloatOps F] (V0 : Valuation τ sig (Elt F)) : (⟨S128x512x2x2x64, .f32⟩ : BufTy).Contents (Elt F) :=
  moved (V0 (Proc.devRef .tc main_arg1)) (winNew V0)

variable (V0 : Valuation τ sig (Elt Ideal))

/-- The arguments as arrays. -/
abbrev A0 : Vec Ideal S128x4x1024 .f32 := V0 (Proc.devRef .tc main_arg0)
abbrev A1 : Vec Ideal S128x512x2x2x64 .f32 := V0 (Proc.devRef .tc main_arg1)
abbrev A2 : Vec Ideal S1024 .f32 := V0 (Proc.devRef .tc main_arg2)
abbrev A3 : Vec Ideal S1024x2840 .f32 := V0 (Proc.devRef .tc main_arg3)

/-- The words of the sample's positions. -/
theorem word_position : ∀ p : Fin 4, IntOp.addi 8192#32 (BitVec.ofNat 32 p.val) = BitVec.ofNat 32 (8192 + p.val) := by
  decide

/-- The projection of a row, its columns in the kernel's order. -/
def zV (b : Fin 128) (p : Fin 4) : ℕ → EReal :=
  zrow (fun k => A0 V0 (ix3 b p k)) (fun k => A2 V0 (ix1 k)) fun e k => A3 V0 (ix2 e k)

/-- The projection at a row and a column. -/
theorem v16_at (b : Fin 128) (p : Fin 4) (n : Fin 2840) :
    (res_main_v16 V0 : Vec Ideal S128x4x2840 .f32) (ix3 b p n)
      = ∑ e, Post.norm1024 (fun k => A0 V0 (ix3 b p k)) (fun k => A2 V0 (ix1 k)) e * A3 V0 (ix2 e n) := by
  unfold res_main_v16 Post.norm1024 Post.norm
  pointwise

/-- The reference's columns in the kernel's order. -/
theorem z_of (b : Fin 128) (p : Fin 4) (n : Fin 2840) (k : ℕ)
    (hk : k < 1280 ∧ n.val = k ∨ 1280 ≤ k ∧ k < 2816 ∧ n.val = k + 24 ∨ 2816 ≤ k ∧ k < 2840 ∧ n.val + 1536 = k) :
    (res_main_v16 V0 : Vec Ideal S128x4x2840 .f32) (ix3 b p n) = zV V0 b p k := by
  refine (v16_at V0 b p n).trans ?_
  unfold zV zrow wcol
  refine Finset.sum_congr (M := EReal) rfl fun e _ => congrArg (HMul.hMul (α := EReal) _) ?_
  split_ifs <;> first | omega | (refine congrArg (fun i => A3 V0 (ix2 e i)) (Fin.ext ?_); dsimp only; omega)

/-- The angles. -/
theorem v46_at (p : Fin 4) (j : Fin 32) : (res_main_v46 V0 : Vec Ideal S4x32 .f32) (ix2 p j) = angle (8192 + p.val) j.val := by
  unfold res_main_v46 res_main_v2
  pointwise
  rw [word_position]
  rfl

/-- These columns are the row's from a fixed one on. -/
theorem v20_at (b : Fin 128) (p : Fin 4) (j : Fin 6) (h : Fin 2) (d : Fin 64) :
    (res_main_v20 V0 : Vec Ideal S128x4x6x2x64 .f32) (ix5 b p j h d) = zV V0 b p (512 + 128 * j.val + 64 * h.val + d.val) := by
  unfold res_main_v20
  pointwise
  refine z_of V0 b p _ _ ?_
  dsimp only
  omega

/-- These columns are the row's from a fixed one on. -/
theorem v32_at (b : Fin 128) (p : Fin 4) (h : Fin 4) (j : Fin 2) (d : Fin 64) :
    (res_main_v32 V0 : Vec Ideal S128x4x4x2x64 .f32) (ix5 b p h j d) = zV V0 b p (1792 + 128 * h.val + 64 * j.val + d.val) := by
  unfold res_main_v32
  pointwise
  refine z_of V0 b p _ _ ?_
  dsimp only
  omega

/-- These columns are the row's from a fixed one on. -/
theorem v73_at (b : Fin 128) (p : Fin 4) (h : Fin 2) (d : Fin 64) :
    (res_main_v73 V0 : Vec Ideal S128x4x2x64 .f32) (ix4 b p h d) = zV V0 b p (768 + 64 * h.val + d.val) := by
  unfold res_main_v73
  pointwise
  refine (v20_at V0 b p 2 h d).trans (congrArg (zV V0 b p) ?_)
  simp; try omega

/-- These columns are the row's from a fixed one on. -/
theorem v115_at (b : Fin 128) (p : Fin 4) (h : Fin 2) (d : Fin 64) :
    (res_main_v115 V0 : Vec Ideal S128x4x2x64 .f32) (ix4 b p h d) = zV V0 b p (1024 + 64 * h.val + d.val) := by
  unfold res_main_v115
  pointwise
  refine (v20_at V0 b p 4 h d).trans (congrArg (zV V0 b p) ?_)
  simp; try omega

/-- These columns are the row's from a fixed one on. -/
theorem v225_at (b : Fin 128) (p : Fin 4) (h : Fin 4) (d : Fin 64) :
    (res_main_v225 V0 : Vec Ideal S128x4x4x64 .f32) (ix4 b p h d) = zV V0 b p (1792 + 128 * h.val + d.val) := by
  unfold res_main_v225
  pointwise
  refine (v32_at V0 b p h 0 d).trans (congrArg (zV V0 b p) ?_)
  simp; try omega

/-- These columns are the row's from a fixed one on. -/
theorem v260_at (b : Fin 128) (p : Fin 4) (h : Fin 4) (d : Fin 64) :
    (res_main_v260 V0 : Vec Ideal S128x4x4x64 .f32) (ix4 b p h d) = zV V0 b p (1856 + 128 * h.val + d.val) := by
  unfold res_main_v260
  pointwise
  refine (v32_at V0 b p h 1 d).trans (congrArg (zV V0 b p) ?_)
  simp; try omega

/-- A half of each head. -/
theorem lo2_at (x : Vec Ideal S128x4x2x64 .f32) (b : Fin 128) (p : Fin 4) (h : Fin 2) (d : Fin 32) :
    (extractStridedSlice S128x4x2x32 ![0, 0, 0, 0] x slices_S128x4x2x64_S128x4x2x32_0_0_0_0 : Vec Ideal S128x4x2x32 .f32) (ix4 b p h d)
      = x (ix4 b p h ⟨d.val, by omega⟩) := by
  pointwise

/-- A half of each head. -/
theorem hi2_at (x : Vec Ideal S128x4x2x64 .f32) (b : Fin 128) (p : Fin 4) (h : Fin 2) (d : Fin 32) :
    (extractStridedSlice S128x4x2x32 ![0, 0, 0, 32] x slices_S128x4x2x64_S128x4x2x32_0_0_0_32 : Vec Ideal S128x4x2x32 .f32) (ix4 b p h d)
      = x (ix4 b p h ⟨32 + d.val, by omega⟩) := by
  pointwise

/-- A half of each head. -/
theorem lo4_at (x : Vec Ideal S128x4x4x64 .f32) (b : Fin 128) (p : Fin 4) (h : Fin 4) (d : Fin 32) :
    (extractStridedSlice S128x4x4x32 ![0, 0, 0, 0] x slices_S128x4x4x64_S128x4x4x32_0_0_0_0 : Vec Ideal S128x4x4x32 .f32) (ix4 b p h d)
      = x (ix4 b p h ⟨d.val, by omega⟩) := by
  pointwise

/-- A half of each head. -/
theorem hi4_at (x : Vec Ideal S128x4x4x64 .f32) (b : Fin 128) (p : Fin 4) (h : Fin 4) (d : Fin 32) :
    (extractStridedSlice S128x4x4x32 ![0, 0, 0, 32] x slices_S128x4x4x64_S128x4x4x32_0_0_0_32 : Vec Ideal S128x4x4x32 .f32) (ix4 b p h d)
      = x (ix4 b p h ⟨32 + d.val, by omega⟩) := by
  pointwise

/-- The cos of the angle. -/
theorem v48_at (p : Fin 4) (j : Fin 32) : (res_main_v48 V0 : Vec Ideal S4x1x32 .f32) (ix3 p 0 j) = Ideal.cos (angle (8192 + p.val) j.val) := by
  unfold res_main_v48
  pointwise
  exact congrArg Ideal.cos (v46_at V0 p j)

/-- The sin of the angle. -/
theorem v50_at (p : Fin 4) (j : Fin 32) : (res_main_v50 V0 : Vec Ideal S4x1x32 .f32) (ix3 p 0 j) = Ideal.sin (angle (8192 + p.val) j.val) := by
  unfold res_main_v50
  pointwise
  exact congrArg Ideal.sin (v46_at V0 p j)

/-- Heads whose columns lie at `o + n * h` in a row `z`, rotated: the row's rotation at those columns. -/
theorem rope2_is (x : Vec Ideal S128x4x2x64 .f32) (z : Fin 128 → Fin 4 → ℕ → EReal) (o n : ℕ) (ho : o % 64 = 0) (hn : n % 64 = 0)
    (hx : ∀ b p h d, x (ix4 b p h d) = z b p (o + n * h.val + d.val)) (b : Fin 128) (p : Fin 4) (h : Fin 2) (d : Fin 64) :
    rope2 (extractStridedSlice S128x4x2x32 ![0, 0, 0, 0] x slices_S128x4x2x64_S128x4x2x32_0_0_0_0)
      (extractStridedSlice S128x4x2x32 ![0, 0, 0, 32] x slices_S128x4x2x64_S128x4x2x32_0_0_0_32)
      (res_main_v48 V0) (res_main_v50 V0) (ix4 b p h d) = rot (z b p) (cosL (8192 + p.val)) (sinL (8192 + p.val)) (o + n * h.val + d.val) := by
  rw [rope2_at, ← rope_rot (z b p) (8192 + p.val) (o + n * h.val) d.val (by rw [Nat.add_mod, Nat.mul_mod, ho, hn]; simp) d.isLt]
  by_cases hd : d.val < 32
  · rw [dif_pos hd, if_pos hd, lo2_at, hi2_at, hx, hx, v48_at, v50_at]
    simp only [Nat.add_assoc]
  · rw [dif_neg hd, if_neg hd, lo2_at, hi2_at, hx, hx, v48_at, v50_at]
    simp only [Nat.add_assoc]

/-- Heads whose columns lie at `o + n * h` in a row `z`, rotated: the row's rotation at those columns. -/
theorem rope4_is (x : Vec Ideal S128x4x4x64 .f32) (z : Fin 128 → Fin 4 → ℕ → EReal) (o n : ℕ) (ho : o % 64 = 0) (hn : n % 64 = 0)
    (hx : ∀ b p h d, x (ix4 b p h d) = z b p (o + n * h.val + d.val)) (b : Fin 128) (p : Fin 4) (h : Fin 4) (d : Fin 64) :
    rope4 (extractStridedSlice S128x4x4x32 ![0, 0, 0, 0] x slices_S128x4x4x64_S128x4x4x32_0_0_0_0)
      (extractStridedSlice S128x4x4x32 ![0, 0, 0, 32] x slices_S128x4x4x64_S128x4x4x32_0_0_0_32)
      (res_main_v48 V0) (res_main_v50 V0) (ix4 b p h d) = rot (z b p) (cosL (8192 + p.val)) (sinL (8192 + p.val)) (o + n * h.val + d.val) := by
  rw [rope4_at, ← rope_rot (z b p) (8192 + p.val) (o + n * h.val) d.val (by rw [Nat.add_mod, Nat.mul_mod, ho, hn]; simp) d.isLt]
  by_cases hd : d.val < 32
  · rw [dif_pos hd, if_pos hd, lo4_at, hi4_at, hx, hx, v48_at, v50_at]
    simp only [Nat.add_assoc]
  · rw [dif_neg hd, if_neg hd, lo4_at, hi4_at, hx, hx, v48_at, v50_at]
    simp only [Nat.add_assoc]

/-- The second attention's values are the row's last columns before the gates. -/
theorem dv_at (b : Fin 128) (p : Fin 4) (h : Fin 4) (e : Fin 128) : dv V0 (ix4 b p h e) = zV V0 b p (2304 + 128 * h.val + e.val) := by
  unfold dv
  pointwise
  refine z_of V0 b p _ _ ?_
  dsimp only
  omega

/-- The window's rows at every position. -/
theorem win_at (b : Fin 128) (p : Fin 4) (j h : Fin 2) (d : Fin 64) :
    winNew V0 (ix5 b p j h d) = fWin (zV V0 b p) (cosL (8192 + p.val)) (sinL (8192 + p.val)) (128 * j.val + 64 * h.val + d.val) := by
  refine (stackWin_at _ _ b p j h d).trans ?_
  unfold fWin
  by_cases hj : j.val < 1
  · rw [if_pos hj, if_pos (by omega)]
    exact (rope2_is V0 (res_main_v115 V0) (zV V0) 1024 64 (by norm_num) (by norm_num) (v115_at V0) b p h d).trans (congrArg (rot (zV V0 b p) (cosL (8192 + p.val)) (sinL (8192 + p.val))) (by omega))
  · rw [if_neg hj, if_neg (by omega)]
    exact (plane5_at _ b p h d).trans ((v20_at V0 b p 5 h d).trans (congrArg (zV V0 b p) (show 512 + 128 * 5 + 64 * h.val + d.val = _ by omega)))

/-- The cache's rows of the first attention: four planes, the third rotated. -/
theorem out0_at (b : Fin 128) (p : Fin 4) (j : Fin 4) (h : Fin 2) (d : Fin 64) :
    out0 V0 (ix5 b p j h d) = fNsa (zV V0 b p) (cosL (8192 + p.val)) (sinL (8192 + p.val)) (128 * j.val + 64 * h.val + d.val) := by
  refine (stackNsa_at _ _ _ _ b p j h d).trans ?_
  unfold fNsa
  by_cases h0 : j.val < 1
  · rw [if_pos h0, if_neg (by omega)]
    exact (plane0_at _ b p h d).trans ((v20_at V0 b p 0 h d).trans (congrArg (zV V0 b p) (show 512 + 128 * 0 + 64 * h.val + d.val = _ by omega)))
  rw [if_neg h0]
  by_cases h1 : j.val < 2
  · rw [if_pos h1, if_neg (by omega)]
    exact (plane1_at _ b p h d).trans ((v20_at V0 b p 1 h d).trans (congrArg (zV V0 b p) (show 512 + 128 * 1 + 64 * h.val + d.val = _ by omega)))
  rw [if_neg h1]
  by_cases h2 : j.val < 3
  · rw [if_pos h2, if_pos (by omega)]
    exact (rope2_is V0 (res_main_v73 V0) (zV V0) 768 64 (by norm_num) (by norm_num) (v73_at V0) b p h d).trans (congrArg (rot (zV V0 b p) (cosL (8192 + p.val)) (sinL (8192 + p.val))) (by omega))
  · rw [if_neg h2, if_neg (by omega)]
    exact (plane3_at _ b p h d).trans ((v20_at V0 b p 3 h d).trans (congrArg (zV V0 b p) (show 512 + 128 * 3 + 64 * h.val + d.val = _ by omega)))

/-- The two halves of a head, each rotated: the rotation of the row from column 1792 on. -/
theorem keys_at (b : Fin 128) (p : Fin 4) (h : Fin 4) (e : Fin 128) :
    beside (rope4 (res_main_v242 V0) (res_main_v243 V0) (res_main_v239 V0) (res_main_v241 V0)) (rope4 (res_main_v277 V0) (res_main_v278 V0) (res_main_v274 V0) (res_main_v276 V0)) (ix4 b p h e)
      = rot (zV V0 b p) (cosL (8192 + p.val)) (sinL (8192 + p.val)) (1792 + 128 * h.val + e.val) := by
  refine (beside_at _ _ b p h e).trans ?_
  by_cases he : e.val < 64
  · rw [dif_pos he]
    exact rope4_is V0 (res_main_v225 V0) (zV V0) 1792 128 (by norm_num) (by norm_num) (v225_at V0) b p h ⟨e.val, he⟩
  · rw [dif_neg he]
    refine (rope4_is V0 (res_main_v260 V0) (zV V0) 1856 128 (by norm_num) (by norm_num) (v260_at V0) b p h ⟨e.val - 64, by omega⟩).trans (congrArg (rot (zV V0 b p) (cosL (8192 + p.val)) (sinL (8192 + p.val))) ?_)
    dsimp only
    omega

/-- The cache's rows of the second attention: rotated keys, then values. -/
theorem out1_at (b : Fin 128) (p : Fin 4) (j : Fin 2) (h : Fin 4) (e : Fin 128) :
    out1 V0 (ix5 b p j h e) = fDiff (zV V0 b p) (cosL (8192 + p.val)) (sinL (8192 + p.val)) (512 * j.val + 128 * h.val + e.val) := by
  refine (stackDiff_at _ _ b p j h e).trans ?_
  unfold fDiff
  by_cases hj : j.val < 1
  · rw [if_pos hj, if_pos (by omega)]
    exact (keys_at V0 b p h e).trans (congrArg (rot (zV V0 b p) (cosL (8192 + p.val)) (sinL (8192 + p.val))) (by omega))
  · rw [if_neg hj, if_neg (by omega)]
    exact (dv_at V0 b p h e).trans (congrArg (zV V0 b p) (by omega))

end Cert.Proof.SampRef
-- ==== Proof.SampSame.lean ====
/-
  What the sample's projection call and the lines after it leave is what the reference of the sample's projection computes.
-/
module

public import proofs.«01_k».proof.Proof.SampArray
public import proofs.«01_k».proof.Proof.SampTail
public import proofs.«01_k».proof.Proof.SampReference

@[expose] public section

set_option maxRecDepth 65536

noncomputable section

namespace Cert.Proof.Samp

open Cert.Proof.Proj (cosL sinL fNsa fWin fDiff)
open Cert.Proof.SampRef (zV out0 out1 out2 out0_at out1_at win_at moved_at)
open Idealize.ShloMosaic Idealize.ShloMosaic.TcCoe Idealize.SL.Sem Cert.Kernel4Ideal Cert.Kernel4Ideal.Gen

variable (m : (ℓ : Loc nD τ sig) → Buf (Elt Ideal) ℓ) (c : Dev nD)

/-- The arrays after the call: the result windows' arrays, all others as before it. -/
abbrev afterCall : Valuation τ sig (Elt Ideal) :=
  Pipeline.withArrays (cfgs 0).spec c (V0 m c) fun w => (dats m 0 c).arrAt w (cfgs 0).N

/-- A result window's array after the call. -/
theorem call_arr (w : Fin 12) : afterCall m c (Proc.devRef .tc (Pipeline.arrRef spec0 w)) = (dats m 0 c).arrAt w cfg0.N :=
  Pipeline.withArrays_arr spec0 (by decide) c (V0 m c) (fun w => (dats m 0 c).arrAt w (cfgs 0).N) w

/-- The window before is still the argument after the call. -/
theorem call_window : (afterCall m c (Proc.devRef .tc main_arg1) : Vec Ideal S128x512x2x2x64 .f32) = A1 m c := by
  refine (Pipeline.withArrays_of_ne spec0 c (V0 m c) _ main_arg1 (by decide)).trans ?_
  show StableHlo.after hostOps0 (StableHlo.launchContents m c) (Proc.devRef .tc main_arg1) = _
  after_reads_simp

/-- A row of the sample in the list of the padded rows. -/
theorem row_of (n : ℕ) (f : (ℕ → EReal) → (ℕ → EReal) → (ℕ → EReal) → ℕ → EReal) (b : Fin 128) (p : Fin 4) (k : Fin n) :
    rows n (fun r => f (zP m c r) (cosL (8192 + r.val % 8)) (sinL (8192 + r.val % 8))) (ix2 ⟨b.val * 8 + p.val, by omega⟩ k)
      = f (zR m c b p) (cosL (8192 + p.val)) (sinL (8192 + p.val)) k.val := by
  show f (zP m c ⟨b.val * 8 + p.val, _⟩) (cosL (8192 + (b.val * 8 + p.val) % 8)) (sinL (8192 + (b.val * 8 + p.val) % 8)) k.val = _
  rw [zP_row, show (b.val * 8 + p.val) % 8 = p.val by omega]

variable (U : Valuation Cert.Reference4Ideal.τ Cert.Reference4Ideal.sig (Elt Ideal)) (hz : ∀ b p, zV U b p = zR m c b p)

include hz

/-- Result 0 is the reference's. -/
theorem same0 : (StableHlo.after hostOps1 (afterCall m c) (Proc.devRef .tc main_v38) : Vec Ideal S128x4x4x2x64 .f32) = out0 U := by
  funext y
  obtain ⟨b, p, j, h, d, rfl⟩ : ∃ (b : Fin 128) (p : Fin 4) (j : Fin 4) (h : Fin 2) (d : Fin 64), y = ix5 b p j h d := ⟨_, _, _, _, _, eq_ix5 y⟩
  refine Eq.trans ?_ (out0_at U b p j h d).symm
  refine (tail38 (afterCall m c) b p j h d).trans ?_
  refine (congrFun ((call_arr m c 9).trans (result9 m c)) _).trans ?_
  refine (row_of m c 512 fNsa b p ⟨j.val * 128 + h.val * 64 + d.val, by omega⟩).trans ?_
  rw [hz]
  dsimp only
  congr 1
  omega

/-- Result 1 is the reference's. -/
theorem same1 : (StableHlo.after hostOps1 (afterCall m c) (Proc.devRef .tc main_v41) : Vec Ideal S128x4x2x4x128 .f32) = out1 U := by
  funext y
  obtain ⟨b, p, j, h, e, rfl⟩ : ∃ (b : Fin 128) (p : Fin 4) (j : Fin 2) (h : Fin 4) (e : Fin 128), y = ix5 b p j h e := ⟨_, _, _, _, _, eq_ix5 y⟩
  refine Eq.trans ?_ (out1_at U b p j h e).symm
  refine (tail41 (afterCall m c) b p j h e).trans ?_
  refine (congrFun ((call_arr m c 11).trans (result11 m c)) _).trans ?_
  refine (row_of m c 1024 fDiff b p ⟨j.val * 512 + h.val * 128 + e.val, by omega⟩).trans ?_
  rw [hz]
  dsimp only
  congr 1
  omega

/-- Result 2 is the reference's. -/
theorem same2 (h1 : SampRef.A1 U = A1 m c) :
    (StableHlo.after hostOps1 (afterCall m c) (Proc.devRef .tc main_v43) : Vec Ideal S128x512x2x2x64 .f32) = out2 U := by
  funext y
  obtain ⟨b, p, j, h, d, rfl⟩ : ∃ (b : Fin 128) (p : Fin 512) (j : Fin 2) (h : Fin 2) (d : Fin 64), y = ix5 b p j h d := ⟨_, _, _, _, _, eq_ix5 y⟩
  refine (tail43 (afterCall m c) b p j h d).trans (Eq.trans ?_ (moved_at _ _ b p j h d).symm)
  by_cases hp : p.val < 508
  · rw [dif_pos hp, dif_pos hp]
    exact congrFun ((call_window m c).trans h1.symm) _
  · rw [dif_neg hp, dif_neg hp]
    refine Eq.trans ?_ (win_at U b ⟨p.val - 508, by omega⟩ j h d).symm
    refine (congrFun ((call_arr m c 10).trans (result10 m c)) _).trans ?_
    refine (row_of m c 256 fWin b ⟨p.val - 508, by omega⟩ ⟨j.val * 128 + h.val * 64 + d.val, by omega⟩).trans ?_
    rw [hz]
    dsimp only
    congr 1
    omega

end Cert.Proof.Samp
-- ==== Proof.SampClaims.lean ====
/-
  The claims about the sample's projection: both programs' frames, and that kernel and reference compute the same results.
-/
module

public import proofs.«01_k».proof.Defs
public import proofs.«01_k».proof.Proof.Gen.Kernel4
public import proofs.«01_k».proof.Proof.Gen.Kernel4.Frame
public import proofs.«01_k».proof.Proof.SampSame
public import Idealize.ShloMosaic.Adequacy

@[expose] public section

noncomputable section

namespace Cert.Proof.Samp

open Idealize.ShloMosaic Idealize.ShloMosaic.TcCoe Idealize.SL.Sem
open Cert.Proof.SampRef (zV out0 out1 out2)

/-- The sample's projection kernel ends, with its arguments unchanged. -/
theorem frame_p : Cert.quiescent_Kernel4 := fun m ρ _ => Cert.Kernel4.Gen.frame m ρ

/-- So does the kernel over the extended reals. -/
theorem frame_pi : Cert.quiescent_Kernel4Ideal := fun m ρ _ => Cert.Kernel4Ideal.Gen.frame m ρ

/-- So does its reference. -/
theorem frame_ri : Cert.quiescent_Reference4Ideal := fun m ρ _ =>
  (θ_run Cert.Reference4Ideal.defs _ _).mono (fun r h => ⟨fun c => (h c).2.2.2, Idealize.ShloMosaic.sem_eq_zero_of_no_sems (by decide) r.2⟩)
    (Cert.Reference4Ideal.Value.run (F := Ideal) m ρ)

/-- No operation of the kernel is replaced. -/
theorem preserves : Cert.preserves_Kernel4_Kernel4Ideal := trivial

section Reference

open Cert.Reference4Ideal Cert.Reference4Ideal.Value

set_option maxRecDepth 65536 in
/-- The reference's run, its results read as the functions of its arguments that `SampReference` defines. -/
theorem run_reference (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v113) = out0 (StableHlo.launchContents m c)
      ∧ r.2.mem ((c.tc : Thread nD τ).loc main_v297) = out1 (StableHlo.launchContents m c)
      ∧ r.2.mem ((c.tc : Thread nD τ).loc main_v299) = out2 (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨h0, h1, h2, ha⟩ := h c
    exact ⟨h0, h1, h2, ha⟩) (run (F := Ideal) m g)

end Reference

section Kernel

open Cert.Kernel4Ideal Cert.Kernel4Ideal.Gen

set_option maxRecDepth 65536 in
/-- The kernel's run, its results those of the reference on arguments that agree. -/
theorem run_kernel (m : (ℓ : Loc nD τ sig) → Buf (Elt Ideal) ℓ) (g : Dev nD → PrngReg)
    (U : Dev nD → Valuation Cert.Reference4Ideal.τ Cert.Reference4Ideal.sig (Elt Ideal)) (hz : ∀ c b p, zV (U c) b p = zR m c b p)
    (h1 : ∀ c, SampRef.A1 (U c) = A1 m c) :
    θ_run (defs (F := Ideal)) (onTc (τ := τ) (main (F := Ideal))) ⟨m, fun _ => 0, g⟩ fun r => ∀ c : Dev nD,
      r.2.mem ((c.tc : Thread nD τ).loc main_v38) = out0 (U c)
      ∧ r.2.mem ((c.tc : Thread nD τ).loc main_v41) = out1 (U c)
      ∧ r.2.mem ((c.tc : Thread nD τ).loc main_v43) = out2 (U c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (θ_run_and (Gen.run_main m g) (Gen.unchanged m g))
  obtain ⟨h, hargs⟩ := h
  have e0 := ((h c).2 main_v38 (by decide)).trans (same0 m c (U c) (hz c))
  have e1 := ((h c).2 main_v41 (by decide)).trans (same1 m c (U c) (hz c))
  have e2 := ((h c).2 main_v43 (by decide)).trans (same2 m c (U c) (hz c) (h1 c))
  exact ⟨e0, e1, e2, hargs c⟩

end Kernel

set_option maxRecDepth 65536 in
/-- From arguments that agree, kernel and reference compute the same three results. -/
theorem algebraic : Cert.algebraic_Kernel4Ideal_Reference4Ideal := by
  intro m g m' g' hpre hagree
  have h1 : ∀ c, SampRef.A1 (StableHlo.launchContents m' c) = A1 m c := fun c => (hagree c).2.1
  have hz : ∀ c b p, zV (StableHlo.launchContents m' c) b p = zR m c b p := by
    intro c b p
    obtain ⟨a0, _, a2, a3⟩ := hagree c
    have e0 : SampRef.A0 (StableHlo.launchContents m' c) = A0 m c := a0
    have e2 : SampRef.A2 (StableHlo.launchContents m' c) = A2 m c := a2
    have e3 : SampRef.A3 (StableHlo.launchContents m' c) = A3 m c := a3
    unfold zV zR
    rw [e0, e2, e3]
  exact ⟨fun c => out0 (StableHlo.launchContents m' c), fun c => out1 (StableHlo.launchContents m' c), fun c => out2 (StableHlo.launchContents m' c), run_kernel m g (fun c => StableHlo.launchContents m' c) hz h1, run_reference m' g'⟩

end Cert.Proof.Samp
-- ==== Proof.SendKernel.lean ====
/-
  What the layer's second half stores on the sample is what it stores on the prompt: the two texts differ in casts of a
  block to its own shape.
-/
module

public import proofs.«01_k».proof.Proof.Gen.Kernel5Ideal.Frame
public import proofs.«01_k».proof.Proof.PostKernel
public import Idealize.ShloMosaic.Lib.Pipeline.Value

@[expose] public section

set_option maxRecDepth 65536

noncomputable section

namespace Cert.Proof.Send

open Cert.Proof.Post (kNorm kDot kCat kEmb kMlp)
open Idealize.ShloMosaic Idealize.ShloMosaic.TcCoe Idealize.SL.Sem Cert.Kernel5Ideal Cert.Kernel5Ideal.Gen

theorem pay4_eq (v : Vec Ideal S512x512 .f32) : k0_pay4 (F := Ideal) v = Cert.Kernel2Ideal.Gen.k0_pay3 (F := Ideal) v := by
  unfold k0_pay4
  rw [shapeCast_self]
  rfl

theorem pay5_eq (dg : Vec Ideal S1x128 .f32) (v : Vec Ideal S512x128 .f32) : k0_pay5 (F := Ideal) dg v = Cert.Kernel2Ideal.Gen.k0_pay4 (F := Ideal) dg v := by
  unfold k0_pay5
  rw [shapeCast_self]
  rfl

theorem pay6_eq (dg : Vec Ideal S1x128 .f32) (v : Vec Ideal S512x128 .f32) : k0_pay6 (F := Ideal) dg v = Cert.Kernel2Ideal.Gen.k0_pay5 (F := Ideal) dg v := by
  unfold k0_pay6
  rw [shapeCast_self]
  rfl

theorem pay2_eq (v : Vec Ideal S512x1024 .f32) : k0_pay2 (F := Ideal) v = v := shapeCast_self _ _

theorem pay7_eq (v : Vec Ideal S512x128 .f32) : k0_pay7 (F := Ideal) v = v := shapeCast_self _ _

/-- The block after the merge. -/
theorem merge_eq (x : FVec Ideal S512x1024 .f32) (dg : Vec Ideal S1x128 .f32) (a : FVec Ideal S512x512 .bf16) (b0 b1 : FVec Ideal S512x128 .bf16)
    (b2 b3 : Vec Ideal S512x128 .f32) (w : Vec Ideal S1024x1024 .bf16) (g : Vec Ideal S1x1024 .f32) :
    k0_pay9 (F := Ideal) x (k0_pay8 (k0_pay3 dg) a b0 b1 b2 b3 w g) =
      Cert.Kernel2Ideal.Gen.k0_pay7 (F := Ideal) x (Cert.Kernel2Ideal.Gen.k0_pay2 dg) a b0 b1 b2 (Cert.Kernel2Ideal.Gen.k0_pay6 b2) (Scalar.ofBits .f32 0x43000000#32) b3 w g := by
  unfold k0_pay8
  rw [shapeCast_self]
  rfl

/-- The block after the MLP. -/
theorem channel_eq (x y : FVec Ideal S512x1024 .f32) (g : Vec Ideal S1x1024 .f32) (u0 d0 u1 d1 u2 d2 u3 d3 : Vec Ideal S1024x1024 .bf16) (g' : Vec Ideal S1x1024 .f32)
    (v s : FVec Ideal S512x1024 .f32) (hv : k0_pay9 x y = v) (hs : mulf v v = s) :
    k0_pay13 (F := Ideal) (k0_pay9 x y) (k0_pay10 x y g) (k0_pay11 x y g u0 d0 u1 d1) (k0_pay12 x y g u2) (Scalar.ofBits .f32 0x00000000#32) d2 u3 d3 g' =
      Cert.Kernel2Ideal.Gen.k0_pay12 (F := Ideal) v (Cert.Kernel2Ideal.Gen.k0_pay9 v g s) (Cert.Kernel2Ideal.Gen.k0_pay10 v g s u0 d0 u1 d1)
        (Cert.Kernel2Ideal.Gen.k0_pay11 v g s u2) d2 u3 d3 g' := by
  subst hv hs
  rfl

/-- The last stage, over the block after the MLP. -/
theorem last_eq (v : FVec Ideal S512x1024 .f32) (p : Vec Ideal S512x256 .f32) (wp : Vec Ideal S256x1024 .bf16) (wg : Vec Ideal S1024x1024 .bf16) (g : Vec Ideal S1x1024 .f32) :
    k0_pay1 (F := Ideal) v (k0_pay14 p wp) (truncf .bf16 v bitsLt_bf16_f32) wg (constant S512x1024 .f32 0x00000000#32) g =
      addf v (kNorm (mulf (kEmb (truncf .bf16 p bitsLt_bf16_f32) wp) (logistic (kDot (truncf .bf16 v bitsLt_bf16_f32) wg)))
        (mulf (mulf (kEmb (truncf .bf16 p bitsLt_bf16_f32) wp) (logistic (kDot (truncf .bf16 v bitsLt_bf16_f32) wg)))
          (mulf (kEmb (truncf .bf16 p bitsLt_bf16_f32) wp) (logistic (kDot (truncf .bf16 v bitsLt_bf16_f32) wg)))) g) := by
  unfold k0_pay14
  rw [shapeCast_self]
  rfl

section
variable (x0 : Vec Ideal S512x1024 .f32) (x1 : Vec Ideal S512x512 .f32) (x2 : Vec Ideal S512x512 .f32)
  (x3 : Vec Ideal S512x256 .f32) (x4 : Vec Ideal S1x128 .f32) (x5 : Vec Ideal S1024x1024 .bf16)
  (x6 : Vec Ideal S1x1024 .f32) (x7 : Vec Ideal S1x1024 .f32) (x8 : Vec Ideal S1024x4096 .bf16)
  (x9 : Vec Ideal S4096x1024 .bf16) (x10 : Vec Ideal S1x1024 .f32) (x11 : Vec Ideal S256x1024 .bf16)
  (x12 : Vec Ideal S1024x1024 .bf16) (x13 : Vec Ideal S1x1024 .f32)

/-- The block after the merge, from the call's blocks. -/
theorem merged_eq : k0_pay9 (k0_pay16 x0 x1 x2 x3 x4 x5 x6 x7 x8 x9 x10 x11 x12 x13) (k0_pay17 x0 x1 x2 x3 x4 x5 x6 x7 x8 x9 x10 x11 x12 x13)
    = Cert.Kernel2Ideal.Gen.k0_pay20 (F := Ideal) x0 x1 x2 x3 x4 x5 x6 x7 x8 x9 x10 x11 x12 x13 := by
  unfold k0_pay16 k0_pay17
  rw [pay2_eq, pay4_eq, pay5_eq, pay6_eq, pay7_eq, merge_eq]
  rfl

/-- What this call stores from its input blocks is what the prompt's call stores from them. -/
theorem out_eq : out0_14 x0 x1 x2 x3 x4 x5 x6 x7 x8 x9 x10 x11 x12 x13 = Cert.Kernel2Ideal.Gen.out0_14 (F := Ideal) x0 x1 x2 x3 x4 x5 x6 x7 x8 x9 x10 x11 x12 x13 := by
  have hm := merged_eq x0 x1 x2 x3 x4 x5 x6 x7 x8 x9 x10 x11 x12 x13
  have hs : mulf (Cert.Kernel2Ideal.Gen.k0_pay20 x0 x1 x2 x3 x4 x5 x6 x7 x8 x9 x10 x11 x12 x13) (Cert.Kernel2Ideal.Gen.k0_pay20 x0 x1 x2 x3 x4 x5 x6 x7 x8 x9 x10 x11 x12 x13)
    = Cert.Kernel2Ideal.Gen.k0_pay21 (F := Ideal) x0 x1 x2 x3 x4 x5 x6 x7 x8 x9 x10 x11 x12 x13 := rfl
  unfold out0_14 k0_pay15 k0_pay18 k0_pay19 k0_pay20 k0_pay21 Cert.Kernel2Ideal.Gen.out0_14 Cert.Kernel2Ideal.Gen.k0_pay22 Cert.Kernel2Ideal.Gen.k0_pay23 Cert.Kernel2Ideal.Gen.k0_pay24
  rw [channel_eq _ _ _ _ _ _ _ _ _ _ _ _ _ _ hm hs]
  generalize Cert.Kernel2Ideal.Gen.k0_pay20 x0 x1 x2 x3 x4 x5 x6 x7 x8 x9 x10 x11 x12 x13 = v
  generalize Cert.Kernel2Ideal.Gen.k0_pay21 x0 x1 x2 x3 x4 x5 x6 x7 x8 x9 x10 x11 x12 x13 = s
  refine congrArg (fun z => View.canon [⟨r0_0, z⟩]) ?_
  refine (last_eq _ _ _ _ _).trans ?_
  rfl

end

end Cert.Proof.Send
-- ==== Proof.SendArray.lean ====
/-
  The layer's second half on the sample: every grid point's block is the block of the padded rows' second half.
-/
module

public import proofs.«01_k».proof.Proof.SendKernel
public import Idealize.ShloMosaic.Lib.Pipeline.ValueKit
public import Idealize.ShloMosaic.Lib.StableHlo.ReadAt

@[expose] public section

set_option maxRecDepth 65536

noncomputable section

namespace Cert.Proof.Send

open Cert.Proof.Post (rowOf heads row)
open Idealize.ShloMosaic Idealize.ShloMosaic.TcCoe Idealize.SL.Sem Cert.Kernel5Ideal Cert.Kernel5Ideal.Gen

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![0, 0] := by decide +kernel
theorem idx9 : ∀ t : Fin grid0.N, win0_9.index t = ![0, 0] := by decide +kernel
theorem idx10 : ∀ t : Fin grid0.N, win0_10.index t = ![0, 0] := by decide +kernel
theorem idx11 : ∀ t : Fin grid0.N, win0_11.index t = ![0, 0] := by decide +kernel
theorem idx12 : ∀ t : Fin grid0.N, win0_12.index t = ![0, 0] := by decide +kernel
theorem idx13 : ∀ t : Fin grid0.N, win0_13.index t = ![0, 0] := by decide +kernel
theorem idx14 : ∀ t : Fin grid0.N, win0_14.index t = ![t.val, 0] := by decide +kernel

theorem hN (t : Fin cfg0.N) : t.val < 2 := t.isLt

variable (m : (ℓ : Loc nD τ sig) → Buf (Elt Ideal) ℓ) (c : Dev nD)

/-- The arguments as arrays. -/
abbrev A0 : Vec Ideal S128x4x1024 .f32 := m ((c.tc : Thread nD τ).loc main_arg0)
abbrev A1 : Vec Ideal S128x8x512 .f32 := m ((c.tc : Thread nD τ).loc main_arg1)
abbrev A2 : Vec Ideal S128x8x512 .f32 := m ((c.tc : Thread nD τ).loc main_arg2)
abbrev A3 : Vec Ideal S128x4x256 .f32 := m ((c.tc : Thread nD τ).loc main_arg3)
abbrev A4 : Vec Ideal S1x128 .f32 := m ((c.tc : Thread nD τ).loc main_arg4)
abbrev A5 : Vec Ideal S1024x1024 .bf16 := m ((c.tc : Thread nD τ).loc main_arg5)
abbrev A6 : Vec Ideal S1x1024 .f32 := m ((c.tc : Thread nD τ).loc main_arg6)
abbrev A7 : Vec Ideal S1x1024 .f32 := m ((c.tc : Thread nD τ).loc main_arg7)
abbrev A8 : Vec Ideal S1024x4096 .bf16 := m ((c.tc : Thread nD τ).loc main_arg8)
abbrev A9 : Vec Ideal S4096x1024 .bf16 := m ((c.tc : Thread nD τ).loc main_arg9)
abbrev A10 : Vec Ideal S1x1024 .f32 := m ((c.tc : Thread nD τ).loc main_arg10)
abbrev A11 : Vec Ideal S256x1024 .bf16 := m ((c.tc : Thread nD τ).loc main_arg11)
abbrev A12 : Vec Ideal S1024x1024 .bf16 := m ((c.tc : Thread nD τ).loc main_arg12)
abbrev A13 : Vec Ideal S1x1024 .f32 := m ((c.tc : Thread nD τ).loc main_arg13)

/-- The padded arrays as the call takes them. -/
abbrev P0 : Vec Ideal S1024x1024 .f32 := V m c main_v1
abbrev P1 : Vec Ideal S1024x512 .f32 := V m c main_v4
abbrev P2 : Vec Ideal S1024x512 .f32 := V m c main_v5
abbrev P3 : Vec Ideal S1024x256 .f32 := V m c main_v3

/-- The first four rows of each group of eight are the argument's. -/
theorem v_x (b : Fin 128) (q : Fin 4) (k : Fin 1024) : P0 m c (ix2 ⟨b.val * 8 + q.val, by omega⟩ k) = A0 m c (ix3 b q k) := by
  unfold P0 V
  after_reads_at
  simp only [show (b.val * 8 + q.val) % 8 = q.val by omega]
  rw [dif_pos q.isLt]

theorem v_p (b : Fin 128) (q : Fin 4) (k : Fin 256) : P3 m c (ix2 ⟨b.val * 8 + q.val, by omega⟩ k) = A3 m c (ix3 b q k) := by
  unfold P3 V
  after_reads_at
  simp only [show (b.val * 8 + q.val) % 8 = q.val by omega]
  rw [dif_pos q.isLt]

theorem v_a (b : Fin 128) (q : Fin 4) (k : Fin 512) : P1 m c (ix2 ⟨b.val * 8 + q.val, by omega⟩ k) = A1 m c (ix3 b ⟨q.val, by omega⟩ k) := by
  unfold P1 V
  after_reads_at
  simp only [show (b.val * 8 + q.val) % 8 = q.val by omega]

theorem v_b (b : Fin 128) (q : Fin 4) (k : Fin 512) : P2 m c (ix2 ⟨b.val * 8 + q.val, by omega⟩ k) = A2 m c (ix3 b ⟨q.val, by omega⟩ k) := by
  unfold P2 V
  after_reads_at
  simp only [show (b.val * 8 + q.val) % 8 = q.val by omega]

theorem v4 : V m c main_arg4 = A4 m c := by unfold V; after_reads_simp
theorem v5 : V m c main_arg5 = A5 m c := by unfold V; after_reads_simp
theorem v6 : V m c main_arg6 = A6 m c := by unfold V; after_reads_simp
theorem v7 : V m c main_arg7 = A7 m c := by unfold V; after_reads_simp
theorem v8 : V m c main_arg8 = A8 m c := by unfold V; after_reads_simp
theorem v9 : V m c main_arg9 = A9 m c := by unfold V; after_reads_simp
theorem v10 : V m c main_arg10 = A10 m c := by unfold V; after_reads_simp
theorem v11 : V m c main_arg11 = A11 m c := by unfold V; after_reads_simp
theorem v12 : V m c main_arg12 = A12 m c := by unfold V; after_reads_simp
theorem v13 : V m c main_arg13 = A13 m c := by unfold V; after_reads_simp

/-- The block of the rows at a grid point. -/
theorem blk0 (t : Fin cfg0.N) (r : Fin 512) (k : Fin 1024) :
    (iblk m c 0 t : Vec Ideal S512x1024 .f32) (ix2 r k) = P0 m c (ix2 ⟨512 * t.val + r.val, by have := hN t; omega⟩ k) := by
  have ht := hN t
  unfold iblk P0
  generalize V m c = W
  blk_ext! [idx0 t]

/-- The block of the first attention's output. -/
theorem blk1 (t : Fin cfg0.N) (r : Fin 512) (k : Fin 512) :
    (iblk m c 1 t : Vec Ideal S512x512 .f32) (ix2 r k) = P1 m c (ix2 ⟨512 * t.val + r.val, by have := hN t; omega⟩ k) := by
  have ht := hN t
  unfold iblk P1
  generalize V m c = W
  blk_ext! [idx1 t]

/-- The block of the second attention's output. -/
theorem blk2 (t : Fin cfg0.N) (r : Fin 512) (k : Fin 512) :
    (iblk m c 2 t : Vec Ideal S512x512 .f32) (ix2 r k) = P2 m c (ix2 ⟨512 * t.val + r.val, by have := hN t; omega⟩ k) := by
  have ht := hN t
  unfold iblk P2
  generalize V m c = W
  blk_ext! [idx2 t]

/-- The block of the embedding. -/
theorem blk3 (t : Fin cfg0.N) (r : Fin 512) (k : Fin 256) :
    (iblk m c 3 t : Vec Ideal S512x256 .f32) (ix2 r k) = P3 m c (ix2 ⟨512 * t.val + r.val, by have := hN t; omega⟩ k) := by
  have ht := hN t
  unfold iblk P3
  generalize V m c = W
  blk_ext! [idx3 t]

/-- The weights and gains are whole at every grid point. -/
theorem blk4 (t : Fin cfg0.N) (r : Fin 1) (k : Fin 128) : (iblk m c 4 t : Vec Ideal S1x128 .f32) (ix2 r k) = A4 m c (ix2 r k) := by
  rw [← v4]
  unfold iblk
  generalize V m c = W
  blk_ext! [idx4 t]

theorem blk5 (t : Fin cfg0.N) (r : Fin 1024) (k : Fin 1024) : (iblk m c 5 t : Vec Ideal S1024x1024 .bf16) (ix2 r k) = A5 m c (ix2 r k) := by
  rw [← v5]
  unfold iblk
  generalize V m c = W
  blk_ext! [idx5 t]

theorem blk6 (t : Fin cfg0.N) (r : Fin 1) (k : Fin 1024) : (iblk m c 6 t : Vec Ideal S1x1024 .f32) (ix2 r k) = A6 m c (ix2 r k) := by
  rw [← v6]
  unfold iblk
  generalize V m c = W
  blk_ext! [idx6 t]

theorem blk7 (t : Fin cfg0.N) (r : Fin 1) (k : Fin 1024) : (iblk m c 7 t : Vec Ideal S1x1024 .f32) (ix2 r k) = A7 m c (ix2 r k) := by
  rw [← v7]
  unfold iblk
  generalize V m c = W
  blk_ext! [idx7 t]

theorem blk8 (t : Fin cfg0.N) (r : Fin 1024) (k : Fin 4096) : (iblk m c 8 t : Vec Ideal S1024x4096 .bf16) (ix2 r k) = A8 m c (ix2 r k) := by
  rw [← v8]
  unfold iblk
  generalize V m c = W
  blk_ext! [idx8 t]

theorem blk9 (t : Fin cfg0.N) (r : Fin 4096) (k : Fin 1024) : (iblk m c 9 t : Vec Ideal S4096x1024 .bf16) (ix2 r k) = A9 m c (ix2 r k) := by
  rw [← v9]
  unfold iblk
  generalize V m c = W
  blk_ext! [idx9 t]

theorem blk10 (t : Fin cfg0.N) (r : Fin 1) (k : Fin 1024) : (iblk m c 10 t : Vec Ideal S1x1024 .f32) (ix2 r k) = A10 m c (ix2 r k) := by
  rw [← v10]
  unfold iblk
  generalize V m c = W
  blk_ext! [idx10 t]

theorem blk11 (t : Fin cfg0.N) (r : Fin 256) (k : Fin 1024) : (iblk m c 11 t : Vec Ideal S256x1024 .bf16) (ix2 r k) = A11 m c (ix2 r k) := by
  rw [← v11]
  unfold iblk
  generalize V m c = W
  blk_ext! [idx11 t]

theorem blk12 (t : Fin cfg0.N) (r : Fin 1024) (k : Fin 1024) : (iblk m c 12 t : Vec Ideal S1024x1024 .bf16) (ix2 r k) = A12 m c (ix2 r k) := by
  rw [← v12]
  unfold iblk
  generalize V m c = W
  blk_ext! [idx12 t]

theorem blk13 (t : Fin cfg0.N) (r : Fin 1) (k : Fin 1024) : (iblk m c 13 t : Vec Ideal S1x1024 .f32) (ix2 r k) = A13 m c (ix2 r k) := by
  rw [← v13]
  unfold iblk
  generalize V m c = W
  blk_ext! [idx13 t]

/-- The second half of a padded row. -/
def rowP (r : Fin 1024) : Fin 1024 → EReal :=
  row (rowOf (P0 m c) r) (rowOf (P1 m c) r) (heads (P2 m c) r) (rowOf (P3 m c) r) (rowOf (A4 m c) 0) (rowOf (A5 m c)) (rowOf (A6 m c) 0) (rowOf (A7 m c) 0)
    (rowOf (A8 m c)) (rowOf (A9 m c)) (rowOf (A10 m c) 0) (rowOf (A11 m c)) (rowOf (A12 m c)) (rowOf (A13 m c) 0)

/-- The second half of a row of the arguments. -/
def rowR (b : Fin 128) (p : Fin 4) : Fin 1024 → EReal :=
  row (fun k => A0 m c (ix3 b p k)) (fun k => A1 m c (ix3 b ⟨p.val, by omega⟩ k)) (fun h d => A2 m c (ix3 b ⟨p.val, by omega⟩ ⟨128 * h.val + d.val, by omega⟩))
    (fun k => A3 m c (ix3 b p k)) (rowOf (A4 m c) 0) (rowOf (A5 m c)) (rowOf (A6 m c) 0) (rowOf (A7 m c) 0)
    (rowOf (A8 m c)) (rowOf (A9 m c)) (rowOf (A10 m c) 0) (rowOf (A11 m c)) (rowOf (A12 m c)) (rowOf (A13 m c) 0)

/-- The padded rows that are a row of the arguments. -/
theorem rowP_row (b : Fin 128) (p : Fin 4) : rowP m c ⟨b.val * 8 + p.val, by omega⟩ = rowR m c b p := by
  have h0 : rowOf (P0 m c) ⟨b.val * 8 + p.val, by omega⟩ = fun k => A0 m c (ix3 b p k) := funext fun k => v_x m c b p k
  have h1 : rowOf (P1 m c) ⟨b.val * 8 + p.val, by omega⟩ = fun k => A1 m c (ix3 b ⟨p.val, by omega⟩ k) := funext fun k => v_a m c b p k
  have h2 : heads (P2 m c) ⟨b.val * 8 + p.val, by omega⟩ = fun h d => A2 m c (ix3 b ⟨p.val, by omega⟩ ⟨128 * h.val + d.val, by omega⟩) :=
    funext fun h => funext fun d => v_b m c b p _
  have h3 : rowOf (P3 m c) ⟨b.val * 8 + p.val, by omega⟩ = fun k => A3 m c (ix3 b p k) := funext fun k => v_p m c b p k
  unfold rowP rowR
  rw [h0, h1, h2, h3]

/-- The call's result is the second half of the padded rows. -/
theorem result : (dats m 0 c).arrAt 14 cfg0.N = fun y : S1024x1024.Idx => rowP m c (y 0) (y 1) := by
  refine (dats m 0 c).arrAt_eq_of_covers 14 _ (by decide +kernel) fun t hf y => ?_
  have ht := hN t
  blk_simp
  rw [after0_14]
  obtain ⟨r, k, rfl⟩ : ∃ (r : Fin 512) (k : Fin 1024), y = ix2 r k := ⟨y 0, y 1, eq_ix2 y⟩
  have hemb : ((win0_14.blk t).view.emb (ix2 r k) : S1024x1024.Idx) = ix2 ⟨512 * t.val + r.val, by omega⟩ k := by
    blk_ext [idx14 t]
  rw [out_eq]
  refine Eq.trans rfl ((Post.out_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r k).trans ?_)
  show _ = (fun y : S1024x1024.Idx => rowP m c (y 0) (y 1)) ((win0_14.blk t).view.emb (ix2 r k) : S1024x1024.Idx)
  rw [hemb]
  unfold rowOf heads
  simp only [blk0, blk1, blk2, blk3, blk4, blk5, blk6, blk7, blk8, blk9, blk10, blk11, blk12, blk13]
  rfl

/-- The last lines cut the padding from the call's result. -/
theorem tail8 (W : Valuation τ sig (Elt Ideal)) (b : Fin 128) (p : Fin 4) (k : Fin 1024) :
    (StableHlo.after hostOps1 W (Proc.devRef .tc main_v8) : Vec Ideal S128x4x1024 .f32) (ix3 b p k)
      = (W (Proc.devRef .tc main_v6) : Vec Ideal S1024x1024 .f32) (ix2 ⟨b.val * 8 + p.val, by omega⟩ k) := by
  after_reads_at

end Cert.Proof.Send
-- ==== Proof.SendReference.lean ====
/-
  The reference of the layer's second half on the sample read row by row, in stages: the merge, the MLP, the gated embedding.
-/
module

public import proofs.«01_k».proof.Proof.Gen.Reference5Ideal.Run
public import proofs.«01_k».proof.Proof.PostSpec
public import Idealize.ShloMosaic.Lib.IdealHost
public import Idealize.ShloMosaic.Lib.Tactic.CleanTypes

@[expose] public section

set_option maxRecDepth 65536

noncomputable section

namespace Cert.Proof.SendRef

open Cert.Proof.Post (rowOf norm1024 normHead cat dot relu2 mlp merge channel gated ple row)
open Idealize.ShloMosaic Idealize.ShloMosaic.TcCoe Idealize.SL.Sem Cert.Reference5Ideal Cert.Reference5Ideal.Gen Cert.Reference5Ideal.Value

/-- A row of an array of sequences. -/
abbrev row3 {a b n : ℕ} (v : (⟨3, ![a, b, n]⟩ : Shape).Idx → EReal) (i : Fin a) (p : Fin b) (k : Fin n) : EReal := v (ix3 i p k)

/-- Rows over the square roots of their mean squares, times the gains. -/
def rNorm (v : FVec Ideal S128x4x1024 .f32) (g : FVec Ideal S1x1024 .f32) : FVec Ideal S128x4x1024 .f32 :=
  mulf (mulf v (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf v v) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x358637BD#32))))))
    (broadcastInDim S128x4x1024 ![0, 1, 2] bcast_S1x1x1024_S128x4x1024_0_1_2 (broadcastInDim S1x1x1024 ![2] bcast_S1024_S1x1x1024_2 (shapeCast _ g shapeCasts_S1x1024_S1024)))

theorem rNorm_at (v : FVec Ideal S128x4x1024 .f32) (g : FVec Ideal S1x1024 .f32) (b : Fin 128) (p : Fin 4) (k : Fin 1024) :
    rNorm v g (ix3 b p k) = norm1024 (row3 v b p) (rowOf g 0) k := by
  unfold rNorm norm1024 Post.norm
  pointwise

/-- The heads of the second attention normalized and scaled. -/
def rHeads (u : FVec Ideal S128x4x4x128 .f32) (g : FVec Ideal S1x128 .f32) : FVec Ideal S128x4x4x128 .f32 :=
  mulf (mulf (mulf u (broadcastInDim S128x4x4x128 ![0, 1, 2, 3] bcast_S128x4x4x1_S128x4x4x128_0_1_2_3 (Host.rsqrt (addf (Host.divf (broadcastInDim S128x4x4x1 ![0, 1, 2] bcast_S128x4x4_S128x4x4x1_0_1_2 (Host.reduceAdd (mulf u u) (constant S_ .f32 0x00000000#32) reducesTo_S128x4x4x128_S128x4x4_d3 h_S_)) (broadcastInDim S128x4x4x1 ![] bcast_S_S128x4x4x1 (constant S_ .f32 0x43000000#32))) (broadcastInDim S128x4x4x1 ![] bcast_S_S128x4x4x1 (constant S_ .f32 0x358637BD#32))))))
    (broadcastInDim S128x4x4x128 ![0, 1, 2, 3] bcast_S1x1x1x128_S128x4x4x128_0_1_2_3 (broadcastInDim S1x1x1x128 ![3] bcast_S128_S1x1x1x128_3 (shapeCast _ g shapeCasts_S1x128_S128)))) (broadcastInDim S128x4x4x128 ![] bcast_S_S128x4x4x128 (constant S_ .f32 0x3F4CCCCD#32))

theorem rHeads_at (u : FVec Ideal S128x4x4x128 .f32) (g : FVec Ideal S1x128 .f32) (b : Fin 128) (p : Fin 4) (h : Fin 4) (d : Fin 128) :
    rHeads u g (ix4 b p h d) = normHead (fun d => u (ix4 b p h d)) (rowOf g 0) d := by
  unfold rHeads normHead Post.norm
  rw [← mul_assoc]
  pointwise

/-- The first four of each sequence's eight rows. -/
theorem first_at (x : FVec Ideal S128x8x512 .f32) (b : Fin 128) (p : Fin 4) (k : Fin 512) :
    (extractStridedSlice S128x4x512 ![0, 0, 0] x slices_S128x8x512_S128x4x512_0_0_0 : FVec Ideal S128x4x512 .f32) (ix3 b p k) = x (ix3 b ⟨p.val, by omega⟩ k) := by
  pointwise

/-- The columns as heads. -/
theorem split_at (x : FVec Ideal S128x4x512 .f32) (b : Fin 128) (p : Fin 4) (h : Fin 4) (d : Fin 128) :
    (shapeCast S128x4x4x128 x shapeCasts_S128x4x512_S128x4x4x128 : FVec Ideal S128x4x4x128 .f32) (ix4 b p h d) = x (ix3 b p ⟨128 * h.val + d.val, by omega⟩) := by
  pointwise
  simp only [mul_comm h.val]

/-- The attentions' outputs side by side. -/
def rCat (a : FVec Ideal S128x4x512 .f32) (v : FVec Ideal S128x4x4x128 .f32) : FVec Ideal S128x4x1024 .f32 :=
  concatenate S128x4x1024 2 [⟨S128x4x512, a⟩, ⟨S128x4x512, (shapeCast _ v shapeCasts_S128x4x4x128_S128x4x512)⟩] concatenates_S128x4x512_S128x4x512_S128x4x1024_d2

theorem rCat_at (a : FVec Ideal S128x4x512 .f32) (v : FVec Ideal S128x4x4x128 .f32) (b : Fin 128) (p : Fin 4) (u : Fin 4 → Fin 128 → EReal) (g : Fin 128 → EReal)
    (hv : ∀ h d, v (ix4 b p h d) = normHead (u h) g d) (e : Fin 1024) : rCat a v (ix3 b p e) = cat (row3 a b p) u g e := by
  unfold rCat cat
  pointwise
  simp only [hv]

/-- The products of the printed reference, at an index. -/
theorem rDotOut_at (v : FVec Ideal S128x4x1024 .f32) (w : FVec Ideal S1024x1024 .bf16) (b : Fin 128) (p : Fin 4) (k : Fin 1024) :
    Host.dotGeneral dot_S128x4x1024_S1024x1024_S128x4x1024_2_0_01_1_n_n none v (extf .f32 w bitsLt_bf16_f32) (ix3 b p k) =
      dot (row3 v b p) (rowOf w) k := by
  unfold dot
  pointwise

theorem rDotUp_at (v : FVec Ideal S128x4x1024 .f32) (w : FVec Ideal S1024x4096 .bf16) (b : Fin 128) (p : Fin 4) (k : Fin 4096) :
    Host.dotGeneral dot_S128x4x1024_S1024x4096_S128x4x4096_2_0_01_1_n_n none v (extf .f32 w bitsLt_bf16_f32) (ix3 b p k) =
      dot (row3 v b p) (rowOf w) k := by
  unfold dot
  pointwise

theorem rDotDown_at (v : FVec Ideal S128x4x4096 .f32) (w : FVec Ideal S4096x1024 .bf16) (b : Fin 128) (p : Fin 4) (k : Fin 1024) :
    Host.dotGeneral dot_S128x4x4096_S4096x1024_S128x4x1024_2_0_01_1_n_n none v (extf .f32 w bitsLt_bf16_f32) (ix3 b p k) =
      dot (row3 v b p) (rowOf w) k := by
  unfold dot
  pointwise

theorem rDotPle_at (v : FVec Ideal S128x4x256 .f32) (w : FVec Ideal S256x1024 .bf16) (b : Fin 128) (p : Fin 4) (k : Fin 1024) :
    Host.dotGeneral dot_S128x4x256_S256x1024_S128x4x1024_2_0_01_1_n_n none v (extf .f32 w bitsLt_bf16_f32) (ix3 b p k) =
      dot (row3 v b p) (rowOf w) k := by
  unfold dot
  pointwise

/-- The positive part of the MLP's inner layer. -/
def rUp (v : FVec Ideal S128x4x1024 .f32) (w : FVec Ideal S1024x4096 .bf16) : FVec Ideal S128x4x4096 .f32 :=
  maximumf (Host.dotGeneral dot_S128x4x1024_S1024x4096_S128x4x4096_2_0_01_1_n_n none v (extf .f32 w bitsLt_bf16_f32))
    (broadcastInDim S128x4x4096 ![] bcast_S_S128x4x4096 (constant S_ .f32 0x00000000#32))

theorem rUp_at (v : FVec Ideal S128x4x1024 .f32) (w : FVec Ideal S1024x4096 .bf16) (b : Fin 128) (p : Fin 4) (k : Fin 4096) :
    rUp v w (ix3 b p k) = max (dot (row3 v b p) (rowOf w) k) 0 := by
  rw [← rDotUp_at]
  unfold rUp
  refine (show _ = max _ (Ideal.ofBits FTy.f32 0x00000000#32) from rfl).trans ?_
  rw [Ideal.ofBits_zero]

/-- The MLP. -/
def rMlp (v : FVec Ideal S128x4x1024 .f32) (up : FVec Ideal S1024x4096 .bf16) (dn : FVec Ideal S4096x1024 .bf16) : FVec Ideal S128x4x1024 .f32 :=
  Host.dotGeneral dot_S128x4x4096_S4096x1024_S128x4x1024_2_0_01_1_n_n none (mulf (rUp v up) (rUp v up)) (extf .f32 dn bitsLt_bf16_f32)

theorem rMlp_at (v : FVec Ideal S128x4x1024 .f32) (up : FVec Ideal S1024x4096 .bf16) (dn : FVec Ideal S4096x1024 .bf16) (b : Fin 128) (p : Fin 4) (k : Fin 1024) :
    rMlp v up dn (ix3 b p k) = mlp (row3 v b p) (rowOf up) (rowOf dn) k := by
  unfold rMlp mlp
  rw [rDotDown_at]
  congr 1
  funext e
  refine (show _ = rUp v up (ix3 b p e) * rUp v up (ix3 b p e) from rfl).trans ?_
  rw [rUp_at]
  rfl

/-- The embedding under its gate. -/
def rGated (x : FVec Ideal S128x4x1024 .f32) (e : FVec Ideal S128x4x256 .f32) (wp : FVec Ideal S256x1024 .bf16) (wg : FVec Ideal S1024x1024 .bf16) : FVec Ideal S128x4x1024 .f32 :=
  mulf (Host.dotGeneral dot_S128x4x256_S256x1024_S128x4x1024_2_0_01_1_n_n none e (extf .f32 wp bitsLt_bf16_f32)) (Host.divf (broadcastInDim S128x4x1024 ![] bcast_S_S128x4x1024 (constant S_ .f32 0x3F800000#32)) (addf (broadcastInDim S128x4x1024 ![] bcast_S_S128x4x1024 (constant S_ .f32 0x3F800000#32)) (Host.exp (Host.negf (Host.dotGeneral dot_S128x4x1024_S1024x1024_S128x4x1024_2_0_01_1_n_n none x (extf .f32 wg bitsLt_bf16_f32))))))

theorem add_at (x y : FVec Ideal S128x4x1024 .f32) (i : S128x4x1024.Idx) : addf x y i = x i + y i := rfl

theorem rGated_at (x : FVec Ideal S128x4x1024 .f32) (e : FVec Ideal S128x4x256 .f32) (wp : FVec Ideal S256x1024 .bf16) (wg : FVec Ideal S1024x1024 .bf16)
    (b : Fin 128) (p : Fin 4) (k : Fin 1024) : rGated x e wp wg (ix3 b p k) = gated (row3 x b p) (row3 e b p) (rowOf wp) (rowOf wg) k := by
  unfold rGated gated Ideal.logistic
  rw [← rDotPle_at, ← rDotOut_at, ← Ideal.ofBits_one_f32]
  rfl

variable (V0 : Valuation τ sig (Elt Ideal))

/-- The arguments as arrays. -/
abbrev A0 : Vec Ideal S128x4x1024 .f32 := V0 (Proc.devRef .tc main_arg0)
abbrev A1 : Vec Ideal S128x8x512 .f32 := V0 (Proc.devRef .tc main_arg1)
abbrev A2 : Vec Ideal S128x8x512 .f32 := V0 (Proc.devRef .tc main_arg2)
abbrev A3 : Vec Ideal S128x4x256 .f32 := V0 (Proc.devRef .tc main_arg3)
abbrev A4 : Vec Ideal S1x128 .f32 := V0 (Proc.devRef .tc main_arg4)
abbrev A5 : Vec Ideal S1024x1024 .bf16 := V0 (Proc.devRef .tc main_arg5)
abbrev A6 : Vec Ideal S1x1024 .f32 := V0 (Proc.devRef .tc main_arg6)
abbrev A7 : Vec Ideal S1x1024 .f32 := V0 (Proc.devRef .tc main_arg7)
abbrev A8 : Vec Ideal S1024x4096 .bf16 := V0 (Proc.devRef .tc main_arg8)
abbrev A9 : Vec Ideal S4096x1024 .bf16 := V0 (Proc.devRef .tc main_arg9)
abbrev A10 : Vec Ideal S1x1024 .f32 := V0 (Proc.devRef .tc main_arg10)
abbrev A11 : Vec Ideal S256x1024 .bf16 := V0 (Proc.devRef .tc main_arg11)
abbrev A12 : Vec Ideal S1024x1024 .bf16 := V0 (Proc.devRef .tc main_arg12)
abbrev A13 : Vec Ideal S1x1024 .f32 := V0 (Proc.devRef .tc main_arg13)

/-- The second half of a row of the sample. -/
def rowV (b : Fin 128) (p : Fin 4) : Fin 1024 → EReal :=
  row (fun k => A0 V0 (ix3 b p k)) (fun k => A1 V0 (ix3 b ⟨p.val, by omega⟩ k)) (fun h d => A2 V0 (ix3 b ⟨p.val, by omega⟩ ⟨128 * h.val + d.val, by omega⟩))
    (fun k => A3 V0 (ix3 b p k)) (rowOf (A4 V0) 0) (rowOf (A5 V0)) (rowOf (A6 V0) 0) (rowOf (A7 V0) 0)
    (rowOf (A8 V0)) (rowOf (A9 V0)) (rowOf (A10 V0) 0) (rowOf (A11 V0)) (rowOf (A12 V0)) (rowOf (A13 V0) 0)

theorem v26_at (b : Fin 128) (p : Fin 4) (k : Fin 1024) : (res_main_v26 V0 : Vec Ideal S128x4x1024 .f32) (ix3 b p k)
    = dot (cat (fun k => A1 V0 (ix3 b ⟨p.val, by omega⟩ k)) (fun h d => A2 V0 (ix3 b ⟨p.val, by omega⟩ ⟨128 * h.val + d.val, by omega⟩)) (rowOf (A4 V0) 0)) (rowOf (A5 V0)) k := by
  refine (show _ = Host.dotGeneral (F := Ideal) dot_S128x4x1024_S1024x1024_S128x4x1024_2_0_01_1_n_n none
    (rCat (extractStridedSlice S128x4x512 ![0, 0, 0] (A1 V0) slices_S128x8x512_S128x4x512_0_0_0) (rHeads (res_main_v6 V0) (A4 V0)))
    (extf .f32 (A5 V0) bitsLt_bf16_f32) (ix3 b p k) from rfl).trans ?_
  refine (rDotOut_at _ _ b p k).trans ?_
  congr 1
  funext e
  refine (rCat_at _ _ b p (fun h d => A2 V0 (ix3 b ⟨p.val, by omega⟩ ⟨128 * h.val + d.val, by omega⟩)) (rowOf (A4 V0) 0) ?_ e).trans ?_
  · intro h d
    refine (rHeads_at _ _ b p h d).trans ?_
    congr 1
    funext d
    exact (split_at _ b p h d).trans (first_at _ b p _)
  · congr 1
    funext k
    exact first_at _ b p k

theorem v41_row (b : Fin 128) (p : Fin 4) : row3 (res_main_v41 V0 : Vec Ideal S128x4x1024 .f32) b p
    = merge (fun k => A0 V0 (ix3 b p k)) (fun k => A1 V0 (ix3 b ⟨p.val, by omega⟩ k)) (fun h d => A2 V0 (ix3 b ⟨p.val, by omega⟩ ⟨128 * h.val + d.val, by omega⟩))
      (rowOf (A4 V0) 0) (rowOf (A5 V0)) (rowOf (A6 V0) 0) := by
  funext k
  refine (show _ = A0 V0 (ix3 b p k) + rNorm (res_main_v26 V0) (A6 V0) (ix3 b p k) from rfl).trans ?_
  rw [rNorm_at]
  unfold merge
  congr 2
  funext k
  exact v26_at V0 b p k

theorem v74_row (b : Fin 128) (p : Fin 4) : row3 (res_main_v74 V0 : Vec Ideal S128x4x1024 .f32) b p
    = channel (row3 (res_main_v41 V0 : Vec Ideal S128x4x1024 .f32) b p) (rowOf (A7 V0) 0) (rowOf (A8 V0)) (rowOf (A9 V0)) (rowOf (A10 V0) 0) := by
  have h57 : res_main_v57 V0 = rUp (rNorm (res_main_v41 V0) (A7 V0)) (A8 V0) := rfl
  have h59 : res_main_v59 V0 = rMlp (rNorm (res_main_v41 V0) (A7 V0)) (A8 V0) (A9 V0) := by
    unfold res_main_v59
    rw [h57]
    rfl
  funext k
  refine (show _ = row3 (res_main_v41 V0 : Vec Ideal S128x4x1024 .f32) b p k + rNorm (res_main_v59 V0) (A10 V0) (ix3 b p k) from rfl).trans ?_
  rw [rNorm_at, h59]
  unfold channel
  congr 2
  funext k
  refine (rMlp_at _ _ _ b p k).trans ?_
  exact congrArg (fun f => mlp f (rowOf (A8 V0)) (rowOf (A9 V0)) k) (funext fun e => rNorm_at _ _ b p e)

/-- The reference's result. -/
def out0 : Vec Ideal S128x4x1024 .f32 := addf (res_main_v74 V0) (rNorm (res_main_v83 V0) (A13 V0))

theorem out0_at (b : Fin 128) (p : Fin 4) (k : Fin 1024) : out0 V0 (ix3 b p k) = rowV V0 b p k := by
  have h83 : res_main_v83 V0 = rGated (res_main_v74 V0) (A3 V0) (A11 V0) (A12 V0) := rfl
  unfold out0 rowV row
  rw [add_at, rNorm_at, ← v41_row, ← v74_row, h83]
  unfold ple
  congr 2
  funext k
  exact rGated_at _ _ _ _ b p k

end Cert.Proof.SendRef
-- ==== Proof.SendClaims.lean ====
/-
  The claims about the layer's second half on the sample: both programs' frames, and that kernel and reference compute one function.
-/
module

public import proofs.«01_k».proof.Defs
public import proofs.«01_k».proof.Proof.Gen.Kernel5
public import proofs.«01_k».proof.Proof.Gen.Kernel5.Frame
public import proofs.«01_k».proof.Proof.Gen.Kernel5Ideal.Frame
public import proofs.«01_k».proof.Proof.SendArray
public import proofs.«01_k».proof.Proof.SendReference
public import Idealize.ShloMosaic.Adequacy

@[expose] public section

set_option maxRecDepth 65536

noncomputable section

namespace Cert.Proof.Send

open Idealize.ShloMosaic Idealize.ShloMosaic.TcCoe Idealize.SL.Sem
open Cert.Proof.SendRef (rowV out0 out0_at)

/-- The kernel ends, with its arguments unchanged. -/
theorem frame_p : Cert.quiescent_Kernel5 := fun m ρ _ => Cert.Kernel5.Gen.frame m ρ

/-- So does the kernel over the extended reals. -/
theorem frame_pi : Cert.quiescent_Kernel5Ideal := fun m ρ _ => Cert.Kernel5Ideal.Gen.frame m ρ

/-- So does its reference. -/
theorem frame_ri : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

/-- No operation of the kernel is replaced. -/
theorem preserves : Cert.preserves_Kernel5_Kernel5Ideal := trivial

section Kernel

open Cert.Kernel5Ideal Cert.Kernel5Ideal.Gen

variable (m : (ℓ : Loc nD τ sig) → Buf (Elt Ideal) ℓ) (c : Dev nD)

/-- The arrays after the call: the result window's array, all others as before it. -/
abbrev afterCall : Valuation τ sig (Elt Ideal) :=
  Pipeline.withArrays (cfgs 0).spec c (V0 m c) fun w => (dats m 0 c).arrAt w (cfgs 0).N

/-- A window's array after the call. -/
theorem call_arr (w : Fin 15) : afterCall m c (Proc.devRef .tc (Pipeline.arrRef spec0 w)) = (dats m 0 c).arrAt w cfg0.N :=
  Pipeline.withArrays_arr spec0 (by decide) c (V0 m c) (fun w => (dats m 0 c).arrAt w (cfgs 0).N) w

/-- The kernel's result is the reference's where their rows agree. -/
theorem same (U : Valuation Cert.Reference5Ideal.τ Cert.Reference5Ideal.sig (Elt Ideal)) (hr : ∀ b p, rowV U b p = rowR m c b p) :
    (StableHlo.after hostOps1 (afterCall m c) (Proc.devRef .tc main_v8) : Vec Ideal S128x4x1024 .f32) = out0 U := by
  funext y
  obtain ⟨b, p, k, rfl⟩ : ∃ (b : Fin 128) (p : Fin 4) (k : Fin 1024), y = ix3 b p k := ⟨_, _, _, eq_ix3 y⟩
  refine Eq.trans ?_ (out0_at U b p k).symm
  refine (tail8 (afterCall m c) b p k).trans ?_
  refine (congrFun ((call_arr m c 14).trans (result m c)) _).trans ?_
  refine (congrFun (rowP_row m c b p) k).trans ?_
  rw [hr]

/-- The kernel's run, its result that of the reference on rows that agree. -/
theorem run_kernel (g : Dev nD → PrngReg) (U : Dev nD → Valuation Cert.Reference5Ideal.τ Cert.Reference5Ideal.sig (Elt Ideal))
    (hr : ∀ c b p, rowV (U c) b p = rowR m c b p) :
    θ_run (defs (F := Ideal)) (onTc (τ := τ) (main (F := Ideal))) ⟨m, fun _ => 0, g⟩ fun r => ∀ c : Dev nD,
      r.2.mem ((c.tc : Thread nD τ).loc main_v8) = out0 (U c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  refine (θ_run defs _ _).mono (fun r h c => ?_) (θ_run_and (Gen.run_main m g) (Gen.unchanged m g))
  obtain ⟨h, hargs⟩ := h
  have e0 := ((h c).2 main_v8 (by decide)).trans (same m c (U c) (hr c))
  exact ⟨e0, hargs c⟩

end Kernel

section Reference

open Cert.Reference5Ideal Cert.Reference5Ideal.Value

/-- The reference's run, its result read as the function of its arguments that `SendReference` defines. -/
theorem run_reference (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v98) = out0 (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => by
    obtain ⟨h0, ha⟩ := h c
    exact ⟨h0, ha⟩) (run (F := Ideal) m g)

end Reference

/-- From arguments that agree, kernel and reference compute the same result. -/
theorem algebraic : Cert.algebraic_Kernel5Ideal_Reference5Ideal := by
  intro m g m' g' hpre hagree
  have hr : ∀ c b p, rowV (StableHlo.launchContents m' c) b p = rowR m c b p := by
    intro c b p
    obtain ⟨a0, a1, a2, a3, a4, a5, a6, a7, a8, a9, a10, a11, a12, a13⟩ := hagree c
    have e0 : SendRef.A0 (StableHlo.launchContents m' c) = A0 m c := a0
    have e1 : SendRef.A1 (StableHlo.launchContents m' c) = A1 m c := a1
    have e2 : SendRef.A2 (StableHlo.launchContents m' c) = A2 m c := a2
    have e3 : SendRef.A3 (StableHlo.launchContents m' c) = A3 m c := a3
    have e4 : SendRef.A4 (StableHlo.launchContents m' c) = A4 m c := a4
    have e5 : SendRef.A5 (StableHlo.launchContents m' c) = A5 m c := a5
    have e6 : SendRef.A6 (StableHlo.launchContents m' c) = A6 m c := a6
    have e7 : SendRef.A7 (StableHlo.launchContents m' c) = A7 m c := a7
    have e8 : SendRef.A8 (StableHlo.launchContents m' c) = A8 m c := a8
    have e9 : SendRef.A9 (StableHlo.launchContents m' c) = A9 m c := a9
    have e10 : SendRef.A10 (StableHlo.launchContents m' c) = A10 m c := a10
    have e11 : SendRef.A11 (StableHlo.launchContents m' c) = A11 m c := a11
    have e12 : SendRef.A12 (StableHlo.launchContents m' c) = A12 m c := a12
    have e13 : SendRef.A13 (StableHlo.launchContents m' c) = A13 m c := a13
    unfold rowV rowR
    rw [e0, e1, e2, e3, e4, e5, e6, e7, e8, e9, e10, e11, e12, e13]
  exact ⟨fun c => out0 (StableHlo.launchContents m' c), run_kernel m g (fun c => StableHlo.launchContents m' c) hr, run_reference m' g'⟩

end Cert.Proof.Send
-- ==== Proof.lean ====
module

public import proofs.«01_k».proof.Defs
public import proofs.«01_k».proof.Proof.Gen.Kernel
public import proofs.«01_k».proof.Proof.Gen.Kernel2
public import proofs.«01_k».proof.Proof.Gen.Kernel.Skeleton
public import proofs.«01_k».proof.Proof.Gen.Kernel2.Skeleton
public import proofs.«01_k».proof.Proof.Gen.Kernel.Loops
public import proofs.«01_k».proof.Proof.Gen.Kernel.Launch
public import proofs.«01_k».proof.Proof.Gen.Kernel2.Launch
public import proofs.«01_k».proof.Proof.Gen.Kernel.Points
public import proofs.«01_k».proof.Proof.Gen.Kernel2.Points
public import proofs.«01_k».proof.Proof.Gen.Kernel.Frame
public import proofs.«01_k».proof.Proof.Gen.Kernel2.Frame
public import proofs.«01_k».proof.Proof.Gen.KernelIdeal
public import proofs.«01_k».proof.Proof.Gen.Kernel2Ideal
public import proofs.«01_k».proof.Proof.Gen.KernelIdeal.Skeleton
public import proofs.«01_k».proof.Proof.Gen.Kernel2Ideal.Skeleton
public import proofs.«01_k».proof.Proof.Gen.KernelIdeal.Loops
public import proofs.«01_k».proof.Proof.Gen.KernelIdeal.Launch
public import proofs.«01_k».proof.Proof.Gen.Kernel2Ideal.Launch
public import proofs.«01_k».proof.Proof.Gen.KernelIdeal.Points
public import proofs.«01_k».proof.Proof.Gen.Kernel2Ideal.Points
public import proofs.«01_k».proof.Proof.Gen.KernelIdeal.Frame
public import proofs.«01_k».proof.Proof.Gen.Kernel2Ideal.Frame
public import proofs.«01_k».proof.Proof.Gen.ReferenceIdeal
public import proofs.«01_k».proof.Proof.Gen.Reference2Ideal
public import proofs.«01_k».proof.Proof.Gen.Pre_finite
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.DiffClaims
public import proofs.«01_k».proof.Proof.PostClaims
public import proofs.«01_k».proof.Proof.ProjClaims
public import proofs.«01_k».proof.Proof.SampClaims
public import proofs.«01_k».proof.Proof.SendClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite.Gen.facts,
  Diff.frame_p, Diff.frame_pi, Diff.frame_pi_finite, Diff.frame_ri, Diff.frame_ri_finite,
  Post.frame_p, Post.frame_pi, Post.frame_ri,
  Proj.frame_p, Proj.frame_pi, Proj.frame_ri,
  Samp.frame_p, Samp.frame_pi, Samp.frame_ri,
  Send.frame_p, Send.frame_pi, Send.frame_ri,
  Diff.preserves, Diff.algebraic, Post.preserves, Post.algebraic, Proj.preserves, Proj.algebraic,
  Samp.preserves, Samp.algebraic, Send.preserves, Send.algebraic⟩

end Cert.Proof

end
